-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_InBDx (m : (ℓ : Loc Cert.InBDx.nD Cert.InBDx.τ Cert.InBDx.sig) → Buf (Elt Bits) ℓ) : Prop :=
  True

def Pre_InBDxIdeal (m : (ℓ : Loc Cert.InBDxIdeal.nD Cert.InBDxIdeal.τ Cert.InBDxIdeal.sig) → Buf (Elt Ideal) ℓ) : Prop :=
  True

def Pre_InBDxRefIdeal (m : (ℓ : Loc Cert.InBDxRefIdeal.nD Cert.InBDxRefIdeal.τ Cert.InBDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_KvqDw (m : (ℓ : Loc Cert.KvqDw.nD Cert.KvqDw.τ Cert.KvqDw.sig) → Buf (Elt Bits) ℓ) : Prop :=
  True

def Pre_KvqDwIdeal (m : (ℓ : Loc Cert.KvqDwIdeal.nD Cert.KvqDwIdeal.τ Cert.KvqDwIdeal.sig) → Buf (Elt Ideal) ℓ) : Prop :=
  True

def Pre_KvqDwRefIdeal (m : (ℓ : Loc Cert.KvqDwRefIdeal.nD Cert.KvqDwRefIdeal.τ Cert.KvqDwRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_RopeDw (m : (ℓ : Loc Cert.RopeDw.nD Cert.RopeDw.τ Cert.RopeDw.sig) → Buf (Elt Bits) ℓ) : Prop :=
  True

def Pre_RopeDwIdeal (m : (ℓ : Loc Cert.RopeDwIdeal.nD Cert.RopeDwIdeal.τ Cert.RopeDwIdeal.sig) → Buf (Elt Ideal) ℓ) : Prop :=
  True

def Pre_RopeDwRefIdeal (m : (ℓ : Loc Cert.RopeDwRefIdeal.nD Cert.RopeDwRefIdeal.τ Cert.RopeDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_DtDw (m : (ℓ : Loc Cert.DtDw.nD Cert.DtDw.τ Cert.DtDw.sig) → Buf (Elt Bits) ℓ) : Prop :=
  True

def Pre_DtDwIdeal (m : (ℓ : Loc Cert.DtDwIdeal.nD Cert.DtDwIdeal.τ Cert.DtDwIdeal.sig) → Buf (Elt Ideal) ℓ) : Prop :=
  True

def Pre_DtDwRefIdeal (m : (ℓ : Loc Cert.DtDwRefIdeal.nD Cert.DtDwRefIdeal.τ Cert.DtDwRefIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxRefIdeal (m : (ℓ : Loc Cert.QDxRefIdeal.nD Cert.QDxRefIdeal.τ Cert.QDxRefIdeal.sig) → Buf (Elt Ideal) ℓ) : Prop :=
  True

def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_KDxRefIdeal (m : (ℓ : Loc Cert.KDxRefIdeal.nD Cert.KDxRefIdeal.τ Cert.KDxRefIdeal.sig) → Buf (Elt Ideal) ℓ) : Prop :=
  True

def Pre_RopeDx (m : (ℓ : Loc Cert.RopeDx.nD Cert.RopeDx.τ Cert.RopeDx.sig) → Buf (Elt Bits) ℓ) : Prop :=
  True

def Pre_RopeDxIdeal (m : (ℓ : Loc Cert.RopeDxIdeal.nD Cert.RopeDxIdeal.τ Cert.RopeDxIdeal.sig) → Buf (Elt Ideal) ℓ) : Prop :=
  True

def Pre_RopeDxRefIdeal (m : (ℓ : Loc Cert.RopeDxRefIdeal.nD Cert.RopeDxRefIdeal.τ Cert.RopeDxRefIdeal.sig) → Buf (Elt Ideal) ℓ) : Prop :=
  True

def Pre_VDx (m : (ℓ : Loc Cert.VDx.nD Cert.VDx.τ Cert.VDx.sig) → Buf (Elt Bits) ℓ) : Prop :=
  True

def Pre_VDxIdeal (m : (ℓ : Loc Cert.VDxIdeal.nD Cert.VDxIdeal.τ Cert.VDxIdeal.sig) → Buf (Elt Ideal) ℓ) : Prop :=
  True

def Pre_VDxRefIdeal (m : (ℓ : Loc Cert.VDxRefIdeal.nD Cert.VDxRefIdeal.τ Cert.VDxRefIdeal.sig) → Buf (Elt Ideal) ℓ) : Prop :=
  True

def Pre_KvqDx (m : (ℓ : Loc Cert.KvqDx.nD Cert.KvqDx.τ Cert.KvqDx.sig) → Buf (Elt Bits) ℓ) : Prop :=
  True

def Pre_KvqDxIdeal (m : (ℓ : Loc Cert.KvqDxIdeal.nD Cert.KvqDxIdeal.τ Cert.KvqDxIdeal.sig) → Buf (Elt Ideal) ℓ) : Prop :=
  True

def Pre_KvqDxRefIdeal (m : (ℓ : Loc Cert.KvqDxRefIdeal.nD Cert.KvqDxRefIdeal.τ Cert.KvqDxRefIdeal.sig) → Buf (Elt Ideal) ℓ) : Prop :=
  True

def Pre_DtDx (m : (ℓ : Loc Cert.DtDx.nD Cert.DtDx.τ Cert.DtDx.sig) → Buf (Elt Bits) ℓ) : Prop :=
  True

def Pre_DtDxIdeal (m : (ℓ : Loc Cert.DtDxIdeal.nD Cert.DtDxIdeal.τ Cert.DtDxIdeal.sig) → Buf (Elt Ideal) ℓ) : Prop :=
  True

def Pre_DtDxRefIdeal (m : (ℓ : Loc Cert.DtDxRefIdeal.nD Cert.DtDxRefIdeal.τ Cert.DtDxRefIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Turn (m : (ℓ : Loc Cert.Turn.nD Cert.Turn.τ Cert.Turn.sig) → Buf (Elt Bits) ℓ) : Prop :=
  True

def Pre_TurnIdeal (m : (ℓ : Loc Cert.TurnIdeal.nD Cert.TurnIdeal.τ Cert.TurnIdeal.sig) → Buf (Elt Ideal) ℓ) : Prop :=
  True

def Pre_TurnRefIdeal (m : (ℓ : Loc Cert.TurnRefIdeal.nD Cert.TurnRefIdeal.τ Cert.TurnRefIdeal.sig) → Buf (Elt Ideal) ℓ) : Prop :=
  True

def Pre_TurnDx (m : (ℓ : Loc Cert.TurnDx.nD Cert.TurnDx.τ Cert.TurnDx.sig) → Buf (Elt Bits) ℓ) : Prop :=
  True

def Pre_TurnDxIdeal (m : (ℓ : Loc Cert.TurnDxIdeal.nD Cert.TurnDxIdeal.τ Cert.TurnDxIdeal.sig) → Buf (Elt Ideal) ℓ) : Prop :=
  True

def Pre_TurnDxRefIdeal (m : (ℓ : Loc Cert.TurnDxRefIdeal.nD Cert.TurnDxRefIdeal.τ Cert.TurnDxRefIdeal.sig) → Buf (Elt Ideal) ℓ) : Prop :=
  True

def Pre_KeyTurn (m : (ℓ : Loc Cert.KeyTurn.nD Cert.KeyTurn.τ Cert.KeyTurn.sig) → Buf (Elt Bits) ℓ) : Prop :=
  True

def Pre_KeyTurnIdeal (m : (ℓ : Loc Cert.KeyTurnIdeal.nD Cert.KeyTurnIdeal.τ Cert.KeyTurnIdeal.sig) → Buf (Elt Ideal) ℓ) : Prop :=
  True

def Pre_KeyTurnRefIdeal (m : (ℓ : Loc Cert.KeyTurnRefIdeal.nD Cert.KeyTurnRefIdeal.τ Cert.KeyTurnRefIdeal.sig) → Buf (Elt Ideal) ℓ) : Prop :=
  True

def Pre_KeyTurnDx (m : (ℓ : Loc Cert.KeyTurnDx.nD Cert.KeyTurnDx.τ Cert.KeyTurnDx.sig) → Buf (Elt Bits) ℓ) : Prop :=
  True

def Pre_KeyTurnDxIdeal (m : (ℓ : Loc Cert.KeyTurnDxIdeal.nD Cert.KeyTurnDxIdeal.τ Cert.KeyTurnDxIdeal.sig) → Buf (Elt Ideal) ℓ) : Prop :=
  True

def Pre_KeyTurnDxRefIdeal (m : (ℓ : Loc Cert.KeyTurnDxRefIdeal.nD Cert.KeyTurnDxRefIdeal.τ Cert.KeyTurnDxRefIdeal.sig) → Buf (Elt Ideal) ℓ) : Prop :=
  True

def Pre_QNormDx (m : (ℓ : Loc Cert.QNormDx.nD Cert.QNormDx.τ Cert.QNormDx.sig) → Buf (Elt Bits) ℓ) : Prop :=
  True

def Pre_QNormDxIdeal (m : (ℓ : Loc Cert.QNormDxIdeal.nD Cert.QNormDxIdeal.τ Cert.QNormDxIdeal.sig) → Buf (Elt Ideal) ℓ) : Prop :=
  True

def Pre_QNormDxRefIdeal (m : (ℓ : Loc Cert.QNormDxRefIdeal.nD Cert.QNormDxRefIdeal.τ Cert.QNormDxRefIdeal.sig) → Buf (Elt Ideal) ℓ) : Prop :=
  True

def Pre_KvNormDx (m : (ℓ : Loc Cert.KvNormDx.nD Cert.KvNormDx.τ Cert.KvNormDx.sig) → Buf (Elt Bits) ℓ) : Prop :=
  True

def Pre_KvNormDxIdeal (m : (ℓ : Loc Cert.KvNormDxIdeal.nD Cert.KvNormDxIdeal.τ Cert.KvNormDxIdeal.sig) → Buf (Elt Ideal) ℓ) : Prop :=
  True

def Pre_KvNormDxRefIdeal (m : (ℓ : Loc Cert.KvNormDxRefIdeal.nD Cert.KvNormDxRefIdeal.τ Cert.KvNormDxRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_LnY (m : (ℓ : Loc Cert.LnY.nD Cert.LnY.τ Cert.LnY.sig) → Buf (Elt Bits) ℓ) : Prop :=
  True

def Pre_LnYIdeal (m : (ℓ : Loc Cert.LnYIdeal.nD Cert.LnYIdeal.τ Cert.LnYIdeal.sig) → Buf (Elt Ideal) ℓ) : Prop :=
  True

def Pre_LnYRefIdeal (m : (ℓ : Loc Cert.LnYRefIdeal.nD Cert.LnYRefIdeal.τ Cert.LnYRefIdeal.sig) → Buf (Elt Ideal) ℓ) : Prop :=
  True

def Pre_LnLast (m : (ℓ : Loc Cert.LnLast.nD Cert.LnLast.τ Cert.LnLast.sig) → Buf (Elt Bits) ℓ) : Prop :=
  True

def Pre_LnLastIdeal (m : (ℓ : Loc Cert.LnLastIdeal.nD Cert.LnLastIdeal.τ Cert.LnLastIdeal.sig) → Buf (Elt Ideal) ℓ) : Prop :=
  True

def Pre_LnLastRefIdeal (m : (ℓ : Loc Cert.LnLastRefIdeal.nD Cert.LnLastRefIdeal.τ Cert.LnLastRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_GatedDx (m : (ℓ : Loc Cert.GatedDx.nD Cert.GatedDx.τ Cert.GatedDx.sig) → Buf (Elt Bits) ℓ) : Prop :=
  True

def Pre_GatedDxIdeal (m : (ℓ : Loc Cert.GatedDxIdeal.nD Cert.GatedDxIdeal.τ Cert.GatedDxIdeal.sig) → Buf (Elt Ideal) ℓ) : Prop :=
  True

def Pre_GatedDxRefIdeal (m : (ℓ : Loc Cert.GatedDxRefIdeal.nD Cert.GatedDxRefIdeal.τ Cert.GatedDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_InBDx [hInBDx : Cert.InBDx.Facts] : Prop :=
  ∀ (m : (ℓ : Loc Cert.InBDx.nD Cert.InBDx.τ Cert.InBDx.sig) → Buf (Elt Bits) ℓ) (g : Dev Cert.InBDx.nD → PrngReg), Pre_InBDx m →
    θ_run (Cert.InBDx.defs (F := Bits)) (onTc (τ := Cert.InBDx.τ) (Cert.InBDx.main (F := Bits))) ⟨m, fun _ => 0, g⟩ (fun r => (∀ c : Dev Cert.InBDx.nD,
      r.2.mem ((c.tc : Thread Cert.InBDx.nD Cert.InBDx.τ).loc Cert.InBDx.main_arg0) = m ((c.tc : Thread Cert.InBDx.nD Cert.InBDx.τ).loc Cert.InBDx.main_arg0)
      ∧ r.2.mem ((c.tc : Thread Cert.InBDx.nD Cert.InBDx.τ).loc Cert.InBDx.main_arg1) = m ((c.tc : Thread Cert.InBDx.nD Cert.InBDx.τ).loc Cert.InBDx.main_arg1)
      ∧ r.2.mem ((c.tc : Thread Cert.InBDx.nD Cert.InBDx.τ).loc Cert.InBDx.main_arg2) = m ((c.tc : Thread Cert.InBDx.nD Cert.InBDx.τ).loc Cert.InBDx.main_arg2))
      ∧ r.2.sem = fun _ => 0)

def quiescent_InBDxIdeal [hInBDxIdeal : Cert.InBDxIdeal.Facts] : Prop :=
  ∀ (m : (ℓ : Loc Cert.InBDxIdeal.nD Cert.InBDxIdeal.τ Cert.InBDxIdeal.sig) → Buf (Elt Ideal) ℓ) (g : Dev Cert.InBDxIdeal.nD → PrngReg), Pre_InBDxIdeal m →
    θ_run (Cert.InBDxIdeal.defs (F := Ideal)) (onTc (τ := Cert.InBDxIdeal.τ) (Cert.InBDxIdeal.main (F := Ideal))) ⟨m, fun _ => 0, g⟩ (fun r => (∀ c : Dev Cert.InBDxIdeal.nD,
      r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
      ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
      ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ r.2.sem = fun _ => 0)

def quiescent_InBDxRefIdeal [hInBDxRefIdeal : Cert.InBDxRefIdeal.Facts] : Prop :=
  ∀ (m : (ℓ : Loc Cert.InBDxRefIdeal.nD Cert.InBDxRefIdeal.τ Cert.InBDxRefIdeal.sig) → Buf (Elt Ideal) ℓ) (g : Dev Cert.InBDxRefIdeal.nD → PrngReg), Pre_InBDxRefIdeal m →
    θ_run (Cert.InBDxRefIdeal.defs (F := Ideal)) (onTc (τ := Cert.InBDxRefIdeal.τ) (Cert.InBDxRefIdeal.main (F := Ideal))) ⟨m, fun _ => 0, g⟩ (fun r => (∀ c : Dev Cert.InBDxRefIdeal.nD,
      r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
      ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1)
      ∧ r.2.mem ((c.tc : Thread Cert.InBDxRefIdeal.nD Cert.InBDxRefIdeal.τ).loc Cert.InBDxRefIdeal.main_arg2) = m ((c.tc : Thread Cert.InBDxRefIdeal.nD Cert.InBDxRefIdeal.τ).loc Cert.InBDxRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_KvqDw [hKvqDw : Cert.KvqDw.Facts] : Prop :=
  ∀ (m : (ℓ : Loc Cert.KvqDw.nD Cert.KvqDw.τ Cert.KvqDw.sig) → Buf (Elt Bits) ℓ) (g : Dev Cert.KvqDw.nD → PrngReg), Pre_KvqDw m →
    θ_run (Cert.KvqDw.defs (F := Bits)) (onTc (τ := Cert.KvqDw.τ) (Cert.KvqDw.main (F := Bits))) ⟨m, fun _ => 0, g⟩ (fun r => (∀ c : Dev Cert.KvqDw.nD,
      r.2.mem ((c.tc : Thread Cert.KvqDw.nD Cert.KvqDw.τ).loc Cert.KvqDw.main_arg0) = m ((c.tc : Thread Cert.KvqDw.nD Cert.KvqDw.τ).loc Cert.KvqDw.main_arg0)
      ∧ r.2.mem ((c.tc : Thread Cert.KvqDw.nD Cert.KvqDw.τ).loc Cert.KvqDw.main_arg1) = m ((c.tc : Thread Cert.KvqDw.nD Cert.KvqDw.τ).loc Cert.KvqDw.main_arg1))
      ∧ r.2.sem = fun _ => 0)

def quiescent_KvqDwIdeal [hKvqDwIdeal : Cert.KvqDwIdeal.Facts] : Prop :=
  ∀ (m : (ℓ : Loc Cert.KvqDwIdeal.nD Cert.KvqDwIdeal.τ Cert.KvqDwIdeal.sig) → Buf (Elt Ideal) ℓ) (g : Dev Cert.KvqDwIdeal.nD → PrngReg), Pre_KvqDwIdeal m →
    θ_run (Cert.KvqDwIdeal.defs (F := Ideal)) (onTc (τ := Cert.KvqDwIdeal.τ) (Cert.KvqDwIdeal.main (F := Ideal))) ⟨m, fun _ => 0, g⟩ (fun r => (∀ c : Dev Cert.KvqDwIdeal.nD,
      r.2.mem ((c.tc : Thread Cert.KvqDwIdeal.nD Cert.KvqDwIdeal.τ).loc Cert.KvqDwIdeal.main_arg0) = m ((c.tc : Thread Cert.KvqDwIdeal.nD Cert.KvqDwIdeal.τ).loc Cert.KvqDwIdeal.main_arg0)
      ∧ r.2.mem ((c.tc : Thread Cert.KvqDwIdeal.nD Cert.KvqDwIdeal.τ).loc Cert.KvqDwIdeal.main_arg1) = m ((c.tc : Thread Cert.KvqDwIdeal.nD Cert.KvqDwIdeal.τ).loc Cert.KvqDwIdeal.main_arg1))
      ∧ r.2.sem = fun _ => 0)

def quiescent_KvqDwRefIdeal [hKvqDwRefIdeal : Cert.KvqDwRefIdeal.Facts] : Prop :=
  ∀ (m : (ℓ : Loc Cert.KvqDwRefIdeal.nD Cert.KvqDwRefIdeal.τ Cert.KvqDwRefIdeal.sig) → Buf (Elt Ideal) ℓ) (g : Dev Cert.KvqDwRefIdeal.nD → PrngReg), Pre_KvqDwRefIdeal m →
    θ_run (Cert.KvqDwRefIdeal.defs (F := Ideal)) (onTc (τ := Cert.KvqDwRefIdeal.τ) (Cert.KvqDwRefIdeal.main (F := Ideal))) ⟨m, fun _ => 0, g⟩ (fun r => (∀ c : Dev Cert.KvqDwRefIdeal.nD,
      r.2.mem ((c.tc : Thread Cert.KvqDwRefIdeal.nD Cert.KvqDwRefIdeal.τ).loc Cert.KvqDwRefIdeal.main_arg0) = m ((c.tc : Thread Cert.KvqDwRefIdeal.nD Cert.KvqDwRefIdeal.τ).loc Cert.KvqDwRefIdeal.main_arg0)
      ∧ r.2.mem ((c.tc : Thread Cert.KvqDwRefIdeal.nD Cert.KvqDwRefIdeal.τ).loc Cert.KvqDwRefIdeal.main_arg1) = m ((c.tc : Thread Cert.KvqDwRefIdeal.nD Cert.KvqDwRefIdeal.τ).loc Cert.KvqDwRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_RopeDw [hRopeDw : Cert.RopeDw.Facts] : Prop :=
  ∀ (m : (ℓ : Loc Cert.RopeDw.nD Cert.RopeDw.τ Cert.RopeDw.sig) → Buf (Elt Bits) ℓ) (g : Dev Cert.RopeDw.nD → PrngReg), Pre_RopeDw m →
    θ_run (Cert.RopeDw.defs (F := Bits)) (onTc (τ := Cert.RopeDw.τ) (Cert.RopeDw.main (F := Bits))) ⟨m, fun _ => 0, g⟩ (fun r => (∀ c : Dev Cert.RopeDw.nD,
      r.2.mem ((c.tc : Thread Cert.RopeDw.nD Cert.RopeDw.τ).loc Cert.RopeDw.main_arg0) = m ((c.tc : Thread Cert.RopeDw.nD Cert.RopeDw.τ).loc Cert.RopeDw.main_arg0)
      ∧ r.2.mem ((c.tc : Thread Cert.RopeDw.nD Cert.RopeDw.τ).loc Cert.RopeDw.main_arg1) = m ((c.tc : Thread Cert.RopeDw.nD Cert.RopeDw.τ).loc Cert.RopeDw.main_arg1))
      ∧ r.2.sem = fun _ => 0)

def quiescent_RopeDwIdeal [hRopeDwIdeal : Cert.RopeDwIdeal.Facts] : Prop :=
  ∀ (m : (ℓ : Loc Cert.RopeDwIdeal.nD Cert.RopeDwIdeal.τ Cert.RopeDwIdeal.sig) → Buf (Elt Ideal) ℓ) (g : Dev Cert.RopeDwIdeal.nD → PrngReg), Pre_RopeDwIdeal m →
    θ_run (Cert.RopeDwIdeal.defs (F := Ideal)) (onTc (τ := Cert.RopeDwIdeal.τ) (Cert.RopeDwIdeal.main (F := Ideal))) ⟨m, fun _ => 0, g⟩ (fun r => (∀ c : Dev Cert.RopeDwIdeal.nD,
      r.2.mem ((c.tc : Thread Cert.RopeDwIdeal.nD Cert.RopeDwIdeal.τ).loc Cert.RopeDwIdeal.main_arg0) = m ((c.tc : Thread Cert.RopeDwIdeal.nD Cert.RopeDwIdeal.τ).loc Cert.RopeDwIdeal.main_arg0)
      ∧ r.2.mem ((c.tc : Thread Cert.RopeDwIdeal.nD Cert.RopeDwIdeal.τ).loc Cert.RopeDwIdeal.main_arg1) = m ((c.tc : Thread Cert.RopeDwIdeal.nD Cert.RopeDwIdeal.τ).loc Cert.RopeDwIdeal.main_arg1))
      ∧ r.2.sem = fun _ => 0)

def quiescent_RopeDwRefIdeal [hRopeDwRefIdeal : Cert.RopeDwRefIdeal.Facts] : Prop :=
  ∀ (m : (ℓ : Loc Cert.RopeDwRefIdeal.nD Cert.RopeDwRefIdeal.τ Cert.RopeDwRefIdeal.sig) → Buf (Elt Ideal) ℓ) (g : Dev Cert.RopeDwRefIdeal.nD → PrngReg), Pre_RopeDwRefIdeal m →
    θ_run (Cert.RopeDwRefIdeal.defs (F := Ideal)) (onTc (τ := Cert.RopeDwRefIdeal.τ) (Cert.RopeDwRefIdeal.main (F := Ideal))) ⟨m, fun _ => 0, g⟩ (fun r => (∀ c : Dev Cert.RopeDwRefIdeal.nD,
      r.2.mem ((c.tc : Thread Cert.RopeDwRefIdeal.nD Cert.RopeDwRefIdeal.τ).loc Cert.RopeDwRefIdeal.main_arg0) = m ((c.tc : Thread Cert.RopeDwRefIdeal.nD Cert.RopeDwRefIdeal.τ).loc Cert.RopeDwRefIdeal.main_arg0)
      ∧ r.2.mem ((c.tc : Thread Cert.RopeDwRefIdeal.nD Cert.RopeDwRefIdeal.τ).loc Cert.RopeDwRefIdeal.main_arg1) = m ((c.tc : Thread Cert.RopeDwRefIdeal.nD Cert.RopeDwRefIdeal.τ).loc Cert.RopeDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_DtDw [hDtDw : Cert.DtDw.Facts] : Prop :=
  ∀ (m : (ℓ : Loc Cert.DtDw.nD Cert.DtDw.τ Cert.DtDw.sig) → Buf (Elt Bits) ℓ) (g : Dev Cert.DtDw.nD → PrngReg), Pre_DtDw m →
    θ_run (Cert.DtDw.defs (F := Bits)) (onTc (τ := Cert.DtDw.τ) (Cert.DtDw.main (F := Bits))) ⟨m, fun _ => 0, g⟩ (fun r => (∀ c : Dev Cert.DtDw.nD,
      r.2.mem ((c.tc : Thread Cert.DtDw.nD Cert.DtDw.τ).loc Cert.DtDw.main_arg0) = m ((c.tc : Thread Cert.DtDw.nD Cert.DtDw.τ).loc Cert.DtDw.main_arg0)
      ∧ r.2.mem ((c.tc : Thread Cert.DtDw.nD Cert.DtDw.τ).loc Cert.DtDw.main_arg1) = m ((c.tc : Thread Cert.DtDw.nD Cert.DtDw.τ).loc Cert.DtDw.main_arg1))
      ∧ r.2.sem = fun _ => 0)

def quiescent_DtDwIdeal [hDtDwIdeal : Cert.DtDwIdeal.Facts] : Prop :=
  ∀ (m : (ℓ : Loc Cert.DtDwIdeal.nD Cert.DtDwIdeal.τ Cert.DtDwIdeal.sig) → Buf (Elt Ideal) ℓ) (g : Dev Cert.DtDwIdeal.nD → PrngReg), Pre_DtDwIdeal m →
    θ_run (Cert.DtDwIdeal.defs (F := Ideal)) (onTc (τ := Cert.DtDwIdeal.τ) (Cert.DtDwIdeal.main (F := Ideal))) ⟨m, fun _ => 0, g⟩ (fun r => (∀ c : Dev Cert.DtDwIdeal.nD,
      r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
      ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1))
      ∧ r.2.sem = fun _ => 0)

def quiescent_DtDwRefIdeal [hDtDwRefIdeal : Cert.DtDwRefIdeal.Facts] : Prop :=
  ∀ (m : (ℓ : Loc Cert.DtDwRefIdeal.nD Cert.DtDwRefIdeal.τ Cert.DtDwRefIdeal.sig) → Buf (Elt Ideal) ℓ) (g : Dev Cert.DtDwRefIdeal.nD → PrngReg), Pre_DtDwRefIdeal m →
    θ_run (Cert.DtDwRefIdeal.defs (F := Ideal)) (onTc (τ := Cert.DtDwRefIdeal.τ) (Cert.DtDwRefIdeal.main (F := Ideal))) ⟨m, fun _ => 0, g⟩ (fun r => (∀ c : Dev Cert.DtDwRefIdeal.nD,
      r.2.mem ((c.tc : Thread Cert.DtDwRefIdeal.nD Cert.DtDwRefIdeal.τ).loc Cert.DtDwRefIdeal.main_arg0) = m ((c.tc : Thread Cert.DtDwRefIdeal.nD Cert.DtDwRefIdeal.τ).loc Cert.DtDwRefIdeal.main_arg0)
      ∧ r.2.mem ((c.tc : Thread Cert.DtDwRefIdeal.nD Cert.DtDwRefIdeal.τ).loc Cert.DtDwRefIdeal.main_arg1) = m ((c.tc : Thread Cert.DtDwRefIdeal.nD Cert.DtDwRefIdeal.τ).loc Cert.DtDwRefIdeal.main_arg1))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1))
      ∧ r.2.sem = fun _ => 0)

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1))
      ∧ r.2.sem = fun _ => 0)

def quiescent_KDxRefIdeal [hKDxRefIdeal : Cert.KDxRefIdeal.Facts] : Prop :=
  ∀ (m : (ℓ : Loc Cert.KDxRefIdeal.nD Cert.KDxRefIdeal.τ Cert.KDxRefIdeal.sig) → Buf (Elt Ideal) ℓ) (g : Dev Cert.KDxRefIdeal.nD → PrngReg), Pre_KDxRefIdeal m →
    θ_run (Cert.KDxRefIdeal.defs (F := Ideal)) (onTc (τ := Cert.KDxRefIdeal.τ) (Cert.KDxRefIdeal.main (F := Ideal))) ⟨m, fun _ => 0, g⟩ (fun r => (∀ c : Dev Cert.KDxRefIdeal.nD,
      r.2.mem ((c.tc : Thread Cert.KDxRefIdeal.nD Cert.KDxRefIdeal.τ).loc Cert.KDxRefIdeal.main_arg0) = m ((c.tc : Thread Cert.KDxRefIdeal.nD Cert.KDxRefIdeal.τ).loc Cert.KDxRefIdeal.main_arg0)
      ∧ r.2.mem ((c.tc : Thread Cert.KDxRefIdeal.nD Cert.KDxRefIdeal.τ).loc Cert.KDxRefIdeal.main_arg1) = m ((c.tc : Thread Cert.KDxRefIdeal.nD Cert.KDxRefIdeal.τ).loc Cert.KDxRefIdeal.main_arg1))
      ∧ r.2.sem = fun _ => 0)

def quiescent_RopeDx [hRopeDx : Cert.RopeDx.Facts] : Prop :=
  ∀ (m : (ℓ : Loc Cert.RopeDx.nD Cert.RopeDx.τ Cert.RopeDx.sig) → Buf (Elt Bits) ℓ) (g : Dev Cert.RopeDx.nD → PrngReg), Pre_RopeDx m →
    θ_run (Cert.RopeDx.defs (F := Bits)) (onTc (τ := Cert.RopeDx.τ) (Cert.RopeDx.main (F := Bits))) ⟨m, fun _ => 0, g⟩ (fun r => (∀ c : Dev Cert.RopeDx.nD,
      r.2.mem ((c.tc : Thread Cert.RopeDx.nD Cert.RopeDx.τ).loc Cert.RopeDx.main_arg0) = m ((c.tc : Thread Cert.RopeDx.nD Cert.RopeDx.τ).loc Cert.RopeDx.main_arg0)
      ∧ r.2.mem ((c.tc : Thread Cert.RopeDx.nD Cert.RopeDx.τ).loc Cert.RopeDx.main_arg1) = m ((c.tc : Thread Cert.RopeDx.nD Cert.RopeDx.τ).loc Cert.RopeDx.main_arg1)
      ∧ r.2.mem ((c.tc : Thread Cert.RopeDx.nD Cert.RopeDx.τ).loc Cert.RopeDx.main_arg2) = m ((c.tc : Thread Cert.RopeDx.nD Cert.RopeDx.τ).loc Cert.RopeDx.main_arg2))
      ∧ r.2.sem = fun _ => 0)

def quiescent_RopeDxIdeal [hRopeDxIdeal : Cert.RopeDxIdeal.Facts] : Prop :=
  ∀ (m : (ℓ : Loc Cert.RopeDxIdeal.nD Cert.RopeDxIdeal.τ Cert.RopeDxIdeal.sig) → Buf (Elt Ideal) ℓ) (g : Dev Cert.RopeDxIdeal.nD → PrngReg), Pre_RopeDxIdeal m →
    θ_run (Cert.RopeDxIdeal.defs (F := Ideal)) (onTc (τ := Cert.RopeDxIdeal.τ) (Cert.RopeDxIdeal.main (F := Ideal))) ⟨m, fun _ => 0, g⟩ (fun r => (∀ c : Dev Cert.RopeDxIdeal.nD,
      r.2.mem ((c.tc : Thread Cert.RopeDxIdeal.nD Cert.RopeDxIdeal.τ).loc Cert.RopeDxIdeal.main_arg0) = m ((c.tc : Thread Cert.RopeDxIdeal.nD Cert.RopeDxIdeal.τ).loc Cert.RopeDxIdeal.main_arg0)
      ∧ r.2.mem ((c.tc : Thread Cert.RopeDxIdeal.nD Cert.RopeDxIdeal.τ).loc Cert.RopeDxIdeal.main_arg1) = m ((c.tc : Thread Cert.RopeDxIdeal.nD Cert.RopeDxIdeal.τ).loc Cert.RopeDxIdeal.main_arg1)
      ∧ r.2.mem ((c.tc : Thread Cert.RopeDxIdeal.nD Cert.RopeDxIdeal.τ).loc Cert.RopeDxIdeal.main_arg2) = m ((c.tc : Thread Cert.RopeDxIdeal.nD Cert.RopeDxIdeal.τ).loc Cert.RopeDxIdeal.main_arg2))
      ∧ r.2.sem = fun _ => 0)

def quiescent_RopeDxRefIdeal [hRopeDxRefIdeal : Cert.RopeDxRefIdeal.Facts] : Prop :=
  ∀ (m : (ℓ : Loc Cert.RopeDxRefIdeal.nD Cert.RopeDxRefIdeal.τ Cert.RopeDxRefIdeal.sig) → Buf (Elt Ideal) ℓ) (g : Dev Cert.RopeDxRefIdeal.nD → PrngReg), Pre_RopeDxRefIdeal m →
    θ_run (Cert.RopeDxRefIdeal.defs (F := Ideal)) (onTc (τ := Cert.RopeDxRefIdeal.τ) (Cert.RopeDxRefIdeal.main (F := Ideal))) ⟨m, fun _ => 0, g⟩ (fun r => (∀ c : Dev Cert.RopeDxRefIdeal.nD,
      r.2.mem ((c.tc : Thread Cert.RopeDxRefIdeal.nD Cert.RopeDxRefIdeal.τ).loc Cert.RopeDxRefIdeal.main_arg0) = m ((c.tc : Thread Cert.RopeDxRefIdeal.nD Cert.RopeDxRefIdeal.τ).loc Cert.RopeDxRefIdeal.main_arg0)
      ∧ r.2.mem ((c.tc : Thread Cert.RopeDxRefIdeal.nD Cert.RopeDxRefIdeal.τ).loc Cert.RopeDxRefIdeal.main_arg1) = m ((c.tc : Thread Cert.RopeDxRefIdeal.nD Cert.RopeDxRefIdeal.τ).loc Cert.RopeDxRefIdeal.main_arg1)
      ∧ r.2.mem ((c.tc : Thread Cert.RopeDxRefIdeal.nD Cert.RopeDxRefIdeal.τ).loc Cert.RopeDxRefIdeal.main_arg2) = m ((c.tc : Thread Cert.RopeDxRefIdeal.nD Cert.RopeDxRefIdeal.τ).loc Cert.RopeDxRefIdeal.main_arg2))
      ∧ r.2.sem = fun _ => 0)

def quiescent_VDx [hVDx : Cert.VDx.Facts] : Prop :=
  ∀ (m : (ℓ : Loc Cert.VDx.nD Cert.VDx.τ Cert.VDx.sig) → Buf (Elt Bits) ℓ) (g : Dev Cert.VDx.nD → PrngReg), Pre_VDx m →
    θ_run (Cert.VDx.defs (F := Bits)) (onTc (τ := Cert.VDx.τ) (Cert.VDx.main (F := Bits))) ⟨m, fun _ => 0, g⟩ (fun r => (∀ c : Dev Cert.VDx.nD,
      r.2.mem ((c.tc : Thread Cert.VDx.nD Cert.VDx.τ).loc Cert.VDx.main_arg0) = m ((c.tc : Thread Cert.VDx.nD Cert.VDx.τ).loc Cert.VDx.main_arg0)
      ∧ r.2.mem ((c.tc : Thread Cert.VDx.nD Cert.VDx.τ).loc Cert.VDx.main_arg1) = m ((c.tc : Thread Cert.VDx.nD Cert.VDx.τ).loc Cert.VDx.main_arg1)
      ∧ r.2.mem ((c.tc : Thread Cert.VDx.nD Cert.VDx.τ).loc Cert.VDx.main_arg2) = m ((c.tc : Thread Cert.VDx.nD Cert.VDx.τ).loc Cert.VDx.main_arg2))
      ∧ r.2.sem = fun _ => 0)

def quiescent_VDxIdeal [hVDxIdeal : Cert.VDxIdeal.Facts] : Prop :=
  ∀ (m : (ℓ : Loc Cert.VDxIdeal.nD Cert.VDxIdeal.τ Cert.VDxIdeal.sig) → Buf (Elt Ideal) ℓ) (g : Dev Cert.VDxIdeal.nD → PrngReg), Pre_VDxIdeal m →
    θ_run (Cert.VDxIdeal.defs (F := Ideal)) (onTc (τ := Cert.VDxIdeal.τ) (Cert.VDxIdeal.main (F := Ideal))) ⟨m, fun _ => 0, g⟩ (fun r => (∀ c : Dev Cert.VDxIdeal.nD,
      r.2.mem ((c.tc : Thread Cert.VDxIdeal.nD Cert.VDxIdeal.τ).loc Cert.VDxIdeal.main_arg0) = m ((c.tc : Thread Cert.VDxIdeal.nD Cert.VDxIdeal.τ).loc Cert.VDxIdeal.main_arg0)
      ∧ r.2.mem ((c.tc : Thread Cert.VDxIdeal.nD Cert.VDxIdeal.τ).loc Cert.VDxIdeal.main_arg1) = m ((c.tc : Thread Cert.VDxIdeal.nD Cert.VDxIdeal.τ).loc Cert.VDxIdeal.main_arg1)
      ∧ r.2.mem ((c.tc : Thread Cert.VDxIdeal.nD Cert.VDxIdeal.τ).loc Cert.VDxIdeal.main_arg2) = m ((c.tc : Thread Cert.VDxIdeal.nD Cert.VDxIdeal.τ).loc Cert.VDxIdeal.main_arg2))
      ∧ r.2.sem = fun _ => 0)

def quiescent_VDxRefIdeal [hVDxRefIdeal : Cert.VDxRefIdeal.Facts] : Prop :=
  ∀ (m : (ℓ : Loc Cert.VDxRefIdeal.nD Cert.VDxRefIdeal.τ Cert.VDxRefIdeal.sig) → Buf (Elt Ideal) ℓ) (g : Dev Cert.VDxRefIdeal.nD → PrngReg), Pre_VDxRefIdeal m →
    θ_run (Cert.VDxRefIdeal.defs (F := Ideal)) (onTc (τ := Cert.VDxRefIdeal.τ) (Cert.VDxRefIdeal.main (F := Ideal))) ⟨m, fun _ => 0, g⟩ (fun r => (∀ c : Dev Cert.VDxRefIdeal.nD,
      r.2.mem ((c.tc : Thread Cert.VDxRefIdeal.nD Cert.VDxRefIdeal.τ).loc Cert.VDxRefIdeal.main_arg0) = m ((c.tc : Thread Cert.VDxRefIdeal.nD Cert.VDxRefIdeal.τ).loc Cert.VDxRefIdeal.main_arg0)
      ∧ r.2.mem ((c.tc : Thread Cert.VDxRefIdeal.nD Cert.VDxRefIdeal.τ).loc Cert.VDxRefIdeal.main_arg1) = m ((c.tc : Thread Cert.VDxRefIdeal.nD Cert.VDxRefIdeal.τ).loc Cert.VDxRefIdeal.main_arg1)
      ∧ r.2.mem ((c.tc : Thread Cert.VDxRefIdeal.nD Cert.VDxRefIdeal.τ).loc Cert.VDxRefIdeal.main_arg2) = m ((c.tc : Thread Cert.VDxRefIdeal.nD Cert.VDxRefIdeal.τ).loc Cert.VDxRefIdeal.main_arg2))
      ∧ r.2.sem = fun _ => 0)

def quiescent_KvqDx [hKvqDx : Cert.KvqDx.Facts] : Prop :=
  ∀ (m : (ℓ : Loc Cert.KvqDx.nD Cert.KvqDx.τ Cert.KvqDx.sig) → Buf (Elt Bits) ℓ) (g : Dev Cert.KvqDx.nD → PrngReg), Pre_KvqDx m →
    θ_run (Cert.KvqDx.defs (F := Bits)) (onTc (τ := Cert.KvqDx.τ) (Cert.KvqDx.main (F := Bits))) ⟨m, fun _ => 0, g⟩ (fun r => (∀ c : Dev Cert.KvqDx.nD,
      r.2.mem ((c.tc : Thread Cert.KvqDx.nD Cert.KvqDx.τ).loc Cert.KvqDx.main_arg0) = m ((c.tc : Thread Cert.KvqDx.nD Cert.KvqDx.τ).loc Cert.KvqDx.main_arg0)
      ∧ r.2.mem ((c.tc : Thread Cert.KvqDx.nD Cert.KvqDx.τ).loc Cert.KvqDx.main_arg1) = m ((c.tc : Thread Cert.KvqDx.nD Cert.KvqDx.τ).loc Cert.KvqDx.main_arg1)
      ∧ r.2.mem ((c.tc : Thread Cert.KvqDx.nD Cert.KvqDx.τ).loc Cert.KvqDx.main_arg2) = m ((c.tc : Thread Cert.KvqDx.nD Cert.KvqDx.τ).loc Cert.KvqDx.main_arg2))
      ∧ r.2.sem = fun _ => 0)

def quiescent_KvqDxIdeal [hKvqDxIdeal : Cert.KvqDxIdeal.Facts] : Prop :=
  ∀ (m : (ℓ : Loc Cert.KvqDxIdeal.nD Cert.KvqDxIdeal.τ Cert.KvqDxIdeal.sig) → Buf (Elt Ideal) ℓ) (g : Dev Cert.KvqDxIdeal.nD → PrngReg), Pre_KvqDxIdeal m →
    θ_run (Cert.KvqDxIdeal.defs (F := Ideal)) (onTc (τ := Cert.KvqDxIdeal.τ) (Cert.KvqDxIdeal.main (F := Ideal))) ⟨m, fun _ => 0, g⟩ (fun r => (∀ c : Dev Cert.KvqDxIdeal.nD,
      r.2.mem ((c.tc : Thread Cert.KvqDxIdeal.nD Cert.KvqDxIdeal.τ).loc Cert.KvqDxIdeal.main_arg0) = m ((c.tc : Thread Cert.KvqDxIdeal.nD Cert.KvqDxIdeal.τ).loc Cert.KvqDxIdeal.main_arg0)
      ∧ r.2.mem ((c.tc : Thread Cert.KvqDxIdeal.nD Cert.KvqDxIdeal.τ).loc Cert.KvqDxIdeal.main_arg1) = m ((c.tc : Thread Cert.KvqDxIdeal.nD Cert.KvqDxIdeal.τ).loc Cert.KvqDxIdeal.main_arg1)
      ∧ r.2.mem ((c.tc : Thread Cert.KvqDxIdeal.nD Cert.KvqDxIdeal.τ).loc Cert.KvqDxIdeal.main_arg2) = m ((c.tc : Thread Cert.KvqDxIdeal.nD Cert.KvqDxIdeal.τ).loc Cert.KvqDxIdeal.main_arg2))
      ∧ r.2.sem = fun _ => 0)

def quiescent_KvqDxRefIdeal [hKvqDxRefIdeal : Cert.KvqDxRefIdeal.Facts] : Prop :=
  ∀ (m : (ℓ : Loc Cert.KvqDxRefIdeal.nD Cert.KvqDxRefIdeal.τ Cert.KvqDxRefIdeal.sig) → Buf (Elt Ideal) ℓ) (g : Dev Cert.KvqDxRefIdeal.nD → PrngReg), Pre_KvqDxRefIdeal m →
    θ_run (Cert.KvqDxRefIdeal.defs (F := Ideal)) (onTc (τ := Cert.KvqDxRefIdeal.τ) (Cert.KvqDxRefIdeal.main (F := Ideal))) ⟨m, fun _ => 0, g⟩ (fun r => (∀ c : Dev Cert.KvqDxRefIdeal.nD,
      r.2.mem ((c.tc : Thread Cert.KvqDxRefIdeal.nD Cert.KvqDxRefIdeal.τ).loc Cert.KvqDxRefIdeal.main_arg0) = m ((c.tc : Thread Cert.KvqDxRefIdeal.nD Cert.KvqDxRefIdeal.τ).loc Cert.KvqDxRefIdeal.main_arg0)
      ∧ r.2.mem ((c.tc : Thread Cert.KvqDxRefIdeal.nD Cert.KvqDxRefIdeal.τ).loc Cert.KvqDxRefIdeal.main_arg1) = m ((c.tc : Thread Cert.KvqDxRefIdeal.nD Cert.KvqDxRefIdeal.τ).loc Cert.KvqDxRefIdeal.main_arg1)
      ∧ r.2.mem ((c.tc : Thread Cert.KvqDxRefIdeal.nD Cert.KvqDxRefIdeal.τ).loc Cert.KvqDxRefIdeal.main_arg2) = m ((c.tc : Thread Cert.KvqDxRefIdeal.nD Cert.KvqDxRefIdeal.τ).loc Cert.KvqDxRefIdeal.main_arg2))
      ∧ r.2.sem = fun _ => 0)

def quiescent_DtDx [hDtDx : Cert.DtDx.Facts] : Prop :=
  ∀ (m : (ℓ : Loc Cert.DtDx.nD Cert.DtDx.τ Cert.DtDx.sig) → Buf (Elt Bits) ℓ) (g : Dev Cert.DtDx.nD → PrngReg), Pre_DtDx m →
    θ_run (Cert.DtDx.defs (F := Bits)) (onTc (τ := Cert.DtDx.τ) (Cert.DtDx.main (F := Bits))) ⟨m, fun _ => 0, g⟩ (fun r => (∀ c : Dev Cert.DtDx.nD,
      r.2.mem ((c.tc : Thread Cert.DtDx.nD Cert.DtDx.τ).loc Cert.DtDx.main_arg0) = m ((c.tc : Thread Cert.DtDx.nD Cert.DtDx.τ).loc Cert.DtDx.main_arg0)
      ∧ r.2.mem ((c.tc : Thread Cert.DtDx.nD Cert.DtDx.τ).loc Cert.DtDx.main_arg1) = m ((c.tc : Thread Cert.DtDx.nD Cert.DtDx.τ).loc Cert.DtDx.main_arg1)
      ∧ r.2.mem ((c.tc : Thread Cert.DtDx.nD Cert.DtDx.τ).loc Cert.DtDx.main_arg2) = m ((c.tc : Thread Cert.DtDx.nD Cert.DtDx.τ).loc Cert.DtDx.main_arg2))
      ∧ r.2.sem = fun _ => 0)

def quiescent_DtDxIdeal [hDtDxIdeal : Cert.DtDxIdeal.Facts] : Prop :=
  ∀ (m : (ℓ : Loc Cert.DtDxIdeal.nD Cert.DtDxIdeal.τ Cert.DtDxIdeal.sig) → Buf (Elt Ideal) ℓ) (g : Dev Cert.DtDxIdeal.nD → PrngReg), Pre_DtDxIdeal m →
    θ_run (Cert.DtDxIdeal.defs (F := Ideal)) (onTc (τ := Cert.DtDxIdeal.τ) (Cert.DtDxIdeal.main (F := Ideal))) ⟨m, fun _ => 0, g⟩ (fun r => (∀ c : Dev Cert.DtDxIdeal.nD,
      r.2.mem ((c.tc : Thread Cert.DtDxIdeal.nD Cert.DtDxIdeal.τ).loc Cert.DtDxIdeal.main_arg0) = m ((c.tc : Thread Cert.DtDxIdeal.nD Cert.DtDxIdeal.τ).loc Cert.DtDxIdeal.main_arg0)
      ∧ r.2.mem ((c.tc : Thread Cert.DtDxIdeal.nD Cert.DtDxIdeal.τ).loc Cert.DtDxIdeal.main_arg1) = m ((c.tc : Thread Cert.DtDxIdeal.nD Cert.DtDxIdeal.τ).loc Cert.DtDxIdeal.main_arg1)
      ∧ r.2.mem ((c.tc : Thread Cert.DtDxIdeal.nD Cert.DtDxIdeal.τ).loc Cert.DtDxIdeal.main_arg2) = m ((c.tc : Thread Cert.DtDxIdeal.nD Cert.DtDxIdeal.τ).loc Cert.DtDxIdeal.main_arg2))
      ∧ r.2.sem = fun _ => 0)

def quiescent_DtDxRefIdeal [hDtDxRefIdeal : Cert.DtDxRefIdeal.Facts] : Prop :=
  ∀ (m : (ℓ : Loc Cert.DtDxRefIdeal.nD Cert.DtDxRefIdeal.τ Cert.DtDxRefIdeal.sig) → Buf (Elt Ideal) ℓ) (g : Dev Cert.DtDxRefIdeal.nD → PrngReg), Pre_DtDxRefIdeal m →
    θ_run (Cert.DtDxRefIdeal.defs (F := Ideal)) (onTc (τ := Cert.DtDxRefIdeal.τ) (Cert.DtDxRefIdeal.main (F := Ideal))) ⟨m, fun _ => 0, g⟩ (fun r => (∀ c : Dev Cert.DtDxRefIdeal.nD,
      r.2.mem ((c.tc : Thread Cert.DtDxRefIdeal.nD Cert.DtDxRefIdeal.τ).loc Cert.DtDxRefIdeal.main_arg0) = m ((c.tc : Thread Cert.DtDxRefIdeal.nD Cert.DtDxRefIdeal.τ).loc Cert.DtDxRefIdeal.main_arg0)
      ∧ r.2.mem ((c.tc : Thread Cert.DtDxRefIdeal.nD Cert.DtDxRefIdeal.τ).loc Cert.DtDxRefIdeal.main_arg1) = m ((c.tc : Thread Cert.DtDxRefIdeal.nD Cert.DtDxRefIdeal.τ).loc Cert.DtDxRefIdeal.main_arg1)
      ∧ r.2.mem ((c.tc : Thread Cert.DtDxRefIdeal.nD Cert.DtDxRefIdeal.τ).loc Cert.DtDxRefIdeal.main_arg2) = m ((c.tc : Thread Cert.DtDxRefIdeal.nD Cert.DtDxRefIdeal.τ).loc Cert.DtDxRefIdeal.main_arg2))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Turn [hTurn : Cert.Turn.Facts] : Prop :=
  ∀ (m : (ℓ : Loc Cert.Turn.nD Cert.Turn.τ Cert.Turn.sig) → Buf (Elt Bits) ℓ) (g : Dev Cert.Turn.nD → PrngReg), Pre_Turn m →
    θ_run (Cert.Turn.defs (F := Bits)) (onTc (τ := Cert.Turn.τ) (Cert.Turn.main (F := Bits))) ⟨m, fun _ => 0, g⟩ (fun r => (∀ c : Dev Cert.Turn.nD,
      r.2.mem ((c.tc : Thread Cert.Turn.nD Cert.Turn.τ).loc Cert.Turn.main_arg0) = m ((c.tc : Thread Cert.Turn.nD Cert.Turn.τ).loc Cert.Turn.main_arg0)
      ∧ r.2.mem ((c.tc : Thread Cert.Turn.nD Cert.Turn.τ).loc Cert.Turn.main_arg1) = m ((c.tc : Thread Cert.Turn.nD Cert.Turn.τ).loc Cert.Turn.main_arg1)
      ∧ r.2.mem ((c.tc : Thread Cert.Turn.nD Cert.Turn.τ).loc Cert.Turn.main_arg2) = m ((c.tc : Thread Cert.Turn.nD Cert.Turn.τ).loc Cert.Turn.main_arg2))
      ∧ r.2.sem = fun _ => 0)

def quiescent_TurnIdeal [hTurnIdeal : Cert.TurnIdeal.Facts] : Prop :=
  ∀ (m : (ℓ : Loc Cert.TurnIdeal.nD Cert.TurnIdeal.τ Cert.TurnIdeal.sig) → Buf (Elt Ideal) ℓ) (g : Dev Cert.TurnIdeal.nD → PrngReg), Pre_TurnIdeal m →
    θ_run (Cert.TurnIdeal.defs (F := Ideal)) (onTc (τ := Cert.TurnIdeal.τ) (Cert.TurnIdeal.main (F := Ideal))) ⟨m, fun _ => 0, g⟩ (fun r => (∀ c : Dev Cert.TurnIdeal.nD,
      r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
      ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
      ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2))
      ∧ r.2.sem = fun _ => 0)

def quiescent_TurnRefIdeal [hTurnRefIdeal : Cert.TurnRefIdeal.Facts] : Prop :=
  ∀ (m : (ℓ : Loc Cert.TurnRefIdeal.nD Cert.TurnRefIdeal.τ Cert.TurnRefIdeal.sig) → Buf (Elt Ideal) ℓ) (g : Dev Cert.TurnRefIdeal.nD → PrngReg), Pre_TurnRefIdeal m →
    θ_run (Cert.TurnRefIdeal.defs (F := Ideal)) (onTc (τ := Cert.TurnRefIdeal.τ) (Cert.TurnRefIdeal.main (F := Ideal))) ⟨m, fun _ => 0, g⟩ (fun r => (∀ c : Dev Cert.TurnRefIdeal.nD,
      r.2.mem ((c.tc : Thread Cert.TurnRefIdeal.nD Cert.TurnRefIdeal.τ).loc Cert.TurnRefIdeal.main_arg0) = m ((c.tc : Thread Cert.TurnRefIdeal.nD Cert.TurnRefIdeal.τ).loc Cert.TurnRefIdeal.main_arg0)
      ∧ r.2.mem ((c.tc : Thread Cert.TurnRefIdeal.nD Cert.TurnRefIdeal.τ).loc Cert.TurnRefIdeal.main_arg1) = m ((c.tc : Thread Cert.TurnRefIdeal.nD Cert.TurnRefIdeal.τ).loc Cert.TurnRefIdeal.main_arg1)
      ∧ r.2.mem ((c.tc : Thread Cert.TurnRefIdeal.nD Cert.TurnRefIdeal.τ).loc Cert.TurnRefIdeal.main_arg2) = m ((c.tc : Thread Cert.TurnRefIdeal.nD Cert.TurnRefIdeal.τ).loc Cert.TurnRefIdeal.main_arg2))
      ∧ r.2.sem = fun _ => 0)

def quiescent_TurnDx [hTurnDx : Cert.TurnDx.Facts] : Prop :=
  ∀ (m : (ℓ : Loc Cert.TurnDx.nD Cert.TurnDx.τ Cert.TurnDx.sig) → Buf (Elt Bits) ℓ) (g : Dev Cert.TurnDx.nD → PrngReg), Pre_TurnDx m →
    θ_run (Cert.TurnDx.defs (F := Bits)) (onTc (τ := Cert.TurnDx.τ) (Cert.TurnDx.main (F := Bits))) ⟨m, fun _ => 0, g⟩ (fun r => (∀ c : Dev Cert.TurnDx.nD,
      r.2.mem ((c.tc : Thread Cert.TurnDx.nD Cert.TurnDx.τ).loc Cert.TurnDx.main_arg0) = m ((c.tc : Thread Cert.TurnDx.nD Cert.TurnDx.τ).loc Cert.TurnDx.main_arg0)
      ∧ r.2.mem ((c.tc : Thread Cert.TurnDx.nD Cert.TurnDx.τ).loc Cert.TurnDx.main_arg1) = m ((c.tc : Thread Cert.TurnDx.nD Cert.TurnDx.τ).loc Cert.TurnDx.main_arg1)
      ∧ r.2.mem ((c.tc : Thread Cert.TurnDx.nD Cert.TurnDx.τ).loc Cert.TurnDx.main_arg2) = m ((c.tc : Thread Cert.TurnDx.nD Cert.TurnDx.τ).loc Cert.TurnDx.main_arg2)
      ∧ r.2.mem ((c.tc : Thread Cert.TurnDx.nD Cert.TurnDx.τ).loc Cert.TurnDx.main_arg3) = m ((c.tc : Thread Cert.TurnDx.nD Cert.TurnDx.τ).loc Cert.TurnDx.main_arg3))
      ∧ r.2.sem = fun _ => 0)

def quiescent_TurnDxIdeal [hTurnDxIdeal : Cert.TurnDxIdeal.Facts] : Prop :=
  ∀ (m : (ℓ : Loc Cert.TurnDxIdeal.nD Cert.TurnDxIdeal.τ Cert.TurnDxIdeal.sig) → Buf (Elt Ideal) ℓ) (g : Dev Cert.TurnDxIdeal.nD → PrngReg), Pre_TurnDxIdeal m →
    θ_run (Cert.TurnDxIdeal.defs (F := Ideal)) (onTc (τ := Cert.TurnDxIdeal.τ) (Cert.TurnDxIdeal.main (F := Ideal))) ⟨m, fun _ => 0, g⟩ (fun r => (∀ c : Dev Cert.TurnDxIdeal.nD,
      r.2.mem ((c.tc : Thread Cert.TurnDxIdeal.nD Cert.TurnDxIdeal.τ).loc Cert.TurnDxIdeal.main_arg0) = m ((c.tc : Thread Cert.TurnDxIdeal.nD Cert.TurnDxIdeal.τ).loc Cert.TurnDxIdeal.main_arg0)
      ∧ r.2.mem ((c.tc : Thread Cert.TurnDxIdeal.nD Cert.TurnDxIdeal.τ).loc Cert.TurnDxIdeal.main_arg1) = m ((c.tc : Thread Cert.TurnDxIdeal.nD Cert.TurnDxIdeal.τ).loc Cert.TurnDxIdeal.main_arg1)
      ∧ r.2.mem ((c.tc : Thread Cert.TurnDxIdeal.nD Cert.TurnDxIdeal.τ).loc Cert.TurnDxIdeal.main_arg2) = m ((c.tc : Thread Cert.TurnDxIdeal.nD Cert.TurnDxIdeal.τ).loc Cert.TurnDxIdeal.main_arg2)
      ∧ r.2.mem ((c.tc : Thread Cert.TurnDxIdeal.nD Cert.TurnDxIdeal.τ).loc Cert.TurnDxIdeal.main_arg3) = m ((c.tc : Thread Cert.TurnDxIdeal.nD Cert.TurnDxIdeal.τ).loc Cert.TurnDxIdeal.main_arg3))
      ∧ r.2.sem = fun _ => 0)

def quiescent_TurnDxRefIdeal [hTurnDxRefIdeal : Cert.TurnDxRefIdeal.Facts] : Prop :=
  ∀ (m : (ℓ : Loc Cert.TurnDxRefIdeal.nD Cert.TurnDxRefIdeal.τ Cert.TurnDxRefIdeal.sig) → Buf (Elt Ideal) ℓ) (g : Dev Cert.TurnDxRefIdeal.nD → PrngReg), Pre_TurnDxRefIdeal m →
    θ_run (Cert.TurnDxRefIdeal.defs (F := Ideal)) (onTc (τ := Cert.TurnDxRefIdeal.τ) (Cert.TurnDxRefIdeal.main (F := Ideal))) ⟨m, fun _ => 0, g⟩ (fun r => (∀ c : Dev Cert.TurnDxRefIdeal.nD,
      r.2.mem ((c.tc : Thread Cert.TurnDxRefIdeal.nD Cert.TurnDxRefIdeal.τ).loc Cert.TurnDxRefIdeal.main_arg0) = m ((c.tc : Thread Cert.TurnDxRefIdeal.nD Cert.TurnDxRefIdeal.τ).loc Cert.TurnDxRefIdeal.main_arg0)
      ∧ r.2.mem ((c.tc : Thread Cert.TurnDxRefIdeal.nD Cert.TurnDxRefIdeal.τ).loc Cert.TurnDxRefIdeal.main_arg1) = m ((c.tc : Thread Cert.TurnDxRefIdeal.nD Cert.TurnDxRefIdeal.τ).loc Cert.TurnDxRefIdeal.main_arg1)
      ∧ r.2.mem ((c.tc : Thread Cert.TurnDxRefIdeal.nD Cert.TurnDxRefIdeal.τ).loc Cert.TurnDxRefIdeal.main_arg2) = m ((c.tc : Thread Cert.TurnDxRefIdeal.nD Cert.TurnDxRefIdeal.τ).loc Cert.TurnDxRefIdeal.main_arg2)
      ∧ r.2.mem ((c.tc : Thread Cert.TurnDxRefIdeal.nD Cert.TurnDxRefIdeal.τ).loc Cert.TurnDxRefIdeal.main_arg3) = m ((c.tc : Thread Cert.TurnDxRefIdeal.nD Cert.TurnDxRefIdeal.τ).loc Cert.TurnDxRefIdeal.main_arg3))
      ∧ r.2.sem = fun _ => 0)

def quiescent_KeyTurn [hKeyTurn : Cert.KeyTurn.Facts] : Prop :=
  ∀ (m : (ℓ : Loc Cert.KeyTurn.nD Cert.KeyTurn.τ Cert.KeyTurn.sig) → Buf (Elt Bits) ℓ) (g : Dev Cert.KeyTurn.nD → PrngReg), Pre_KeyTurn m →
    θ_run (Cert.KeyTurn.defs (F := Bits)) (onTc (τ := Cert.KeyTurn.τ) (Cert.KeyTurn.main (F := Bits))) ⟨m, fun _ => 0, g⟩ (fun r => (∀ c : Dev Cert.KeyTurn.nD,
      r.2.mem ((c.tc : Thread Cert.KeyTurn.nD Cert.KeyTurn.τ).loc Cert.KeyTurn.main_arg0) = m ((c.tc : Thread Cert.KeyTurn.nD Cert.KeyTurn.τ).loc Cert.KeyTurn.main_arg0)
      ∧ r.2.mem ((c.tc : Thread Cert.KeyTurn.nD Cert.KeyTurn.τ).loc Cert.KeyTurn.main_arg1) = m ((c.tc : Thread Cert.KeyTurn.nD Cert.KeyTurn.τ).loc Cert.KeyTurn.main_arg1)
      ∧ r.2.mem ((c.tc : Thread Cert.KeyTurn.nD Cert.KeyTurn.τ).loc Cert.KeyTurn.main_arg2) = m ((c.tc : Thread Cert.KeyTurn.nD Cert.KeyTurn.τ).loc Cert.KeyTurn.main_arg2))
      ∧ r.2.sem = fun _ => 0)

def quiescent_KeyTurnIdeal [hKeyTurnIdeal : Cert.KeyTurnIdeal.Facts] : Prop :=
  ∀ (m : (ℓ : Loc Cert.KeyTurnIdeal.nD Cert.KeyTurnIdeal.τ Cert.KeyTurnIdeal.sig) → Buf (Elt Ideal) ℓ) (g : Dev Cert.KeyTurnIdeal.nD → PrngReg), Pre_KeyTurnIdeal m →
    θ_run (Cert.KeyTurnIdeal.defs (F := Ideal)) (onTc (τ := Cert.KeyTurnIdeal.τ) (Cert.KeyTurnIdeal.main (F := Ideal))) ⟨m, fun _ => 0, g⟩ (fun r => (∀ c : Dev Cert.KeyTurnIdeal.nD,
      r.2.mem ((c.tc : Thread Cert.KeyTurnIdeal.nD Cert.KeyTurnIdeal.τ).loc Cert.KeyTurnIdeal.main_arg0) = m ((c.tc : Thread Cert.KeyTurnIdeal.nD Cert.KeyTurnIdeal.τ).loc Cert.KeyTurnIdeal.main_arg0)
      ∧ r.2.mem ((c.tc : Thread Cert.KeyTurnIdeal.nD Cert.KeyTurnIdeal.τ).loc Cert.KeyTurnIdeal.main_arg1) = m ((c.tc : Thread Cert.KeyTurnIdeal.nD Cert.KeyTurnIdeal.τ).loc Cert.KeyTurnIdeal.main_arg1)
      ∧ r.2.mem ((c.tc : Thread Cert.KeyTurnIdeal.nD Cert.KeyTurnIdeal.τ).loc Cert.KeyTurnIdeal.main_arg2) = m ((c.tc : Thread Cert.KeyTurnIdeal.nD Cert.KeyTurnIdeal.τ).loc Cert.KeyTurnIdeal.main_arg2))
      ∧ r.2.sem = fun _ => 0)

def quiescent_KeyTurnRefIdeal [hKeyTurnRefIdeal : Cert.KeyTurnRefIdeal.Facts] : Prop :=
  ∀ (m : (ℓ : Loc Cert.KeyTurnRefIdeal.nD Cert.KeyTurnRefIdeal.τ Cert.KeyTurnRefIdeal.sig) → Buf (Elt Ideal) ℓ) (g : Dev Cert.KeyTurnRefIdeal.nD → PrngReg), Pre_KeyTurnRefIdeal m →
    θ_run (Cert.KeyTurnRefIdeal.defs (F := Ideal)) (onTc (τ := Cert.KeyTurnRefIdeal.τ) (Cert.KeyTurnRefIdeal.main (F := Ideal))) ⟨m, fun _ => 0, g⟩ (fun r => (∀ c : Dev Cert.KeyTurnRefIdeal.nD,
      r.2.mem ((c.tc : Thread Cert.KeyTurnRefIdeal.nD Cert.KeyTurnRefIdeal.τ).loc Cert.KeyTurnRefIdeal.main_arg0) = m ((c.tc : Thread Cert.KeyTurnRefIdeal.nD Cert.KeyTurnRefIdeal.τ).loc Cert.KeyTurnRefIdeal.main_arg0)
      ∧ r.2.mem ((c.tc : Thread Cert.KeyTurnRefIdeal.nD Cert.KeyTurnRefIdeal.τ).loc Cert.KeyTurnRefIdeal.main_arg1) = m ((c.tc : Thread Cert.KeyTurnRefIdeal.nD Cert.KeyTurnRefIdeal.τ).loc Cert.KeyTurnRefIdeal.main_arg1)
      ∧ r.2.mem ((c.tc : Thread Cert.KeyTurnRefIdeal.nD Cert.KeyTurnRefIdeal.τ).loc Cert.KeyTurnRefIdeal.main_arg2) = m ((c.tc : Thread Cert.KeyTurnRefIdeal.nD Cert.KeyTurnRefIdeal.τ).loc Cert.KeyTurnRefIdeal.main_arg2))
      ∧ r.2.sem = fun _ => 0)

def quiescent_KeyTurnDx [hKeyTurnDx : Cert.KeyTurnDx.Facts] : Prop :=
  ∀ (m : (ℓ : Loc Cert.KeyTurnDx.nD Cert.KeyTurnDx.τ Cert.KeyTurnDx.sig) → Buf (Elt Bits) ℓ) (g : Dev Cert.KeyTurnDx.nD → PrngReg), Pre_KeyTurnDx m →
    θ_run (Cert.KeyTurnDx.defs (F := Bits)) (onTc (τ := Cert.KeyTurnDx.τ) (Cert.KeyTurnDx.main (F := Bits))) ⟨m, fun _ => 0, g⟩ (fun r => (∀ c : Dev Cert.KeyTurnDx.nD,
      r.2.mem ((c.tc : Thread Cert.KeyTurnDx.nD Cert.KeyTurnDx.τ).loc Cert.KeyTurnDx.main_arg0) = m ((c.tc : Thread Cert.KeyTurnDx.nD Cert.KeyTurnDx.τ).loc Cert.KeyTurnDx.main_arg0)
      ∧ r.2.mem ((c.tc : Thread Cert.KeyTurnDx.nD Cert.KeyTurnDx.τ).loc Cert.KeyTurnDx.main_arg1) = m ((c.tc : Thread Cert.KeyTurnDx.nD Cert.KeyTurnDx.τ).loc Cert.KeyTurnDx.main_arg1)
      ∧ r.2.mem ((c.tc : Thread Cert.KeyTurnDx.nD Cert.KeyTurnDx.τ).loc Cert.KeyTurnDx.main_arg2) = m ((c.tc : Thread Cert.KeyTurnDx.nD Cert.KeyTurnDx.τ).loc Cert.KeyTurnDx.main_arg2)
      ∧ r.2.mem ((c.tc : Thread Cert.KeyTurnDx.nD Cert.KeyTurnDx.τ).loc Cert.KeyTurnDx.main_arg3) = m ((c.tc : Thread Cert.KeyTurnDx.nD Cert.KeyTurnDx.τ).loc Cert.KeyTurnDx.main_arg3))
      ∧ r.2.sem = fun _ => 0)

def quiescent_KeyTurnDxIdeal [hKeyTurnDxIdeal : Cert.KeyTurnDxIdeal.Facts] : Prop :=
  ∀ (m : (ℓ : Loc Cert.KeyTurnDxIdeal.nD Cert.KeyTurnDxIdeal.τ Cert.KeyTurnDxIdeal.sig) → Buf (Elt Ideal) ℓ) (g : Dev Cert.KeyTurnDxIdeal.nD → PrngReg), Pre_KeyTurnDxIdeal m →
    θ_run (Cert.KeyTurnDxIdeal.defs (F := Ideal)) (onTc (τ := Cert.KeyTurnDxIdeal.τ) (Cert.KeyTurnDxIdeal.main (F := Ideal))) ⟨m, fun _ => 0, g⟩ (fun r => (∀ c : Dev Cert.KeyTurnDxIdeal.nD,
      r.2.mem ((c.tc : Thread Cert.KeyTurnDxIdeal.nD Cert.KeyTurnDxIdeal.τ).loc Cert.KeyTurnDxIdeal.main_arg0) = m ((c.tc : Thread Cert.KeyTurnDxIdeal.nD Cert.KeyTurnDxIdeal.τ).loc Cert.KeyTurnDxIdeal.main_arg0)
      ∧ r.2.mem ((c.tc : Thread Cert.KeyTurnDxIdeal.nD Cert.KeyTurnDxIdeal.τ).loc Cert.KeyTurnDxIdeal.main_arg1) = m ((c.tc : Thread Cert.KeyTurnDxIdeal.nD Cert.KeyTurnDxIdeal.τ).loc Cert.KeyTurnDxIdeal.main_arg1)
      ∧ r.2.mem ((c.tc : Thread Cert.KeyTurnDxIdeal.nD Cert.KeyTurnDxIdeal.τ).loc Cert.KeyTurnDxIdeal.main_arg2) = m ((c.tc : Thread Cert.KeyTurnDxIdeal.nD Cert.KeyTurnDxIdeal.τ).loc Cert.KeyTurnDxIdeal.main_arg2)
      ∧ r.2.mem ((c.tc : Thread Cert.KeyTurnDxIdeal.nD Cert.KeyTurnDxIdeal.τ).loc Cert.KeyTurnDxIdeal.main_arg3) = m ((c.tc : Thread Cert.KeyTurnDxIdeal.nD Cert.KeyTurnDxIdeal.τ).loc Cert.KeyTurnDxIdeal.main_arg3))
      ∧ r.2.sem = fun _ => 0)

def quiescent_KeyTurnDxRefIdeal [hKeyTurnDxRefIdeal : Cert.KeyTurnDxRefIdeal.Facts] : Prop :=
  ∀ (m : (ℓ : Loc Cert.KeyTurnDxRefIdeal.nD Cert.KeyTurnDxRefIdeal.τ Cert.KeyTurnDxRefIdeal.sig) → Buf (Elt Ideal) ℓ) (g : Dev Cert.KeyTurnDxRefIdeal.nD → PrngReg), Pre_KeyTurnDxRefIdeal m →
    θ_run (Cert.KeyTurnDxRefIdeal.defs (F := Ideal)) (onTc (τ := Cert.KeyTurnDxRefIdeal.τ) (Cert.KeyTurnDxRefIdeal.main (F := Ideal))) ⟨m, fun _ => 0, g⟩ (fun r => (∀ c : Dev Cert.KeyTurnDxRefIdeal.nD,
      r.2.mem ((c.tc : Thread Cert.KeyTurnDxRefIdeal.nD Cert.KeyTurnDxRefIdeal.τ).loc Cert.KeyTurnDxRefIdeal.main_arg0) = m ((c.tc : Thread Cert.KeyTurnDxRefIdeal.nD Cert.KeyTurnDxRefIdeal.τ).loc Cert.KeyTurnDxRefIdeal.main_arg0)
      ∧ r.2.mem ((c.tc : Thread Cert.KeyTurnDxRefIdeal.nD Cert.KeyTurnDxRefIdeal.τ).loc Cert.KeyTurnDxRefIdeal.main_arg1) = m ((c.tc : Thread Cert.KeyTurnDxRefIdeal.nD Cert.KeyTurnDxRefIdeal.τ).loc Cert.KeyTurnDxRefIdeal.main_arg1)
      ∧ r.2.mem ((c.tc : Thread Cert.KeyTurnDxRefIdeal.nD Cert.KeyTurnDxRefIdeal.τ).loc Cert.KeyTurnDxRefIdeal.main_arg2) = m ((c.tc : Thread Cert.KeyTurnDxRefIdeal.nD Cert.KeyTurnDxRefIdeal.τ).loc Cert.KeyTurnDxRefIdeal.main_arg2)
      ∧ r.2.mem ((c.tc : Thread Cert.KeyTurnDxRefIdeal.nD Cert.KeyTurnDxRefIdeal.τ).loc Cert.KeyTurnDxRefIdeal.main_arg3) = m ((c.tc : Thread Cert.KeyTurnDxRefIdeal.nD Cert.KeyTurnDxRefIdeal.τ).loc Cert.KeyTurnDxRefIdeal.main_arg3))
      ∧ r.2.sem = fun _ => 0)

def quiescent_QNormDx [hQNormDx : Cert.QNormDx.Facts] : Prop :=
  ∀ (m : (ℓ : Loc Cert.QNormDx.nD Cert.QNormDx.τ Cert.QNormDx.sig) → Buf (Elt Bits) ℓ) (g : Dev Cert.QNormDx.nD → PrngReg), Pre_QNormDx m →
    θ_run (Cert.QNormDx.defs (F := Bits)) (onTc (τ := Cert.QNormDx.τ) (Cert.QNormDx.main (F := Bits))) ⟨m, fun _ => 0, g⟩ (fun r => (∀ c : Dev Cert.QNormDx.nD,
      r.2.mem ((c.tc : Thread Cert.QNormDx.nD Cert.QNormDx.τ).loc Cert.QNormDx.main_arg0) = m ((c.tc : Thread Cert.QNormDx.nD Cert.QNormDx.τ).loc Cert.QNormDx.main_arg0)
      ∧ r.2.mem ((c.tc : Thread Cert.QNormDx.nD Cert.QNormDx.τ).loc Cert.QNormDx.main_arg1) = m ((c.tc : Thread Cert.QNormDx.nD Cert.QNormDx.τ).loc Cert.QNormDx.main_arg1)
      ∧ r.2.mem ((c.tc : Thread Cert.QNormDx.nD Cert.QNormDx.τ).loc Cert.QNormDx.main_arg2) = m ((c.tc : Thread Cert.QNormDx.nD Cert.QNormDx.τ).loc Cert.QNormDx.main_arg2))
      ∧ r.2.sem = fun _ => 0)

def quiescent_QNormDxIdeal [hQNormDxIdeal : Cert.QNormDxIdeal.Facts] : Prop :=
  ∀ (m : (ℓ : Loc Cert.QNormDxIdeal.nD Cert.QNormDxIdeal.τ Cert.QNormDxIdeal.sig) → Buf (Elt Ideal) ℓ) (g : Dev Cert.QNormDxIdeal.nD → PrngReg), Pre_QNormDxIdeal m →
    θ_run (Cert.QNormDxIdeal.defs (F := Ideal)) (onTc (τ := Cert.QNormDxIdeal.τ) (Cert.QNormDxIdeal.main (F := Ideal))) ⟨m, fun _ => 0, g⟩ (fun r => (∀ c : Dev Cert.QNormDxIdeal.nD,
      r.2.mem ((c.tc : Thread Cert.QNormDxIdeal.nD Cert.QNormDxIdeal.τ).loc Cert.QNormDxIdeal.main_arg0) = m ((c.tc : Thread Cert.QNormDxIdeal.nD Cert.QNormDxIdeal.τ).loc Cert.QNormDxIdeal.main_arg0)
      ∧ r.2.mem ((c.tc : Thread Cert.QNormDxIdeal.nD Cert.QNormDxIdeal.τ).loc Cert.QNormDxIdeal.main_arg1) = m ((c.tc : Thread Cert.QNormDxIdeal.nD Cert.QNormDxIdeal.τ).loc Cert.QNormDxIdeal.main_arg1)
      ∧ r.2.mem ((c.tc : Thread Cert.QNormDxIdeal.nD Cert.QNormDxIdeal.τ).loc Cert.QNormDxIdeal.main_arg2) = m ((c.tc : Thread Cert.QNormDxIdeal.nD Cert.QNormDxIdeal.τ).loc Cert.QNormDxIdeal.main_arg2))
      ∧ r.2.sem = fun _ => 0)

def quiescent_QNormDxRefIdeal [hQNormDxRefIdeal : Cert.QNormDxRefIdeal.Facts] : Prop :=
  ∀ (m : (ℓ : Loc Cert.QNormDxRefIdeal.nD Cert.QNormDxRefIdeal.τ Cert.QNormDxRefIdeal.sig) → Buf (Elt Ideal) ℓ) (g : Dev Cert.QNormDxRefIdeal.nD → PrngReg), Pre_QNormDxRefIdeal m →
    θ_run (Cert.QNormDxRefIdeal.defs (F := Ideal)) (onTc (τ := Cert.QNormDxRefIdeal.τ) (Cert.QNormDxRefIdeal.main (F := Ideal))) ⟨m, fun _ => 0, g⟩ (fun r => (∀ c : Dev Cert.QNormDxRefIdeal.nD,
      r.2.mem ((c.tc : Thread Cert.QNormDxRefIdeal.nD Cert.QNormDxRefIdeal.τ).loc Cert.QNormDxRefIdeal.main_arg0) = m ((c.tc : Thread Cert.QNormDxRefIdeal.nD Cert.QNormDxRefIdeal.τ).loc Cert.QNormDxRefIdeal.main_arg0)
      ∧ r.2.mem ((c.tc : Thread Cert.QNormDxRefIdeal.nD Cert.QNormDxRefIdeal.τ).loc Cert.QNormDxRefIdeal.main_arg1) = m ((c.tc : Thread Cert.QNormDxRefIdeal.nD Cert.QNormDxRefIdeal.τ).loc Cert.QNormDxRefIdeal.main_arg1)
      ∧ r.2.mem ((c.tc : Thread Cert.QNormDxRefIdeal.nD Cert.QNormDxRefIdeal.τ).loc Cert.QNormDxRefIdeal.main_arg2) = m ((c.tc : Thread Cert.QNormDxRefIdeal.nD Cert.QNormDxRefIdeal.τ).loc Cert.QNormDxRefIdeal.main_arg2))
      ∧ r.2.sem = fun _ => 0)

def quiescent_KvNormDx [hKvNormDx : Cert.KvNormDx.Facts] : Prop :=
  ∀ (m : (ℓ : Loc Cert.KvNormDx.nD Cert.KvNormDx.τ Cert.KvNormDx.sig) → Buf (Elt Bits) ℓ) (g : Dev Cert.KvNormDx.nD → PrngReg), Pre_KvNormDx m →
    θ_run (Cert.KvNormDx.defs (F := Bits)) (onTc (τ := Cert.KvNormDx.τ) (Cert.KvNormDx.main (F := Bits))) ⟨m, fun _ => 0, g⟩ (fun r => (∀ c : Dev Cert.KvNormDx.nD,
      r.2.mem ((c.tc : Thread Cert.KvNormDx.nD Cert.KvNormDx.τ).loc Cert.KvNormDx.main_arg0) = m ((c.tc : Thread Cert.KvNormDx.nD Cert.KvNormDx.τ).loc Cert.KvNormDx.main_arg0)
      ∧ r.2.mem ((c.tc : Thread Cert.KvNormDx.nD Cert.KvNormDx.τ).loc Cert.KvNormDx.main_arg1) = m ((c.tc : Thread Cert.KvNormDx.nD Cert.KvNormDx.τ).loc Cert.KvNormDx.main_arg1)
      ∧ r.2.mem ((c.tc : Thread Cert.KvNormDx.nD Cert.KvNormDx.τ).loc Cert.KvNormDx.main_arg2) = m ((c.tc : Thread Cert.KvNormDx.nD Cert.KvNormDx.τ).loc Cert.KvNormDx.main_arg2))
      ∧ r.2.sem = fun _ => 0)

def quiescent_KvNormDxIdeal [hKvNormDxIdeal : Cert.KvNormDxIdeal.Facts] : Prop :=
  ∀ (m : (ℓ : Loc Cert.KvNormDxIdeal.nD Cert.KvNormDxIdeal.τ Cert.KvNormDxIdeal.sig) → Buf (Elt Ideal) ℓ) (g : Dev Cert.KvNormDxIdeal.nD → PrngReg), Pre_KvNormDxIdeal m →
    θ_run (Cert.KvNormDxIdeal.defs (F := Ideal)) (onTc (τ := Cert.KvNormDxIdeal.τ) (Cert.KvNormDxIdeal.main (F := Ideal))) ⟨m, fun _ => 0, g⟩ (fun r => (∀ c : Dev Cert.KvNormDxIdeal.nD,
      r.2.mem ((c.tc : Thread Cert.KvNormDxIdeal.nD Cert.KvNormDxIdeal.τ).loc Cert.KvNormDxIdeal.main_arg0) = m ((c.tc : Thread Cert.KvNormDxIdeal.nD Cert.KvNormDxIdeal.τ).loc Cert.KvNormDxIdeal.main_arg0)
      ∧ r.2.mem ((c.tc : Thread Cert.KvNormDxIdeal.nD Cert.KvNormDxIdeal.τ).loc Cert.KvNormDxIdeal.main_arg1) = m ((c.tc : Thread Cert.KvNormDxIdeal.nD Cert.KvNormDxIdeal.τ).loc Cert.KvNormDxIdeal.main_arg1)
      ∧ r.2.mem ((c.tc : Thread Cert.KvNormDxIdeal.nD Cert.KvNormDxIdeal.τ).loc Cert.KvNormDxIdeal.main_arg2) = m ((c.tc : Thread Cert.KvNormDxIdeal.nD Cert.KvNormDxIdeal.τ).loc Cert.KvNormDxIdeal.main_arg2))
      ∧ r.2.sem = fun _ => 0)

def quiescent_KvNormDxRefIdeal [hKvNormDxRefIdeal : Cert.KvNormDxRefIdeal.Facts] : Prop :=
  ∀ (m : (ℓ : Loc Cert.KvNormDxRefIdeal.nD Cert.KvNormDxRefIdeal.τ Cert.KvNormDxRefIdeal.sig) → Buf (Elt Ideal) ℓ) (g : Dev Cert.KvNormDxRefIdeal.nD → PrngReg), Pre_KvNormDxRefIdeal m →
    θ_run (Cert.KvNormDxRefIdeal.defs (F := Ideal)) (onTc (τ := Cert.KvNormDxRefIdeal.τ) (Cert.KvNormDxRefIdeal.main (F := Ideal))) ⟨m, fun _ => 0, g⟩ (fun r => (∀ c : Dev Cert.KvNormDxRefIdeal.nD,
      r.2.mem ((c.tc : Thread Cert.KvNormDxRefIdeal.nD Cert.KvNormDxRefIdeal.τ).loc Cert.KvNormDxRefIdeal.main_arg0) = m ((c.tc : Thread Cert.KvNormDxRefIdeal.nD Cert.KvNormDxRefIdeal.τ).loc Cert.KvNormDxRefIdeal.main_arg0)
      ∧ r.2.mem ((c.tc : Thread Cert.KvNormDxRefIdeal.nD Cert.KvNormDxRefIdeal.τ).loc Cert.KvNormDxRefIdeal.main_arg1) = m ((c.tc : Thread Cert.KvNormDxRefIdeal.nD Cert.KvNormDxRefIdeal.τ).loc Cert.KvNormDxRefIdeal.main_arg1)
      ∧ r.2.mem ((c.tc : Thread Cert.KvNormDxRefIdeal.nD Cert.KvNormDxRefIdeal.τ).loc Cert.KvNormDxRefIdeal.main_arg2) = m ((c.tc : Thread Cert.KvNormDxRefIdeal.nD Cert.KvNormDxRefIdeal.τ).loc Cert.KvNormDxRefIdeal.main_arg2))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1))
      ∧ r.2.sem = fun _ => 0)

def quiescent_LnY [hLnY : Cert.LnY.Facts] : Prop :=
  ∀ (m : (ℓ : Loc Cert.LnY.nD Cert.LnY.τ Cert.LnY.sig) → Buf (Elt Bits) ℓ) (g : Dev Cert.LnY.nD → PrngReg), Pre_LnY m →
    θ_run (Cert.LnY.defs (F := Bits)) (onTc (τ := Cert.LnY.τ) (Cert.LnY.main (F := Bits))) ⟨m, fun _ => 0, g⟩ (fun r => (∀ c : Dev Cert.LnY.nD,
      r.2.mem ((c.tc : Thread Cert.LnY.nD Cert.LnY.τ).loc Cert.LnY.main_arg0) = m ((c.tc : Thread Cert.LnY.nD Cert.LnY.τ).loc Cert.LnY.main_arg0)
      ∧ r.2.mem ((c.tc : Thread Cert.LnY.nD Cert.LnY.τ).loc Cert.LnY.main_arg1) = m ((c.tc : Thread Cert.LnY.nD Cert.LnY.τ).loc Cert.LnY.main_arg1)
      ∧ r.2.mem ((c.tc : Thread Cert.LnY.nD Cert.LnY.τ).loc Cert.LnY.main_arg2) = m ((c.tc : Thread Cert.LnY.nD Cert.LnY.τ).loc Cert.LnY.main_arg2)
      ∧ r.2.mem ((c.tc : Thread Cert.LnY.nD Cert.LnY.τ).loc Cert.LnY.main_arg3) = m ((c.tc : Thread Cert.LnY.nD Cert.LnY.τ).loc Cert.LnY.main_arg3))
      ∧ r.2.sem = fun _ => 0)

def quiescent_LnYIdeal [hLnYIdeal : Cert.LnYIdeal.Facts] : Prop :=
  ∀ (m : (ℓ : Loc Cert.LnYIdeal.nD Cert.LnYIdeal.τ Cert.LnYIdeal.sig) → Buf (Elt Ideal) ℓ) (g : Dev Cert.LnYIdeal.nD → PrngReg), Pre_LnYIdeal m →
    θ_run (Cert.LnYIdeal.defs (F := Ideal)) (onTc (τ := Cert.LnYIdeal.τ) (Cert.LnYIdeal.main (F := Ideal))) ⟨m, fun _ => 0, g⟩ (fun r => (∀ c : Dev Cert.LnYIdeal.nD,
      r.2.mem ((c.tc : Thread Cert.LnYIdeal.nD Cert.LnYIdeal.τ).loc Cert.LnYIdeal.main_arg0) = m ((c.tc : Thread Cert.LnYIdeal.nD Cert.LnYIdeal.τ).loc Cert.LnYIdeal.main_arg0)
      ∧ r.2.mem ((c.tc : Thread Cert.LnYIdeal.nD Cert.LnYIdeal.τ).loc Cert.LnYIdeal.main_arg1) = m ((c.tc : Thread Cert.LnYIdeal.nD Cert.LnYIdeal.τ).loc Cert.LnYIdeal.main_arg1)
      ∧ r.2.mem ((c.tc : Thread Cert.LnYIdeal.nD Cert.LnYIdeal.τ).loc Cert.LnYIdeal.main_arg2) = m ((c.tc : Thread Cert.LnYIdeal.nD Cert.LnYIdeal.τ).loc Cert.LnYIdeal.main_arg2)
      ∧ r.2.mem ((c.tc : Thread Cert.LnYIdeal.nD Cert.LnYIdeal.τ).loc Cert.LnYIdeal.main_arg3) = m ((c.tc : Thread Cert.LnYIdeal.nD Cert.LnYIdeal.τ).loc Cert.LnYIdeal.main_arg3))
      ∧ r.2.sem = fun _ => 0)

def quiescent_LnYRefIdeal [hLnYRefIdeal : Cert.LnYRefIdeal.Facts] : Prop :=
  ∀ (m : (ℓ : Loc Cert.LnYRefIdeal.nD Cert.LnYRefIdeal.τ Cert.LnYRefIdeal.sig) → Buf (Elt Ideal) ℓ) (g : Dev Cert.LnYRefIdeal.nD → PrngReg), Pre_LnYRefIdeal m →
    θ_run (Cert.LnYRefIdeal.defs (F := Ideal)) (onTc (τ := Cert.LnYRefIdeal.τ) (Cert.LnYRefIdeal.main (F := Ideal))) ⟨m, fun _ => 0, g⟩ (fun r => (∀ c : Dev Cert.LnYRefIdeal.nD,
      r.2.mem ((c.tc : Thread Cert.LnYRefIdeal.nD Cert.LnYRefIdeal.τ).loc Cert.LnYRefIdeal.main_arg0) = m ((c.tc : Thread Cert.LnYRefIdeal.nD Cert.LnYRefIdeal.τ).loc Cert.LnYRefIdeal.main_arg0)
      ∧ r.2.mem ((c.tc : Thread Cert.LnYRefIdeal.nD Cert.LnYRefIdeal.τ).loc Cert.LnYRefIdeal.main_arg1) = m ((c.tc : Thread Cert.LnYRefIdeal.nD Cert.LnYRefIdeal.τ).loc Cert.LnYRefIdeal.main_arg1)
      ∧ r.2.mem ((c.tc : Thread Cert.LnYRefIdeal.nD Cert.LnYRefIdeal.τ).loc Cert.LnYRefIdeal.main_arg2) = m ((c.tc : Thread Cert.LnYRefIdeal.nD Cert.LnYRefIdeal.τ).loc Cert.LnYRefIdeal.main_arg2)
      ∧ r.2.mem ((c.tc : Thread Cert.LnYRefIdeal.nD Cert.LnYRefIdeal.τ).loc Cert.LnYRefIdeal.main_arg3) = m ((c.tc : Thread Cert.LnYRefIdeal.nD Cert.LnYRefIdeal.τ).loc Cert.LnYRefIdeal.main_arg3))
      ∧ r.2.sem = fun _ => 0)

def quiescent_LnLast [hLnLast : Cert.LnLast.Facts] : Prop :=
  ∀ (m : (ℓ : Loc Cert.LnLast.nD Cert.LnLast.τ Cert.LnLast.sig) → Buf (Elt Bits) ℓ) (g : Dev Cert.LnLast.nD → PrngReg), Pre_LnLast m →
    θ_run (Cert.LnLast.defs (F := Bits)) (onTc (τ := Cert.LnLast.τ) (Cert.LnLast.main (F := Bits))) ⟨m, fun _ => 0, g⟩ (fun r => (∀ c : Dev Cert.LnLast.nD,
      r.2.mem ((c.tc : Thread Cert.LnLast.nD Cert.LnLast.τ).loc Cert.LnLast.main_arg0) = m ((c.tc : Thread Cert.LnLast.nD Cert.LnLast.τ).loc Cert.LnLast.main_arg0)
      ∧ r.2.mem ((c.tc : Thread Cert.LnLast.nD Cert.LnLast.τ).loc Cert.LnLast.main_arg1) = m ((c.tc : Thread Cert.LnLast.nD Cert.LnLast.τ).loc Cert.LnLast.main_arg1)
      ∧ r.2.mem ((c.tc : Thread Cert.LnLast.nD Cert.LnLast.τ).loc Cert.LnLast.main_arg2) = m ((c.tc : Thread Cert.LnLast.nD Cert.LnLast.τ).loc Cert.LnLast.main_arg2)
      ∧ r.2.mem ((c.tc : Thread Cert.LnLast.nD Cert.LnLast.τ).loc Cert.LnLast.main_arg3) = m ((c.tc : Thread Cert.LnLast.nD Cert.LnLast.τ).loc Cert.LnLast.main_arg3))
      ∧ r.2.sem = fun _ => 0)

def quiescent_LnLastIdeal [hLnLastIdeal : Cert.LnLastIdeal.Facts] : Prop :=
  ∀ (m : (ℓ : Loc Cert.LnLastIdeal.nD Cert.LnLastIdeal.τ Cert.LnLastIdeal.sig) → Buf (Elt Ideal) ℓ) (g : Dev Cert.LnLastIdeal.nD → PrngReg), Pre_LnLastIdeal m →
    θ_run (Cert.LnLastIdeal.defs (F := Ideal)) (onTc (τ := Cert.LnLastIdeal.τ) (Cert.LnLastIdeal.main (F := Ideal))) ⟨m, fun _ => 0, g⟩ (fun r => (∀ c : Dev Cert.LnLastIdeal.nD,
      r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
      ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
      ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
      ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3))
      ∧ r.2.sem = fun _ => 0)

def quiescent_LnLastRefIdeal [hLnLastRefIdeal : Cert.LnLastRefIdeal.Facts] : Prop :=
  ∀ (m : (ℓ : Loc Cert.LnLastRefIdeal.nD Cert.LnLastRefIdeal.τ Cert.LnLastRefIdeal.sig) → Buf (Elt Ideal) ℓ) (g : Dev Cert.LnLastRefIdeal.nD → PrngReg), Pre_LnLastRefIdeal m →
    θ_run (Cert.LnLastRefIdeal.defs (F := Ideal)) (onTc (τ := Cert.LnLastRefIdeal.τ) (Cert.LnLastRefIdeal.main (F := Ideal))) ⟨m, fun _ => 0, g⟩ (fun r => (∀ c : Dev Cert.LnLastRefIdeal.nD,
      r.2.mem ((c.tc : Thread Cert.LnLastRefIdeal.nD Cert.LnLastRefIdeal.τ).loc Cert.LnLastRefIdeal.main_arg0) = m ((c.tc : Thread Cert.LnLastRefIdeal.nD Cert.LnLastRefIdeal.τ).loc Cert.LnLastRefIdeal.main_arg0)
      ∧ r.2.mem ((c.tc : Thread Cert.LnLastRefIdeal.nD Cert.LnLastRefIdeal.τ).loc Cert.LnLastRefIdeal.main_arg1) = m ((c.tc : Thread Cert.LnLastRefIdeal.nD Cert.LnLastRefIdeal.τ).loc Cert.LnLastRefIdeal.main_arg1)
      ∧ r.2.mem ((c.tc : Thread Cert.LnLastRefIdeal.nD Cert.LnLastRefIdeal.τ).loc Cert.LnLastRefIdeal.main_arg2) = m ((c.tc : Thread Cert.LnLastRefIdeal.nD Cert.LnLastRefIdeal.τ).loc Cert.LnLastRefIdeal.main_arg2)
      ∧ r.2.mem ((c.tc : Thread Cert.LnLastRefIdeal.nD Cert.LnLastRefIdeal.τ).loc Cert.LnLastRefIdeal.main_arg3) = m ((c.tc : Thread Cert.LnLastRefIdeal.nD Cert.LnLastRefIdeal.τ).loc Cert.LnLastRefIdeal.main_arg3))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4))
      ∧ r.2.sem = fun _ => 0)

def quiescent_GatedDx [hGatedDx : Cert.GatedDx.Facts] : Prop :=
  ∀ (m : (ℓ : Loc Cert.GatedDx.nD Cert.GatedDx.τ Cert.GatedDx.sig) → Buf (Elt Bits) ℓ) (g : Dev Cert.GatedDx.nD → PrngReg), Pre_GatedDx m →
    θ_run (Cert.GatedDx.defs (F := Bits)) (onTc (τ := Cert.GatedDx.τ) (Cert.GatedDx.main (F := Bits))) ⟨m, fun _ => 0, g⟩ (fun r => (∀ c : Dev Cert.GatedDx.nD,
      r.2.mem ((c.tc : Thread Cert.GatedDx.nD Cert.GatedDx.τ).loc Cert.GatedDx.main_arg0) = m ((c.tc : Thread Cert.GatedDx.nD Cert.GatedDx.τ).loc Cert.GatedDx.main_arg0)
      ∧ r.2.mem ((c.tc : Thread Cert.GatedDx.nD Cert.GatedDx.τ).loc Cert.GatedDx.main_arg1) = m ((c.tc : Thread Cert.GatedDx.nD Cert.GatedDx.τ).loc Cert.GatedDx.main_arg1)
      ∧ r.2.mem ((c.tc : Thread Cert.GatedDx.nD Cert.GatedDx.τ).loc Cert.GatedDx.main_arg2) = m ((c.tc : Thread Cert.GatedDx.nD Cert.GatedDx.τ).loc Cert.GatedDx.main_arg2)
      ∧ r.2.mem ((c.tc : Thread Cert.GatedDx.nD Cert.GatedDx.τ).loc Cert.GatedDx.main_arg3) = m ((c.tc : Thread Cert.GatedDx.nD Cert.GatedDx.τ).loc Cert.GatedDx.main_arg3)
      ∧ r.2.mem ((c.tc : Thread Cert.GatedDx.nD Cert.GatedDx.τ).loc Cert.GatedDx.main_arg4) = m ((c.tc : Thread Cert.GatedDx.nD Cert.GatedDx.τ).loc Cert.GatedDx.main_arg4)
      ∧ r.2.mem ((c.tc : Thread Cert.GatedDx.nD Cert.GatedDx.τ).loc Cert.GatedDx.main_arg5) = m ((c.tc : Thread Cert.GatedDx.nD Cert.GatedDx.τ).loc Cert.GatedDx.main_arg5))
      ∧ r.2.sem = fun _ => 0)

def quiescent_GatedDxIdeal [hGatedDxIdeal : Cert.GatedDxIdeal.Facts] : Prop :=
  ∀ (m : (ℓ : Loc Cert.GatedDxIdeal.nD Cert.GatedDxIdeal.τ Cert.GatedDxIdeal.sig) → Buf (Elt Ideal) ℓ) (g : Dev Cert.GatedDxIdeal.nD → PrngReg), Pre_GatedDxIdeal m →
    θ_run (Cert.GatedDxIdeal.defs (F := Ideal)) (onTc (τ := Cert.GatedDxIdeal.τ) (Cert.GatedDxIdeal.main (F := Ideal))) ⟨m, fun _ => 0, g⟩ (fun r => (∀ c : Dev Cert.GatedDxIdeal.nD,
      r.2.mem ((c.tc : Thread Cert.GatedDxIdeal.nD Cert.GatedDxIdeal.τ).loc Cert.GatedDxIdeal.main_arg0) = m ((c.tc : Thread Cert.GatedDxIdeal.nD Cert.GatedDxIdeal.τ).loc Cert.GatedDxIdeal.main_arg0)
      ∧ r.2.mem ((c.tc : Thread Cert.GatedDxIdeal.nD Cert.GatedDxIdeal.τ).loc Cert.GatedDxIdeal.main_arg1) = m ((c.tc : Thread Cert.GatedDxIdeal.nD Cert.GatedDxIdeal.τ).loc Cert.GatedDxIdeal.main_arg1)
      ∧ r.2.mem ((c.tc : Thread Cert.GatedDxIdeal.nD Cert.GatedDxIdeal.τ).loc Cert.GatedDxIdeal.main_arg2) = m ((c.tc : Thread Cert.GatedDxIdeal.nD Cert.GatedDxIdeal.τ).loc Cert.GatedDxIdeal.main_arg2)
      ∧ r.2.mem ((c.tc : Thread Cert.GatedDxIdeal.nD Cert.GatedDxIdeal.τ).loc Cert.GatedDxIdeal.main_arg3) = m ((c.tc : Thread Cert.GatedDxIdeal.nD Cert.GatedDxIdeal.τ).loc Cert.GatedDxIdeal.main_arg3)
      ∧ r.2.mem ((c.tc : Thread Cert.GatedDxIdeal.nD Cert.GatedDxIdeal.τ).loc Cert.GatedDxIdeal.main_arg4) = m ((c.tc : Thread Cert.GatedDxIdeal.nD Cert.GatedDxIdeal.τ).loc Cert.GatedDxIdeal.main_arg4)
      ∧ r.2.mem ((c.tc : Thread Cert.GatedDxIdeal.nD Cert.GatedDxIdeal.τ).loc Cert.GatedDxIdeal.main_arg5) = m ((c.tc : Thread Cert.GatedDxIdeal.nD Cert.GatedDxIdeal.τ).loc Cert.GatedDxIdeal.main_arg5))
      ∧ r.2.sem = fun _ => 0)

def quiescent_GatedDxRefIdeal [hGatedDxRefIdeal : Cert.GatedDxRefIdeal.Facts] : Prop :=
  ∀ (m : (ℓ : Loc Cert.GatedDxRefIdeal.nD Cert.GatedDxRefIdeal.τ Cert.GatedDxRefIdeal.sig) → Buf (Elt Ideal) ℓ) (g : Dev Cert.GatedDxRefIdeal.nD → PrngReg), Pre_GatedDxRefIdeal m →
    θ_run (Cert.GatedDxRefIdeal.defs (F := Ideal)) (onTc (τ := Cert.GatedDxRefIdeal.τ) (Cert.GatedDxRefIdeal.main (F := Ideal))) ⟨m, fun _ => 0, g⟩ (fun r => (∀ c : Dev Cert.GatedDxRefIdeal.nD,
      r.2.mem ((c.tc : Thread Cert.GatedDxRefIdeal.nD Cert.GatedDxRefIdeal.τ).loc Cert.GatedDxRefIdeal.main_arg0) = m ((c.tc : Thread Cert.GatedDxRefIdeal.nD Cert.GatedDxRefIdeal.τ).loc Cert.GatedDxRefIdeal.main_arg0)
      ∧ r.2.mem ((c.tc : Thread Cert.GatedDxRefIdeal.nD Cert.GatedDxRefIdeal.τ).loc Cert.GatedDxRefIdeal.main_arg1) = m ((c.tc : Thread Cert.GatedDxRefIdeal.nD Cert.GatedDxRefIdeal.τ).loc Cert.GatedDxRefIdeal.main_arg1)
      ∧ r.2.mem ((c.tc : Thread Cert.GatedDxRefIdeal.nD Cert.GatedDxRefIdeal.τ).loc Cert.GatedDxRefIdeal.main_arg2) = m ((c.tc : Thread Cert.GatedDxRefIdeal.nD Cert.GatedDxRefIdeal.τ).loc Cert.GatedDxRefIdeal.main_arg2)
      ∧ r.2.mem ((c.tc : Thread Cert.GatedDxRefIdeal.nD Cert.GatedDxRefIdeal.τ).loc Cert.GatedDxRefIdeal.main_arg3) = m ((c.tc : Thread Cert.GatedDxRefIdeal.nD Cert.GatedDxRefIdeal.τ).loc Cert.GatedDxRefIdeal.main_arg3)
      ∧ r.2.mem ((c.tc : Thread Cert.GatedDxRefIdeal.nD Cert.GatedDxRefIdeal.τ).loc Cert.GatedDxRefIdeal.main_arg4) = m ((c.tc : Thread Cert.GatedDxRefIdeal.nD Cert.GatedDxRefIdeal.τ).loc Cert.GatedDxRefIdeal.main_arg4)
      ∧ r.2.mem ((c.tc : Thread Cert.GatedDxRefIdeal.nD Cert.GatedDxRefIdeal.τ).loc Cert.GatedDxRefIdeal.main_arg5) = m ((c.tc : Thread Cert.GatedDxRefIdeal.nD Cert.GatedDxRefIdeal.τ).loc Cert.GatedDxRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v5) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v4) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_InBDx_InBDxIdeal : Prop :=
  True

def algebraic_InBDxIdeal_InBDxRefIdeal [hInBDxIdeal : Cert.InBDxIdeal.Facts] [hInBDxRefIdeal : Cert.InBDxRefIdeal.Facts] : Prop :=
  ∀ (m : (ℓ : Loc Cert.InBDxIdeal.nD Cert.InBDxIdeal.τ Cert.InBDxIdeal.sig) → Buf (Elt Ideal) ℓ) (g : Dev Cert.InBDxIdeal.nD → PrngReg)
    (m' : (ℓ : Loc Cert.InBDxRefIdeal.nD Cert.InBDxRefIdeal.τ Cert.InBDxRefIdeal.sig) → Buf (Elt Ideal) ℓ) (g' : Dev Cert.InBDxRefIdeal.nD → PrngReg), Pre_InBDxIdeal m →
    (∀ c : Dev Cert.InBDxIdeal.nD,
      m' ((c.tc : Thread Cert.InBDxRefIdeal.nD Cert.InBDxRefIdeal.τ).loc Cert.InBDxRefIdeal.main_arg0) = m ((c.tc : Thread Cert.InBDxIdeal.nD Cert.InBDxIdeal.τ).loc Cert.InBDxIdeal.main_arg0)
      ∧ m' ((c.tc : Thread Cert.InBDxRefIdeal.nD Cert.InBDxRefIdeal.τ).loc Cert.InBDxRefIdeal.main_arg1) = m ((c.tc : Thread Cert.InBDxIdeal.nD Cert.InBDxIdeal.τ).loc Cert.InBDxIdeal.main_arg1)
      ∧ m' ((c.tc : Thread Cert.InBDxRefIdeal.nD Cert.InBDxRefIdeal.τ).loc Cert.InBDxRefIdeal.main_arg2) = m ((c.tc : Thread Cert.InBDxIdeal.nD Cert.InBDxIdeal.τ).loc Cert.InBDxIdeal.main_arg2)) →
    ∃ (v0 : (c : Dev Cert.InBDxIdeal.nD) → Buf (Elt Ideal) ((c.tc : Thread Cert.InBDxIdeal.nD Cert.InBDxIdeal.τ).loc Cert.InBDxIdeal.main_v0)),
      θ_run (Cert.InBDxIdeal.defs (F := Ideal)) (onTc (τ := Cert.InBDxIdeal.τ) (Cert.InBDxIdeal.main (F := Ideal))) ⟨m, fun _ => 0, g⟩ (fun r => ∀ c : Dev Cert.InBDxIdeal.nD,
          r.2.mem ((c.tc : Thread Cert.InBDxIdeal.nD Cert.InBDxIdeal.τ).loc Cert.InBDxIdeal.main_v0) = v0 c
          ∧ r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
          ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
          ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ θ_run (Cert.InBDxRefIdeal.defs (F := Ideal)) (onTc (τ := Cert.InBDxRefIdeal.τ) (Cert.InBDxRefIdeal.main (F := Ideal))) ⟨m', fun _ => 0, g'⟩ (fun r => ∀ c : Dev Cert.InBDxRefIdeal.nD,
          r.2.mem ((c.tc : Thread Cert.InBDxRefIdeal.nD Cert.InBDxRefIdeal.τ).loc Cert.InBDxRefIdeal.main_v5) = v0 c
          ∧ r.2.mem ((c.tc : Thread Cert.InBDxRefIdeal.nD Cert.InBDxRefIdeal.τ).loc Cert.InBDxRefIdeal.main_arg0) = m' ((c.tc : Thread Cert.InBDxRefIdeal.nD Cert.InBDxRefIdeal.τ).loc Cert.InBDxRefIdeal.main_arg0)
          ∧ r.2.mem ((c.tc : Thread Cert.InBDxRefIdeal.nD Cert.InBDxRefIdeal.τ).loc Cert.InBDxRefIdeal.main_arg1) = m' ((c.tc : Thread Cert.InBDxRefIdeal.nD Cert.InBDxRefIdeal.τ).loc Cert.InBDxRefIdeal.main_arg1)
          ∧ r.2.mem ((c.tc : Thread Cert.InBDxRefIdeal.nD Cert.InBDxRefIdeal.τ).loc Cert.InBDxRefIdeal.main_arg2) = m' ((c.tc : Thread Cert.InBDxRefIdeal.nD Cert.InBDxRefIdeal.τ).loc Cert.InBDxRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_KvqDw_KvqDwIdeal : Prop :=
  True

def algebraic_KvqDwIdeal_KvqDwRefIdeal [hKvqDwIdeal : Cert.KvqDwIdeal.Facts] [hKvqDwRefIdeal : Cert.KvqDwRefIdeal.Facts] : Prop :=
  ∀ (m : (ℓ : Loc Cert.KvqDwIdeal.nD Cert.KvqDwIdeal.τ Cert.KvqDwIdeal.sig) → Buf (Elt Ideal) ℓ) (g : Dev Cert.KvqDwIdeal.nD → PrngReg)
    (m' : (ℓ : Loc Cert.KvqDwRefIdeal.nD Cert.KvqDwRefIdeal.τ Cert.KvqDwRefIdeal.sig) → Buf (Elt Ideal) ℓ) (g' : Dev Cert.KvqDwRefIdeal.nD → PrngReg), Pre_KvqDwIdeal m →
    (∀ c : Dev Cert.KvqDwIdeal.nD,
      m' ((c.tc : Thread Cert.KvqDwRefIdeal.nD Cert.KvqDwRefIdeal.τ).loc Cert.KvqDwRefIdeal.main_arg0) = m ((c.tc : Thread Cert.KvqDwIdeal.nD Cert.KvqDwIdeal.τ).loc Cert.KvqDwIdeal.main_arg0)
      ∧ m' ((c.tc : Thread Cert.KvqDwRefIdeal.nD Cert.KvqDwRefIdeal.τ).loc Cert.KvqDwRefIdeal.main_arg1) = m ((c.tc : Thread Cert.KvqDwIdeal.nD Cert.KvqDwIdeal.τ).loc Cert.KvqDwIdeal.main_arg1)) →
    ∃ (v0 : (c : Dev Cert.KvqDwIdeal.nD) → Buf (Elt Ideal) ((c.tc : Thread Cert.KvqDwIdeal.nD Cert.KvqDwIdeal.τ).loc Cert.KvqDwIdeal.main_v0)),
      θ_run (Cert.KvqDwIdeal.defs (F := Ideal)) (onTc (τ := Cert.KvqDwIdeal.τ) (Cert.KvqDwIdeal.main (F := Ideal))) ⟨m, fun _ => 0, g⟩ (fun r => ∀ c : Dev Cert.KvqDwIdeal.nD,
          r.2.mem ((c.tc : Thread Cert.KvqDwIdeal.nD Cert.KvqDwIdeal.τ).loc Cert.KvqDwIdeal.main_v0) = v0 c
          ∧ r.2.mem ((c.tc : Thread Cert.KvqDwIdeal.nD Cert.KvqDwIdeal.τ).loc Cert.KvqDwIdeal.main_arg0) = m ((c.tc : Thread Cert.KvqDwIdeal.nD Cert.KvqDwIdeal.τ).loc Cert.KvqDwIdeal.main_arg0)
          ∧ r.2.mem ((c.tc : Thread Cert.KvqDwIdeal.nD Cert.KvqDwIdeal.τ).loc Cert.KvqDwIdeal.main_arg1) = m ((c.tc : Thread Cert.KvqDwIdeal.nD Cert.KvqDwIdeal.τ).loc Cert.KvqDwIdeal.main_arg1))
      ∧ θ_run (Cert.KvqDwRefIdeal.defs (F := Ideal)) (onTc (τ := Cert.KvqDwRefIdeal.τ) (Cert.KvqDwRefIdeal.main (F := Ideal))) ⟨m', fun _ => 0, g'⟩ (fun r => ∀ c : Dev Cert.KvqDwRefIdeal.nD,
          r.2.mem ((c.tc : Thread Cert.KvqDwRefIdeal.nD Cert.KvqDwRefIdeal.τ).loc Cert.KvqDwRefIdeal.main_v5) = v0 c
          ∧ r.2.mem ((c.tc : Thread Cert.KvqDwRefIdeal.nD Cert.KvqDwRefIdeal.τ).loc Cert.KvqDwRefIdeal.main_arg0) = m' ((c.tc : Thread Cert.KvqDwRefIdeal.nD Cert.KvqDwRefIdeal.τ).loc Cert.KvqDwRefIdeal.main_arg0)
          ∧ r.2.mem ((c.tc : Thread Cert.KvqDwRefIdeal.nD Cert.KvqDwRefIdeal.τ).loc Cert.KvqDwRefIdeal.main_arg1) = m' ((c.tc : Thread Cert.KvqDwRefIdeal.nD Cert.KvqDwRefIdeal.τ).loc Cert.KvqDwRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v5) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_RopeDw_RopeDwIdeal : Prop :=
  True

def algebraic_RopeDwIdeal_RopeDwRefIdeal [hRopeDwIdeal : Cert.RopeDwIdeal.Facts] [hRopeDwRefIdeal : Cert.RopeDwRefIdeal.Facts] : Prop :=
  ∀ (m : (ℓ : Loc Cert.RopeDwIdeal.nD Cert.RopeDwIdeal.τ Cert.RopeDwIdeal.sig) → Buf (Elt Ideal) ℓ) (g : Dev Cert.RopeDwIdeal.nD → PrngReg)
    (m' : (ℓ : Loc Cert.RopeDwRefIdeal.nD Cert.RopeDwRefIdeal.τ Cert.RopeDwRefIdeal.sig) → Buf (Elt Ideal) ℓ) (g' : Dev Cert.RopeDwRefIdeal.nD → PrngReg), Pre_RopeDwIdeal m →
    (∀ c : Dev Cert.RopeDwIdeal.nD,
      m' ((c.tc : Thread Cert.RopeDwRefIdeal.nD Cert.RopeDwRefIdeal.τ).loc Cert.RopeDwRefIdeal.main_arg0) = m ((c.tc : Thread Cert.RopeDwIdeal.nD Cert.RopeDwIdeal.τ).loc Cert.RopeDwIdeal.main_arg0)
      ∧ m' ((c.tc : Thread Cert.RopeDwRefIdeal.nD Cert.RopeDwRefIdeal.τ).loc Cert.RopeDwRefIdeal.main_arg1) = m ((c.tc : Thread Cert.RopeDwIdeal.nD Cert.RopeDwIdeal.τ).loc Cert.RopeDwIdeal.main_arg1)) →
    ∃ (v0 : (c : Dev Cert.RopeDwIdeal.nD) → Buf (Elt Ideal) ((c.tc : Thread Cert.RopeDwIdeal.nD Cert.RopeDwIdeal.τ).loc Cert.RopeDwIdeal.main_v0)),
      θ_run (Cert.RopeDwIdeal.defs (F := Ideal)) (onTc (τ := Cert.RopeDwIdeal.τ) (Cert.RopeDwIdeal.main (F := Ideal))) ⟨m, fun _ => 0, g⟩ (fun r => ∀ c : Dev Cert.RopeDwIdeal.nD,
          r.2.mem ((c.tc : Thread Cert.RopeDwIdeal.nD Cert.RopeDwIdeal.τ).loc Cert.RopeDwIdeal.main_v0) = v0 c
          ∧ r.2.mem ((c.tc : Thread Cert.RopeDwIdeal.nD Cert.RopeDwIdeal.τ).loc Cert.RopeDwIdeal.main_arg0) = m ((c.tc : Thread Cert.RopeDwIdeal.nD Cert.RopeDwIdeal.τ).loc Cert.RopeDwIdeal.main_arg0)
          ∧ r.2.mem ((c.tc : Thread Cert.RopeDwIdeal.nD Cert.RopeDwIdeal.τ).loc Cert.RopeDwIdeal.main_arg1) = m ((c.tc : Thread Cert.RopeDwIdeal.nD Cert.RopeDwIdeal.τ).loc Cert.RopeDwIdeal.main_arg1))
      ∧ θ_run (Cert.RopeDwRefIdeal.defs (F := Ideal)) (onTc (τ := Cert.RopeDwRefIdeal.τ) (Cert.RopeDwRefIdeal.main (F := Ideal))) ⟨m', fun _ => 0, g'⟩ (fun r => ∀ c : Dev Cert.RopeDwRefIdeal.nD,
          r.2.mem ((c.tc : Thread Cert.RopeDwRefIdeal.nD Cert.RopeDwRefIdeal.τ).loc Cert.RopeDwRefIdeal.main_v5) = v0 c
          ∧ r.2.mem ((c.tc : Thread Cert.RopeDwRefIdeal.nD Cert.RopeDwRefIdeal.τ).loc Cert.RopeDwRefIdeal.main_arg0) = m' ((c.tc : Thread Cert.RopeDwRefIdeal.nD Cert.RopeDwRefIdeal.τ).loc Cert.RopeDwRefIdeal.main_arg0)
          ∧ r.2.mem ((c.tc : Thread Cert.RopeDwRefIdeal.nD Cert.RopeDwRefIdeal.τ).loc Cert.RopeDwRefIdeal.main_arg1) = m' ((c.tc : Thread Cert.RopeDwRefIdeal.nD Cert.RopeDwRefIdeal.τ).loc Cert.RopeDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v4) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_DtDw_DtDwIdeal : Prop :=
  True

def algebraic_DtDwIdeal_DtDwRefIdeal [hDtDwIdeal : Cert.DtDwIdeal.Facts] [hDtDwRefIdeal : Cert.DtDwRefIdeal.Facts] : Prop :=
  ∀ (m : (ℓ : Loc Cert.DtDwIdeal.nD Cert.DtDwIdeal.τ Cert.DtDwIdeal.sig) → Buf (Elt Ideal) ℓ) (g : Dev Cert.DtDwIdeal.nD → PrngReg)
    (m' : (ℓ : Loc Cert.DtDwRefIdeal.nD Cert.DtDwRefIdeal.τ Cert.DtDwRefIdeal.sig) → Buf (Elt Ideal) ℓ) (g' : Dev Cert.DtDwRefIdeal.nD → PrngReg), Pre_DtDwIdeal m →
    (∀ c : Dev Cert.DtDwIdeal.nD,
      m' ((c.tc : Thread Cert.DtDwRefIdeal.nD Cert.DtDwRefIdeal.τ).loc Cert.DtDwRefIdeal.main_arg0) = m ((c.tc : Thread Cert.DtDwIdeal.nD Cert.DtDwIdeal.τ).loc Cert.DtDwIdeal.main_arg0)
      ∧ m' ((c.tc : Thread Cert.DtDwRefIdeal.nD Cert.DtDwRefIdeal.τ).loc Cert.DtDwRefIdeal.main_arg1) = m ((c.tc : Thread Cert.DtDwIdeal.nD Cert.DtDwIdeal.τ).loc Cert.DtDwIdeal.main_arg1)) →
    ∃ (v0 : (c : Dev Cert.DtDwIdeal.nD) → Buf (Elt Ideal) ((c.tc : Thread Cert.DtDwIdeal.nD Cert.DtDwIdeal.τ).loc Cert.DtDwIdeal.main_v0)),
      θ_run (Cert.DtDwIdeal.defs (F := Ideal)) (onTc (τ := Cert.DtDwIdeal.τ) (Cert.DtDwIdeal.main (F := Ideal))) ⟨m, fun _ => 0, g⟩ (fun r => ∀ c : Dev Cert.DtDwIdeal.nD,
          r.2.mem ((c.tc : Thread Cert.DtDwIdeal.nD Cert.DtDwIdeal.τ).loc Cert.DtDwIdeal.main_v0) = v0 c
          ∧ r.2.mem ((c.tc : Thread Cert.DtDwIdeal.nD Cert.DtDwIdeal.τ).loc Cert.DtDwIdeal.main_arg0) = m ((c.tc : Thread Cert.DtDwIdeal.nD Cert.DtDwIdeal.τ).loc Cert.DtDwIdeal.main_arg0)
          ∧ r.2.mem ((c.tc : Thread Cert.DtDwIdeal.nD Cert.DtDwIdeal.τ).loc Cert.DtDwIdeal.main_arg1) = m ((c.tc : Thread Cert.DtDwIdeal.nD Cert.DtDwIdeal.τ).loc Cert.DtDwIdeal.main_arg1))
      ∧ θ_run (Cert.DtDwRefIdeal.defs (F := Ideal)) (onTc (τ := Cert.DtDwRefIdeal.τ) (Cert.DtDwRefIdeal.main (F := Ideal))) ⟨m', fun _ => 0, g'⟩ (fun r => ∀ c : Dev Cert.DtDwRefIdeal.nD,
          r.2.mem ((c.tc : Thread Cert.DtDwRefIdeal.nD Cert.DtDwRefIdeal.τ).loc Cert.DtDwRefIdeal.main_v5) = v0 c
          ∧ r.2.mem ((c.tc : Thread Cert.DtDwRefIdeal.nD Cert.DtDwRefIdeal.τ).loc Cert.DtDwRefIdeal.main_arg0) = m' ((c.tc : Thread Cert.DtDwRefIdeal.nD Cert.DtDwRefIdeal.τ).loc Cert.DtDwRefIdeal.main_arg0)
          ∧ r.2.mem ((c.tc : Thread Cert.DtDwRefIdeal.nD Cert.DtDwRefIdeal.τ).loc Cert.DtDwRefIdeal.main_arg1) = m' ((c.tc : Thread Cert.DtDwRefIdeal.nD Cert.DtDwRefIdeal.τ).loc Cert.DtDwRefIdeal.main_arg1))

def preserves_QDx_QDxIdeal : Prop :=
  True

def algebraic_QDxIdeal_QDxRefIdeal [hQDxIdeal : Cert.QDxIdeal.Facts] [hQDxRefIdeal : Cert.QDxRefIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v0)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v0) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v4) = v0 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1))

def preserves_KDx_KDxIdeal : Prop :=
  True

def algebraic_KDxIdeal_KDxRefIdeal [hKDxIdeal : Cert.KDxIdeal.Facts] [hKDxRefIdeal : Cert.KDxRefIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.KDxRefIdeal.nD Cert.KDxRefIdeal.τ Cert.KDxRefIdeal.sig) → Buf (Elt Ideal) ℓ) (g' : Dev Cert.KDxRefIdeal.nD → PrngReg), Pre_KDxIdeal m →
    (∀ c : Dev Cert.KDxIdeal.nD,
      m' ((c.tc : Thread Cert.KDxRefIdeal.nD Cert.KDxRefIdeal.τ).loc Cert.KDxRefIdeal.main_arg0) = m ((c.tc : Thread Cert.KDxIdeal.nD Cert.KDxIdeal.τ).loc Cert.KDxIdeal.main_arg0)
      ∧ m' ((c.tc : Thread Cert.KDxRefIdeal.nD Cert.KDxRefIdeal.τ).loc Cert.KDxRefIdeal.main_arg1) = m ((c.tc : Thread Cert.KDxIdeal.nD Cert.KDxIdeal.τ).loc Cert.KDxIdeal.main_arg1)) →
    ∃ (v0 : (c : Dev Cert.KDxIdeal.nD) → Buf (Elt Ideal) ((c.tc : Thread Cert.KDxIdeal.nD Cert.KDxIdeal.τ).loc Cert.KDxIdeal.main_v0)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v0) = v0 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1))
      ∧ θ_run (Cert.KDxRefIdeal.defs (F := Ideal)) (onTc (τ := Cert.KDxRefIdeal.τ) (Cert.KDxRefIdeal.main (F := Ideal))) ⟨m', fun _ => 0, g'⟩ (fun r => ∀ c : Dev Cert.KDxRefIdeal.nD,
          r.2.mem ((c.tc : Thread Cert.KDxRefIdeal.nD Cert.KDxRefIdeal.τ).loc Cert.KDxRefIdeal.main_v3) = v0 c
          ∧ r.2.mem ((c.tc : Thread Cert.KDxRefIdeal.nD Cert.KDxRefIdeal.τ).loc Cert.KDxRefIdeal.main_arg0) = m' ((c.tc : Thread Cert.KDxRefIdeal.nD Cert.KDxRefIdeal.τ).loc Cert.KDxRefIdeal.main_arg0)
          ∧ r.2.mem ((c.tc : Thread Cert.KDxRefIdeal.nD Cert.KDxRefIdeal.τ).loc Cert.KDxRefIdeal.main_arg1) = m' ((c.tc : Thread Cert.KDxRefIdeal.nD Cert.KDxRefIdeal.τ).loc Cert.KDxRefIdeal.main_arg1))

def preserves_RopeDx_RopeDxIdeal : Prop :=
  True

def algebraic_RopeDxIdeal_RopeDxRefIdeal [hRopeDxIdeal : Cert.RopeDxIdeal.Facts] [hRopeDxRefIdeal : Cert.RopeDxRefIdeal.Facts] : Prop :=
  ∀ (m : (ℓ : Loc Cert.RopeDxIdeal.nD Cert.RopeDxIdeal.τ Cert.RopeDxIdeal.sig) → Buf (Elt Ideal) ℓ) (g : Dev Cert.RopeDxIdeal.nD → PrngReg)
    (m' : (ℓ : Loc Cert.RopeDxRefIdeal.nD Cert.RopeDxRefIdeal.τ Cert.RopeDxRefIdeal.sig) → Buf (Elt Ideal) ℓ) (g' : Dev Cert.RopeDxRefIdeal.nD → PrngReg), Pre_RopeDxIdeal m →
    (∀ c : Dev Cert.RopeDxIdeal.nD,
      m' ((c.tc : Thread Cert.RopeDxRefIdeal.nD Cert.RopeDxRefIdeal.τ).loc Cert.RopeDxRefIdeal.main_arg0) = m ((c.tc : Thread Cert.RopeDxIdeal.nD Cert.RopeDxIdeal.τ).loc Cert.RopeDxIdeal.main_arg0)
      ∧ m' ((c.tc : Thread Cert.RopeDxRefIdeal.nD Cert.RopeDxRefIdeal.τ).loc Cert.RopeDxRefIdeal.main_arg1) = m ((c.tc : Thread Cert.RopeDxIdeal.nD Cert.RopeDxIdeal.τ).loc Cert.RopeDxIdeal.main_arg1)
      ∧ m' ((c.tc : Thread Cert.RopeDxRefIdeal.nD Cert.RopeDxRefIdeal.τ).loc Cert.RopeDxRefIdeal.main_arg2) = m ((c.tc : Thread Cert.RopeDxIdeal.nD Cert.RopeDxIdeal.τ).loc Cert.RopeDxIdeal.main_arg2)) →
    ∃ (v0 : (c : Dev Cert.RopeDxIdeal.nD) → Buf (Elt Ideal) ((c.tc : Thread Cert.RopeDxIdeal.nD Cert.RopeDxIdeal.τ).loc Cert.RopeDxIdeal.main_v0)),
      θ_run (Cert.RopeDxIdeal.defs (F := Ideal)) (onTc (τ := Cert.RopeDxIdeal.τ) (Cert.RopeDxIdeal.main (F := Ideal))) ⟨m, fun _ => 0, g⟩ (fun r => ∀ c : Dev Cert.RopeDxIdeal.nD,
          r.2.mem ((c.tc : Thread Cert.RopeDxIdeal.nD Cert.RopeDxIdeal.τ).loc Cert.RopeDxIdeal.main_v0) = v0 c
          ∧ r.2.mem ((c.tc : Thread Cert.RopeDxIdeal.nD Cert.RopeDxIdeal.τ).loc Cert.RopeDxIdeal.main_arg0) = m ((c.tc : Thread Cert.RopeDxIdeal.nD Cert.RopeDxIdeal.τ).loc Cert.RopeDxIdeal.main_arg0)
          ∧ r.2.mem ((c.tc : Thread Cert.RopeDxIdeal.nD Cert.RopeDxIdeal.τ).loc Cert.RopeDxIdeal.main_arg1) = m ((c.tc : Thread Cert.RopeDxIdeal.nD Cert.RopeDxIdeal.τ).loc Cert.RopeDxIdeal.main_arg1)
          ∧ r.2.mem ((c.tc : Thread Cert.RopeDxIdeal.nD Cert.RopeDxIdeal.τ).loc Cert.RopeDxIdeal.main_arg2) = m ((c.tc : Thread Cert.RopeDxIdeal.nD Cert.RopeDxIdeal.τ).loc Cert.RopeDxIdeal.main_arg2))
      ∧ θ_run (Cert.RopeDxRefIdeal.defs (F := Ideal)) (onTc (τ := Cert.RopeDxRefIdeal.τ) (Cert.RopeDxRefIdeal.main (F := Ideal))) ⟨m', fun _ => 0, g'⟩ (fun r => ∀ c : Dev Cert.RopeDxRefIdeal.nD,
          r.2.mem ((c.tc : Thread Cert.RopeDxRefIdeal.nD Cert.RopeDxRefIdeal.τ).loc Cert.RopeDxRefIdeal.main_v5) = v0 c
          ∧ r.2.mem ((c.tc : Thread Cert.RopeDxRefIdeal.nD Cert.RopeDxRefIdeal.τ).loc Cert.RopeDxRefIdeal.main_arg0) = m' ((c.tc : Thread Cert.RopeDxRefIdeal.nD Cert.RopeDxRefIdeal.τ).loc Cert.RopeDxRefIdeal.main_arg0)
          ∧ r.2.mem ((c.tc : Thread Cert.RopeDxRefIdeal.nD Cert.RopeDxRefIdeal.τ).loc Cert.RopeDxRefIdeal.main_arg1) = m' ((c.tc : Thread Cert.RopeDxRefIdeal.nD Cert.RopeDxRefIdeal.τ).loc Cert.RopeDxRefIdeal.main_arg1)
          ∧ r.2.mem ((c.tc : Thread Cert.RopeDxRefIdeal.nD Cert.RopeDxRefIdeal.τ).loc Cert.RopeDxRefIdeal.main_arg2) = m' ((c.tc : Thread Cert.RopeDxRefIdeal.nD Cert.RopeDxRefIdeal.τ).loc Cert.RopeDxRefIdeal.main_arg2))

def preserves_VDx_VDxIdeal : Prop :=
  True

def algebraic_VDxIdeal_VDxRefIdeal [hVDxIdeal : Cert.VDxIdeal.Facts] [hVDxRefIdeal : Cert.VDxRefIdeal.Facts] : Prop :=
  ∀ (m : (ℓ : Loc Cert.VDxIdeal.nD Cert.VDxIdeal.τ Cert.VDxIdeal.sig) → Buf (Elt Ideal) ℓ) (g : Dev Cert.VDxIdeal.nD → PrngReg)
    (m' : (ℓ : Loc Cert.VDxRefIdeal.nD Cert.VDxRefIdeal.τ Cert.VDxRefIdeal.sig) → Buf (Elt Ideal) ℓ) (g' : Dev Cert.VDxRefIdeal.nD → PrngReg), Pre_VDxIdeal m →
    (∀ c : Dev Cert.VDxIdeal.nD,
      m' ((c.tc : Thread Cert.VDxRefIdeal.nD Cert.VDxRefIdeal.τ).loc Cert.VDxRefIdeal.main_arg0) = m ((c.tc : Thread Cert.VDxIdeal.nD Cert.VDxIdeal.τ).loc Cert.VDxIdeal.main_arg0)
      ∧ m' ((c.tc : Thread Cert.VDxRefIdeal.nD Cert.VDxRefIdeal.τ).loc Cert.VDxRefIdeal.main_arg1) = m ((c.tc : Thread Cert.VDxIdeal.nD Cert.VDxIdeal.τ).loc Cert.VDxIdeal.main_arg1)
      ∧ m' ((c.tc : Thread Cert.VDxRefIdeal.nD Cert.VDxRefIdeal.τ).loc Cert.VDxRefIdeal.main_arg2) = m ((c.tc : Thread Cert.VDxIdeal.nD Cert.VDxIdeal.τ).loc Cert.VDxIdeal.main_arg2)) →
    ∃ (v0 : (c : Dev Cert.VDxIdeal.nD) → Buf (Elt Ideal) ((c.tc : Thread Cert.VDxIdeal.nD Cert.VDxIdeal.τ).loc Cert.VDxIdeal.main_v0)),
      θ_run (Cert.VDxIdeal.defs (F := Ideal)) (onTc (τ := Cert.VDxIdeal.τ) (Cert.VDxIdeal.main (F := Ideal))) ⟨m, fun _ => 0, g⟩ (fun r => ∀ c : Dev Cert.VDxIdeal.nD,
          r.2.mem ((c.tc : Thread Cert.VDxIdeal.nD Cert.VDxIdeal.τ).loc Cert.VDxIdeal.main_v0) = v0 c
          ∧ r.2.mem ((c.tc : Thread Cert.VDxIdeal.nD Cert.VDxIdeal.τ).loc Cert.VDxIdeal.main_arg0) = m ((c.tc : Thread Cert.VDxIdeal.nD Cert.VDxIdeal.τ).loc Cert.VDxIdeal.main_arg0)
          ∧ r.2.mem ((c.tc : Thread Cert.VDxIdeal.nD Cert.VDxIdeal.τ).loc Cert.VDxIdeal.main_arg1) = m ((c.tc : Thread Cert.VDxIdeal.nD Cert.VDxIdeal.τ).loc Cert.VDxIdeal.main_arg1)
          ∧ r.2.mem ((c.tc : Thread Cert.VDxIdeal.nD Cert.VDxIdeal.τ).loc Cert.VDxIdeal.main_arg2) = m ((c.tc : Thread Cert.VDxIdeal.nD Cert.VDxIdeal.τ).loc Cert.VDxIdeal.main_arg2))
      ∧ θ_run (Cert.VDxRefIdeal.defs (F := Ideal)) (onTc (τ := Cert.VDxRefIdeal.τ) (Cert.VDxRefIdeal.main (F := Ideal))) ⟨m', fun _ => 0, g'⟩ (fun r => ∀ c : Dev Cert.VDxRefIdeal.nD,
          r.2.mem ((c.tc : Thread Cert.VDxRefIdeal.nD Cert.VDxRefIdeal.τ).loc Cert.VDxRefIdeal.main_v4) = v0 c
          ∧ r.2.mem ((c.tc : Thread Cert.VDxRefIdeal.nD Cert.VDxRefIdeal.τ).loc Cert.VDxRefIdeal.main_arg0) = m' ((c.tc : Thread Cert.VDxRefIdeal.nD Cert.VDxRefIdeal.τ).loc Cert.VDxRefIdeal.main_arg0)
          ∧ r.2.mem ((c.tc : Thread Cert.VDxRefIdeal.nD Cert.VDxRefIdeal.τ).loc Cert.VDxRefIdeal.main_arg1) = m' ((c.tc : Thread Cert.VDxRefIdeal.nD Cert.VDxRefIdeal.τ).loc Cert.VDxRefIdeal.main_arg1)
          ∧ r.2.mem ((c.tc : Thread Cert.VDxRefIdeal.nD Cert.VDxRefIdeal.τ).loc Cert.VDxRefIdeal.main_arg2) = m' ((c.tc : Thread Cert.VDxRefIdeal.nD Cert.VDxRefIdeal.τ).loc Cert.VDxRefIdeal.main_arg2))

def preserves_KvqDx_KvqDxIdeal : Prop :=
  True

def algebraic_KvqDxIdeal_KvqDxRefIdeal [hKvqDxIdeal : Cert.KvqDxIdeal.Facts] [hKvqDxRefIdeal : Cert.KvqDxRefIdeal.Facts] : Prop :=
  ∀ (m : (ℓ : Loc Cert.KvqDxIdeal.nD Cert.KvqDxIdeal.τ Cert.KvqDxIdeal.sig) → Buf (Elt Ideal) ℓ) (g : Dev Cert.KvqDxIdeal.nD → PrngReg)
    (m' : (ℓ : Loc Cert.KvqDxRefIdeal.nD Cert.KvqDxRefIdeal.τ Cert.KvqDxRefIdeal.sig) → Buf (Elt Ideal) ℓ) (g' : Dev Cert.KvqDxRefIdeal.nD → PrngReg), Pre_KvqDxIdeal m →
    (∀ c : Dev Cert.KvqDxIdeal.nD,
      m' ((c.tc : Thread Cert.KvqDxRefIdeal.nD Cert.KvqDxRefIdeal.τ).loc Cert.KvqDxRefIdeal.main_arg0) = m ((c.tc : Thread Cert.KvqDxIdeal.nD Cert.KvqDxIdeal.τ).loc Cert.KvqDxIdeal.main_arg0)
      ∧ m' ((c.tc : Thread Cert.KvqDxRefIdeal.nD Cert.KvqDxRefIdeal.τ).loc Cert.KvqDxRefIdeal.main_arg1) = m ((c.tc : Thread Cert.KvqDxIdeal.nD Cert.KvqDxIdeal.τ).loc Cert.KvqDxIdeal.main_arg1)
      ∧ m' ((c.tc : Thread Cert.KvqDxRefIdeal.nD Cert.KvqDxRefIdeal.τ).loc Cert.KvqDxRefIdeal.main_arg2) = m ((c.tc : Thread Cert.KvqDxIdeal.nD Cert.KvqDxIdeal.τ).loc Cert.KvqDxIdeal.main_arg2)) →
    ∃ (v0 : (c : Dev Cert.KvqDxIdeal.nD) → Buf (Elt Ideal) ((c.tc : Thread Cert.KvqDxIdeal.nD Cert.KvqDxIdeal.τ).loc Cert.KvqDxIdeal.main_v0)),
      θ_run (Cert.KvqDxIdeal.defs (F := Ideal)) (onTc (τ := Cert.KvqDxIdeal.τ) (Cert.KvqDxIdeal.main (F := Ideal))) ⟨m, fun _ => 0, g⟩ (fun r => ∀ c : Dev Cert.KvqDxIdeal.nD,
          r.2.mem ((c.tc : Thread Cert.KvqDxIdeal.nD Cert.KvqDxIdeal.τ).loc Cert.KvqDxIdeal.main_v0) = v0 c
          ∧ r.2.mem ((c.tc : Thread Cert.KvqDxIdeal.nD Cert.KvqDxIdeal.τ).loc Cert.KvqDxIdeal.main_arg0) = m ((c.tc : Thread Cert.KvqDxIdeal.nD Cert.KvqDxIdeal.τ).loc Cert.KvqDxIdeal.main_arg0)
          ∧ r.2.mem ((c.tc : Thread Cert.KvqDxIdeal.nD Cert.KvqDxIdeal.τ).loc Cert.KvqDxIdeal.main_arg1) = m ((c.tc : Thread Cert.KvqDxIdeal.nD Cert.KvqDxIdeal.τ).loc Cert.KvqDxIdeal.main_arg1)
          ∧ r.2.mem ((c.tc : Thread Cert.KvqDxIdeal.nD Cert.KvqDxIdeal.τ).loc Cert.KvqDxIdeal.main_arg2) = m ((c.tc : Thread Cert.KvqDxIdeal.nD Cert.KvqDxIdeal.τ).loc Cert.KvqDxIdeal.main_arg2))
      ∧ θ_run (Cert.KvqDxRefIdeal.defs (F := Ideal)) (onTc (τ := Cert.KvqDxRefIdeal.τ) (Cert.KvqDxRefIdeal.main (F := Ideal))) ⟨m', fun _ => 0, g'⟩ (fun r => ∀ c : Dev Cert.KvqDxRefIdeal.nD,
          r.2.mem ((c.tc : Thread Cert.KvqDxRefIdeal.nD Cert.KvqDxRefIdeal.τ).loc Cert.KvqDxRefIdeal.main_v5) = v0 c
          ∧ r.2.mem ((c.tc : Thread Cert.KvqDxRefIdeal.nD Cert.KvqDxRefIdeal.τ).loc Cert.KvqDxRefIdeal.main_arg0) = m' ((c.tc : Thread Cert.KvqDxRefIdeal.nD Cert.KvqDxRefIdeal.τ).loc Cert.KvqDxRefIdeal.main_arg0)
          ∧ r.2.mem ((c.tc : Thread Cert.KvqDxRefIdeal.nD Cert.KvqDxRefIdeal.τ).loc Cert.KvqDxRefIdeal.main_arg1) = m' ((c.tc : Thread Cert.KvqDxRefIdeal.nD Cert.KvqDxRefIdeal.τ).loc Cert.KvqDxRefIdeal.main_arg1)
          ∧ r.2.mem ((c.tc : Thread Cert.KvqDxRefIdeal.nD Cert.KvqDxRefIdeal.τ).loc Cert.KvqDxRefIdeal.main_arg2) = m' ((c.tc : Thread Cert.KvqDxRefIdeal.nD Cert.KvqDxRefIdeal.τ).loc Cert.KvqDxRefIdeal.main_arg2))

def preserves_DtDx_DtDxIdeal : Prop :=
  True

def algebraic_DtDxIdeal_DtDxRefIdeal [hDtDxIdeal : Cert.DtDxIdeal.Facts] [hDtDxRefIdeal : Cert.DtDxRefIdeal.Facts] : Prop :=
  ∀ (m : (ℓ : Loc Cert.DtDxIdeal.nD Cert.DtDxIdeal.τ Cert.DtDxIdeal.sig) → Buf (Elt Ideal) ℓ) (g : Dev Cert.DtDxIdeal.nD → PrngReg)
    (m' : (ℓ : Loc Cert.DtDxRefIdeal.nD Cert.DtDxRefIdeal.τ Cert.DtDxRefIdeal.sig) → Buf (Elt Ideal) ℓ) (g' : Dev Cert.DtDxRefIdeal.nD → PrngReg), Pre_DtDxIdeal m →
    (∀ c : Dev Cert.DtDxIdeal.nD,
      m' ((c.tc : Thread Cert.DtDxRefIdeal.nD Cert.DtDxRefIdeal.τ).loc Cert.DtDxRefIdeal.main_arg0) = m ((c.tc : Thread Cert.DtDxIdeal.nD Cert.DtDxIdeal.τ).loc Cert.DtDxIdeal.main_arg0)
      ∧ m' ((c.tc : Thread Cert.DtDxRefIdeal.nD Cert.DtDxRefIdeal.τ).loc Cert.DtDxRefIdeal.main_arg1) = m ((c.tc : Thread Cert.DtDxIdeal.nD Cert.DtDxIdeal.τ).loc Cert.DtDxIdeal.main_arg1)
      ∧ m' ((c.tc : Thread Cert.DtDxRefIdeal.nD Cert.DtDxRefIdeal.τ).loc Cert.DtDxRefIdeal.main_arg2) = m ((c.tc : Thread Cert.DtDxIdeal.nD Cert.DtDxIdeal.τ).loc Cert.DtDxIdeal.main_arg2)) →
    ∃ (v0 : (c : Dev Cert.DtDxIdeal.nD) → Buf (Elt Ideal) ((c.tc : Thread Cert.DtDxIdeal.nD Cert.DtDxIdeal.τ).loc Cert.DtDxIdeal.main_v0)),
      θ_run (Cert.DtDxIdeal.defs (F := Ideal)) (onTc (τ := Cert.DtDxIdeal.τ) (Cert.DtDxIdeal.main (F := Ideal))) ⟨m, fun _ => 0, g⟩ (fun r => ∀ c : Dev Cert.DtDxIdeal.nD,
          r.2.mem ((c.tc : Thread Cert.DtDxIdeal.nD Cert.DtDxIdeal.τ).loc Cert.DtDxIdeal.main_v0) = v0 c
          ∧ r.2.mem ((c.tc : Thread Cert.DtDxIdeal.nD Cert.DtDxIdeal.τ).loc Cert.DtDxIdeal.main_arg0) = m ((c.tc : Thread Cert.DtDxIdeal.nD Cert.DtDxIdeal.τ).loc Cert.DtDxIdeal.main_arg0)
          ∧ r.2.mem ((c.tc : Thread Cert.DtDxIdeal.nD Cert.DtDxIdeal.τ).loc Cert.DtDxIdeal.main_arg1) = m ((c.tc : Thread Cert.DtDxIdeal.nD Cert.DtDxIdeal.τ).loc Cert.DtDxIdeal.main_arg1)
          ∧ r.2.mem ((c.tc : Thread Cert.DtDxIdeal.nD Cert.DtDxIdeal.τ).loc Cert.DtDxIdeal.main_arg2) = m ((c.tc : Thread Cert.DtDxIdeal.nD Cert.DtDxIdeal.τ).loc Cert.DtDxIdeal.main_arg2))
      ∧ θ_run (Cert.DtDxRefIdeal.defs (F := Ideal)) (onTc (τ := Cert.DtDxRefIdeal.τ) (Cert.DtDxRefIdeal.main (F := Ideal))) ⟨m', fun _ => 0, g'⟩ (fun r => ∀ c : Dev Cert.DtDxRefIdeal.nD,
          r.2.mem ((c.tc : Thread Cert.DtDxRefIdeal.nD Cert.DtDxRefIdeal.τ).loc Cert.DtDxRefIdeal.main_v5) = v0 c
          ∧ r.2.mem ((c.tc : Thread Cert.DtDxRefIdeal.nD Cert.DtDxRefIdeal.τ).loc Cert.DtDxRefIdeal.main_arg0) = m' ((c.tc : Thread Cert.DtDxRefIdeal.nD Cert.DtDxRefIdeal.τ).loc Cert.DtDxRefIdeal.main_arg0)
          ∧ r.2.mem ((c.tc : Thread Cert.DtDxRefIdeal.nD Cert.DtDxRefIdeal.τ).loc Cert.DtDxRefIdeal.main_arg1) = m' ((c.tc : Thread Cert.DtDxRefIdeal.nD Cert.DtDxRefIdeal.τ).loc Cert.DtDxRefIdeal.main_arg1)
          ∧ r.2.mem ((c.tc : Thread Cert.DtDxRefIdeal.nD Cert.DtDxRefIdeal.τ).loc Cert.DtDxRefIdeal.main_arg2) = m' ((c.tc : Thread Cert.DtDxRefIdeal.nD Cert.DtDxRefIdeal.τ).loc Cert.DtDxRefIdeal.main_arg2))

def preserves_Kvq_KvqIdeal : Prop :=
  True

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m' ((c.tc : Thread Cert.KvqRefIdeal.nD Cert.KvqRefIdeal.τ).loc Cert.KvqRefIdeal.main_arg0) = m ((c.tc : Thread Cert.KvqIdeal.nD Cert.KvqIdeal.τ).loc Cert.KvqIdeal.main_arg0)
      ∧ m' ((c.tc : Thread Cert.KvqRefIdeal.nD Cert.KvqRefIdeal.τ).loc Cert.KvqRefIdeal.main_arg1) = m ((c.tc : Thread Cert.KvqIdeal.nD Cert.KvqIdeal.τ).loc Cert.KvqIdeal.main_arg1)) →
    ∃ (v0 : (c : Dev Cert.KvqIdeal.nD) → Buf (Elt Ideal) ((c.tc : Thread Cert.KvqIdeal.nD Cert.KvqIdeal.τ).loc Cert.KvqIdeal.main_v0)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v0) = v0 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1))
      ∧ θ_run (Cert.KvqRefIdeal.defs (F := Ideal)) (onTc (τ := Cert.KvqRefIdeal.τ) (Cert.KvqRefIdeal.main (F := Ideal))) ⟨m', fun _ => 0, g'⟩ (fun r => ∀ c : Dev Cert.KvqRefIdeal.nD,
          r.2.mem ((c.tc : Thread Cert.KvqRefIdeal.nD Cert.KvqRefIdeal.τ).loc Cert.KvqRefIdeal.main_v2) = v0 c
          ∧ r.2.mem ((c.tc : Thread Cert.KvqRefIdeal.nD Cert.KvqRefIdeal.τ).loc Cert.KvqRefIdeal.main_arg0) = m' ((c.tc : Thread Cert.KvqRefIdeal.nD Cert.KvqRefIdeal.τ).loc Cert.KvqRefIdeal.main_arg0)
          ∧ r.2.mem ((c.tc : Thread Cert.KvqRefIdeal.nD Cert.KvqRefIdeal.τ).loc Cert.KvqRefIdeal.main_arg1) = m' ((c.tc : Thread Cert.KvqRefIdeal.nD Cert.KvqRefIdeal.τ).loc Cert.KvqRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v0)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v2) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v2) = v0 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v3) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Turn_TurnIdeal : Prop :=
  True

def algebraic_TurnIdeal_TurnRefIdeal [hTurnIdeal : Cert.TurnIdeal.Facts] [hTurnRefIdeal : Cert.TurnRefIdeal.Facts] : Prop :=
  ∀ (m : (ℓ : Loc Cert.TurnIdeal.nD Cert.TurnIdeal.τ Cert.TurnIdeal.sig) → Buf (Elt Ideal) ℓ) (g : Dev Cert.TurnIdeal.nD → PrngReg)
    (m' : (ℓ : Loc Cert.TurnRefIdeal.nD Cert.TurnRefIdeal.τ Cert.TurnRefIdeal.sig) → Buf (Elt Ideal) ℓ) (g' : Dev Cert.TurnRefIdeal.nD → PrngReg), Pre_TurnIdeal m →
    (∀ c : Dev Cert.TurnIdeal.nD,
      m' ((c.tc : Thread Cert.TurnRefIdeal.nD Cert.TurnRefIdeal.τ).loc Cert.TurnRefIdeal.main_arg0) = m ((c.tc : Thread Cert.TurnIdeal.nD Cert.TurnIdeal.τ).loc Cert.TurnIdeal.main_arg0)
      ∧ m' ((c.tc : Thread Cert.TurnRefIdeal.nD Cert.TurnRefIdeal.τ).loc Cert.TurnRefIdeal.main_arg1) = m ((c.tc : Thread Cert.TurnIdeal.nD Cert.TurnIdeal.τ).loc Cert.TurnIdeal.main_arg1)
      ∧ m' ((c.tc : Thread Cert.TurnRefIdeal.nD Cert.TurnRefIdeal.τ).loc Cert.TurnRefIdeal.main_arg2) = m ((c.tc : Thread Cert.TurnIdeal.nD Cert.TurnIdeal.τ).loc Cert.TurnIdeal.main_arg2)) →
    ∃ (v0 : (c : Dev Cert.TurnIdeal.nD) → Buf (Elt Ideal) ((c.tc : Thread Cert.TurnIdeal.nD Cert.TurnIdeal.τ).loc Cert.TurnIdeal.main_v6)),
      θ_run (Cert.TurnIdeal.defs (F := Ideal)) (onTc (τ := Cert.TurnIdeal.τ) (Cert.TurnIdeal.main (F := Ideal))) ⟨m, fun _ => 0, g⟩ (fun r => ∀ c : Dev Cert.TurnIdeal.nD,
          r.2.mem ((c.tc : Thread Cert.TurnIdeal.nD Cert.TurnIdeal.τ).loc Cert.TurnIdeal.main_v6) = v0 c
          ∧ r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
          ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
          ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2))
      ∧ θ_run (Cert.TurnRefIdeal.defs (F := Ideal)) (onTc (τ := Cert.TurnRefIdeal.τ) (Cert.TurnRefIdeal.main (F := Ideal))) ⟨m', fun _ => 0, g'⟩ (fun r => ∀ c : Dev Cert.TurnRefIdeal.nD,
          r.2.mem ((c.tc : Thread Cert.TurnRefIdeal.nD Cert.TurnRefIdeal.τ).loc Cert.TurnRefIdeal.main_v17) = v0 c
          ∧ r.2.mem ((c.tc : Thread Cert.TurnRefIdeal.nD Cert.TurnRefIdeal.τ).loc Cert.TurnRefIdeal.main_arg0) = m' ((c.tc : Thread Cert.TurnRefIdeal.nD Cert.TurnRefIdeal.τ).loc Cert.TurnRefIdeal.main_arg0)
          ∧ r.2.mem ((c.tc : Thread Cert.TurnRefIdeal.nD Cert.TurnRefIdeal.τ).loc Cert.TurnRefIdeal.main_arg1) = m' ((c.tc : Thread Cert.TurnRefIdeal.nD Cert.TurnRefIdeal.τ).loc Cert.TurnRefIdeal.main_arg1)
          ∧ r.2.mem ((c.tc : Thread Cert.TurnRefIdeal.nD Cert.TurnRefIdeal.τ).loc Cert.TurnRefIdeal.main_arg2) = m' ((c.tc : Thread Cert.TurnRefIdeal.nD Cert.TurnRefIdeal.τ).loc Cert.TurnRefIdeal.main_arg2))

def preserves_TurnDx_TurnDxIdeal : Prop :=
  True

def algebraic_TurnDxIdeal_TurnDxRefIdeal [hTurnDxIdeal : Cert.TurnDxIdeal.Facts] [hTurnDxRefIdeal : Cert.TurnDxRefIdeal.Facts] : Prop :=
  ∀ (m : (ℓ : Loc Cert.TurnDxIdeal.nD Cert.TurnDxIdeal.τ Cert.TurnDxIdeal.sig) → Buf (Elt Ideal) ℓ) (g : Dev Cert.TurnDxIdeal.nD → PrngReg)
    (m' : (ℓ : Loc Cert.TurnDxRefIdeal.nD Cert.TurnDxRefIdeal.τ Cert.TurnDxRefIdeal.sig) → Buf (Elt Ideal) ℓ) (g' : Dev Cert.TurnDxRefIdeal.nD → PrngReg), Pre_TurnDxIdeal m →
    (∀ c : Dev Cert.TurnDxIdeal.nD,
      m' ((c.tc : Thread Cert.TurnDxRefIdeal.nD Cert.TurnDxRefIdeal.τ).loc Cert.TurnDxRefIdeal.main_arg0) = m ((c.tc : Thread Cert.TurnDxIdeal.nD Cert.TurnDxIdeal.τ).loc Cert.TurnDxIdeal.main_arg0)
      ∧ m' ((c.tc : Thread Cert.TurnDxRefIdeal.nD Cert.TurnDxRefIdeal.τ).loc Cert.TurnDxRefIdeal.main_arg1) = m ((c.tc : Thread Cert.TurnDxIdeal.nD Cert.TurnDxIdeal.τ).loc Cert.TurnDxIdeal.main_arg1)
      ∧ m' ((c.tc : Thread Cert.TurnDxRefIdeal.nD Cert.TurnDxRefIdeal.τ).loc Cert.TurnDxRefIdeal.main_arg2) = m ((c.tc : Thread Cert.TurnDxIdeal.nD Cert.TurnDxIdeal.τ).loc Cert.TurnDxIdeal.main_arg2)
      ∧ m' ((c.tc : Thread Cert.TurnDxRefIdeal.nD Cert.TurnDxRefIdeal.τ).loc Cert.TurnDxRefIdeal.main_arg3) = m ((c.tc : Thread Cert.TurnDxIdeal.nD Cert.TurnDxIdeal.τ).loc Cert.TurnDxIdeal.main_arg3)) →
    ∃ (v0 : (c : Dev Cert.TurnDxIdeal.nD) → Buf (Elt Ideal) ((c.tc : Thread Cert.TurnDxIdeal.nD Cert.TurnDxIdeal.τ).loc Cert.TurnDxIdeal.main_v6)),
      θ_run (Cert.TurnDxIdeal.defs (F := Ideal)) (onTc (τ := Cert.TurnDxIdeal.τ) (Cert.TurnDxIdeal.main (F := Ideal))) ⟨m, fun _ => 0, g⟩ (fun r => ∀ c : Dev Cert.TurnDxIdeal.nD,
          r.2.mem ((c.tc : Thread Cert.TurnDxIdeal.nD Cert.TurnDxIdeal.τ).loc Cert.TurnDxIdeal.main_v6) = v0 c
          ∧ r.2.mem ((c.tc : Thread Cert.TurnDxIdeal.nD Cert.TurnDxIdeal.τ).loc Cert.TurnDxIdeal.main_arg0) = m ((c.tc : Thread Cert.TurnDxIdeal.nD Cert.TurnDxIdeal.τ).loc Cert.TurnDxIdeal.main_arg0)
          ∧ r.2.mem ((c.tc : Thread Cert.TurnDxIdeal.nD Cert.TurnDxIdeal.τ).loc Cert.TurnDxIdeal.main_arg1) = m ((c.tc : Thread Cert.TurnDxIdeal.nD Cert.TurnDxIdeal.τ).loc Cert.TurnDxIdeal.main_arg1)
          ∧ r.2.mem ((c.tc : Thread Cert.TurnDxIdeal.nD Cert.TurnDxIdeal.τ).loc Cert.TurnDxIdeal.main_arg2) = m ((c.tc : Thread Cert.TurnDxIdeal.nD Cert.TurnDxIdeal.τ).loc Cert.TurnDxIdeal.main_arg2)
          ∧ r.2.mem ((c.tc : Thread Cert.TurnDxIdeal.nD Cert.TurnDxIdeal.τ).loc Cert.TurnDxIdeal.main_arg3) = m ((c.tc : Thread Cert.TurnDxIdeal.nD Cert.TurnDxIdeal.τ).loc Cert.TurnDxIdeal.main_arg3))
      ∧ θ_run (Cert.TurnDxRefIdeal.defs (F := Ideal)) (onTc (τ := Cert.TurnDxRefIdeal.τ) (Cert.TurnDxRefIdeal.main (F := Ideal))) ⟨m', fun _ => 0, g'⟩ (fun r => ∀ c : Dev Cert.TurnDxRefIdeal.nD,
          r.2.mem ((c.tc : Thread Cert.TurnDxRefIdeal.nD Cert.TurnDxRefIdeal.τ).loc Cert.TurnDxRefIdeal.main_v33) = v0 c
          ∧ r.2.mem ((c.tc : Thread Cert.TurnDxRefIdeal.nD Cert.TurnDxRefIdeal.τ).loc Cert.TurnDxRefIdeal.main_arg0) = m' ((c.tc : Thread Cert.TurnDxRefIdeal.nD Cert.TurnDxRefIdeal.τ).loc Cert.TurnDxRefIdeal.main_arg0)
          ∧ r.2.mem ((c.tc : Thread Cert.TurnDxRefIdeal.nD Cert.TurnDxRefIdeal.τ).loc Cert.TurnDxRefIdeal.main_arg1) = m' ((c.tc : Thread Cert.TurnDxRefIdeal.nD Cert.TurnDxRefIdeal.τ).loc Cert.TurnDxRefIdeal.main_arg1)
          ∧ r.2.mem ((c.tc : Thread Cert.TurnDxRefIdeal.nD Cert.TurnDxRefIdeal.τ).loc Cert.TurnDxRefIdeal.main_arg2) = m' ((c.tc : Thread Cert.TurnDxRefIdeal.nD Cert.TurnDxRefIdeal.τ).loc Cert.TurnDxRefIdeal.main_arg2)
          ∧ r.2.mem ((c.tc : Thread Cert.TurnDxRefIdeal.nD Cert.TurnDxRefIdeal.τ).loc Cert.TurnDxRefIdeal.main_arg3) = m' ((c.tc : Thread Cert.TurnDxRefIdeal.nD Cert.TurnDxRefIdeal.τ).loc Cert.TurnDxRefIdeal.main_arg3))

def preserves_KeyTurn_KeyTurnIdeal : Prop :=
  True

def algebraic_KeyTurnIdeal_KeyTurnRefIdeal [hKeyTurnIdeal : Cert.KeyTurnIdeal.Facts] [hKeyTurnRefIdeal : Cert.KeyTurnRefIdeal.Facts] : Prop :=
  ∀ (m : (ℓ : Loc Cert.KeyTurnIdeal.nD Cert.KeyTurnIdeal.τ Cert.KeyTurnIdeal.sig) → Buf (Elt Ideal) ℓ) (g : Dev Cert.KeyTurnIdeal.nD → PrngReg)
    (m' : (ℓ : Loc Cert.KeyTurnRefIdeal.nD Cert.KeyTurnRefIdeal.τ Cert.KeyTurnRefIdeal.sig) → Buf (Elt Ideal) ℓ) (g' : Dev Cert.KeyTurnRefIdeal.nD → PrngReg), Pre_KeyTurnIdeal m →
    (∀ c : Dev Cert.KeyTurnIdeal.nD,
      m' ((c.tc : Thread Cert.KeyTurnRefIdeal.nD Cert.KeyTurnRefIdeal.τ).loc Cert.KeyTurnRefIdeal.main_arg0) = m ((c.tc : Thread Cert.KeyTurnIdeal.nD Cert.KeyTurnIdeal.τ).loc Cert.KeyTurnIdeal.main_arg0)
      ∧ m' ((c.tc : Thread Cert.KeyTurnRefIdeal.nD Cert.KeyTurnRefIdeal.τ).loc Cert.KeyTurnRefIdeal.main_arg1) = m ((c.tc : Thread Cert.KeyTurnIdeal.nD Cert.KeyTurnIdeal.τ).loc Cert.KeyTurnIdeal.main_arg1)
      ∧ m' ((c.tc : Thread Cert.KeyTurnRefIdeal.nD Cert.KeyTurnRefIdeal.τ).loc Cert.KeyTurnRefIdeal.main_arg2) = m ((c.tc : Thread Cert.KeyTurnIdeal.nD Cert.KeyTurnIdeal.τ).loc Cert.KeyTurnIdeal.main_arg2)) →
    ∃ (v0 : (c : Dev Cert.KeyTurnIdeal.nD) → Buf (Elt Ideal) ((c.tc : Thread Cert.KeyTurnIdeal.nD Cert.KeyTurnIdeal.τ).loc Cert.KeyTurnIdeal.main_v8)),
      θ_run (Cert.KeyTurnIdeal.defs (F := Ideal)) (onTc (τ := Cert.KeyTurnIdeal.τ) (Cert.KeyTurnIdeal.main (F := Ideal))) ⟨m, fun _ => 0, g⟩ (fun r => ∀ c : Dev Cert.KeyTurnIdeal.nD,
          r.2.mem ((c.tc : Thread Cert.KeyTurnIdeal.nD Cert.KeyTurnIdeal.τ).loc Cert.KeyTurnIdeal.main_v8) = v0 c
          ∧ r.2.mem ((c.tc : Thread Cert.KeyTurnIdeal.nD Cert.KeyTurnIdeal.τ).loc Cert.KeyTurnIdeal.main_arg0) = m ((c.tc : Thread Cert.KeyTurnIdeal.nD Cert.KeyTurnIdeal.τ).loc Cert.KeyTurnIdeal.main_arg0)
          ∧ r.2.mem ((c.tc : Thread Cert.KeyTurnIdeal.nD Cert.KeyTurnIdeal.τ).loc Cert.KeyTurnIdeal.main_arg1) = m ((c.tc : Thread Cert.KeyTurnIdeal.nD Cert.KeyTurnIdeal.τ).loc Cert.KeyTurnIdeal.main_arg1)
          ∧ r.2.mem ((c.tc : Thread Cert.KeyTurnIdeal.nD Cert.KeyTurnIdeal.τ).loc Cert.KeyTurnIdeal.main_arg2) = m ((c.tc : Thread Cert.KeyTurnIdeal.nD Cert.KeyTurnIdeal.τ).loc Cert.KeyTurnIdeal.main_arg2))
      ∧ θ_run (Cert.KeyTurnRefIdeal.defs (F := Ideal)) (onTc (τ := Cert.KeyTurnRefIdeal.τ) (Cert.KeyTurnRefIdeal.main (F := Ideal))) ⟨m', fun _ => 0, g'⟩ (fun r => ∀ c : Dev Cert.KeyTurnRefIdeal.nD,
          r.2.mem ((c.tc : Thread Cert.KeyTurnRefIdeal.nD Cert.KeyTurnRefIdeal.τ).loc Cert.KeyTurnRefIdeal.main_v11) = v0 c
          ∧ r.2.mem ((c.tc : Thread Cert.KeyTurnRefIdeal.nD Cert.KeyTurnRefIdeal.τ).loc Cert.KeyTurnRefIdeal.main_arg0) = m' ((c.tc : Thread Cert.KeyTurnRefIdeal.nD Cert.KeyTurnRefIdeal.τ).loc Cert.KeyTurnRefIdeal.main_arg0)
          ∧ r.2.mem ((c.tc : Thread Cert.KeyTurnRefIdeal.nD Cert.KeyTurnRefIdeal.τ).loc Cert.KeyTurnRefIdeal.main_arg1) = m' ((c.tc : Thread Cert.KeyTurnRefIdeal.nD Cert.KeyTurnRefIdeal.τ).loc Cert.KeyTurnRefIdeal.main_arg1)
          ∧ r.2.mem ((c.tc : Thread Cert.KeyTurnRefIdeal.nD Cert.KeyTurnRefIdeal.τ).loc Cert.KeyTurnRefIdeal.main_arg2) = m' ((c.tc : Thread Cert.KeyTurnRefIdeal.nD Cert.KeyTurnRefIdeal.τ).loc Cert.KeyTurnRefIdeal.main_arg2))

def preserves_KeyTurnDx_KeyTurnDxIdeal : Prop :=
  True

def algebraic_KeyTurnDxIdeal_KeyTurnDxRefIdeal [hKeyTurnDxIdeal : Cert.KeyTurnDxIdeal.Facts] [hKeyTurnDxRefIdeal : Cert.KeyTurnDxRefIdeal.Facts] : Prop :=
  ∀ (m : (ℓ : Loc Cert.KeyTurnDxIdeal.nD Cert.KeyTurnDxIdeal.τ Cert.KeyTurnDxIdeal.sig) → Buf (Elt Ideal) ℓ) (g : Dev Cert.KeyTurnDxIdeal.nD → PrngReg)
    (m' : (ℓ : Loc Cert.KeyTurnDxRefIdeal.nD Cert.KeyTurnDxRefIdeal.τ Cert.KeyTurnDxRefIdeal.sig) → Buf (Elt Ideal) ℓ) (g' : Dev Cert.KeyTurnDxRefIdeal.nD → PrngReg), Pre_KeyTurnDxIdeal m →
    (∀ c : Dev Cert.KeyTurnDxIdeal.nD,
      m' ((c.tc : Thread Cert.KeyTurnDxRefIdeal.nD Cert.KeyTurnDxRefIdeal.τ).loc Cert.KeyTurnDxRefIdeal.main_arg0) = m ((c.tc : Thread Cert.KeyTurnDxIdeal.nD Cert.KeyTurnDxIdeal.τ).loc Cert.KeyTurnDxIdeal.main_arg0)
      ∧ m' ((c.tc : Thread Cert.KeyTurnDxRefIdeal.nD Cert.KeyTurnDxRefIdeal.τ).loc Cert.KeyTurnDxRefIdeal.main_arg1) = m ((c.tc : Thread Cert.KeyTurnDxIdeal.nD Cert.KeyTurnDxIdeal.τ).loc Cert.KeyTurnDxIdeal.main_arg1)
      ∧ m' ((c.tc : Thread Cert.KeyTurnDxRefIdeal.nD Cert.KeyTurnDxRefIdeal.τ).loc Cert.KeyTurnDxRefIdeal.main_arg2) = m ((c.tc : Thread Cert.KeyTurnDxIdeal.nD Cert.KeyTurnDxIdeal.τ).loc Cert.KeyTurnDxIdeal.main_arg2)
      ∧ m' ((c.tc : Thread Cert.KeyTurnDxRefIdeal.nD Cert.KeyTurnDxRefIdeal.τ).loc Cert.KeyTurnDxRefIdeal.main_arg3) = m ((c.tc : Thread Cert.KeyTurnDxIdeal.nD Cert.KeyTurnDxIdeal.τ).loc Cert.KeyTurnDxIdeal.main_arg3)) →
    ∃ (v0 : (c : Dev Cert.KeyTurnDxIdeal.nD) → Buf (Elt Ideal) ((c.tc : Thread Cert.KeyTurnDxIdeal.nD Cert.KeyTurnDxIdeal.τ).loc Cert.KeyTurnDxIdeal.main_v8)),
      θ_run (Cert.KeyTurnDxIdeal.defs (F := Ideal)) (onTc (τ := Cert.KeyTurnDxIdeal.τ) (Cert.KeyTurnDxIdeal.main (F := Ideal))) ⟨m, fun _ => 0, g⟩ (fun r => ∀ c : Dev Cert.KeyTurnDxIdeal.nD,
          r.2.mem ((c.tc : Thread Cert.KeyTurnDxIdeal.nD Cert.KeyTurnDxIdeal.τ).loc Cert.KeyTurnDxIdeal.main_v8) = v0 c
          ∧ r.2.mem ((c.tc : Thread Cert.KeyTurnDxIdeal.nD Cert.KeyTurnDxIdeal.τ).loc Cert.KeyTurnDxIdeal.main_arg0) = m ((c.tc : Thread Cert.KeyTurnDxIdeal.nD Cert.KeyTurnDxIdeal.τ).loc Cert.KeyTurnDxIdeal.main_arg0)
          ∧ r.2.mem ((c.tc : Thread Cert.KeyTurnDxIdeal.nD Cert.KeyTurnDxIdeal.τ).loc Cert.KeyTurnDxIdeal.main_arg1) = m ((c.tc : Thread Cert.KeyTurnDxIdeal.nD Cert.KeyTurnDxIdeal.τ).loc Cert.KeyTurnDxIdeal.main_arg1)
          ∧ r.2.mem ((c.tc : Thread Cert.KeyTurnDxIdeal.nD Cert.KeyTurnDxIdeal.τ).loc Cert.KeyTurnDxIdeal.main_arg2) = m ((c.tc : Thread Cert.KeyTurnDxIdeal.nD Cert.KeyTurnDxIdeal.τ).loc Cert.KeyTurnDxIdeal.main_arg2)
          ∧ r.2.mem ((c.tc : Thread Cert.KeyTurnDxIdeal.nD Cert.KeyTurnDxIdeal.τ).loc Cert.KeyTurnDxIdeal.main_arg3) = m ((c.tc : Thread Cert.KeyTurnDxIdeal.nD Cert.KeyTurnDxIdeal.τ).loc Cert.KeyTurnDxIdeal.main_arg3))
      ∧ θ_run (Cert.KeyTurnDxRefIdeal.defs (F := Ideal)) (onTc (τ := Cert.KeyTurnDxRefIdeal.τ) (Cert.KeyTurnDxRefIdeal.main (F := Ideal))) ⟨m', fun _ => 0, g'⟩ (fun r => ∀ c : Dev Cert.KeyTurnDxRefIdeal.nD,
          r.2.mem ((c.tc : Thread Cert.KeyTurnDxRefIdeal.nD Cert.KeyTurnDxRefIdeal.τ).loc Cert.KeyTurnDxRefIdeal.main_v25) = v0 c
          ∧ r.2.mem ((c.tc : Thread Cert.KeyTurnDxRefIdeal.nD Cert.KeyTurnDxRefIdeal.τ).loc Cert.KeyTurnDxRefIdeal.main_arg0) = m' ((c.tc : Thread Cert.KeyTurnDxRefIdeal.nD Cert.KeyTurnDxRefIdeal.τ).loc Cert.KeyTurnDxRefIdeal.main_arg0)
          ∧ r.2.mem ((c.tc : Thread Cert.KeyTurnDxRefIdeal.nD Cert.KeyTurnDxRefIdeal.τ).loc Cert.KeyTurnDxRefIdeal.main_arg1) = m' ((c.tc : Thread Cert.KeyTurnDxRefIdeal.nD Cert.KeyTurnDxRefIdeal.τ).loc Cert.KeyTurnDxRefIdeal.main_arg1)
          ∧ r.2.mem ((c.tc : Thread Cert.KeyTurnDxRefIdeal.nD Cert.KeyTurnDxRefIdeal.τ).loc Cert.KeyTurnDxRefIdeal.main_arg2) = m' ((c.tc : Thread Cert.KeyTurnDxRefIdeal.nD Cert.KeyTurnDxRefIdeal.τ).loc Cert.KeyTurnDxRefIdeal.main_arg2)
          ∧ r.2.mem ((c.tc : Thread Cert.KeyTurnDxRefIdeal.nD Cert.KeyTurnDxRefIdeal.τ).loc Cert.KeyTurnDxRefIdeal.main_arg3) = m' ((c.tc : Thread Cert.KeyTurnDxRefIdeal.nD Cert.KeyTurnDxRefIdeal.τ).loc Cert.KeyTurnDxRefIdeal.main_arg3))

def preserves_QNormDx_QNormDxIdeal : Prop :=
  True

def algebraic_QNormDxIdeal_QNormDxRefIdeal [hQNormDxIdeal : Cert.QNormDxIdeal.Facts] [hQNormDxRefIdeal : Cert.QNormDxRefIdeal.Facts] : Prop :=
  ∀ (m : (ℓ : Loc Cert.QNormDxIdeal.nD Cert.QNormDxIdeal.τ Cert.QNormDxIdeal.sig) → Buf (Elt Ideal) ℓ) (g : Dev Cert.QNormDxIdeal.nD → PrngReg)
    (m' : (ℓ : Loc Cert.QNormDxRefIdeal.nD Cert.QNormDxRefIdeal.τ Cert.QNormDxRefIdeal.sig) → Buf (Elt Ideal) ℓ) (g' : Dev Cert.QNormDxRefIdeal.nD → PrngReg), Pre_QNormDxIdeal m →
    (∀ c : Dev Cert.QNormDxIdeal.nD,
      m' ((c.tc : Thread Cert.QNormDxRefIdeal.nD Cert.QNormDxRefIdeal.τ).loc Cert.QNormDxRefIdeal.main_arg0) = m ((c.tc : Thread Cert.QNormDxIdeal.nD Cert.QNormDxIdeal.τ).loc Cert.QNormDxIdeal.main_arg0)
      ∧ m' ((c.tc : Thread Cert.QNormDxRefIdeal.nD Cert.QNormDxRefIdeal.τ).loc Cert.QNormDxRefIdeal.main_arg1) = m ((c.tc : Thread Cert.QNormDxIdeal.nD Cert.QNormDxIdeal.τ).loc Cert.QNormDxIdeal.main_arg1)
      ∧ m' ((c.tc : Thread Cert.QNormDxRefIdeal.nD Cert.QNormDxRefIdeal.τ).loc Cert.QNormDxRefIdeal.main_arg2) = m ((c.tc : Thread Cert.QNormDxIdeal.nD Cert.QNormDxIdeal.τ).loc Cert.QNormDxIdeal.main_arg2)) →
    ∃ (v0 : (c : Dev Cert.QNormDxIdeal.nD) → Buf (Elt Ideal) ((c.tc : Thread Cert.QNormDxIdeal.nD Cert.QNormDxIdeal.τ).loc Cert.QNormDxIdeal.main_v0_0)) (v1 : (c : Dev Cert.QNormDxIdeal.nD) → Buf (Elt Ideal) ((c.tc : Thread Cert.QNormDxIdeal.nD Cert.QNormDxIdeal.τ).loc Cert.QNormDxIdeal.main_v0_1)),
      θ_run (Cert.QNormDxIdeal.defs (F := Ideal)) (onTc (τ := Cert.QNormDxIdeal.τ) (Cert.QNormDxIdeal.main (F := Ideal))) ⟨m, fun _ => 0, g⟩ (fun r => ∀ c : Dev Cert.QNormDxIdeal.nD,
          r.2.mem ((c.tc : Thread Cert.QNormDxIdeal.nD Cert.QNormDxIdeal.τ).loc Cert.QNormDxIdeal.main_v0_0) = v0 c
          ∧ r.2.mem ((c.tc : Thread Cert.QNormDxIdeal.nD Cert.QNormDxIdeal.τ).loc Cert.QNormDxIdeal.main_v0_1) = v1 c
          ∧ r.2.mem ((c.tc : Thread Cert.QNormDxIdeal.nD Cert.QNormDxIdeal.τ).loc Cert.QNormDxIdeal.main_arg0) = m ((c.tc : Thread Cert.QNormDxIdeal.nD Cert.QNormDxIdeal.τ).loc Cert.QNormDxIdeal.main_arg0)
          ∧ r.2.mem ((c.tc : Thread Cert.QNormDxIdeal.nD Cert.QNormDxIdeal.τ).loc Cert.QNormDxIdeal.main_arg1) = m ((c.tc : Thread Cert.QNormDxIdeal.nD Cert.QNormDxIdeal.τ).loc Cert.QNormDxIdeal.main_arg1)
          ∧ r.2.mem ((c.tc : Thread Cert.QNormDxIdeal.nD Cert.QNormDxIdeal.τ).loc Cert.QNormDxIdeal.main_arg2) = m ((c.tc : Thread Cert.QNormDxIdeal.nD Cert.QNormDxIdeal.τ).loc Cert.QNormDxIdeal.main_arg2))
      ∧ θ_run (Cert.QNormDxRefIdeal.defs (F := Ideal)) (onTc (τ := Cert.QNormDxRefIdeal.τ) (Cert.QNormDxRefIdeal.main (F := Ideal))) ⟨m', fun _ => 0, g'⟩ (fun r => ∀ c : Dev Cert.QNormDxRefIdeal.nD,
          r.2.mem ((c.tc : Thread Cert.QNormDxRefIdeal.nD Cert.QNormDxRefIdeal.τ).loc Cert.QNormDxRefIdeal.main_v39) = v0 c
          ∧ r.2.mem ((c.tc : Thread Cert.QNormDxRefIdeal.nD Cert.QNormDxRefIdeal.τ).loc Cert.QNormDxRefIdeal.main_v38) = v1 c
          ∧ r.2.mem ((c.tc : Thread Cert.QNormDxRefIdeal.nD Cert.QNormDxRefIdeal.τ).loc Cert.QNormDxRefIdeal.main_arg0) = m' ((c.tc : Thread Cert.QNormDxRefIdeal.nD Cert.QNormDxRefIdeal.τ).loc Cert.QNormDxRefIdeal.main_arg0)
          ∧ r.2.mem ((c.tc : Thread Cert.QNormDxRefIdeal.nD Cert.QNormDxRefIdeal.τ).loc Cert.QNormDxRefIdeal.main_arg1) = m' ((c.tc : Thread Cert.QNormDxRefIdeal.nD Cert.QNormDxRefIdeal.τ).loc Cert.QNormDxRefIdeal.main_arg1)
          ∧ r.2.mem ((c.tc : Thread Cert.QNormDxRefIdeal.nD Cert.QNormDxRefIdeal.τ).loc Cert.QNormDxRefIdeal.main_arg2) = m' ((c.tc : Thread Cert.QNormDxRefIdeal.nD Cert.QNormDxRefIdeal.τ).loc Cert.QNormDxRefIdeal.main_arg2))

def preserves_KvNormDx_KvNormDxIdeal : Prop :=
  True

def algebraic_KvNormDxIdeal_KvNormDxRefIdeal [hKvNormDxIdeal : Cert.KvNormDxIdeal.Facts] [hKvNormDxRefIdeal : Cert.KvNormDxRefIdeal.Facts] : Prop :=
  ∀ (m : (ℓ : Loc Cert.KvNormDxIdeal.nD Cert.KvNormDxIdeal.τ Cert.KvNormDxIdeal.sig) → Buf (Elt Ideal) ℓ) (g : Dev Cert.KvNormDxIdeal.nD → PrngReg)
    (m' : (ℓ : Loc Cert.KvNormDxRefIdeal.nD Cert.KvNormDxRefIdeal.τ Cert.KvNormDxRefIdeal.sig) → Buf (Elt Ideal) ℓ) (g' : Dev Cert.KvNormDxRefIdeal.nD → PrngReg), Pre_KvNormDxIdeal m →
    (∀ c : Dev Cert.KvNormDxIdeal.nD,
      m' ((c.tc : Thread Cert.KvNormDxRefIdeal.nD Cert.KvNormDxRefIdeal.τ).loc Cert.KvNormDxRefIdeal.main_arg0) = m ((c.tc : Thread Cert.KvNormDxIdeal.nD Cert.KvNormDxIdeal.τ).loc Cert.KvNormDxIdeal.main_arg0)
      ∧ m' ((c.tc : Thread Cert.KvNormDxRefIdeal.nD Cert.KvNormDxRefIdeal.τ).loc Cert.KvNormDxRefIdeal.main_arg1) = m ((c.tc : Thread Cert.KvNormDxIdeal.nD Cert.KvNormDxIdeal.τ).loc Cert.KvNormDxIdeal.main_arg1)
      ∧ m' ((c.tc : Thread Cert.KvNormDxRefIdeal.nD Cert.KvNormDxRefIdeal.τ).loc Cert.KvNormDxRefIdeal.main_arg2) = m ((c.tc : Thread Cert.KvNormDxIdeal.nD Cert.KvNormDxIdeal.τ).loc Cert.KvNormDxIdeal.main_arg2)) →
    ∃ (v0 : (c : Dev Cert.KvNormDxIdeal.nD) → Buf (Elt Ideal) ((c.tc : Thread Cert.KvNormDxIdeal.nD Cert.KvNormDxIdeal.τ).loc Cert.KvNormDxIdeal.main_v0_0)) (v1 : (c : Dev Cert.KvNormDxIdeal.nD) → Buf (Elt Ideal) ((c.tc : Thread Cert.KvNormDxIdeal.nD Cert.KvNormDxIdeal.τ).loc Cert.KvNormDxIdeal.main_v0_1)),
      θ_run (Cert.KvNormDxIdeal.defs (F := Ideal)) (onTc (τ := Cert.KvNormDxIdeal.τ) (Cert.KvNormDxIdeal.main (F := Ideal))) ⟨m, fun _ => 0, g⟩ (fun r => ∀ c : Dev Cert.KvNormDxIdeal.nD,
          r.2.mem ((c.tc : Thread Cert.KvNormDxIdeal.nD Cert.KvNormDxIdeal.τ).loc Cert.KvNormDxIdeal.main_v0_0) = v0 c
          ∧ r.2.mem ((c.tc : Thread Cert.KvNormDxIdeal.nD Cert.KvNormDxIdeal.τ).loc Cert.KvNormDxIdeal.main_v0_1) = v1 c
          ∧ r.2.mem ((c.tc : Thread Cert.KvNormDxIdeal.nD Cert.KvNormDxIdeal.τ).loc Cert.KvNormDxIdeal.main_arg0) = m ((c.tc : Thread Cert.KvNormDxIdeal.nD Cert.KvNormDxIdeal.τ).loc Cert.KvNormDxIdeal.main_arg0)
          ∧ r.2.mem ((c.tc : Thread Cert.KvNormDxIdeal.nD Cert.KvNormDxIdeal.τ).loc Cert.KvNormDxIdeal.main_arg1) = m ((c.tc : Thread Cert.KvNormDxIdeal.nD Cert.KvNormDxIdeal.τ).loc Cert.KvNormDxIdeal.main_arg1)
          ∧ r.2.mem ((c.tc : Thread Cert.KvNormDxIdeal.nD Cert.KvNormDxIdeal.τ).loc Cert.KvNormDxIdeal.main_arg2) = m ((c.tc : Thread Cert.KvNormDxIdeal.nD Cert.KvNormDxIdeal.τ).loc Cert.KvNormDxIdeal.main_arg2))
      ∧ θ_run (Cert.KvNormDxRefIdeal.defs (F := Ideal)) (onTc (τ := Cert.KvNormDxRefIdeal.τ) (Cert.KvNormDxRefIdeal.main (F := Ideal))) ⟨m', fun _ => 0, g'⟩ (fun r => ∀ c : Dev Cert.KvNormDxRefIdeal.nD,
          r.2.mem ((c.tc : Thread Cert.KvNormDxRefIdeal.nD Cert.KvNormDxRefIdeal.τ).loc Cert.KvNormDxRefIdeal.main_v39) = v0 c
          ∧ r.2.mem ((c.tc : Thread Cert.KvNormDxRefIdeal.nD Cert.KvNormDxRefIdeal.τ).loc Cert.KvNormDxRefIdeal.main_v38) = v1 c
          ∧ r.2.mem ((c.tc : Thread Cert.KvNormDxRefIdeal.nD Cert.KvNormDxRefIdeal.τ).loc Cert.KvNormDxRefIdeal.main_arg0) = m' ((c.tc : Thread Cert.KvNormDxRefIdeal.nD Cert.KvNormDxRefIdeal.τ).loc Cert.KvNormDxRefIdeal.main_arg0)
          ∧ r.2.mem ((c.tc : Thread Cert.KvNormDxRefIdeal.nD Cert.KvNormDxRefIdeal.τ).loc Cert.KvNormDxRefIdeal.main_arg1) = m' ((c.tc : Thread Cert.KvNormDxRefIdeal.nD Cert.KvNormDxRefIdeal.τ).loc Cert.KvNormDxRefIdeal.main_arg1)
          ∧ r.2.mem ((c.tc : Thread Cert.KvNormDxRefIdeal.nD Cert.KvNormDxRefIdeal.τ).loc Cert.KvNormDxRefIdeal.main_arg2) = m' ((c.tc : Thread Cert.KvNormDxRefIdeal.nD Cert.KvNormDxRefIdeal.τ).loc Cert.KvNormDxRefIdeal.main_arg2))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)) →
    ∃ (v0 : (c : Dev Cert.QNormIdeal.nD) → Buf (Elt Ideal) ((c.tc : Thread Cert.QNormIdeal.nD Cert.QNormIdeal.τ).loc Cert.QNormIdeal.main_v0)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v0) = v0 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v15) = v0 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)) →
    ∃ (v0 : (c : Dev Cert.KvNormIdeal.nD) → Buf (Elt Ideal) ((c.tc : Thread Cert.KvNormIdeal.nD Cert.KvNormIdeal.τ).loc Cert.KvNormIdeal.main_v0)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v0) = v0 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v15) = v0 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1))

def preserves_LnY_LnYIdeal : Prop :=
  True

def algebraic_LnYIdeal_LnYRefIdeal [hLnYIdeal : Cert.LnYIdeal.Facts] [hLnYRefIdeal : Cert.LnYRefIdeal.Facts] : Prop :=
  ∀ (m : (ℓ : Loc Cert.LnYIdeal.nD Cert.LnYIdeal.τ Cert.LnYIdeal.sig) → Buf (Elt Ideal) ℓ) (g : Dev Cert.LnYIdeal.nD → PrngReg)
    (m' : (ℓ : Loc Cert.LnYRefIdeal.nD Cert.LnYRefIdeal.τ Cert.LnYRefIdeal.sig) → Buf (Elt Ideal) ℓ) (g' : Dev Cert.LnYRefIdeal.nD → PrngReg), Pre_LnYIdeal m →
    (∀ c : Dev Cert.LnYIdeal.nD,
      m' ((c.tc : Thread Cert.LnYRefIdeal.nD Cert.LnYRefIdeal.τ).loc Cert.LnYRefIdeal.main_arg0) = m ((c.tc : Thread Cert.LnYIdeal.nD Cert.LnYIdeal.τ).loc Cert.LnYIdeal.main_arg0)
      ∧ m' ((c.tc : Thread Cert.LnYRefIdeal.nD Cert.LnYRefIdeal.τ).loc Cert.LnYRefIdeal.main_arg1) = m ((c.tc : Thread Cert.LnYIdeal.nD Cert.LnYIdeal.τ).loc Cert.LnYIdeal.main_arg1)
      ∧ m' ((c.tc : Thread Cert.LnYRefIdeal.nD Cert.LnYRefIdeal.τ).loc Cert.LnYRefIdeal.main_arg2) = m ((c.tc : Thread Cert.LnYIdeal.nD Cert.LnYIdeal.τ).loc Cert.LnYIdeal.main_arg2)
      ∧ m' ((c.tc : Thread Cert.LnYRefIdeal.nD Cert.LnYRefIdeal.τ).loc Cert.LnYRefIdeal.main_arg3) = m ((c.tc : Thread Cert.LnYIdeal.nD Cert.LnYIdeal.τ).loc Cert.LnYIdeal.main_arg3)) →
    ∃ (v0 : (c : Dev Cert.LnYIdeal.nD) → Buf (Elt Ideal) ((c.tc : Thread Cert.LnYIdeal.nD Cert.LnYIdeal.τ).loc Cert.LnYIdeal.main_v0_0)) (v1 : (c : Dev Cert.LnYIdeal.nD) → Buf (Elt Ideal) ((c.tc : Thread Cert.LnYIdeal.nD Cert.LnYIdeal.τ).loc Cert.LnYIdeal.main_v0_1)),
      θ_run (Cert.LnYIdeal.defs (F := Ideal)) (onTc (τ := Cert.LnYIdeal.τ) (Cert.LnYIdeal.main (F := Ideal))) ⟨m, fun _ => 0, g⟩ (fun r => ∀ c : Dev Cert.LnYIdeal.nD,
          r.2.mem ((c.tc : Thread Cert.LnYIdeal.nD Cert.LnYIdeal.τ).loc Cert.LnYIdeal.main_v0_0) = v0 c
          ∧ r.2.mem ((c.tc : Thread Cert.LnYIdeal.nD Cert.LnYIdeal.τ).loc Cert.LnYIdeal.main_v0_1) = v1 c
          ∧ r.2.mem ((c.tc : Thread Cert.LnYIdeal.nD Cert.LnYIdeal.τ).loc Cert.LnYIdeal.main_arg0) = m ((c.tc : Thread Cert.LnYIdeal.nD Cert.LnYIdeal.τ).loc Cert.LnYIdeal.main_arg0)
          ∧ r.2.mem ((c.tc : Thread Cert.LnYIdeal.nD Cert.LnYIdeal.τ).loc Cert.LnYIdeal.main_arg1) = m ((c.tc : Thread Cert.LnYIdeal.nD Cert.LnYIdeal.τ).loc Cert.LnYIdeal.main_arg1)
          ∧ r.2.mem ((c.tc : Thread Cert.LnYIdeal.nD Cert.LnYIdeal.τ).loc Cert.LnYIdeal.main_arg2) = m ((c.tc : Thread Cert.LnYIdeal.nD Cert.LnYIdeal.τ).loc Cert.LnYIdeal.main_arg2)
          ∧ r.2.mem ((c.tc : Thread Cert.LnYIdeal.nD Cert.LnYIdeal.τ).loc Cert.LnYIdeal.main_arg3) = m ((c.tc : Thread Cert.LnYIdeal.nD Cert.LnYIdeal.τ).loc Cert.LnYIdeal.main_arg3))
      ∧ θ_run (Cert.LnYRefIdeal.defs (F := Ideal)) (onTc (τ := Cert.LnYRefIdeal.τ) (Cert.LnYRefIdeal.main (F := Ideal))) ⟨m', fun _ => 0, g'⟩ (fun r => ∀ c : Dev Cert.LnYRefIdeal.nD,
          r.2.mem ((c.tc : Thread Cert.LnYRefIdeal.nD Cert.LnYRefIdeal.τ).loc Cert.LnYRefIdeal.main_v28) = v0 c
          ∧ r.2.mem ((c.tc : Thread Cert.LnYRefIdeal.nD Cert.LnYRefIdeal.τ).loc Cert.LnYRefIdeal.main_v29) = v1 c
          ∧ r.2.mem ((c.tc : Thread Cert.LnYRefIdeal.nD Cert.LnYRefIdeal.τ).loc Cert.LnYRefIdeal.main_arg0) = m' ((c.tc : Thread Cert.LnYRefIdeal.nD Cert.LnYRefIdeal.τ).loc Cert.LnYRefIdeal.main_arg0)
          ∧ r.2.mem ((c.tc : Thread Cert.LnYRefIdeal.nD Cert.LnYRefIdeal.τ).loc Cert.LnYRefIdeal.main_arg1) = m' ((c.tc : Thread Cert.LnYRefIdeal.nD Cert.LnYRefIdeal.τ).loc Cert.LnYRefIdeal.main_arg1)
          ∧ r.2.mem ((c.tc : Thread Cert.LnYRefIdeal.nD Cert.LnYRefIdeal.τ).loc Cert.LnYRefIdeal.main_arg2) = m' ((c.tc : Thread Cert.LnYRefIdeal.nD Cert.LnYRefIdeal.τ).loc Cert.LnYRefIdeal.main_arg2)
          ∧ r.2.mem ((c.tc : Thread Cert.LnYRefIdeal.nD Cert.LnYRefIdeal.τ).loc Cert.LnYRefIdeal.main_arg3) = m' ((c.tc : Thread Cert.LnYRefIdeal.nD Cert.LnYRefIdeal.τ).loc Cert.LnYRefIdeal.main_arg3))

def preserves_LnLast_LnLastIdeal : Prop :=
  True

def algebraic_LnLastIdeal_LnLastRefIdeal [hLnLastIdeal : Cert.LnLastIdeal.Facts] [hLnLastRefIdeal : Cert.LnLastRefIdeal.Facts] : Prop :=
  ∀ (m : (ℓ : Loc Cert.LnLastIdeal.nD Cert.LnLastIdeal.τ Cert.LnLastIdeal.sig) → Buf (Elt Ideal) ℓ) (g : Dev Cert.LnLastIdeal.nD → PrngReg)
    (m' : (ℓ : Loc Cert.LnLastRefIdeal.nD Cert.LnLastRefIdeal.τ Cert.LnLastRefIdeal.sig) → Buf (Elt Ideal) ℓ) (g' : Dev Cert.LnLastRefIdeal.nD → PrngReg), Pre_LnLastIdeal m →
    (∀ c : Dev Cert.LnLastIdeal.nD,
      m' ((c.tc : Thread Cert.LnLastRefIdeal.nD Cert.LnLastRefIdeal.τ).loc Cert.LnLastRefIdeal.main_arg0) = m ((c.tc : Thread Cert.LnLastIdeal.nD Cert.LnLastIdeal.τ).loc Cert.LnLastIdeal.main_arg0)
      ∧ m' ((c.tc : Thread Cert.LnLastRefIdeal.nD Cert.LnLastRefIdeal.τ).loc Cert.LnLastRefIdeal.main_arg1) = m ((c.tc : Thread Cert.LnLastIdeal.nD Cert.LnLastIdeal.τ).loc Cert.LnLastIdeal.main_arg1)
      ∧ m' ((c.tc : Thread Cert.LnLastRefIdeal.nD Cert.LnLastRefIdeal.τ).loc Cert.LnLastRefIdeal.main_arg2) = m ((c.tc : Thread Cert.LnLastIdeal.nD Cert.LnLastIdeal.τ).loc Cert.LnLastIdeal.main_arg2)
      ∧ m' ((c.tc : Thread Cert.LnLastRefIdeal.nD Cert.LnLastRefIdeal.τ).loc Cert.LnLastRefIdeal.main_arg3) = m ((c.tc : Thread Cert.LnLastIdeal.nD Cert.LnLastIdeal.τ).loc Cert.LnLastIdeal.main_arg3)) →
    ∃ (v0 : (c : Dev Cert.LnLastIdeal.nD) → Buf (Elt Ideal) ((c.tc : Thread Cert.LnLastIdeal.nD Cert.LnLastIdeal.τ).loc Cert.LnLastIdeal.main_v0)),
      θ_run (Cert.LnLastIdeal.defs (F := Ideal)) (onTc (τ := Cert.LnLastIdeal.τ) (Cert.LnLastIdeal.main (F := Ideal))) ⟨m, fun _ => 0, g⟩ (fun r => ∀ c : Dev Cert.LnLastIdeal.nD,
          r.2.mem ((c.tc : Thread Cert.LnLastIdeal.nD Cert.LnLastIdeal.τ).loc Cert.LnLastIdeal.main_v0) = v0 c
          ∧ r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
          ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
          ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
          ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3))
      ∧ θ_run (Cert.LnLastRefIdeal.defs (F := Ideal)) (onTc (τ := Cert.LnLastRefIdeal.τ) (Cert.LnLastRefIdeal.main (F := Ideal))) ⟨m', fun _ => 0, g'⟩ (fun r => ∀ c : Dev Cert.LnLastRefIdeal.nD,
          r.2.mem ((c.tc : Thread Cert.LnLastRefIdeal.nD Cert.LnLastRefIdeal.τ).loc Cert.LnLastRefIdeal.main_v28) = v0 c
          ∧ r.2.mem ((c.tc : Thread Cert.LnLastRefIdeal.nD Cert.LnLastRefIdeal.τ).loc Cert.LnLastRefIdeal.main_arg0) = m' ((c.tc : Thread Cert.LnLastRefIdeal.nD Cert.LnLastRefIdeal.τ).loc Cert.LnLastRefIdeal.main_arg0)
          ∧ r.2.mem ((c.tc : Thread Cert.LnLastRefIdeal.nD Cert.LnLastRefIdeal.τ).loc Cert.LnLastRefIdeal.main_arg1) = m' ((c.tc : Thread Cert.LnLastRefIdeal.nD Cert.LnLastRefIdeal.τ).loc Cert.LnLastRefIdeal.main_arg1)
          ∧ r.2.mem ((c.tc : Thread Cert.LnLastRefIdeal.nD Cert.LnLastRefIdeal.τ).loc Cert.LnLastRefIdeal.main_arg2) = m' ((c.tc : Thread Cert.LnLastRefIdeal.nD Cert.LnLastRefIdeal.τ).loc Cert.LnLastRefIdeal.main_arg2)
          ∧ r.2.mem ((c.tc : Thread Cert.LnLastRefIdeal.nD Cert.LnLastRefIdeal.τ).loc Cert.LnLastRefIdeal.main_arg3) = m' ((c.tc : Thread Cert.LnLastRefIdeal.nD Cert.LnLastRefIdeal.τ).loc Cert.LnLastRefIdeal.main_arg3))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v23) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4))

def preserves_GatedDx_GatedDxIdeal : Prop :=
  True

def algebraic_GatedDxIdeal_GatedDxRefIdeal [hGatedDxIdeal : Cert.GatedDxIdeal.Facts] [hGatedDxRefIdeal : Cert.GatedDxRefIdeal.Facts] : Prop :=
  ∀ (m : (ℓ : Loc Cert.GatedDxIdeal.nD Cert.GatedDxIdeal.τ Cert.GatedDxIdeal.sig) → Buf (Elt Ideal) ℓ) (g : Dev Cert.GatedDxIdeal.nD → PrngReg)
    (m' : (ℓ : Loc Cert.GatedDxRefIdeal.nD Cert.GatedDxRefIdeal.τ Cert.GatedDxRefIdeal.sig) → Buf (Elt Ideal) ℓ) (g' : Dev Cert.GatedDxRefIdeal.nD → PrngReg), Pre_GatedDxIdeal m →
    (∀ c : Dev Cert.GatedDxIdeal.nD,
      m' ((c.tc : Thread Cert.GatedDxRefIdeal.nD Cert.GatedDxRefIdeal.τ).loc Cert.GatedDxRefIdeal.main_arg0) = m ((c.tc : Thread Cert.GatedDxIdeal.nD Cert.GatedDxIdeal.τ).loc Cert.GatedDxIdeal.main_arg0)
      ∧ m' ((c.tc : Thread Cert.GatedDxRefIdeal.nD Cert.GatedDxRefIdeal.τ).loc Cert.GatedDxRefIdeal.main_arg1) = m ((c.tc : Thread Cert.GatedDxIdeal.nD Cert.GatedDxIdeal.τ).loc Cert.GatedDxIdeal.main_arg1)
      ∧ m' ((c.tc : Thread Cert.GatedDxRefIdeal.nD Cert.GatedDxRefIdeal.τ).loc Cert.GatedDxRefIdeal.main_arg2) = m ((c.tc : Thread Cert.GatedDxIdeal.nD Cert.GatedDxIdeal.τ).loc Cert.GatedDxIdeal.main_arg2)
      ∧ m' ((c.tc : Thread Cert.GatedDxRefIdeal.nD Cert.GatedDxRefIdeal.τ).loc Cert.GatedDxRefIdeal.main_arg3) = m ((c.tc : Thread Cert.GatedDxIdeal.nD Cert.GatedDxIdeal.τ).loc Cert.GatedDxIdeal.main_arg3)
      ∧ m' ((c.tc : Thread Cert.GatedDxRefIdeal.nD Cert.GatedDxRefIdeal.τ).loc Cert.GatedDxRefIdeal.main_arg4) = m ((c.tc : Thread Cert.GatedDxIdeal.nD Cert.GatedDxIdeal.τ).loc Cert.GatedDxIdeal.main_arg4)
      ∧ m' ((c.tc : Thread Cert.GatedDxRefIdeal.nD Cert.GatedDxRefIdeal.τ).loc Cert.GatedDxRefIdeal.main_arg5) = m ((c.tc : Thread Cert.GatedDxIdeal.nD Cert.GatedDxIdeal.τ).loc Cert.GatedDxIdeal.main_arg5)) →
    ∃ (v0 : (c : Dev Cert.GatedDxIdeal.nD) → Buf (Elt Ideal) ((c.tc : Thread Cert.GatedDxIdeal.nD Cert.GatedDxIdeal.τ).loc Cert.GatedDxIdeal.main_v0_0)) (v1 : (c : Dev Cert.GatedDxIdeal.nD) → Buf (Elt Ideal) ((c.tc : Thread Cert.GatedDxIdeal.nD Cert.GatedDxIdeal.τ).loc Cert.GatedDxIdeal.main_v0_1)) (v2 : (c : Dev Cert.GatedDxIdeal.nD) → Buf (Elt Ideal) ((c.tc : Thread Cert.GatedDxIdeal.nD Cert.GatedDxIdeal.τ).loc Cert.GatedDxIdeal.main_v0_2)) (v3 : (c : Dev Cert.GatedDxIdeal.nD) → Buf (Elt Ideal) ((c.tc : Thread Cert.GatedDxIdeal.nD Cert.GatedDxIdeal.τ).loc Cert.GatedDxIdeal.main_v0_3)) (v4 : (c : Dev Cert.GatedDxIdeal.nD) → Buf (Elt Ideal) ((c.tc : Thread Cert.GatedDxIdeal.nD Cert.GatedDxIdeal.τ).loc Cert.GatedDxIdeal.main_v0_4)),
      θ_run (Cert.GatedDxIdeal.defs (F := Ideal)) (onTc (τ := Cert.GatedDxIdeal.τ) (Cert.GatedDxIdeal.main (F := Ideal))) ⟨m, fun _ => 0, g⟩ (fun r => ∀ c : Dev Cert.GatedDxIdeal.nD,
          r.2.mem ((c.tc : Thread Cert.GatedDxIdeal.nD Cert.GatedDxIdeal.τ).loc Cert.GatedDxIdeal.main_v0_0) = v0 c
          ∧ r.2.mem ((c.tc : Thread Cert.GatedDxIdeal.nD Cert.GatedDxIdeal.τ).loc Cert.GatedDxIdeal.main_v0_1) = v1 c
          ∧ r.2.mem ((c.tc : Thread Cert.GatedDxIdeal.nD Cert.GatedDxIdeal.τ).loc Cert.GatedDxIdeal.main_v0_2) = v2 c
          ∧ r.2.mem ((c.tc : Thread Cert.GatedDxIdeal.nD Cert.GatedDxIdeal.τ).loc Cert.GatedDxIdeal.main_v0_3) = v3 c
          ∧ r.2.mem ((c.tc : Thread Cert.GatedDxIdeal.nD Cert.GatedDxIdeal.τ).loc Cert.GatedDxIdeal.main_v0_4) = v4 c
          ∧ r.2.mem ((c.tc : Thread Cert.GatedDxIdeal.nD Cert.GatedDxIdeal.τ).loc Cert.GatedDxIdeal.main_arg0) = m ((c.tc : Thread Cert.GatedDxIdeal.nD Cert.GatedDxIdeal.τ).loc Cert.GatedDxIdeal.main_arg0)
          ∧ r.2.mem ((c.tc : Thread Cert.GatedDxIdeal.nD Cert.GatedDxIdeal.τ).loc Cert.GatedDxIdeal.main_arg1) = m ((c.tc : Thread Cert.GatedDxIdeal.nD Cert.GatedDxIdeal.τ).loc Cert.GatedDxIdeal.main_arg1)
          ∧ r.2.mem ((c.tc : Thread Cert.GatedDxIdeal.nD Cert.GatedDxIdeal.τ).loc Cert.GatedDxIdeal.main_arg2) = m ((c.tc : Thread Cert.GatedDxIdeal.nD Cert.GatedDxIdeal.τ).loc Cert.GatedDxIdeal.main_arg2)
          ∧ r.2.mem ((c.tc : Thread Cert.GatedDxIdeal.nD Cert.GatedDxIdeal.τ).loc Cert.GatedDxIdeal.main_arg3) = m ((c.tc : Thread Cert.GatedDxIdeal.nD Cert.GatedDxIdeal.τ).loc Cert.GatedDxIdeal.main_arg3)
          ∧ r.2.mem ((c.tc : Thread Cert.GatedDxIdeal.nD Cert.GatedDxIdeal.τ).loc Cert.GatedDxIdeal.main_arg4) = m ((c.tc : Thread Cert.GatedDxIdeal.nD Cert.GatedDxIdeal.τ).loc Cert.GatedDxIdeal.main_arg4)
          ∧ r.2.mem ((c.tc : Thread Cert.GatedDxIdeal.nD Cert.GatedDxIdeal.τ).loc Cert.GatedDxIdeal.main_arg5) = m ((c.tc : Thread Cert.GatedDxIdeal.nD Cert.GatedDxIdeal.τ).loc Cert.GatedDxIdeal.main_arg5))
      ∧ θ_run (Cert.GatedDxRefIdeal.defs (F := Ideal)) (onTc (τ := Cert.GatedDxRefIdeal.τ) (Cert.GatedDxRefIdeal.main (F := Ideal))) ⟨m', fun _ => 0, g'⟩ (fun r => ∀ c : Dev Cert.GatedDxRefIdeal.nD,
          r.2.mem ((c.tc : Thread Cert.GatedDxRefIdeal.nD Cert.GatedDxRefIdeal.τ).loc Cert.GatedDxRefIdeal.main_v50) = v0 c
          ∧ r.2.mem ((c.tc : Thread Cert.GatedDxRefIdeal.nD Cert.GatedDxRefIdeal.τ).loc Cert.GatedDxRefIdeal.main_v53) = v1 c
          ∧ r.2.mem ((c.tc : Thread Cert.GatedDxRefIdeal.nD Cert.GatedDxRefIdeal.τ).loc Cert.GatedDxRefIdeal.main_v59) = v2 c
          ∧ r.2.mem ((c.tc : Thread Cert.GatedDxRefIdeal.nD Cert.GatedDxRefIdeal.τ).loc Cert.GatedDxRefIdeal.main_v58) = v3 c
          ∧ r.2.mem ((c.tc : Thread Cert.GatedDxRefIdeal.nD Cert.GatedDxRefIdeal.τ).loc Cert.GatedDxRefIdeal.main_v32) = v4 c
          ∧ r.2.mem ((c.tc : Thread Cert.GatedDxRefIdeal.nD Cert.GatedDxRefIdeal.τ).loc Cert.GatedDxRefIdeal.main_arg0) = m' ((c.tc : Thread Cert.GatedDxRefIdeal.nD Cert.GatedDxRefIdeal.τ).loc Cert.GatedDxRefIdeal.main_arg0)
          ∧ r.2.mem ((c.tc : Thread Cert.GatedDxRefIdeal.nD Cert.GatedDxRefIdeal.τ).loc Cert.GatedDxRefIdeal.main_arg1) = m' ((c.tc : Thread Cert.GatedDxRefIdeal.nD Cert.GatedDxRefIdeal.τ).loc Cert.GatedDxRefIdeal.main_arg1)
          ∧ r.2.mem ((c.tc : Thread Cert.GatedDxRefIdeal.nD Cert.GatedDxRefIdeal.τ).loc Cert.GatedDxRefIdeal.main_arg2) = m' ((c.tc : Thread Cert.GatedDxRefIdeal.nD Cert.GatedDxRefIdeal.τ).loc Cert.GatedDxRefIdeal.main_arg2)
          ∧ r.2.mem ((c.tc : Thread Cert.GatedDxRefIdeal.nD Cert.GatedDxRefIdeal.τ).loc Cert.GatedDxRefIdeal.main_arg3) = m' ((c.tc : Thread Cert.GatedDxRefIdeal.nD Cert.GatedDxRefIdeal.τ).loc Cert.GatedDxRefIdeal.main_arg3)
          ∧ r.2.mem ((c.tc : Thread Cert.GatedDxRefIdeal.nD Cert.GatedDxRefIdeal.τ).loc Cert.GatedDxRefIdeal.main_arg4) = m' ((c.tc : Thread Cert.GatedDxRefIdeal.nD Cert.GatedDxRefIdeal.τ).loc Cert.GatedDxRefIdeal.main_arg4)
          ∧ r.2.mem ((c.tc : Thread Cert.GatedDxRefIdeal.nD Cert.GatedDxRefIdeal.τ).loc Cert.GatedDxRefIdeal.main_arg5) = m' ((c.tc : Thread Cert.GatedDxRefIdeal.nD Cert.GatedDxRefIdeal.τ).loc Cert.GatedDxRefIdeal.main_arg5))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hAttnOutDw : Cert.AttnOutDw.Facts) (hAttnOutDwIdeal : Cert.AttnOutDwIdeal.Facts) (hAttnOutDwRefIdeal : Cert.AttnOutDwRefIdeal.Facts) (hAttnOutDx : Cert.AttnOutDx.Facts) (hAttnOutDxIdeal : Cert.AttnOutDxIdeal.Facts) (hAttnOutDxRefIdeal : Cert.AttnOutDxRefIdeal.Facts) (hInBDx : Cert.InBDx.Facts) (hInBDxIdeal : Cert.InBDxIdeal.Facts) (hInBDxRefIdeal : Cert.InBDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hAttnOut : Cert.AttnOut.Facts) (hAttnOutIdeal : Cert.AttnOutIdeal.Facts) (hAttnOutRefIdeal : Cert.AttnOutRefIdeal.Facts) (hKvqDw : Cert.KvqDw.Facts) (hKvqDwIdeal : Cert.KvqDwIdeal.Facts) (hKvqDwRefIdeal : Cert.KvqDwRefIdeal.Facts) (hQDw : Cert.QDw.Facts) (hQDwIdeal : Cert.QDwIdeal.Facts) (hQDwRefIdeal : Cert.QDwRefIdeal.Facts) (hRopeDw : Cert.RopeDw.Facts) (hRopeDwIdeal : Cert.RopeDwIdeal.Facts) (hRopeDwRefIdeal : Cert.RopeDwRefIdeal.Facts) (hKvDw : Cert.KvDw.Facts) (hKvDwIdeal : Cert.KvDwIdeal.Facts) (hKvDwRefIdeal : Cert.KvDwRefIdeal.Facts) (hDtDw : Cert.DtDw.Facts) (hDtDwIdeal : Cert.DtDwIdeal.Facts) (hDtDwRefIdeal : Cert.DtDwRefIdeal.Facts) (hQDx : Cert.QDx.Facts) (hQDxIdeal : Cert.QDxIdeal.Facts) (hQDxRefIdeal : Cert.QDxRefIdeal.Facts) (hKDx : Cert.KDx.Facts) (hKDxIdeal : Cert.KDxIdeal.Facts) (hKDxRefIdeal : Cert.KDxRefIdeal.Facts) (hRopeDx : Cert.RopeDx.Facts) (hRopeDxIdeal : Cert.RopeDxIdeal.Facts) (hRopeDxRefIdeal : Cert.RopeDxRefIdeal.Facts) (hVDx : Cert.VDx.Facts) (hVDxIdeal : Cert.VDxIdeal.Facts) (hVDxRefIdeal : Cert.VDxRefIdeal.Facts) (hKvqDx : Cert.KvqDx.Facts) (hKvqDxIdeal : Cert.KvqDxIdeal.Facts) (hKvqDxRefIdeal : Cert.KvqDxRefIdeal.Facts) (hDtDx : Cert.DtDx.Facts) (hDtDxIdeal : Cert.DtDxIdeal.Facts) (hDtDxRefIdeal : Cert.DtDxRefIdeal.Facts) (hKvq : Cert.Kvq.Facts) (hKvqIdeal : Cert.KvqIdeal.Facts) (hKvqRefIdeal : Cert.KvqRefIdeal.Facts) (hRope : Cert.Rope.Facts) (hRopeIdeal : Cert.RopeIdeal.Facts) (hRopeRefIdeal : Cert.RopeRefIdeal.Facts) (hDt : Cert.Dt.Facts) (hDtIdeal : Cert.DtIdeal.Facts) (hDtRefIdeal : Cert.DtRefIdeal.Facts) (hQ : Cert.Q.Facts) (hQIdeal : Cert.QIdeal.Facts) (hQRefIdeal : Cert.QRefIdeal.Facts) (hKv : Cert.Kv.Facts) (hKvIdeal : Cert.KvIdeal.Facts) (hKvRefIdeal : Cert.KvRefIdeal.Facts) (hTurn : Cert.Turn.Facts) (hTurnIdeal : Cert.TurnIdeal.Facts) (hTurnRefIdeal : Cert.TurnRefIdeal.Facts) (hTurnDx : Cert.TurnDx.Facts) (hTurnDxIdeal : Cert.TurnDxIdeal.Facts) (hTurnDxRefIdeal : Cert.TurnDxRefIdeal.Facts) (hKeyTurn : Cert.KeyTurn.Facts) (hKeyTurnIdeal : Cert.KeyTurnIdeal.Facts) (hKeyTurnRefIdeal : Cert.KeyTurnRefIdeal.Facts) (hKeyTurnDx : Cert.KeyTurnDx.Facts) (hKeyTurnDxIdeal : Cert.KeyTurnDxIdeal.Facts) (hKeyTurnDxRefIdeal : Cert.KeyTurnDxRefIdeal.Facts) (hQNormDx : Cert.QNormDx.Facts) (hQNormDxIdeal : Cert.QNormDxIdeal.Facts) (hQNormDxRefIdeal : Cert.QNormDxRefIdeal.Facts) (hKvNormDx : Cert.KvNormDx.Facts) (hKvNormDxIdeal : Cert.KvNormDxIdeal.Facts) (hKvNormDxRefIdeal : Cert.KvNormDxRefIdeal.Facts) (hQNorm : Cert.QNorm.Facts) (hQNormIdeal : Cert.QNormIdeal.Facts) (hQNormRefIdeal : Cert.QNormRefIdeal.Facts) (hKvNorm : Cert.KvNorm.Facts) (hKvNormIdeal : Cert.KvNormIdeal.Facts) (hKvNormRefIdeal : Cert.KvNormRefIdeal.Facts) (hLnY : Cert.LnY.Facts) (hLnYIdeal : Cert.LnYIdeal.Facts) (hLnYRefIdeal : Cert.LnYRefIdeal.Facts) (hLnLast : Cert.LnLast.Facts) (hLnLastIdeal : Cert.LnLastIdeal.Facts) (hLnLastRefIdeal : Cert.LnLastRefIdeal.Facts) (hGated : Cert.Gated.Facts) (hGatedIdeal : Cert.GatedIdeal.Facts) (hGatedRefIdeal : Cert.GatedRefIdeal.Facts) (hGatedDx : Cert.GatedDx.Facts) (hGatedDxIdeal : Cert.GatedDxIdeal.Facts) (hGatedDxRefIdeal : Cert.GatedDxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_InBDx (hInBDx := hInBDx)
    ∧ quiescent_InBDxIdeal (hInBDxIdeal := hInBDxIdeal)
    ∧ quiescent_InBDxRefIdeal (hInBDxRefIdeal := hInBDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_KvqDw (hKvqDw := hKvqDw)
    ∧ quiescent_KvqDwIdeal (hKvqDwIdeal := hKvqDwIdeal)
    ∧ quiescent_KvqDwRefIdeal (hKvqDwRefIdeal := hKvqDwRefIdeal)
    ∧ quiescent_QDw (hQDw := hQDw)
    ∧ quiescent_QDwIdeal (hQDwIdeal := hQDwIdeal)
    ∧ quiescent_QDwRefIdeal (hQDwRefIdeal := hQDwRefIdeal)
    ∧ quiescent_RopeDw (hRopeDw := hRopeDw)
    ∧ quiescent_RopeDwIdeal (hRopeDwIdeal := hRopeDwIdeal)
    ∧ quiescent_RopeDwRefIdeal (hRopeDwRefIdeal := hRopeDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_DtDw (hDtDw := hDtDw)
    ∧ quiescent_DtDwIdeal (hDtDwIdeal := hDtDwIdeal)
    ∧ quiescent_DtDwRefIdeal (hDtDwRefIdeal := hDtDwRefIdeal)
    ∧ quiescent_QDx (hQDx := hQDx)
    ∧ quiescent_QDxIdeal (hQDxIdeal := hQDxIdeal)
    ∧ quiescent_QDxRefIdeal (hQDxRefIdeal := hQDxRefIdeal)
    ∧ quiescent_KDx (hKDx := hKDx)
    ∧ quiescent_KDxIdeal (hKDxIdeal := hKDxIdeal)
    ∧ quiescent_KDxRefIdeal (hKDxRefIdeal := hKDxRefIdeal)
    ∧ quiescent_RopeDx (hRopeDx := hRopeDx)
    ∧ quiescent_RopeDxIdeal (hRopeDxIdeal := hRopeDxIdeal)
    ∧ quiescent_RopeDxRefIdeal (hRopeDxRefIdeal := hRopeDxRefIdeal)
    ∧ quiescent_VDx (hVDx := hVDx)
    ∧ quiescent_VDxIdeal (hVDxIdeal := hVDxIdeal)
    ∧ quiescent_VDxRefIdeal (hVDxRefIdeal := hVDxRefIdeal)
    ∧ quiescent_KvqDx (hKvqDx := hKvqDx)
    ∧ quiescent_KvqDxIdeal (hKvqDxIdeal := hKvqDxIdeal)
    ∧ quiescent_KvqDxRefIdeal (hKvqDxRefIdeal := hKvqDxRefIdeal)
    ∧ quiescent_DtDx (hDtDx := hDtDx)
    ∧ quiescent_DtDxIdeal (hDtDxIdeal := hDtDxIdeal)
    ∧ quiescent_DtDxRefIdeal (hDtDxRefIdeal := hDtDxRefIdeal)
    ∧ quiescent_Kvq (hKvq := hKvq)
    ∧ quiescent_KvqIdeal (hKvqIdeal := hKvqIdeal)
    ∧ quiescent_KvqRefIdeal (hKvqRefIdeal := hKvqRefIdeal)
    ∧ quiescent_Rope (hRope := hRope)
    ∧ quiescent_RopeIdeal (hRopeIdeal := hRopeIdeal)
    ∧ quiescent_RopeRefIdeal (hRopeRefIdeal := hRopeRefIdeal)
    ∧ quiescent_Dt (hDt := hDt)
    ∧ quiescent_DtIdeal (hDtIdeal := hDtIdeal)
    ∧ quiescent_DtRefIdeal (hDtRefIdeal := hDtRefIdeal)
    ∧ quiescent_Q (hQ := hQ)
    ∧ quiescent_QIdeal (hQIdeal := hQIdeal)
    ∧ quiescent_QRefIdeal (hQRefIdeal := hQRefIdeal)
    ∧ quiescent_Kv (hKv := hKv)
    ∧ quiescent_KvIdeal (hKvIdeal := hKvIdeal)
    ∧ quiescent_KvRefIdeal (hKvRefIdeal := hKvRefIdeal)
    ∧ quiescent_Turn (hTurn := hTurn)
    ∧ quiescent_TurnIdeal (hTurnIdeal := hTurnIdeal)
    ∧ quiescent_TurnRefIdeal (hTurnRefIdeal := hTurnRefIdeal)
    ∧ quiescent_TurnDx (hTurnDx := hTurnDx)
    ∧ quiescent_TurnDxIdeal (hTurnDxIdeal := hTurnDxIdeal)
    ∧ quiescent_TurnDxRefIdeal (hTurnDxRefIdeal := hTurnDxRefIdeal)
    ∧ quiescent_KeyTurn (hKeyTurn := hKeyTurn)
    ∧ quiescent_KeyTurnIdeal (hKeyTurnIdeal := hKeyTurnIdeal)
    ∧ quiescent_KeyTurnRefIdeal (hKeyTurnRefIdeal := hKeyTurnRefIdeal)
    ∧ quiescent_KeyTurnDx (hKeyTurnDx := hKeyTurnDx)
    ∧ quiescent_KeyTurnDxIdeal (hKeyTurnDxIdeal := hKeyTurnDxIdeal)
    ∧ quiescent_KeyTurnDxRefIdeal (hKeyTurnDxRefIdeal := hKeyTurnDxRefIdeal)
    ∧ quiescent_QNormDx (hQNormDx := hQNormDx)
    ∧ quiescent_QNormDxIdeal (hQNormDxIdeal := hQNormDxIdeal)
    ∧ quiescent_QNormDxRefIdeal (hQNormDxRefIdeal := hQNormDxRefIdeal)
    ∧ quiescent_KvNormDx (hKvNormDx := hKvNormDx)
    ∧ quiescent_KvNormDxIdeal (hKvNormDxIdeal := hKvNormDxIdeal)
    ∧ quiescent_KvNormDxRefIdeal (hKvNormDxRefIdeal := hKvNormDxRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_LnY (hLnY := hLnY)
    ∧ quiescent_LnYIdeal (hLnYIdeal := hLnYIdeal)
    ∧ quiescent_LnYRefIdeal (hLnYRefIdeal := hLnYRefIdeal)
    ∧ quiescent_LnLast (hLnLast := hLnLast)
    ∧ quiescent_LnLastIdeal (hLnLastIdeal := hLnLastIdeal)
    ∧ quiescent_LnLastRefIdeal (hLnLastRefIdeal := hLnLastRefIdeal)
    ∧ quiescent_Gated (hGated := hGated)
    ∧ quiescent_GatedIdeal (hGatedIdeal := hGatedIdeal)
    ∧ quiescent_GatedRefIdeal (hGatedRefIdeal := hGatedRefIdeal)
    ∧ quiescent_GatedDx (hGatedDx := hGatedDx)
    ∧ quiescent_GatedDxIdeal (hGatedDxIdeal := hGatedDxIdeal)
    ∧ quiescent_GatedDxRefIdeal (hGatedDxRefIdeal := hGatedDxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_InBDx_InBDxIdeal
    ∧ algebraic_InBDxIdeal_InBDxRefIdeal (hInBDxIdeal := hInBDxIdeal) (hInBDxRefIdeal := hInBDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_KvqDw_KvqDwIdeal
    ∧ algebraic_KvqDwIdeal_KvqDwRefIdeal (hKvqDwIdeal := hKvqDwIdeal) (hKvqDwRefIdeal := hKvqDwRefIdeal)
    ∧ preserves_QDw_QDwIdeal
    ∧ algebraic_QDwIdeal_QDwRefIdeal (hQDwIdeal := hQDwIdeal) (hQDwRefIdeal := hQDwRefIdeal)
    ∧ preserves_RopeDw_RopeDwIdeal
    ∧ algebraic_RopeDwIdeal_RopeDwRefIdeal (hRopeDwIdeal := hRopeDwIdeal) (hRopeDwRefIdeal := hRopeDwRefIdeal)
    ∧ preserves_KvDw_KvDwIdeal
    ∧ algebraic_KvDwIdeal_KvDwRefIdeal (hKvDwIdeal := hKvDwIdeal) (hKvDwRefIdeal := hKvDwRefIdeal)
    ∧ preserves_DtDw_DtDwIdeal
    ∧ algebraic_DtDwIdeal_DtDwRefIdeal (hDtDwIdeal := hDtDwIdeal) (hDtDwRefIdeal := hDtDwRefIdeal)
    ∧ preserves_QDx_QDxIdeal
    ∧ algebraic_QDxIdeal_QDxRefIdeal (hQDxIdeal := hQDxIdeal) (hQDxRefIdeal := hQDxRefIdeal)
    ∧ preserves_KDx_KDxIdeal
    ∧ algebraic_KDxIdeal_KDxRefIdeal (hKDxIdeal := hKDxIdeal) (hKDxRefIdeal := hKDxRefIdeal)
    ∧ preserves_RopeDx_RopeDxIdeal
    ∧ algebraic_RopeDxIdeal_RopeDxRefIdeal (hRopeDxIdeal := hRopeDxIdeal) (hRopeDxRefIdeal := hRopeDxRefIdeal)
    ∧ preserves_VDx_VDxIdeal
    ∧ algebraic_VDxIdeal_VDxRefIdeal (hVDxIdeal := hVDxIdeal) (hVDxRefIdeal := hVDxRefIdeal)
    ∧ preserves_KvqDx_KvqDxIdeal
    ∧ algebraic_KvqDxIdeal_KvqDxRefIdeal (hKvqDxIdeal := hKvqDxIdeal) (hKvqDxRefIdeal := hKvqDxRefIdeal)
    ∧ preserves_DtDx_DtDxIdeal
    ∧ algebraic_DtDxIdeal_DtDxRefIdeal (hDtDxIdeal := hDtDxIdeal) (hDtDxRefIdeal := hDtDxRefIdeal)
    ∧ preserves_Kvq_KvqIdeal
    ∧ algebraic_KvqIdeal_KvqRefIdeal (hKvqIdeal := hKvqIdeal) (hKvqRefIdeal := hKvqRefIdeal)
    ∧ preserves_Rope_RopeIdeal
    ∧ algebraic_RopeIdeal_RopeRefIdeal (hRopeIdeal := hRopeIdeal) (hRopeRefIdeal := hRopeRefIdeal)
    ∧ preserves_Dt_DtIdeal
    ∧ algebraic_DtIdeal_DtRefIdeal (hDtIdeal := hDtIdeal) (hDtRefIdeal := hDtRefIdeal)
    ∧ preserves_Q_QIdeal
    ∧ algebraic_QIdeal_QRefIdeal (hQIdeal := hQIdeal) (hQRefIdeal := hQRefIdeal)
    ∧ preserves_Kv_KvIdeal
    ∧ algebraic_KvIdeal_KvRefIdeal (hKvIdeal := hKvIdeal) (hKvRefIdeal := hKvRefIdeal)
    ∧ preserves_Turn_TurnIdeal
    ∧ algebraic_TurnIdeal_TurnRefIdeal (hTurnIdeal := hTurnIdeal) (hTurnRefIdeal := hTurnRefIdeal)
    ∧ preserves_TurnDx_TurnDxIdeal
    ∧ algebraic_TurnDxIdeal_TurnDxRefIdeal (hTurnDxIdeal := hTurnDxIdeal) (hTurnDxRefIdeal := hTurnDxRefIdeal)
    ∧ preserves_KeyTurn_KeyTurnIdeal
    ∧ algebraic_KeyTurnIdeal_KeyTurnRefIdeal (hKeyTurnIdeal := hKeyTurnIdeal) (hKeyTurnRefIdeal := hKeyTurnRefIdeal)
    ∧ preserves_KeyTurnDx_KeyTurnDxIdeal
    ∧ algebraic_KeyTurnDxIdeal_KeyTurnDxRefIdeal (hKeyTurnDxIdeal := hKeyTurnDxIdeal) (hKeyTurnDxRefIdeal := hKeyTurnDxRefIdeal)
    ∧ preserves_QNormDx_QNormDxIdeal
    ∧ algebraic_QNormDxIdeal_QNormDxRefIdeal (hQNormDxIdeal := hQNormDxIdeal) (hQNormDxRefIdeal := hQNormDxRefIdeal)
    ∧ preserves_KvNormDx_KvNormDxIdeal
    ∧ algebraic_KvNormDxIdeal_KvNormDxRefIdeal (hKvNormDxIdeal := hKvNormDxIdeal) (hKvNormDxRefIdeal := hKvNormDxRefIdeal)
    ∧ preserves_QNorm_QNormIdeal
    ∧ algebraic_QNormIdeal_QNormRefIdeal (hQNormIdeal := hQNormIdeal) (hQNormRefIdeal := hQNormRefIdeal)
    ∧ preserves_KvNorm_KvNormIdeal
    ∧ algebraic_KvNormIdeal_KvNormRefIdeal (hKvNormIdeal := hKvNormIdeal) (hKvNormRefIdeal := hKvNormRefIdeal)
    ∧ preserves_LnY_LnYIdeal
    ∧ algebraic_LnYIdeal_LnYRefIdeal (hLnYIdeal := hLnYIdeal) (hLnYRefIdeal := hLnYRefIdeal)
    ∧ preserves_LnLast_LnLastIdeal
    ∧ algebraic_LnLastIdeal_LnLastRefIdeal (hLnLastIdeal := hLnLastIdeal) (hLnLastRefIdeal := hLnLastRefIdeal)
    ∧ preserves_Gated_GatedIdeal
    ∧ algebraic_GatedIdeal_GatedRefIdeal (hGatedIdeal := hGatedIdeal) (hGatedRefIdeal := hGatedRefIdeal)
    ∧ preserves_GatedDx_GatedDxIdeal
    ∧ algebraic_GatedDxIdeal_GatedDxRefIdeal (hGatedDxIdeal := hGatedDxIdeal) (hGatedDxRefIdeal := hGatedDxRefIdeal)
-- ==== Pre_finite.lean ====
abbrev S8192x1024 : Shape := ⟨2, ![8192, 1024]⟩
abbrev S8192x512 : Shape := ⟨2, ![8192, 512]⟩
abbrev S8192x64 : Shape := ⟨2, ![8192, 64]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x64 : S_.BroadcastsInDim S8192x64 (![] : Fin 0 → Fin S8192x64.rank)

variable [Facts]

def fn_part1 {F : FTy → Type} [FloatOps F] (main_arg5 : FVec F S8192x1024 .f32) (main_v3 : IVec S8192x1024 1) (main_v7 : IVec S8192x512 1) (main_v11 : IVec S8192x1024 1) (main_v15 : IVec S8192x64 1) (main_v17 : FVec F S8192x1024 .f32) (main_v18 : FVec F S8192x1024 .f32) : IVec S8192x1024 1 × IVec S8192x512 1 × IVec S8192x1024 1 × IVec S8192x64 1 × IVec S8192x1024 1 × IVec S8192x1024 1 :=
  let main_v19 : IVec S8192x1024 1 := cmpf .olt main_v17 main_v18
  let main_v20 : FVec F S8192x1024 .f32 := Host.absf main_arg5
  let main_cst_4 : FVec F S_ .f32 := constant S_ .f32 0x7F800000#32
  let main_v21 : FVec F S8192x1024 .f32 := broadcastInDim S8192x1024 ![] bcast_S_S8192x1024 main_cst_4
  let main_v22 : IVec S8192x1024 1 := cmpf .olt main_v20 main_v21
  (main_v3, main_v7, main_v11, main_v15, main_v19, main_v22)

def fn {F : FTy → Type} [FloatOps F] (main_arg0 : FVec F S8192x1024 .bf16) (main_arg1 : FVec F S8192x512 .bf16) (main_arg2 : FVec F S8192x1024 .bf16) (main_arg3 : FVec F S8192x64 .bf16) (main_arg4 : FVec F S8192x1024 .bf16) (main_arg5 : FVec F S8192x1024 .f32) : IVec S8192x1024 1 × IVec S8192x512 1 × IVec S8192x1024 1 × IVec S8192x64 1 × IVec S8192x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x64 .f32 := (extf .f32 · bitsLt_bf16_f32) main_arg3
  let main_v13 : FVec F S8192x64 .f32 := Host.absf main_v12
  let main_cst_2 : FVec F S_ .f32 := constant S_ .f32 0x7F800000#32
  let main_v14 : FVec F S8192x64 .f32 := broadcastInDim S8192x64 ![] bcast_S_S8192x64 main_cst_2
  let main_v15 : IVec S8192x64 1 := cmpf .olt main_v13 main_v14
  let main_v16 : FVec F S8192x1024 .f32 := (extf .f32 · bitsLt_bf16_f32) main_arg4
  let main_v17 : FVec F S8192x1024 .f32 := Host.absf main_v16
  let main_cst_3 : FVec F S_ .f32 := constant S_ .f32 0x7F800000#32
  let main_v18 : FVec F S8192x1024 .f32 := broadcastInDim S8192x1024 ![] bcast_S_S8192x1024 main_cst_3
  fn_part1 (F := F) main_arg5 main_v3 main_v7 main_v11 main_v15 main_v17 main_v18
-- ==== Kernel.lean ====
abbrev S8192x1024 : Shape := ⟨2, ![8192, 1024]⟩
abbrev S8192x512 : Shape := ⟨2, ![8192, 512]⟩
abbrev S8192x64 : Shape := ⟨2, ![8192, 64]⟩
abbrev S4x2048x8x128 : Shape := ⟨4, ![4, 2048, 8, 128]⟩
abbrev S4x2048x8x64 : Shape := ⟨4, ![4, 2048, 8, 64]⟩
abbrev S4x8x2048x2048 : Shape := ⟨4, ![4, 8, 2048, 2048]⟩
abbrev S4x2048x64 : Shape := ⟨3, ![4, 2048, 64]⟩
abbrev S4x2048x2048x8 : Shape := ⟨4, ![4, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8 : Shape := ⟨3, ![4, 2048, 8]⟩
abbrev S8192x8x1 : Shape := ⟨3, ![8192, 8, 1]⟩
abbrev S8192x8x64 : Shape := ⟨3, ![8192, 8, 64]⟩
abbrev S8192x128 : Shape := ⟨2, ![8192, 128]⟩
abbrev S256x256 : Shape := ⟨2, ![256, 256]⟩
abbrev S256x128 : Shape := ⟨2, ![256, 128]⟩
abbrev S2048x256 : Shape := ⟨2, ![2048, 256]⟩
abbrev S2048x128 : Shape := ⟨2, ![2048, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 65
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S8192x64, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S4x2048x8x128, .f32⟩
  | .hbm, ⟨8, _⟩ => ⟨S8192x512, .f32⟩
  | .hbm, ⟨9, _⟩ => ⟨S4x2048x8x64, .f32⟩
  | .hbm, ⟨10, _⟩ => ⟨S8192x1024, .f32⟩
  | .hbm, ⟨11, _⟩ => ⟨S4x2048x8x128, .f32⟩
  | .hbm, ⟨12, _⟩ => ⟨S8192x1024, .f32⟩
  | .hbm, ⟨13, _⟩ => ⟨S4x2048x8x128, .f32⟩
  | .hbm, ⟨14, _⟩ => ⟨S4x8x2048x2048, .f32⟩
  | .hbm, ⟨15, _⟩ => ⟨S8192x64, .f32⟩
  | .hbm, ⟨16, _⟩ => ⟨S4x2048x64, .f32⟩
  | .hbm, ⟨17, _⟩ => ⟨S4x2048x2048x8, .f32⟩
  | .hbm, ⟨18, _⟩ => ⟨S4x8x2048x2048, .f32⟩
  | .hbm, ⟨19, _⟩ => ⟨S4x8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S4x8x2048x2048, .f32⟩
  | .hbm, ⟨28, _⟩ => ⟨S4x8x2048x2048, .f32⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x128x2048, .f32⟩
  | .hbm, ⟨46, _⟩ => ⟨S4x2048x8x128, .f32⟩
  | .hbm, ⟨47, _⟩ => ⟨S8192x1024, .f32⟩
  | .hbm, ⟨48, _⟩ => ⟨S8192x1024, .bf16⟩
  | .hbm, ⟨49, _⟩ => ⟨S4x8x2048x1, .f32⟩
  | .hbm, ⟨50, _⟩ => ⟨S4x8x2048x1, .f32⟩
  | .hbm, ⟨51, _⟩ => ⟨S4x8x2048, .f32⟩
  | .hbm, ⟨52, _⟩ => ⟨S4x2048x8, .f32⟩
  | .hbm, ⟨53, _⟩ => ⟨S8192x8x1, .f32⟩
  | .hbm, ⟨54, _⟩ => ⟨S8192x8x64, .f32⟩
  | .hbm, ⟨55, _⟩ => ⟨S8192x512, .f32⟩
  | .hbm, ⟨56, _⟩ => ⟨S8192x128, .bf16⟩
  | .hbm, ⟨57, _⟩ => ⟨S8192x1024, .bf16⟩
  | .hbm, ⟨58, _⟩ => ⟨S8192x512, .f32⟩
  | .hbm, ⟨59, _⟩ => ⟨S8192x1024, .f32⟩
  | .hbm, ⟨60, _⟩ => ⟨S8192x128, .f32⟩
  | .hbm, ⟨61, _⟩ => ⟨S8192x1024, .f32⟩
  | .hbm, ⟨62, _⟩ => ⟨S8192x64, .f32⟩
  | .hbm, ⟨63, _⟩ => ⟨S8192x64, .f32⟩
  | .hbm, ⟨64, _⟩ => ⟨S8192x64, .f32⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x128, .f32⟩
  | .local _ .vmem, ⟨19, _⟩ => ⟨S256x128, .f32⟩
  | .local _ .vmem, ⟨20, _⟩ => ⟨S2048x256, .f32⟩
  | .local _ .vmem, ⟨21, _⟩ => ⟨S2048x256, .f32⟩
  | .local _ .vmem, ⟨22, _⟩ => ⟨S2048x128, .f32⟩
  | .local _ .vmem, ⟨23, _⟩ => ⟨S2048x128, .f32⟩
  | .local _ .vmem, ⟨24, _⟩ => ⟨S2048x256, .f32⟩
  | .local _ .vmem, ⟨25, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev main_v44_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c0_i32_4 : BitVec 32 := 0#32
  let v8 : BitVec 1 := Scalar.cmpi .sge arg2 c0_i32_4
  let c1_i32 : BitVec 32 := 1#32
  let v9 : BitVec 1 := Scalar.cmpi .slt arg2 c1_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond4 (i : grid0.Coords) : BitVec 1 :=
  let arg2 : BitVec 32 := BitVec.ofNat 32 (i 2).val
  let c1_i32_6 : BitVec 32 := 1#32
  let v13 : BitVec 1 := Scalar.cmpi .sge arg2 c1_i32_6
  let c2_i32 : BitVec 32 := 2#32
  let v14 : BitVec 1 := Scalar.cmpi .slt arg2 c2_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond5 (i : grid0.Coords) : BitVec 1 :=
  let arg2 : BitVec 32 := BitVec.ofNat 32 (i 2).val
  let c2_i32_8 : BitVec 32 := 2#32
  let v18 : BitVec 1 := Scalar.cmpi .sge arg2 c2_i32_8
  let c3_i32 : BitVec 32 := 3#32
  let v19 : BitVec 1 := Scalar.cmpi .slt arg2 c3_i32
  let v20 : BitVec 1 := Scalar.andi v18 v19
  let v21 : BitVec 32 := Scalar.extui v20
  let c0_i32_9 : BitVec 32 := 0#32
  let v22 : BitVec 1 := Scalar.cmpi .ne v21 c0_i32_9
  v22

def k0_cond6 (i : grid0.Coords) : BitVec 1 :=
  let arg2 : BitVec 32 := BitVec.ofNat 32 (i 2).val
  let c3_i32_10 : BitVec 32 := 3#32
  let v23 : BitVec 1 := Scalar.cmpi .sge arg2 c3_i32_10
  let c4_i32 : BitVec 32 := 4#32
  let v24 : BitVec 1 := Scalar.cmpi .slt arg2 c4_i32
  let v25 : BitVec 1 := Scalar.andi v23 v24
  let v26 : BitVec 32 := Scalar.extui v25
  let c0_i32_11 : BitVec 32 := 0#32
  let v27 : BitVec 1 := Scalar.cmpi .ne v26 c0_i32_11
  v27

def k0_cond7 (i : grid0.Coords) : BitVec 1 :=
  let arg2 : BitVec 32 := BitVec.ofNat 32 (i 2).val
  let c4_i32_12 : BitVec 32 := 4#32
  let v28 : BitVec 1 := Scalar.cmpi .sge arg2 c4_i32_12
  let c5_i32 : BitVec 32 := 5#32
  let v29 : BitVec 1 := Scalar.cmpi .slt arg2 c5_i32
  let v30 : BitVec 1 := Scalar.andi v28 v29
  let v31 : BitVec 32 := Scalar.extui v30
  let c0_i32_13 : BitVec 32 := 0#32
  let v32 : BitVec 1 := Scalar.cmpi .ne v31 c0_i32_13
  v32

def k0_cond8 (i : grid0.Coords) : BitVec 1 :=
  let arg2 : BitVec 32 := BitVec.ofNat 32 (i 2).val
  let c5_i32_14 : BitVec 32 := 5#32
  let v33 : BitVec 1 := Scalar.cmpi .sge arg2 c5_i32_14
  let c6_i32 : BitVec 32 := 6#32
  let v34 : BitVec 1 := Scalar.cmpi .slt arg2 c6_i32
  let v35 : BitVec 1 := Scalar.andi v33 v34
  let v36 : BitVec 32 := Scalar.extui v35
  let c0_i32_15 : BitVec 32 := 0#32
  let v37 : BitVec 1 := Scalar.cmpi .ne v36 c0_i32_15
  v37

def k0_cond9 (i : grid0.Coords) : BitVec 1 :=
  let arg2 : BitVec 32 := BitVec.ofNat 32 (i 2).val
  let c6_i32_16 : BitVec 32 := 6#32
  let v38 : BitVec 1 := Scalar.cmpi .sge arg2 c6_i32_16
  let c7_i32 : BitVec 32 := 7#32
  let v39 : BitVec 1 := Scalar.cmpi .slt arg2 c7_i32
  let v40 : BitVec 1 := Scalar.andi v38 v39
  let v41 : BitVec 32 := Scalar.extui v40
  let c0_i32_17 : BitVec 32 := 0#32
  let v42 : BitVec 1 := Scalar.cmpi .ne v41 c0_i32_17
  v42

def k0_cond10 (i : grid0.Coords) : BitVec 1 :=
  let arg2 : BitVec 32 := BitVec.ofNat 32 (i 2).val
  let c7_i32_18 : BitVec 32 := 7#32
  let v43 : BitVec 1 := Scalar.cmpi .sge arg2 c7_i32_18
  let c8_i32 : BitVec 32 := 8#32
  let v44 : BitVec 1 := Scalar.cmpi .slt arg2 c8_i32
  let v45 : BitVec 1 := Scalar.andi v43 v44
  let v46 : BitVec 32 := Scalar.extui v45
  let c0_i32_19 : BitVec 32 := 0#32
  let v47 : BitVec 1 := Scalar.cmpi .ne v46 c0_i32_19
  v47

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S8192x1024 : Shape := ⟨2, ![8192, 1024]⟩
abbrev S8192x512 : Shape := ⟨2, ![8192, 512]⟩
abbrev S8192x64 : Shape := ⟨2, ![8192, 64]⟩
abbrev S4x2048x8x128 : Shape := ⟨4, ![4, 2048, 8, 128]⟩
abbrev S4x2048x8x64 : Shape := ⟨4, ![4, 2048, 8, 64]⟩
abbrev S4x8x2048x2048 : Shape := ⟨4, ![4, 8, 2048, 2048]⟩
abbrev S4x2048x64 : Shape := ⟨3, ![4, 2048, 64]⟩
abbrev S4x2048x2048x8 : Shape := ⟨4, ![4, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x8x2048x128 : Shape := ⟨4, ![4, 8, 2048, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S8192x64, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x64, .f32⟩
  | .hbm, ⟨10, _⟩ => ⟨S8192x1024, .f32⟩
  | .hbm, ⟨11, _⟩ => ⟨S4x2048x8x128, .f32⟩
  | .hbm, ⟨12, _⟩ => ⟨S4x2048x8x64, .f32⟩
  | .hbm, ⟨13, _⟩ => ⟨S4x2048x8x128, .f32⟩
  | .hbm, ⟨14, _⟩ => ⟨S4x2048x8x128, .f32⟩
  | .hbm, ⟨15, _⟩ => ⟨S4x8x2048x2048, .f32⟩
  | .hbm, ⟨16, _⟩ => ⟨S4x2048x64, .f32⟩
  | .hbm, ⟨17, _⟩ => ⟨S4x2048x2048x8, .f32⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S4x8x2048x2048, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .i1⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S_, .f32⟩
  | .hbm, ⟨45, _⟩ => ⟨S4x8x2048, .f32⟩
  | .hbm, ⟨46, _⟩ => ⟨S4x8x2048, .f32⟩
  | .hbm, ⟨47, _⟩ => ⟨S_, .f32⟩
  | .hbm, ⟨48, _⟩ => ⟨S4x8x2048, .f32⟩
  | .hbm, ⟨49, _⟩ => ⟨S4x8x2048, .i1⟩
  | .hbm, ⟨50, _⟩ => ⟨S_, .f32⟩
  | .hbm, ⟨51, _⟩ => ⟨S4x8x2048, .f32⟩
  | .hbm, ⟨52, _⟩ => ⟨S4x8x2048, .i1⟩
  | .hbm, ⟨53, _⟩ => ⟨S_, .f32⟩
  | .hbm, ⟨54, _⟩ => ⟨S4x8x2048, .f32⟩
  | .hbm, ⟨55, _⟩ => ⟨S_, .f32⟩
  | .hbm, ⟨56, _⟩ => ⟨S4x8x2048, .f32⟩
  | .hbm, ⟨57, _⟩ => ⟨S_, .f32⟩
  | .hbm, ⟨58, _⟩ => ⟨S4x8x2048, .f32⟩
  | .hbm, ⟨59, _⟩ => ⟨S4x8x2048, .f32⟩
  | .hbm, ⟨60, _⟩ => ⟨S4x8x2048, .f32⟩
  | .hbm, ⟨61, _⟩ => ⟨S4x8x2048x1, .f32⟩
  | .hbm, ⟨62, _⟩ => ⟨S4x8x2048x2048, .f32⟩
  | .hbm, ⟨63, _⟩ => ⟨S4x8x2048x2048, .f32⟩
  | .hbm, ⟨64, _⟩ => ⟨S4x8x2048x2048, .f32⟩
  | .hbm, ⟨65, _⟩ => ⟨S_, .f32⟩
  | .hbm, ⟨66, _⟩ => ⟨S4x8x2048, .f32⟩
  | .hbm, ⟨67, _⟩ => ⟨S4x8x2048x1, .f32⟩
  | .hbm, ⟨68, _⟩ => ⟨S4x8x2048x2048, .f32⟩
  | .hbm, ⟨69, _⟩ => ⟨S4x8x2048x2048, .f32⟩
  | .hbm, ⟨70, _⟩ => ⟨S4x8x2048x1, .f32⟩
  | .hbm, ⟨71, _⟩ => ⟨S_, .f32⟩
  | .hbm, ⟨72, _⟩ => ⟨S4x8x2048x1, .f32⟩
  | .hbm, ⟨73, _⟩ => ⟨S4x8x2048x1, .f32⟩
  | .hbm, ⟨74, _⟩ => ⟨S4x8x128x2048, .f32⟩
  | .hbm, ⟨75, _⟩ => ⟨S4x2048x8x128, .f32⟩
  | .hbm, ⟨76, _⟩ => ⟨S8192x1024, .f32⟩
  | .hbm, ⟨77, _⟩ => ⟨S4x2048x8x128, .f32⟩
  | .hbm, ⟨78, _⟩ => ⟨S4x8x128x2048, .f32⟩
  | .hbm, ⟨79, _⟩ => ⟨S4x8x2048x2048, .f32⟩
  | .hbm, ⟨80, _⟩ => ⟨S4x8x128x2048, .f32⟩
  | .hbm, ⟨81, _⟩ => ⟨S4x2048x8x128, .f32⟩
  | .hbm, ⟨82, _⟩ => ⟨S4x8x2048x2048, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048, .f32⟩
  | .hbm, ⟨87, _⟩ => ⟨S4x8x2048x1, .f32⟩
  | .hbm, ⟨88, _⟩ => ⟨S4x8x2048x1, .f32⟩
  | .hbm, ⟨89, _⟩ => ⟨S4x8x2048x2048, .f32⟩
  | .hbm, ⟨90, _⟩ => ⟨S4x8x2048x2048, .f32⟩
  | .hbm, ⟨91, _⟩ => ⟨S_, .f32⟩
  | .hbm, ⟨92, _⟩ => ⟨S4x8x2048, .f32⟩
  | .hbm, ⟨93, _⟩ => ⟨S4x8x2048x2048, .f32⟩
  | .hbm, ⟨94, _⟩ => ⟨S4x8x2048x2048, .f32⟩
  | .hbm, ⟨95, _⟩ => ⟨S4x8x2048x2048, .f32⟩
  | .hbm, ⟨96, _⟩ => ⟨S_, .f32⟩
  | .hbm, ⟨97, _⟩ => ⟨S4x8x2048x2048, .f32⟩
  | .hbm, ⟨98, _⟩ => ⟨S4x8x2048x2048, .f32⟩
  | .hbm, ⟨99, _⟩ => ⟨S_, .f32⟩
  | .hbm, ⟨100, _⟩ => ⟨S4x8x2048x2048, .f32⟩
  | .hbm, ⟨101, _⟩ => ⟨S4x8x2048x2048, .f32⟩
  | .hbm, ⟨102, _⟩ => ⟨S4x2048x2048x8, .f32⟩
  | .hbm, ⟨103, _⟩ => ⟨S4x2048x8x64, .f32⟩
  | .hbm, ⟨104, _⟩ => ⟨S4x2048x64, .f32⟩
  | .hbm, ⟨105, _⟩ => ⟨S8192x64, .f32⟩
  | .hbm, ⟨106, _⟩ => ⟨S4x8x2048x128, .f32⟩
  | .hbm, ⟨107, _⟩ => ⟨S4x2048x8x128, .f32⟩
  | .hbm, ⟨108, _⟩ => ⟨S4x8x2048x128, .f32⟩
  | .hbm, ⟨109, _⟩ => ⟨S4x2048x8x128, .f32⟩
  | .hbm, ⟨110, _⟩ => ⟨S8192x1024, .f32⟩
  | .hbm, ⟨111, _⟩ => ⟨S8192x1024, .f32⟩
  | .hbm, ⟨112, _⟩ => ⟨S8192x512, .f32⟩
  | .hbm, ⟨113, _⟩ => ⟨S8192x1024, .f32⟩
  | .hbm, ⟨114, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_v22_1 : Ref sig .tc := ⟨.hbm, 31, rfl⟩
abbrev main_call0_v2 : Ref sig .tc := ⟨.hbm, 32, rfl⟩
abbrev main_v22_0 : Ref sig .tc := ⟨.hbm, 33, rfl⟩
abbrev main_call0_cst : Ref sig .tc := ⟨.hbm, 34, rfl⟩
abbrev main_v22_2 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxIdeal.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | .hbm, ⟨5, _⟩ => ⟨S_, .f32⟩
  | .hbm, ⟨6, _⟩ => ⟨S8192x1024, .f32⟩
  | .hbm, ⟨7, _⟩ => ⟨S8192x2816, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S8192x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnOutDwIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InBDx.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBDxIdeal.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Up.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvqDw.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvqDwIdeal.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvqDwRefIdeal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .f32⟩
  | .hbm, ⟨3, _⟩ => ⟨S8192x768, .f32⟩
  | .hbm, ⟨4, _⟩ => ⟨S_, .f32⟩
  | .hbm, ⟨5, _⟩ => ⟨S1024x768, .f32⟩
  | .hbm, ⟨6, _⟩ => ⟨S8192x768, .f32⟩
  | .hbm, ⟨7, _⟩ => ⟨S768x1024, .f32⟩
  | .hbm, ⟨8, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QDw.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QDwIdeal.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QDwRefIdeal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S8192x384, .f32⟩
  | .hbm, ⟨3, _⟩ => ⟨S8192x1024, .f32⟩
  | .hbm, ⟨4, _⟩ => ⟨S_, .f32⟩
  | .hbm, ⟨5, _⟩ => ⟨S384x1024, .f32⟩
  | .hbm, ⟨6, _⟩ => ⟨S8192x1024, .f32⟩
  | .hbm, ⟨7, _⟩ => ⟨S1024x384, .f32⟩
  | .hbm, ⟨8, _⟩ => ⟨S384x1024, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RopeDw.lean ====
abbrev S8192x384 : Shape := ⟨2, ![8192, 384]⟩
abbrev S8192x512 : Shape := ⟨2, ![8192, 512]⟩
abbrev S384x512 : Shape := ⟨2, ![384, 512]⟩
abbrev S1024x384 : Shape := ⟨2, ![1024, 384]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S384x512, .f32⟩
  | .local _ .vmem, ⟨0, _⟩ => ⟨S1024x384, .bf16⟩
  | .local _ .vmem, ⟨1, _⟩ => ⟨S1024x384, .bf16⟩
  | .local _ .vmem, ⟨2, _⟩ => ⟨S1024x512, .bf16⟩
  | .local _ .vmem, ⟨3, _⟩ => ⟨S1024x512, .bf16⟩
  | .local _ .vmem, ⟨4, _⟩ => ⟨S384x512, .f32⟩
  | .local _ .vmem, ⟨5, _⟩ => ⟨S384x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RopeDwIdeal.lean ====
abbrev S8192x384 : Shape := ⟨2, ![8192, 384]⟩
abbrev S8192x512 : Shape := ⟨2, ![8192, 512]⟩
abbrev S384x512 : Shape := ⟨2, ![384, 512]⟩
abbrev S1024x384 : Shape := ⟨2, ![1024, 384]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S384x512, .f32⟩
  | .local _ .vmem, ⟨0, _⟩ => ⟨S1024x384, .bf16⟩
  | .local _ .vmem, ⟨1, _⟩ => ⟨S1024x384, .bf16⟩
  | .local _ .vmem, ⟨2, _⟩ => ⟨S1024x512, .bf16⟩
  | .local _ .vmem, ⟨3, _⟩ => ⟨S1024x512, .bf16⟩
  | .local _ .vmem, ⟨4, _⟩ => ⟨S384x512, .f32⟩
  | .local _ .vmem, ⟨5, _⟩ => ⟨S384x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RopeDwRefIdeal.lean ====
abbrev S8192x384 : Shape := ⟨2, ![8192, 384]⟩
abbrev S8192x512 : Shape := ⟨2, ![8192, 512]⟩
abbrev S_ : Shape := ⟨0, ![]⟩
abbrev S384x512 : Shape := ⟨2, ![384, 512]⟩
abbrev S512x384 : Shape := ⟨2, ![512, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S8192x384, .f32⟩
  | .hbm, ⟨3, _⟩ => ⟨S8192x512, .f32⟩
  | .hbm, ⟨4, _⟩ => ⟨S_, .f32⟩
  | .hbm, ⟨5, _⟩ => ⟨S384x512, .f32⟩
  | .hbm, ⟨6, _⟩ => ⟨S8192x512, .f32⟩
  | .hbm, ⟨7, _⟩ => ⟨S512x384, .f32⟩
  | .hbm, ⟨8, _⟩ => ⟨S384x512, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDw.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .f32⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwIdeal.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .f32⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .f32⟩
  | .hbm, ⟨2, _⟩ => ⟨S8192x256, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DtDw.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DtDwIdeal.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DtDwRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S_, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QDx.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S384x1024, .bf16⟩
  | .hbm, ⟨2, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDxIdeal.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S384x1024, .bf16⟩
  | .hbm, ⟨2, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDxRefIdeal.lean ====
abbrev S8192x1024 : Shape := ⟨2, ![8192, 1024]⟩
abbrev S384x1024 : Shape := ⟨2, ![384, 1024]⟩
abbrev S_ : Shape := ⟨0, ![]⟩
abbrev S8192x384 : Shape := ⟨2, ![8192, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S384x1024, .bf16⟩
  | .hbm, ⟨2, _⟩ => ⟨S384x1024, .f32⟩
  | .hbm, ⟨3, _⟩ => ⟨S8192x1024, .f32⟩
  | .hbm, ⟨4, _⟩ => ⟨S_, .f32⟩
  | .hbm, ⟨5, _⟩ => ⟨S8192x384, .f32⟩
  | .hbm, ⟨6, _⟩ => ⟨S8192x1024, .f32⟩
  | .hbm, ⟨7, _⟩ => ⟨S8192x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KDx.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KDxIdeal.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KDxRefIdeal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S256x1024, .f32⟩
  | .hbm, ⟨3, _⟩ => ⟨S_, .f32⟩
  | .hbm, ⟨4, _⟩ => ⟨S8192x256, .f32⟩
  | .hbm, ⟨5, _⟩ => ⟨S8192x1024, .f32⟩
  | .hbm, ⟨6, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RopeDx.lean ====
abbrev S8192x512 : Shape := ⟨2, ![8192, 512]⟩
abbrev S384x512 : Shape := ⟨2, ![384, 512]⟩
abbrev S8192x384 : Shape := ⟨2, ![8192, 384]⟩
abbrev S1024x512 : Shape := ⟨2, ![1024, 512]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S384x512, .bf16⟩
  | .hbm, ⟨2, _⟩ => ⟨S8192x384, .f32⟩
  | .hbm, ⟨3, _⟩ => ⟨S8192x384, .f32⟩
  | .local _ .vmem, ⟨0, _⟩ => ⟨S1024x512, .bf16⟩
  | .local _ .vmem, ⟨1, _⟩ => ⟨S1024x512, .bf16⟩
  | .local _ .vmem, ⟨2, _⟩ => ⟨S384x512, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RopeDxIdeal.lean ====
abbrev S8192x512 : Shape := ⟨2, ![8192, 512]⟩
abbrev S384x512 : Shape := ⟨2, ![384, 512]⟩
abbrev S8192x384 : Shape := ⟨2, ![8192, 384]⟩
abbrev S1024x512 : Shape := ⟨2, ![1024, 512]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S384x512, .bf16⟩
  | .hbm, ⟨2, _⟩ => ⟨S8192x384, .f32⟩
  | .hbm, ⟨3, _⟩ => ⟨S8192x384, .f32⟩
  | .local _ .vmem, ⟨0, _⟩ => ⟨S1024x512, .bf16⟩
  | .local _ .vmem, ⟨1, _⟩ => ⟨S1024x512, .bf16⟩
  | .local _ .vmem, ⟨2, _⟩ => ⟨S384x512, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RopeDxRefIdeal.lean ====
abbrev S8192x512 : Shape := ⟨2, ![8192, 512]⟩
abbrev S384x512 : Shape := ⟨2, ![384, 512]⟩
abbrev S8192x384 : Shape := ⟨2, ![8192, 384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S384x512, .bf16⟩
  | .hbm, ⟨2, _⟩ => ⟨S8192x384, .f32⟩
  | .hbm, ⟨3, _⟩ => ⟨S384x512, .f32⟩
  | .hbm, ⟨4, _⟩ => ⟨S8192x512, .f32⟩
  | .hbm, ⟨5, _⟩ => ⟨S_, .f32⟩
  | .hbm, ⟨6, _⟩ => ⟨S8192x384, .f32⟩
  | .hbm, ⟨7, _⟩ => ⟨S8192x512, .f32⟩
  | .hbm, ⟨8, _⟩ => ⟨S8192x384, .f32⟩
  | .hbm, ⟨9, _⟩ => ⟨S8192x384, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== VDx.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S8192x256, .f32⟩
  | .hbm, ⟨3, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== VDxIdeal.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S8192x256, .f32⟩
  | .hbm, ⟨3, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== VDxRefIdeal.lean ====
abbrev S8192x1024 : Shape := ⟨2, ![8192, 1024]⟩
abbrev S256x1024 : Shape := ⟨2, ![256, 1024]⟩
abbrev S8192x256 : Shape := ⟨2, ![8192, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S8192x256, .f32⟩
  | .hbm, ⟨8, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KvqDx.lean ====
abbrev S8192x768 : Shape := ⟨2, ![8192, 768]⟩
abbrev S1024x768 : Shape := ⟨2, ![1024, 768]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .f32⟩
  | .hbm, ⟨3, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvqDxIdeal.lean ====
abbrev S8192x768 : Shape := ⟨2, ![8192, 768]⟩
abbrev S1024x768 : Shape := ⟨2, ![1024, 768]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .f32⟩
  | .hbm, ⟨3, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvqDxRefIdeal.lean ====
abbrev S8192x768 : Shape := ⟨2, ![8192, 768]⟩
abbrev S1024x768 : Shape := ⟨2, ![1024, 768]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S1024x768, .bf16⟩
  | .hbm, ⟨2, _⟩ => ⟨S8192x1024, .f32⟩
  | .hbm, ⟨3, _⟩ => ⟨S1024x768, .f32⟩
  | .hbm, ⟨4, _⟩ => ⟨S8192x768, .f32⟩
  | .hbm, ⟨5, _⟩ => ⟨S_, .f32⟩
  | .hbm, ⟨6, _⟩ => ⟨S8192x1024, .f32⟩
  | .hbm, ⟨7, _⟩ => ⟨S8192x768, .f32⟩
  | .hbm, ⟨8, _⟩ => ⟨S8192x1024, .f32⟩
  | .hbm, ⟨9, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DtDx.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DtDxIdeal.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DtDxRefIdeal.lean ====
abbrev S8192x128 : Shape := ⟨2, ![8192, 128]⟩
abbrev S1024x128 : Shape := ⟨2, ![1024, 128]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | .hbm, ⟨5, _⟩ => ⟨S_, .f32⟩
  | .hbm, ⟨6, _⟩ => ⟨S8192x1024, .f32⟩
  | .hbm, ⟨7, _⟩ => ⟨S8192x128, .f32⟩
  | .hbm, ⟨8, _⟩ => ⟨S8192x1024, .f32⟩
  | .hbm, ⟨9, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kvq.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x768, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvqIdeal.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x768, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvqRefIdeal.lean ====
abbrev S8192x1024 : Shape := ⟨2, ![8192, 1024]⟩
abbrev S1024x768 : Shape := ⟨2, ![1024, 768]⟩
abbrev S8192x768 : Shape := ⟨2, ![8192, 768]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x768, .bf16⟩
  | .hbm, ⟨2, _⟩ => ⟨S8192x1024, .f32⟩
  | .hbm, ⟨3, _⟩ => ⟨S1024x768, .f32⟩
  | .hbm, ⟨4, _⟩ => ⟨S8192x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rope.lean ====
abbrev S8192x384 : Shape := ⟨2, ![8192, 384]⟩
abbrev S384x512 : Shape := ⟨2, ![384, 512]⟩
abbrev S8192x512 : Shape := ⟨2, ![8192, 512]⟩
abbrev S1024x384 : Shape := ⟨2, ![1024, 384]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x512, .bf16⟩
  | .hbm, ⟨2, _⟩ => ⟨S8192x512, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S1024x512, .f32⟩
  | .local _ .vmem, ⟨4, _⟩ => ⟨S1024x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RopeIdeal.lean ====
abbrev S8192x384 : Shape := ⟨2, ![8192, 384]⟩
abbrev S384x512 : Shape := ⟨2, ![384, 512]⟩
abbrev S8192x512 : Shape := ⟨2, ![8192, 512]⟩
abbrev S1024x384 : Shape := ⟨2, ![1024, 384]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x512, .bf16⟩
  | .hbm, ⟨2, _⟩ => ⟨S8192x512, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S1024x512, .f32⟩
  | .local _ .vmem, ⟨4, _⟩ => ⟨S1024x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RopeRefIdeal.lean ====
abbrev S8192x384 : Shape := ⟨2, ![8192, 384]⟩
abbrev S384x512 : Shape := ⟨2, ![384, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x512, .bf16⟩
  | .hbm, ⟨2, _⟩ => ⟨S8192x384, .f32⟩
  | .hbm, ⟨3, _⟩ => ⟨S384x512, .f32⟩
  | .hbm, ⟨4, _⟩ => ⟨S8192x512, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dt.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtIdeal.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Q.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x1024, .bf16⟩
  | .hbm, ⟨2, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .bf16⟩
  | .local _ .vmem, ⟨4, _⟩ => ⟨S1024x1024, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S384x1024, .bf16⟩
  | .hbm, ⟨2, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .bf16⟩
  | .local _ .vmem, ⟨4, _⟩ => ⟨S1024x1024, .bf16⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QRefIdeal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S384x1024, .bf16⟩
  | .hbm, ⟨2, _⟩ => ⟨S8192x384, .f32⟩
  | .hbm, ⟨3, _⟩ => ⟨S384x1024, .f32⟩
  | .hbm, ⟨4, _⟩ => ⟨S8192x1024, .f32⟩
  | .hbm, ⟨5, _⟩ => ⟨S8192x1024, .bf16⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | .hbm, ⟨5, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Turn.lean ====
abbrev S8192x512 : Shape := ⟨2, ![8192, 512]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S512x128 : Shape := ⟨2, ![512, 128]⟩

abbrev nBuf : Space → Nat
  | .hbm => 10
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x32, .f32⟩
  | .hbm, ⟨2, _⟩ => ⟨S8192x32, .f32⟩
  | .hbm, ⟨3, _⟩ => ⟨S1x8192x1x32, .f32⟩
  | .hbm, ⟨4, _⟩ => ⟨S1x8192x4x32, .f32⟩
  | .hbm, ⟨5, _⟩ => ⟨S8192x128, .f32⟩
  | .hbm, ⟨6, _⟩ => ⟨S1x8192x1x32, .f32⟩
  | .hbm, ⟨7, _⟩ => ⟨S1x8192x4x32, .f32⟩
  | .hbm, ⟨8, _⟩ => ⟨S8192x128, .f32⟩
  | .hbm, ⟨9, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== TurnRefIdeal.lean ====
abbrev S8192x512 : Shape := ⟨2, ![8192, 512]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x32, .f32⟩
  | .hbm, ⟨2, _⟩ => ⟨S8192x32, .f32⟩
  | .hbm, ⟨3, _⟩ => ⟨S8192x8x64, .f32⟩
  | .hbm, ⟨4, _⟩ => ⟨S8192x1x32, .f32⟩
  | .hbm, ⟨5, _⟩ => ⟨S8192x1x32, .f32⟩
  | .hbm, ⟨6, _⟩ => ⟨S8192x8x32, .f32⟩
  | .hbm, ⟨7, _⟩ => ⟨S8192x8x32, .f32⟩
  | .hbm, ⟨8, _⟩ => ⟨S8192x8x32, .f32⟩
  | .hbm, ⟨9, _⟩ => ⟨S8192x8x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x64, .f32⟩
  | .hbm, ⟨19, _⟩ => ⟨S8192x512, .f32⟩
  | .hbm, ⟨20, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== TurnDx.lean ====
abbrev S8192x512 : Shape := ⟨2, ![8192, 512]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x32, .f32⟩
  | .hbm, ⟨2, _⟩ => ⟨S8192x32, .f32⟩
  | .hbm, ⟨3, _⟩ => ⟨S8192x512, .f32⟩
  | .hbm, ⟨4, _⟩ => ⟨S1x8192x1x32, .f32⟩
  | .hbm, ⟨5, _⟩ => ⟨S1x8192x4x32, .f32⟩
  | .hbm, ⟨6, _⟩ => ⟨S8192x128, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TurnDxRefIdeal.lean ====
abbrev S8192x512 : Shape := ⟨2, ![8192, 512]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x32, .f32⟩
  | .hbm, ⟨2, _⟩ => ⟨S8192x32, .f32⟩
  | .hbm, ⟨3, _⟩ => ⟨S8192x512, .f32⟩
  | .hbm, ⟨4, _⟩ => ⟨S8192x8x64, .f32⟩
  | .hbm, ⟨5, _⟩ => ⟨S8192x1x32, .f32⟩
  | .hbm, ⟨6, _⟩ => ⟨S8192x1x32, .f32⟩
  | .hbm, ⟨7, _⟩ => ⟨S8192x8x32, .f32⟩
  | .hbm, ⟨8, _⟩ => ⟨S8192x8x32, .f32⟩
  | .hbm, ⟨9, _⟩ => ⟨S8192x8x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x64, .f32⟩
  | .hbm, ⟨20, _⟩ => ⟨S8192x512, .f32⟩
  | .hbm, ⟨21, _⟩ => ⟨S8192x8x64, .f32⟩
  | .hbm, ⟨22, _⟩ => ⟨S8192x8x32, .f32⟩
  | .hbm, ⟨23, _⟩ => ⟨S8192x8x32, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x64, .f32⟩
  | .hbm, ⟨36, _⟩ => ⟨S8192x512, .f32⟩
  | .hbm, ⟨37, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== KeyTurn.lean ====
abbrev S8192x320 : Shape := ⟨2, ![8192, 320]⟩
abbrev S8192x32 : Shape := ⟨2, ![8192, 32]⟩
abbrev S_ : Shape := ⟨0, ![]⟩
abbrev S8192x448 : Shape := ⟨2, ![8192, 448]⟩
abbrev S8192x768 : Shape := ⟨2, ![8192, 768]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S512x128 : Shape := ⟨2, ![512, 128]⟩

abbrev nBuf : Space → Nat
  | .hbm => 13
  | .vmem => 8
  | .smem => 0
  | _ => 0

abbrev bufTy : (tb : Table) → Fin (tcTables nBuf tb) → BufTy
  | .hbm, ⟨0, _⟩ => ⟨S8192x320, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192x448, .f32⟩
  | .hbm, ⟨5, _⟩ => ⟨S8192x768, .f32⟩
  | .hbm, ⟨6, _⟩ => ⟨S1x8192x1x32, .f32⟩
  | .hbm, ⟨7, _⟩ => ⟨S1x8192x4x32, .f32⟩
  | .hbm, ⟨8, _⟩ => ⟨S8192x128, .f32⟩
  | .hbm, ⟨9, _⟩ => ⟨S1x8192x1x32, .f32⟩
  | .hbm, ⟨10, _⟩ => ⟨S1x8192x4x32, .f32⟩
  | .hbm, ⟨11, _⟩ => ⟨S8192x128, .f32⟩
  | .hbm, ⟨12, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | _, _ => ⟨S8192x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeyTurnRefIdeal.lean ====
abbrev S8192x320 : Shape := ⟨2, ![8192, 320]⟩
abbrev S8192x32 : Shape := ⟨2, ![8192, 32]⟩
abbrev S8192x64 : Shape := ⟨2, ![8192, 64]⟩
abbrev S8192x128 : Shape := ⟨2, ![8192, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x320, .f32⟩
  | .hbm, ⟨1, _⟩ => ⟨S8192x32, .f32⟩
  | .hbm, ⟨2, _⟩ => ⟨S8192x32, .f32⟩
  | .hbm, ⟨3, _⟩ => ⟨S8192x64, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x64, .f32⟩
  | .hbm, ⟨13, _⟩ => ⟨S8192x128, .f32⟩
  | .hbm, ⟨14, _⟩ => ⟨S8192x128, .bf16⟩
  | _, _ => ⟨S8192x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KeyTurnDx.lean ====
abbrev S8192x320 : Shape := ⟨2, ![8192, 320]⟩
abbrev S8192x32 : Shape := ⟨2, ![8192, 32]⟩
abbrev S8192x128 : Shape := ⟨2, ![8192, 128]⟩
abbrev S_ : Shape := ⟨0, ![]⟩
abbrev S8192x448 : Shape := ⟨2, ![8192, 448]⟩
abbrev S8192x768 : Shape := ⟨2, ![8192, 768]⟩
abbrev S1x8192x1x32 : Shape := ⟨4, ![1, 8192, 1, 32]⟩
abbrev S1x8192x4x32 : Shape := ⟨4, ![1, 8192, 4, 32]⟩
abbrev S512x128 : Shape := ⟨2, ![512, 128]⟩

abbrev nBuf : Space → Nat
  | .hbm => 14
  | .vmem => 10
  | .smem => 0
  | _ => 0

abbrev bufTy : (tb : Table) → Fin (tcTables nBuf tb) → BufTy
  | .hbm, ⟨0, _⟩ => ⟨S8192x320, .f32⟩
  | .hbm, ⟨1, _⟩ => ⟨S8192x32, .f32⟩
  | .hbm, ⟨2, _⟩ => ⟨S8192x32, .f32⟩
  | .hbm, ⟨3, _⟩ => ⟨S8192x128, .f32⟩
  | .hbm, ⟨4, _⟩ => ⟨S_, .f32⟩
  | .hbm, ⟨5, _⟩ => ⟨S8192x448, .f32⟩
  | .hbm, ⟨6, _⟩ => ⟨S8192x768, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S1x8192x1x32, .f32⟩
  | .hbm, ⟨11, _⟩ => ⟨S1x8192x4x32, .f32⟩
  | .hbm, ⟨12, _⟩ => ⟨S8192x128, .f32⟩
  | .hbm, ⟨13, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | _, _ => ⟨S8192x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeyTurnDxRefIdeal.lean ====
abbrev S8192x320 : Shape := ⟨2, ![8192, 320]⟩
abbrev S8192x32 : Shape := ⟨2, ![8192, 32]⟩
abbrev S8192x128 : Shape := ⟨2, ![8192, 128]⟩
abbrev S8192x64 : Shape := ⟨2, ![8192, 64]⟩

abbrev nBuf : Space → Nat
  | .hbm => 30
  | .vmem => 0
  | .smem => 0
  | _ => 0

abbrev bufTy : (tb : Table) → Fin (tcTables nBuf tb) → BufTy
  | .hbm, ⟨0, _⟩ => ⟨S8192x320, .f32⟩
  | .hbm, ⟨1, _⟩ => ⟨S8192x32, .f32⟩
  | .hbm, ⟨2, _⟩ => ⟨S8192x32, .f32⟩
  | .hbm, ⟨3, _⟩ => ⟨S8192x128, .f32⟩
  | .hbm, ⟨4, _⟩ => ⟨S8192x64, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x64, .f32⟩
  | .hbm, ⟨14, _⟩ => ⟨S8192x128, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x64, .f32⟩
  | .hbm, ⟨28, _⟩ => ⟨S8192x128, .f32⟩
  | .hbm, ⟨29, _⟩ => ⟨S8192x128, .bf16⟩
  | _, _ => ⟨S8192x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== QNormDx.lean ====
abbrev S8192x768 : Shape := ⟨2, ![8192, 768]⟩
abbrev S1x384 : Shape := ⟨2, ![1, 384]⟩
abbrev S8192x384 : Shape := ⟨2, ![8192, 384]⟩
abbrev S512x384 : Shape := ⟨2, ![512, 384]⟩
abbrev S512 : Shape := ⟨1, ![512]⟩
abbrev S512x1 : Shape := ⟨2, ![512, 1]⟩
abbrev S384 : Shape := ⟨1, ![384]⟩

abbrev nBuf : Space → Nat
  | .hbm => 5
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .f32⟩
  | .hbm, ⟨3, _⟩ => ⟨S8192x384, .bf16⟩
  | .hbm, ⟨4, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .bf16⟩
  | .local _ .vmem, ⟨6, _⟩ => ⟨S512x384, .bf16⟩
  | .local _ .vmem, ⟨7, _⟩ => ⟨S1x384, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormDxIdeal.lean ====
abbrev S8192x768 : Shape := ⟨2, ![8192, 768]⟩
abbrev S1x384 : Shape := ⟨2, ![1, 384]⟩
abbrev S8192x384 : Shape := ⟨2, ![8192, 384]⟩
abbrev S512x384 : Shape := ⟨2, ![512, 384]⟩
abbrev S512 : Shape := ⟨1, ![512]⟩
abbrev S512x1 : Shape := ⟨2, ![512, 1]⟩
abbrev S384 : Shape := ⟨1, ![384]⟩

abbrev nBuf : Space → Nat
  | .hbm => 5
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .f32⟩
  | .hbm, ⟨3, _⟩ => ⟨S8192x384, .bf16⟩
  | .hbm, ⟨4, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .bf16⟩
  | .local _ .vmem, ⟨6, _⟩ => ⟨S512x384, .bf16⟩
  | .local _ .vmem, ⟨7, _⟩ => ⟨S1x384, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QNormDxRefIdeal.lean ====
abbrev S8192x768 : Shape := ⟨2, ![8192, 768]⟩
abbrev S1x384 : Shape := ⟨2, ![1, 384]⟩
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .f32⟩
  | .hbm, ⟨3, _⟩ => ⟨S8192x384, .f32⟩
  | .hbm, ⟨4, _⟩ => ⟨S384, .f32⟩
  | .hbm, ⟨5, _⟩ => ⟨S8192x384, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x384, .f32⟩
  | .hbm, ⟨21, _⟩ => ⟨S8192x384, .f32⟩
  | .hbm, ⟨22, _⟩ => ⟨S1x384, .f32⟩
  | .hbm, ⟨23, _⟩ => ⟨S8192x384, .f32⟩
  | .hbm, ⟨24, _⟩ => ⟨S8192x384, .f32⟩
  | .hbm, ⟨25, _⟩ => ⟨S8192x384, .f32⟩
  | .hbm, ⟨26, _⟩ => ⟨S_, .f32⟩
  | .hbm, ⟨27, _⟩ => ⟨S384, .f32⟩
  | .hbm, ⟨28, _⟩ => ⟨S1x384, .f32⟩
  | .hbm, ⟨29, _⟩ => ⟨S8192x384, .f32⟩
  | .hbm, ⟨30, _⟩ => ⟨S8192x384, .f32⟩
  | .hbm, ⟨31, _⟩ => ⟨S_, .f32⟩
  | .hbm, ⟨32, _⟩ => ⟨S384, .f32⟩
  | .hbm, ⟨33, _⟩ => ⟨S8192x384, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x384, .f32⟩
  | .hbm, ⟨38, _⟩ => ⟨S8192x384, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x384, .f32⟩
  | .hbm, ⟨46, _⟩ => ⟨S8192x384, .f32⟩
  | .hbm, ⟨47, _⟩ => ⟨S8192x384, .f32⟩
  | .hbm, ⟨48, _⟩ => ⟨S8192x384, .f32⟩
  | .hbm, ⟨49, _⟩ => ⟨S8192x384, .f32⟩
  | .hbm, ⟨50, _⟩ => ⟨S1x384, .f32⟩
  | .hbm, ⟨51, _⟩ => ⟨S8192x384, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== KvNormDx.lean ====
abbrev S8192x768 : Shape := ⟨2, ![8192, 768]⟩
abbrev S1x256 : Shape := ⟨2, ![1, 256]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S1x256, .f32⟩
  | .hbm, ⟨2, _⟩ => ⟨S8192x256, .f32⟩
  | .hbm, ⟨3, _⟩ => ⟨S8192x256, .bf16⟩
  | .hbm, ⟨4, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvNormDxRefIdeal.lean ====
abbrev S8192x768 : Shape := ⟨2, ![8192, 768]⟩
abbrev S1x256 : Shape := ⟨2, ![1, 256]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S1x256, .f32⟩
  | .hbm, ⟨51, _⟩ => ⟨S8192x256, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== QNorm.lean ====
abbrev S8192x768 : Shape := ⟨2, ![8192, 768]⟩
abbrev S1x384 : Shape := ⟨2, ![1, 384]⟩
abbrev S8192x384 : Shape := ⟨2, ![8192, 384]⟩
abbrev S512x384 : Shape := ⟨2, ![512, 384]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormIdeal.lean ====
abbrev S8192x768 : Shape := ⟨2, ![8192, 768]⟩
abbrev S1x384 : Shape := ⟨2, ![1, 384]⟩
abbrev S8192x384 : Shape := ⟨2, ![8192, 384]⟩
abbrev S512x384 : Shape := ⟨2, ![512, 384]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormRefIdeal.lean ====
abbrev S8192x768 : Shape := ⟨2, ![8192, 768]⟩
abbrev S1x384 : Shape := ⟨2, ![1, 384]⟩
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1x384, .f32⟩
  | .hbm, ⟨2, _⟩ => ⟨S8192x384, .f32⟩
  | .hbm, ⟨3, _⟩ => ⟨S384, .f32⟩
  | .hbm, ⟨4, _⟩ => ⟨S8192x384, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x384, .f32⟩
  | .hbm, ⟨16, _⟩ => ⟨S8192x384, .f32⟩
  | .hbm, ⟨17, _⟩ => ⟨S1x384, .f32⟩
  | .hbm, ⟨18, _⟩ => ⟨S8192x384, .f32⟩
  | .hbm, ⟨19, _⟩ => ⟨S8192x384, .f32⟩
  | .hbm, ⟨20, _⟩ => ⟨S8192x384, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KvNorm.lean ====
abbrev S8192x768 : Shape := ⟨2, ![8192, 768]⟩
abbrev S1x256 : Shape := ⟨2, ![1, 256]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S1x256, .f32⟩
  | .hbm, ⟨2, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvNormRefIdeal.lean ====
abbrev S8192x768 : Shape := ⟨2, ![8192, 768]⟩
abbrev S1x256 : Shape := ⟨2, ![1, 256]⟩
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1x256, .f32⟩
  | .hbm, ⟨2, _⟩ => ⟨S8192x256, .f32⟩
  | .hbm, ⟨3, _⟩ => ⟨S256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S8192x256, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== LnY.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnYRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== LnLast.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnLastRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Gated.lean ====
abbrev S8192x2048 : Shape := ⟨2, ![8192, 2048]⟩
abbrev S1x2048 : Shape := ⟨2, ![1, 2048]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatedRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192x8x256 : Shape := ⟨3, ![8192, 8, 256]⟩
abbrev S8192x8 : Shape := ⟨2, ![8192, 8]⟩
abbrev S8192x8x1 : Shape := ⟨3, ![8192, 8, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x8x256, .f32⟩
  | .hbm, ⟨21, _⟩ => ⟨S8192x8x256, .f32⟩
  | .hbm, ⟨22, _⟩ => ⟨S_, .f32⟩
  | .hbm, ⟨23, _⟩ => ⟨S8192x8, .f32⟩
  | .hbm, ⟨24, _⟩ => ⟨S8192x8x1, .f32⟩
  | .hbm, ⟨25, _⟩ => ⟨S_, .f32⟩
  | .hbm, ⟨26, _⟩ => ⟨S8192x8x1, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S8192x8x1, .f32⟩
  | .hbm, ⟨32, _⟩ => ⟨S8192x8x256, .f32⟩
  | .hbm, ⟨33, _⟩ => ⟨S8192x8x256, .f32⟩
  | .hbm, ⟨34, _⟩ => ⟨S8192x2048, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== GatedDx.lean ====
abbrev S8192x2048 : Shape := ⟨2, ![8192, 2048]⟩
abbrev S1x2048 : Shape := ⟨2, ![1, 2048]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S256 : Shape := ⟨1, ![256]⟩

abbrev nBuf : Space → Nat
  | .hbm => 11
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S1x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .bf16⟩
  | .local _ .vmem, ⟨17, _⟩ => ⟨S512x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GatedDxRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192x8x256 : Shape := ⟨3, ![8192, 8, 256]⟩
abbrev S8192x8 : Shape := ⟨2, ![8192, 8]⟩
abbrev S8192x8x1 : Shape := ⟨3, ![8192, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x8x256, .f32⟩
  | .hbm, ⟨26, _⟩ => ⟨S8192x8x256, .f32⟩
  | .hbm, ⟨27, _⟩ => ⟨S_, .f32⟩
  | .hbm, ⟨28, _⟩ => ⟨S8192x8, .f32⟩
  | .hbm, ⟨29, _⟩ => ⟨S8192x8x1, .f32⟩
  | .hbm, ⟨30, _⟩ => ⟨S_, .f32⟩
  | .hbm, ⟨31, _⟩ => ⟨S8192x8x1, .f32⟩
  | .hbm, ⟨32, _⟩ => ⟨S8192x8x1, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S8192x8x256, .f32⟩
  | .hbm, ⟨42, _⟩ => ⟨S8192x8x256, .f32⟩
  | .hbm, ⟨43, _⟩ => ⟨S8192x2048, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x8x256, .f32⟩
  | .hbm, ⟨58, _⟩ => ⟨S8192x8x256, .f32⟩
  | .hbm, ⟨59, _⟩ => ⟨S_, .f32⟩
  | .hbm, ⟨60, _⟩ => ⟨S8192x8, .f32⟩
  | .hbm, ⟨61, _⟩ => ⟨S8192x8x1, .f32⟩
  | .hbm, ⟨62, _⟩ => ⟨S8192x8x256, .f32⟩
  | .hbm, ⟨63, _⟩ => ⟨S8192x8x256, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S_, .f32⟩
  | .hbm, ⟨69, _⟩ => ⟨S8192x8, .f32⟩
  | .hbm, ⟨70, _⟩ => ⟨S8192x8x256, .f32⟩
  | .hbm, ⟨71, _⟩ => ⟨S8192x8x256, .f32⟩
  | .hbm, ⟨72, _⟩ => ⟨S8192x8x256, .f32⟩
  | .hbm, ⟨73, _⟩ => ⟨S8192x8x256, .f32⟩
  | .hbm, ⟨74, _⟩ => ⟨S8192x8x256, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S_, .f32⟩
  | .hbm, ⟨89, _⟩ => ⟨S2048, .f32⟩
  | .hbm, ⟨90, _⟩ => ⟨S1x2048, .f32⟩
  | .hbm, ⟨91, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Proof.Attn.Spec.lean ====
module

public import Idealize.ShloMosaic.Lib.Pointwise

@[expose] public section

/-!
# What one grid point of the attention's backward pass computes

A grid point holds 256 query rows of one pair of heads (`j = 0, 1`; lanes `128 j … 128 j + 127` of the pair's blocks) and the 2048 keys of its
sequence: `q` the queries, `qr` their rotary part (head `j`'s in lanes `64 j …`), `k` the keys, `kr` their rotary part, `v` the values, `o` the forward
pass's output, `lse` the logarithm of the softmax's denominators, `g` the gradient of `o`. `b` is the number of the block of query rows in its sequence.
-/

noncomputable section

namespace Attn

open Idealize.ShloMosaic

/-- The factor the scores are scaled by. -/
def κ : EReal := Ideal.ofBits .f32 0x3D93CD3A#32

/-- Head `j`'s lane `d` of a pair's block. -/
def lane (j : Fin 2) (d : Fin 128) : Fin 256 := ⟨128 * j.val + d.val, by omega⟩

section

variable (b : ℕ) (q : (⟨2, ![256, 256]⟩ : Shape).Idx → EReal) (qr : (⟨2, ![256, 128]⟩ : Shape).Idx → EReal)
  (k : (⟨2, ![2048, 256]⟩ : Shape).Idx → EReal) (kr : (⟨2, ![2048, 128]⟩ : Shape).Idx → EReal) (v : (⟨2, ![2048, 256]⟩ : Shape).Idx → EReal)
  (o : (⟨2, ![256, 256]⟩ : Shape).Idx → EReal) (lse : (⟨2, ![256, 128]⟩ : Shape).Idx → EReal) (g : (⟨2, ![256, 256]⟩ : Shape).Idx → EReal)

/-- The rotary query of head `j`: its own half of the pair's lanes, zero in the other. -/
def rot (j : Fin 2) (r : Fin 256) (d : Fin 128) : EReal := if d.val / 64 = j.val then qr (ix2 r d) else 0

/-- The scaled score of query row `r` and key `l`, `⊥` where the key is after the query. -/
def score (j : Fin 2) (r : Fin 256) (l : Fin 2048) : EReal :=
  if l.val ≤ 256 * b + r.val then
    (∑ d : Fin 128, q (ix2 r (lane j d)) * k (ix2 l (lane j d)) + ∑ d : Fin 128, rot qr j r d * kr (ix2 l d)) * κ
  else ⊥

/-- The softmax's probability. -/
def prob (j : Fin 2) (r : Fin 256) (l : Fin 2048) : EReal :=
  Ideal.exp (score b q qr k kr j r l - lse (ix2 r ⟨64 * j.val, by omega⟩))

/-- The gradient of the score. -/
def dscore (j : Fin 2) (r : Fin 256) (l : Fin 2048) : EReal :=
  prob b q qr k kr lse j r l
    * (∑ d : Fin 128, g (ix2 r (lane j d)) * v (ix2 l (lane j d)) - ∑ d : Fin 128, g (ix2 r (lane j d)) * o (ix2 r (lane j d))) * κ

/-- The queries' gradient. -/
def dq (y : (⟨2, ![256, 256]⟩ : Shape).Idx) : EReal :=
  ∑ l : Fin 2048, dscore b q qr k kr v o lse g ⟨(y 1).val / 128, by have : (y 1).val < 256 := (y 1).isLt; omega⟩ (y 0) l * k (ix2 l (y 1))

/-- The gradient of the queries' rotary part. -/
def dqr (y : (⟨2, ![256, 128]⟩ : Shape).Idx) : EReal :=
  ∑ l : Fin 2048, dscore b q qr k kr v o lse g ⟨(y 1).val / 64, by have : (y 1).val < 128 := (y 1).isLt; omega⟩ (y 0) l * kr (ix2 l (y 1))

/-- The keys' gradient, this point's part added to what was there. -/
def dk (a : (⟨2, ![2048, 256]⟩ : Shape).Idx → EReal) (y : (⟨2, ![2048, 256]⟩ : Shape).Idx) : EReal :=
  a y + ∑ r : Fin 256, dscore b q qr k kr v o lse g ⟨(y 1).val / 128, by have : (y 1).val < 256 := (y 1).isLt; omega⟩ r (y 0) * q (ix2 r (y 1))

/-- The gradient of the keys' rotary part, both heads' parts added to what was there. -/
def dkr (a : (⟨2, ![2048, 128]⟩ : Shape).Idx → EReal) (y : (⟨2, ![2048, 128]⟩ : Shape).Idx) : EReal :=
  a y + ∑ r : Fin 256, dscore b q qr k kr v o lse g 0 r (y 0) * rot qr 0 r (y 1) + ∑ r : Fin 256, dscore b q qr k kr v o lse g 1 r (y 0) * rot qr 1 r (y 1)

/-- The values' gradient, this point's part added to what was there. -/
def dv (a : (⟨2, ![2048, 256]⟩ : Shape).Idx → EReal) (y : (⟨2, ![2048, 256]⟩ : Shape).Idx) : EReal :=
  a y + ∑ r : Fin 256, prob b q qr k kr lse ⟨(y 1).val / 128, by have : (y 1).val < 256 := (y 1).isLt; omega⟩ r (y 0) * g (ix2 r (y 1))

/-! A key after the query has probability zero, and its score no gradient. -/

theorem prob_eq_zero {j : Fin 2} {r : Fin 256} {l : Fin 2048} (h : 256 * b + r.val < l.val) : prob b q qr k kr lse j r l = 0 := by
  unfold prob score
  rw [if_neg (by omega), sub_eq_add_neg, EReal.bot_add]
  rfl

theorem dscore_eq_zero {j : Fin 2} {r : Fin 256} {l : Fin 2048} (h : 256 * b + r.val < l.val) : dscore b q qr k kr v o lse g j r l = 0 := by
  unfold dscore
  rw [prob_eq_zero b q qr k kr lse h, zero_mul, zero_mul]

/-! The gradients at head `j`'s lanes. -/

theorem head_of_lane (j : Fin 2) (d : Fin 128) (p) : (⟨(lane j d).val / 128, p⟩ : Fin 2) = j := Fin.ext (by show (128 * j.val + d.val) / 128 = j.val; omega)

theorem dq_lane (j : Fin 2) (r : Fin 256) (d : Fin 128) :
    dq b q qr k kr v o lse g (ix2 r (lane j d)) = ∑ l : Fin 2048, dscore b q qr k kr v o lse g j r l * k (ix2 l (lane j d)) :=
  congrArg (fun i => ∑ l : Fin 2048, dscore b q qr k kr v o lse g i r l * k (ix2 l (lane j d))) (head_of_lane j d _)

theorem dk_lane (a : (⟨2, ![2048, 256]⟩ : Shape).Idx → EReal) (j : Fin 2) (l : Fin 2048) (d : Fin 128) :
    dk b q qr k kr v o lse g a (ix2 l (lane j d)) = a (ix2 l (lane j d)) + ∑ r : Fin 256, dscore b q qr k kr v o lse g j r l * q (ix2 r (lane j d)) :=
  congrArg (fun i => a (ix2 l (lane j d)) + ∑ r : Fin 256, dscore b q qr k kr v o lse g i r l * q (ix2 r (lane j d))) (head_of_lane j d _)

theorem dv_lane (a : (⟨2, ![2048, 256]⟩ : Shape).Idx → EReal) (j : Fin 2) (l : Fin 2048) (d : Fin 128) :
    dv b q qr k kr lse g a (ix2 l (lane j d)) = a (ix2 l (lane j d)) + ∑ r : Fin 256, prob b q qr k kr lse j r l * g (ix2 r (lane j d)) :=
  congrArg (fun i => a (ix2 l (lane j d)) + ∑ r : Fin 256, prob b q qr k kr lse i r l * g (ix2 r (lane j d))) (head_of_lane j d _)

/-! Keys after the block's last query are left as they were. -/

theorem dk_after (a : (⟨2, ![2048, 256]⟩ : Shape).Idx → EReal) {l : Fin 2048} (h : 256 * (b + 1) ≤ l.val) (c : Fin 256) : dk b q qr k kr v o lse g a (ix2 l c) = a (ix2 l c) :=
  (congrArg (a (ix2 l c) + ·) (Finset.sum_eq_zero fun r _ => by
    have := r.isLt
    exact (congrArg (· * q (ix2 r c)) (dscore_eq_zero b q qr k kr v o lse g (l := l) (by omega))).trans (zero_mul _))).trans (add_zero _)

theorem dv_after (a : (⟨2, ![2048, 256]⟩ : Shape).Idx → EReal) {l : Fin 2048} (h : 256 * (b + 1) ≤ l.val) (c : Fin 256) : dv b q qr k kr lse g a (ix2 l c) = a (ix2 l c) :=
  (congrArg (a (ix2 l c) + ·) (Finset.sum_eq_zero fun r _ => by
    have := r.isLt
    exact (congrArg (· * g (ix2 r c)) (prob_eq_zero b q qr k kr lse (l := l) (by omega))).trans (zero_mul _))).trans (add_zero _)

theorem dkr_after (a : (⟨2, ![2048, 128]⟩ : Shape).Idx → EReal) {l : Fin 2048} (h : 256 * (b + 1) ≤ l.val) (c : Fin 128) : dkr b q qr k kr v o lse g a (ix2 l c) = a (ix2 l c) := by
  have z : ∀ j, ∑ r : Fin 256, dscore b q qr k kr v o lse g j r l * rot qr j r c = 0 := fun j => Finset.sum_eq_zero fun r _ => by
    have := r.isLt
    rw [dscore_eq_zero b q qr k kr v o lse g (by omega), zero_mul]
  show a (ix2 l c) + ∑ r : Fin 256, dscore b q qr k kr v o lse g 0 r l * rot qr 0 r c + ∑ r : Fin 256, dscore b q qr k kr v o lse g 1 r l * rot qr 1 r c = _
  rw [z, z, add_zero, add_zero]

/-- A sum over all keys of the scores' gradients is the sum over the first ones. -/
theorem sum_dscore {E : ℕ} (hE' : E ≤ 2048) (hE : E = 256 * (b + 1)) (j : Fin 2) (r : Fin 256) (f : Fin 2048 → EReal) :
    ∑ l : Fin E, dscore b q qr k kr v o lse g j r (l.castLE hE') * f (l.castLE hE') = ∑ l : Fin 2048, dscore b q qr k kr v o lse g j r l * f l := by
  refine Finset.sum_of_injOn (Fin.castLE hE') (fun _ _ _ _ e => Fin.castLE_injective hE' e) (fun _ _ => Finset.mem_coe.mpr (Finset.mem_univ _)) (fun l _ hl => ?_) (fun _ _ => rfl)
  have hr := r.isLt
  have : E ≤ l.val := by
    by_contra hc
    exact hl ⟨⟨l.val, by omega⟩, Finset.mem_coe.mpr (Finset.mem_univ _), rfl⟩
  rw [dscore_eq_zero b q qr k kr v o lse g (by omega), zero_mul]

end

end Attn

end
-- ==== Proof.Attn.Block.lean ====
module

public import proofs.«01_k».proof.Proof.Attn.Spec
public import proofs.«01_k».proof.KernelIdeal
public import Idealize.ShloMosaic.Lib.WordCmp
public import Idealize.ShloMosaic.Lib.VecWindow

@[expose] public section

/-!
# The block computation's vector operations, read at an index

The kernel computes a block of query rows against the first `E` keys, for eight values of `E` with the same text: here that text over any `E`
(the side conditions of its operations are `Sides E`), each of its vectors read at an index.
-/
set_option maxRecDepth 16384
noncomputable section

namespace Attn

open Idealize.ShloMosaic Cert.KernelIdeal

/-- Query rows by keys. -/
abbrev SR (E : ℕ) : Shape := ⟨2, ![256, E]⟩
/-- Keys by lanes. -/
abbrev SK (E : ℕ) : Shape := ⟨2, ![E, 128]⟩

variable {E : ℕ} [Facts]
open Facts₀ Facts

/-- What the operations over `E` keys ask of their shapes. -/
structure Sides (E : ℕ) : Prop where
  nt : DotDims.WF S256x128 (SK E) (SR E) [1] [1] [0] [0] [] []
  tn : DotDims.WF (SR E) S256x128 (SK E) [0] [0] [1] [1] [] []
  nn : DotDims.WF (SR E) (SK E) S256x128 [1] [0] [0] [1] [] []
  io0 : (SR E).Iotas .tc 32 [0]
  io1 : (SR E).Iotas .tc 32 [1]
  bc : S256x1.Broadcasts (SR E)
  sc : (SK E).ShapeCasts (SK E)

variable (h : Sides E)

/-- Rows times rows. -/
def dNT : DotDims S256x128 (SK E) (SR E) where
  lhsContracting := [1]
  rhsContracting := [1]
  lhsNonContracting := [0]
  rhsNonContracting := [0]
  lhsBatch := []
  rhsBatch := []
  wf := h.nt

/-- Columns times columns. -/
def dTN : DotDims (SR E) S256x128 (SK E) where
  lhsContracting := [0]
  rhsContracting := [0]
  lhsNonContracting := [1]
  rhsNonContracting := [1]
  lhsBatch := []
  rhsBatch := []
  wf := h.tn

/-- Rows times columns. -/
def dNN : DotDims (SR E) (SK E) S256x128 where
  lhsContracting := [1]
  rhsContracting := [0]
  lhsNonContracting := [0]
  rhsNonContracting := [1]
  lhsBatch := []
  rhsBatch := []
  wf := h.nn

theorem matmul_nt (x : FVec Ideal S256x128 .bf16) (y : FVec Ideal (SK E) .bf16) (r : Fin 256) (l : Fin E) :
    matmul (dNT h) none x y (constant (SR E) .f32 0x00000000#32) (ix2 r l) = ∑ d : Fin 128, x (ix2 r d) * y (ix2 l d) := by
  refine (Ideal.matmul_apply₁_of (dNT h) (a := 1) rfl (K := 128) rfl x y (constant (F := Ideal) (SR E) .f32 0x00000000#32) (ix2 r l)
    (fun d => ix2 r d) (fun d => ix2 l d) (fun d => by funext a; fin_cases a <;> rfl) (fun d => by funext a; fin_cases a <;> rfl)).trans ?_
  pointwise

theorem matmul_tn (x : FVec Ideal (SR E) .bf16) (y : FVec Ideal S256x128 .bf16) (l : Fin E) (d : Fin 128) :
    matmul (dTN h) none x y (constant (SK E) .f32 0x00000000#32) (ix2 l d) = ∑ r : Fin 256, x (ix2 r l) * y (ix2 r d) := by
  refine (Ideal.matmul_apply₁_of (dTN h) (a := 0) rfl (K := 256) rfl x y (constant (F := Ideal) (SK E) .f32 0x00000000#32) (ix2 l d)
    (fun r => ix2 r l) (fun r => ix2 r d) (fun d => by funext a; fin_cases a <;> rfl) (fun d => by funext a; fin_cases a <;> rfl)).trans ?_
  pointwise

theorem matmul_nn (x : FVec Ideal (SR E) .bf16) (y : FVec Ideal (SK E) .bf16) (r : Fin 256) (d : Fin 128) :
    matmul (dNN h) none x y (constant S256x128 .f32 0x00000000#32) (ix2 r d) = ∑ l : Fin E, x (ix2 r l) * y (ix2 l d) := by
  refine (Ideal.matmul_apply₁_of (dNN h) (a := 1) rfl (K := E) rfl x y (constant (F := Ideal) S256x128 .f32 0x00000000#32) (ix2 r d)
    (fun l => ix2 r l) (fun l => ix2 l d) (fun d => by funext a; fin_cases a <;> rfl) (fun d => by funext a; fin_cases a <;> rfl)).trans ?_
  pointwise

/-- Probabilities. -/
def probV (w : BitVec 32) (qn : FVec Ideal S256x128 .bf16) (kn : FVec Ideal (SK E) .bf16) (qr : FVec Ideal S256x128 .bf16) (kr : FVec Ideal (SK E) .bf16) (lse : FVec Ideal S256x1 .f32) : FVec Ideal (SR E) .f32 :=
  exp (subf
    (select (cmpi .sle (iota .tc (SR E) 32 [1] h.io1) (addi (broadcast (SR E) (Scalar.muli w 256#32)) (iota .tc (SR E) 32 [0] h.io0)))
      (mulf (addf (matmul (dNT h) none qn kn (constant (SR E) .f32 0x00000000#32)) (matmul (dNT h) none qr kr (constant (SR E) .f32 0x00000000#32)))
        (broadcast (SR E) (Scalar.ofBits .f32 0x3D93CD3A#32)))
      (broadcast (SR E) (Scalar.ofBits .f32 0xFF800000#32)))
    (broadcastTo (SR E) lse h.bc))

theorem probV_apply {b : ℕ} (hb : b < 8) (hE : E ≤ 2048) (qn kn qr kr lse) (r : Fin 256) (l : Fin E) :
    probV h (BitVec.ofNat 32 b) qn kn qr kr lse (ix2 r l)
      = Ideal.exp ((if l.val ≤ 256 * b + r.val then
          (∑ d : Fin 128, qn (ix2 r d) * kn (ix2 l d) + ∑ d : Fin 128, qr (ix2 r d) * kr (ix2 l d)) * κ else ⊥) - lse (ix2 r 0)) := by
  rw [← matmul_nt h, ← matmul_nt h]
  unfold probV
  generalize matmul (dNT h) none qn kn _ = A
  generalize matmul (dNT h) none qr kr _ = B
  pointwise
  have e : IntOp.addi (Scalar.muli (BitVec.ofNat 32 b) 256#32) (BitVec.ofNat 32 r.val) = BitVec.ofNat 32 (256 * b + r.val) := by
    show BitVec.ofNat 32 b * BitVec.ofNat 32 256 + BitVec.ofNat 32 r.val = _
    rw [← BitVec.ofNat_mul, ← BitVec.ofNat_add, Nat.mul_comm]
  have hr := r.isLt
  have hl := l.isLt
  rw [e, WordCmp.cmpi_sle_ofNat (by omega) (by omega), WordCmp.select_ofBool]
  simp only [decide_eq_true_eq]
  rfl

/-- Gradients of the scores. -/
def dsV (P : FVec Ideal (SR E) .f32) (g : FVec Ideal S256x128 .f32) (vn : FVec Ideal (SK E) .bf16) (o : FVec Ideal S256x128 .bf16) : FVec Ideal (SR E) .bf16 :=
  truncf .bf16 (mulf (mulf P (subf (matmul (dNT h) none (truncf .bf16 g bitsLt_bf16_f32) vn (constant (SR E) .f32 0x00000000#32))
    (broadcastTo (SR E) (shapeCast S256x1 (multiReduction .add [1] S256 (mulf g (extf .f32 (shapeCast S256x128 o shapeCasts_S256x128_S256x128) bitsLt_bf16_f32))
      0x00000000#32 reduces_S256x128_S256 (.inl rfl) rfl) shapeCasts_S256_S256x1) h.bc)))
    (broadcast (SR E) (Scalar.ofBits .f32 0x3D93CD3A#32))) bitsLt_bf16_f32

theorem dsV_apply (P g vn o) (r : Fin 256) (l : Fin E) :
    dsV h P g vn o (ix2 r l)
      = P (ix2 r l) * (∑ d : Fin 128, g (ix2 r d) * vn (ix2 l d) - ∑ d : Fin 128, g (ix2 r d) * o (ix2 r d)) * κ := by
  have e := matmul_nt h (truncf .bf16 g bitsLt_bf16_f32) vn r l
  unfold dsV
  revert e
  generalize matmul (dNT h) none _ vn _ = A
  intro e
  pointwise
  rw [e]
  pointwise
  rfl

/-- A product over the query rows added to what was there. -/
def accV (p : FVec Ideal (SK E) .f32) (X : FVec Ideal (SR E) .bf16) (Y : FVec Ideal S256x128 .bf16) : FVec Ideal (SK E) .f32 :=
  addf (shapeCast (SK E) p h.sc) (matmul (dTN h) none X Y (constant (SK E) .f32 0x00000000#32))

theorem accV_apply (p X Y) (l : Fin E) (d : Fin 128) : accV h p X Y (ix2 l d) = p (ix2 l d) + ∑ r : Fin 256, X (ix2 r l) * Y (ix2 r d) := by
  rw [← matmul_tn h]
  unfold accV
  generalize matmul (F := Ideal) (dTN h) none X Y _ = A
  pointwise

/-- Head 0's rotary query. -/
def rot0V (x : FVec Ideal S256x128 .bf16) : FVec Ideal S256x128 .bf16 :=
  select (cmpi .slt (iota .tc S256x128 32 [1] iota_S256x128_d1_w32) (broadcast S256x128 64#32)) x (broadcast S256x128 (Scalar.ofBits .bf16 0x0000#16))

/-- Head 1's rotary query. -/
def rot1V (x : FVec Ideal S256x128 .bf16) : FVec Ideal S256x128 .bf16 :=
  select (cmpi .sge (iota .tc S256x128 32 [1] iota_S256x128_d1_w32) (broadcast S256x128 64#32)) x (broadcast S256x128 (Scalar.ofBits .bf16 0x0000#16))

theorem rot0V_apply (x) (r : Fin 256) (d : Fin 128) : rot0V x (ix2 r d) = rot x 0 r d := by
  unfold rot0V rot
  have hd := d.isLt
  pointwise
  rw [WordCmp.cmpi_slt_ofNat (b := 64) (by omega) (by omega), WordCmp.select_ofBool]
  simp only [decide_eq_true_eq]
  exact if_congr (by show _ ↔ d.val / 64 = 0; omega) rfl rfl

theorem rot1V_apply (x) (r : Fin 256) (d : Fin 128) : rot1V x (ix2 r d) = rot x 1 r d := by
  unfold rot1V rot
  have hd := d.isLt
  pointwise
  rw [show IntOp.cmpi .sge (BitVec.ofNat 32 d.val) 64#32 = IntOp.cmpi .sle (BitVec.ofNat 32 64) (BitVec.ofNat 32 d.val) from rfl,
    WordCmp.cmpi_sle_ofNat (a := 64) (by omega) (by omega), WordCmp.select_ofBool]
  simp only [decide_eq_true_eq]
  exact if_congr (by show _ ↔ d.val / 64 = 1; omega) rfl rfl

/-- Head 0's column of logarithms. -/
def lse0V (x : FVec Ideal S256x128 .f32) : FVec Ideal S256x1 .f32 :=
  extractStridedSlice S256x1 ![0, 0] (shapeCast S256x128 x shapeCasts_S256x128_S256x128) slices_S256x128_o0_0_S256x1

/-- Head 1's column of logarithms. -/
def lse1V (x : FVec Ideal S256x128 .f32) : FVec Ideal S256x1 .f32 :=
  extractStridedSlice S256x1 ![0, 64] (shapeCast S256x128 x shapeCasts_S256x128_S256x128) slices_S256x128_o0_64_S256x1

theorem lse0V_apply (x) (r : Fin 256) : lse0V x (ix2 r 0) = x (ix2 r 0) := by
  unfold lse0V
  pointwise

theorem lse1V_apply (x) (r : Fin 256) : lse1V x (ix2 r 0) = x (ix2 r 64) := by
  unfold lse1V
  pointwise

/-- A product over the keys. -/
def nnV (X : FVec Ideal (SR E) .bf16) (Y : FVec Ideal (SK E) .bf16) : FVec Ideal S256x128 .f32 := matmul (dNN h) none X Y (constant S256x128 .f32 0x00000000#32)

theorem nnV_apply (X Y) (r : Fin 256) (d : Fin 128) : nnV h X Y (ix2 r d) = ∑ l : Fin E, X (ix2 r l) * Y (ix2 l d) := matmul_nn h X Y r d

/-- The rotary gradient: head 0's lanes, then head 1's. -/
def dqrV (A B : FVec Ideal S256x128 .f32) : FVec Ideal S256x128 .f32 :=
  select (cmpi .slt (iota .tc S256x128 32 [1] iota_S256x128_d1_w32) (broadcast S256x128 64#32)) A B

theorem dqrV_apply (A B) (r : Fin 256) (d : Fin 128) : dqrV A B (ix2 r d) = if d.val < 64 then A (ix2 r d) else B (ix2 r d) := by
  unfold dqrV
  have hd := d.isLt
  pointwise
  rw [WordCmp.cmpi_slt_ofNat (b := 64) (by omega) (by omega), WordCmp.select_ofBool]
  simp only [decide_eq_true_eq]

end Attn
end
-- ==== Proof.Attn.Reads.lean ====
module

public import proofs.«01_k».proof.Proof.Attn.Block

@[expose] public section

/-!
# What a block's stores leave in the buffers
-/

set_option maxRecDepth 16384

noncomputable section

namespace Attn

open Idealize.ShloMosaic Cert.KernelIdeal

variable [Facts]
open Facts₀ Facts

section Put

variable {sig : RefSig} {κ : Kind} {sp : Space} {e : EltTy} {N E : ℕ}

/-- Two stores of the two halves of the first `E` rows, over contents `A`, leave `T`. -/
theorem halves_read (v : View sig κ sp ⟨2, ![N, 256]⟩ e) (f : v.ty.Contents (Elt Ideal)) (L : List (View.Piece (Elt Ideal) ⟨2, ![N, 256]⟩ e))
    (A T : (⟨2, ![N, 256]⟩ : Shape).Idx → Elt Ideal e) (hA : v.read (Elt Ideal) (v.writes (Elt Ideal) f L) = A) (hE : E ≤ N)
    (inb0 : ∀ a, (![0, 0] : Fin 2 → ℕ) a + (SK E).size a ≤ (⟨2, ![N, 256]⟩ : Shape).size a)
    (inb1 : ∀ a, (![0, 128] : Fin 2 → ℕ) a + (SK E).size a ≤ (⟨2, ![N, 256]⟩ : Shape).size a) (w0 w1 : (SK E).Idx → Elt Ideal e)
    (h0 : ∀ (l : Fin E) (d : Fin 128), w0 (ix2 l d) = T (ix2 (l.castLE hE) (lane 0 d)))
    (h1 : ∀ (l : Fin E) (d : Fin 128), w1 (ix2 l d) = T (ix2 (l.castLE hE) (lane 1 d)))
    (hT : ∀ (l : Fin N) (c : Fin 256), E ≤ l.val → T (ix2 l c) = A (ix2 l c)) :
    v.read (Elt Ideal) (v.writes (Elt Ideal) f (⟨Rect.unit (s := ⟨2, ![N, 256]⟩) ![0, 128] (SK E).size inb1, w1⟩
      :: ⟨Rect.unit (s := ⟨2, ![N, 256]⟩) ![0, 0] (SK E).size inb0, w0⟩ :: L)) = T := by
  funext y
  obtain ⟨l, c, rfl⟩ : ∃ (l : Fin N) (c : Fin 256), y = ix2 l c := ⟨y 0, y 1, eq_ix2 y⟩
  have hc := c.isLt
  by_cases hl : l.val < E
  · by_cases h : c.val < 128
    · rw [View.read_writes_cons_unit_of_not_mem v f inb1 w1 _ _ rfl 1 (.inl h),
        View.read_writes_cons_unit_of_mem v f inb0 w0 _ _ (ix2 ⟨l.val, hl⟩ ⟨c.val, h⟩) rfl (Fin.forall_fin_two.mpr ⟨(Nat.zero_add _).symm, (Nat.zero_add _).symm⟩), h0]
      exact congrArg T (congrArg₂ ix2 rfl (Fin.ext (by show 128 * 0 + c.val = c.val; omega)))
    · have h' : 128 + (c.val - 128) = c.val := by omega
      rw [View.read_writes_cons_unit_of_mem v f inb1 w1 _ _ (ix2 ⟨l.val, hl⟩ ⟨c.val - 128, by omega⟩) rfl (Fin.forall_fin_two.mpr ⟨(Nat.zero_add _).symm, h'.symm⟩), h1]
      exact congrArg T (congrArg₂ ix2 rfl (Fin.ext h'))
  · rw [View.read_writes_cons_unit_of_not_mem v f inb1 w1 _ _ rfl 0 (.inr (by show 0 + E ≤ l.val; omega)),
      View.read_writes_cons_unit_of_not_mem v f inb0 w0 _ _ rfl 0 (.inr (by show 0 + E ≤ l.val; omega)), hA, hT l c (by omega)]

/-- A store of the first `E` rows over contents `A` leaves `T`. -/
theorem rows_read (v : View sig κ sp ⟨2, ![N, 128]⟩ e) (f : v.ty.Contents (Elt Ideal)) (L : List (View.Piece (Elt Ideal) ⟨2, ![N, 128]⟩ e))
    (A T : (⟨2, ![N, 128]⟩ : Shape).Idx → Elt Ideal e) (hA : ∀ (l : Fin N) (c : Fin 128), E ≤ l.val → v.read (Elt Ideal) (v.writes (Elt Ideal) f L) (ix2 l c) = A (ix2 l c)) (hE : E ≤ N)
    (inb0 : ∀ a, (![0, 0] : Fin 2 → ℕ) a + (SK E).size a ≤ (⟨2, ![N, 128]⟩ : Shape).size a) (w0 : (SK E).Idx → Elt Ideal e)
    (h0 : ∀ (l : Fin E) (d : Fin 128), w0 (ix2 l d) = T (ix2 (l.castLE hE) d))
    (hT : ∀ (l : Fin N) (c : Fin 128), E ≤ l.val → T (ix2 l c) = A (ix2 l c)) :
    v.read (Elt Ideal) (v.writes (Elt Ideal) f (⟨Rect.unit (s := ⟨2, ![N, 128]⟩) ![0, 0] (SK E).size inb0, w0⟩ :: L)) = T := by
  funext y
  obtain ⟨l, c, rfl⟩ : ∃ (l : Fin N) (c : Fin 128), y = ix2 l c := ⟨y 0, y 1, eq_ix2 y⟩
  by_cases hl : l.val < E
  · rw [View.read_writes_cons_unit_of_mem v f inb0 w0 _ _ (ix2 ⟨l.val, hl⟩ c) rfl (Fin.forall_fin_two.mpr ⟨(Nat.zero_add _).symm, (Nat.zero_add _).symm⟩), h0]
    rfl
  · rw [View.read_writes_cons_unit_of_not_mem v f inb0 w0 _ _ rfl 0 (.inr (by show 0 + E ≤ l.val; omega)), hA l c (by omega), hT l c (by omega)]

end Put

variable {E : ℕ} (h : Sides E) {b : ℕ} (hb : b < 8) (hE : E = 256 * (b + 1))
variable {q : (⟨2, ![256, 256]⟩ : Shape).Idx → EReal} {qr : (⟨2, ![256, 128]⟩ : Shape).Idx → EReal}
  {k : (⟨2, ![2048, 256]⟩ : Shape).Idx → EReal} {kr : (⟨2, ![2048, 128]⟩ : Shape).Idx → EReal} {v : (⟨2, ![2048, 256]⟩ : Shape).Idx → EReal}
  {o : (⟨2, ![256, 256]⟩ : Shape).Idx → EReal} {lse : (⟨2, ![256, 128]⟩ : Shape).Idx → EReal} {g : (⟨2, ![256, 256]⟩ : Shape).Idx → EReal}

/-- The vectors loaded for head `j` are its lanes of the blocks. -/
structure Head (hE : E ≤ 2048) (q : (⟨2, ![256, 256]⟩ : Shape).Idx → EReal) (k v : (⟨2, ![2048, 256]⟩ : Shape).Idx → EReal) (o g : (⟨2, ![256, 256]⟩ : Shape).Idx → EReal)
    (j : Fin 2) (qn : FVec Ideal S256x128 .bf16) (kn vn : FVec Ideal (SK E) .bf16) (on : FVec Ideal S256x128 .bf16) (gn : FVec Ideal S256x128 .f32) : Prop where
  q : ∀ r d, qn (ix2 r d) = q (ix2 r (lane j d))
  k : ∀ l d, kn (ix2 l d) = k (ix2 (l.castLE hE) (lane j d))
  v : ∀ l d, vn (ix2 l d) = v (ix2 (l.castLE hE) (lane j d))
  o : ∀ r d, on (ix2 r d) = o (ix2 r (lane j d))
  g : ∀ r d, gn (ix2 r d) = g (ix2 r (lane j d))

variable {hE' : E ≤ 2048} {j : Fin 2} {qn : FVec Ideal S256x128 .bf16} {kn vn : FVec Ideal (SK E) .bf16} {on : FVec Ideal S256x128 .bf16} {gn : FVec Ideal S256x128 .f32}
  {ro : FVec Ideal S256x128 .bf16} {ls : FVec Ideal S256x1 .f32} {ky : FVec Ideal (SK E) .bf16}

/-- The block's probabilities of head `j`. -/
theorem prob_of (hb : b < 8) (H : Head hE' q k v o g j qn kn vn on gn) (hr : ∀ r d, ro (ix2 r d) = rot qr j r d)
    (hl : ∀ r : Fin 256, ls (ix2 r 0) = lse (ix2 r ⟨64 * j.val, by omega⟩)) (hk : ∀ (l : Fin E) (d : Fin 128), ky (ix2 l d) = kr (ix2 (l.castLE hE') d)) (r : Fin 256) (l : Fin E) :
    probV h (BitVec.ofNat 32 b) qn kn ro (shapeCast (SK E) ky h.sc) ls (ix2 r l) = prob b q qr k kr lse j r (l.castLE hE') := by
  rw [probV_apply h hb hE', hl]
  have e : ∀ d, shapeCast (SK E) ky h.sc (ix2 l d) = ky (ix2 l d) := fun d => by pointwise
  simp only [e, H.q, H.k, hr, hk]
  rfl

/-- The block's gradients of the scores of head `j`. -/
theorem dscore_of (hb : b < 8) (H : Head hE' q k v o g j qn kn vn on gn) (hr : ∀ r d, ro (ix2 r d) = rot qr j r d)
    (hl : ∀ r : Fin 256, ls (ix2 r 0) = lse (ix2 r ⟨64 * j.val, by omega⟩)) (hk : ∀ (l : Fin E) (d : Fin 128), ky (ix2 l d) = kr (ix2 (l.castLE hE') d)) (r : Fin 256) (l : Fin E) :
    dsV h (probV h (BitVec.ofNat 32 b) qn kn ro (shapeCast (SK E) ky h.sc) ls) gn vn on (ix2 r l) = dscore b q qr k kr v o lse g j r (l.castLE hE') := by
  rw [dsV_apply, prob_of h hb H hr hl hk]
  simp only [H.g, H.v, H.o]
  rfl

section Contents

variable {qn0 qn1 : FVec Ideal S256x128 .bf16} {kn0 vn0 kn1 vn1 ky0 ky1 : FVec Ideal (SK E) .bf16} {on0 on1 xr : FVec Ideal S256x128 .bf16} {gn0 gn1 : FVec Ideal S256x128 .f32}
  {xl : FVec Ideal S256x128 .f32}

/-- The block's probabilities of head 0, off the vectors loaded. -/
def P0 (w : BitVec 32) (qn0 : FVec Ideal S256x128 .bf16) (kn0 ky0 : FVec Ideal (SK E) .bf16) (xr : FVec Ideal S256x128 .bf16) (xl : FVec Ideal S256x128 .f32) : FVec Ideal (SR E) .f32 :=
  probV h w qn0 kn0 (rot0V xr) (shapeCast (SK E) ky0 h.sc) (lse0V xl)

/-- The block's probabilities of head 1, off the vectors loaded. -/
def P1 (w : BitVec 32) (qn1 : FVec Ideal S256x128 .bf16) (kn1 ky1 : FVec Ideal (SK E) .bf16) (xr : FVec Ideal S256x128 .bf16) (xl : FVec Ideal S256x128 .f32) : FVec Ideal (SR E) .f32 :=
  probV h w qn1 kn1 (rot1V xr) (shapeCast (SK E) ky1 h.sc) (lse1V xl)

/-- The loads of a block of query rows: both heads', the rotary queries' and keys', the logarithms'. -/
structure Loads (hE : E ≤ 2048) (q : (⟨2, ![256, 256]⟩ : Shape).Idx → EReal) (qr : (⟨2, ![256, 128]⟩ : Shape).Idx → EReal) (k : (⟨2, ![2048, 256]⟩ : Shape).Idx → EReal)
    (kr : (⟨2, ![2048, 128]⟩ : Shape).Idx → EReal) (v : (⟨2, ![2048, 256]⟩ : Shape).Idx → EReal) (o : (⟨2, ![256, 256]⟩ : Shape).Idx → EReal)
    (lse : (⟨2, ![256, 128]⟩ : Shape).Idx → EReal) (g : (⟨2, ![256, 256]⟩ : Shape).Idx → EReal) (qn0 qn1 : FVec Ideal S256x128 .bf16) (kn0 vn0 kn1 vn1 ky0 ky1 : FVec Ideal (SK E) .bf16)
    (on0 on1 xr : FVec Ideal S256x128 .bf16) (gn0 gn1 : FVec Ideal S256x128 .f32) (xl : FVec Ideal S256x128 .f32) : Prop where
  head0 : Head hE q k v o g 0 qn0 kn0 vn0 on0 gn0
  head1 : Head hE q k v o g 1 qn1 kn1 vn1 on1 gn1
  qr : ∀ r d, xr (ix2 r d) = qr (ix2 r d)
  kr0 : ∀ (l : Fin E) (d : Fin 128), ky0 (ix2 l d) = kr (ix2 (l.castLE hE) d)
  kr1 : ∀ (l : Fin E) (d : Fin 128), ky1 (ix2 l d) = kr (ix2 (l.castLE hE) d)
  lse : ∀ r d, xl (ix2 r d) = lse (ix2 r d)

variable (H : Loads hE' q qr k kr v o lse g qn0 qn1 kn0 vn0 kn1 vn1 ky0 ky1 on0 on1 xr gn0 gn1 xl)
include H

theorem Loads.rot_eq0 (r : Fin 256) (d : Fin 128) : rot0V xr (ix2 r d) = rot qr 0 r d := by rw [rot0V_apply]; unfold rot; rw [H.qr]
theorem Loads.rot_eq1 (r : Fin 256) (d : Fin 128) : rot1V xr (ix2 r d) = rot qr 1 r d := by rw [rot1V_apply]; unfold rot; rw [H.qr]

theorem Loads.p0 (hb : b < 8) (r : Fin 256) (l : Fin E) : P0 h (BitVec.ofNat 32 b) qn0 kn0 ky0 xr xl (ix2 r l) = prob b q qr k kr lse 0 r (l.castLE hE') :=
  prob_of h hb H.head0 H.rot_eq0 (fun r => (lse0V_apply xl r).trans (H.lse r 0)) H.kr0 r l
theorem Loads.p1 (hb : b < 8) (r : Fin 256) (l : Fin E) : P1 h (BitVec.ofNat 32 b) qn1 kn1 ky1 xr xl (ix2 r l) = prob b q qr k kr lse 1 r (l.castLE hE') :=
  prob_of h hb H.head1 H.rot_eq1 (fun r => (lse1V_apply xl r).trans (H.lse r 64)) H.kr1 r l
theorem Loads.d0 (hb : b < 8) (r : Fin 256) (l : Fin E) :
    dsV h (P0 h (BitVec.ofNat 32 b) qn0 kn0 ky0 xr xl) gn0 vn0 on0 (ix2 r l) = dscore b q qr k kr v o lse g 0 r (l.castLE hE') :=
  dscore_of h hb H.head0 H.rot_eq0 (fun r => (lse0V_apply xl r).trans (H.lse r 0)) H.kr0 r l
theorem Loads.d1 (hb : b < 8) (r : Fin 256) (l : Fin E) :
    dsV h (P1 h (BitVec.ofNat 32 b) qn1 kn1 ky1 xr xl) gn1 vn1 on1 (ix2 r l) = dscore b q qr k kr v o lse g 1 r (l.castLE hE') :=
  dscore_of h hb H.head1 H.rot_eq1 (fun r => (lse1V_apply xl r).trans (H.lse r 64)) H.kr1 r l

variable {sig : RefSig} {κ : Kind} {sp : Space}

/-- The keys' gradient after the block. -/
theorem Loads.dk_read (hb : b < 8) (hE : E = 256 * (b + 1)) (w : View sig κ sp S2048x256 .f32) (f : w.ty.Contents (Elt Ideal)) (L) (A : S2048x256.Idx → EReal)
    (hA : w.read (Elt Ideal) (w.writes (Elt Ideal) f L) = A) (inb0 inb1) {p0 p1 : FVec Ideal (SK E) .f32}
    (h0 : ∀ l d, p0 (ix2 l d) = A (ix2 (l.castLE hE') (lane 0 d))) (h1 : ∀ l d, p1 (ix2 l d) = A (ix2 (l.castLE hE') (lane 1 d))) :
    w.read (Elt Ideal) (w.writes (Elt Ideal) f
      (⟨Rect.unit (s := S2048x256) ![0, 128] (SK E).size inb1, accV h p1 (dsV h (P1 h (BitVec.ofNat 32 b) qn1 kn1 ky1 xr xl) gn1 vn1 on1) qn1⟩
        :: ⟨Rect.unit (s := S2048x256) ![0, 0] (SK E).size inb0, accV h p0 (dsV h (P0 h (BitVec.ofNat 32 b) qn0 kn0 ky0 xr xl) gn0 vn0 on0) qn0⟩ :: L))
      = dk b q qr k kr v o lse g A := by
  refine halves_read w f L A (dk b q qr k kr v o lse g A) hA hE' inb0 inb1 _ _ (fun l d => ?_) (fun l d => ?_)
    (fun l c hl => dk_after b q qr k kr v o lse g A (by omega) c)
  · rw [accV_apply, h0, dk_lane]
    exact congrArg (_ + ·) (Finset.sum_congr rfl fun r _ => by rw [H.d0 h hb, H.head0.q])
  · rw [accV_apply, h1, dk_lane]
    exact congrArg (_ + ·) (Finset.sum_congr rfl fun r _ => by rw [H.d1 h hb, H.head1.q])

/-- The values' gradient after the block. -/
theorem Loads.dv_read (hb : b < 8) (hE : E = 256 * (b + 1)) (w : View sig κ sp S2048x256 .f32) (f : w.ty.Contents (Elt Ideal)) (L) (A : S2048x256.Idx → EReal)
    (hA : w.read (Elt Ideal) (w.writes (Elt Ideal) f L) = A) (inb0 inb1) {p0 p1 : FVec Ideal (SK E) .f32}
    (h0 : ∀ l d, p0 (ix2 l d) = A (ix2 (l.castLE hE') (lane 0 d))) (h1 : ∀ l d, p1 (ix2 l d) = A (ix2 (l.castLE hE') (lane 1 d))) :
    w.read (Elt Ideal) (w.writes (Elt Ideal) f
      (⟨Rect.unit (s := S2048x256) ![0, 128] (SK E).size inb1,
          accV h p1 (truncf .bf16 (P1 h (BitVec.ofNat 32 b) qn1 kn1 ky1 xr xl) bitsLt_bf16_f32) (truncf .bf16 gn1 bitsLt_bf16_f32)⟩
        :: ⟨Rect.unit (s := S2048x256) ![0, 0] (SK E).size inb0,
          accV h p0 (truncf .bf16 (P0 h (BitVec.ofNat 32 b) qn0 kn0 ky0 xr xl) bitsLt_bf16_f32) (truncf .bf16 gn0 bitsLt_bf16_f32)⟩ :: L))
      = dv b q qr k kr lse g A := by
  refine halves_read w f L A (dv b q qr k kr lse g A) hA hE' inb0 inb1 _ _ (fun l d => ?_) (fun l d => ?_)
    (fun l c hl => dv_after b q qr k kr lse g A (by omega) c)
  · rw [accV_apply, h0, dv_lane]
    exact congrArg (_ + ·) (Finset.sum_congr rfl fun r _ => congrArg₂ (· * ·) (H.p0 h hb r l) (H.head0.g r d))
  · rw [accV_apply, h1, dv_lane]
    exact congrArg (_ + ·) (Finset.sum_congr rfl fun r _ => congrArg₂ (· * ·) (H.p1 h hb r l) (H.head1.g r d))

/-- The gradient of the keys' rotary part after the block: head 1's store is over head 0's. -/
theorem Loads.dkr_read (hb : b < 8) (hE : E = 256 * (b + 1)) (w : View sig κ sp S2048x128 .f32) (f : w.ty.Contents (Elt Ideal)) (L) (A : S2048x128.Idx → EReal)
    (hA : w.read (Elt Ideal) (w.writes (Elt Ideal) f L) = A) (inb0 inb1) {p0 p1 : FVec Ideal (SK E) .f32}
    (h0 : ∀ l d, p0 (ix2 l d) = A (ix2 (l.castLE hE') d))
    (h1 : p1 = accV h p0 (dsV h (P0 h (BitVec.ofNat 32 b) qn0 kn0 ky0 xr xl) gn0 vn0 on0) (rot0V xr)) :
    w.read (Elt Ideal) (w.writes (Elt Ideal) f
      (⟨Rect.unit (s := S2048x128) ![0, 0] (SK E).size inb1, accV h p1 (dsV h (P1 h (BitVec.ofNat 32 b) qn1 kn1 ky1 xr xl) gn1 vn1 on1) (rot1V xr)⟩
        :: ⟨Rect.unit (s := S2048x128) ![0, 0] (SK E).size inb0, accV h p0 (dsV h (P0 h (BitVec.ofNat 32 b) qn0 kn0 ky0 xr xl) gn0 vn0 on0) (rot0V xr)⟩ :: L))
      = dkr b q qr k kr v o lse g A := by
  refine rows_read w f _ A (dkr b q qr k kr v o lse g A) (fun l c hl => ?_) hE' inb1 _ (fun l d => ?_) (fun l c hl => dkr_after b q qr k kr v o lse g A (by omega) c)
  · rw [View.read_writes_cons_unit_of_not_mem w f inb0 _ _ _ rfl 0 (.inr (by show 0 + E ≤ l.val; omega)), hA]
  · rw [h1, accV_apply, accV_apply, h0]
    exact congrArg₂ (· + ·) (congrArg (_ + ·) (Finset.sum_congr rfl fun r _ => by rw [H.d0 h hb, H.rot_eq0]; rfl))
      (Finset.sum_congr rfl fun r _ => by rw [H.d1 h hb, H.rot_eq1]; rfl)

/-- The queries' gradient after the block. -/
theorem Loads.dq_read (hb : b < 8) (hE : E = 256 * (b + 1)) (w : View sig κ sp S256x256 .bf16) (f : w.ty.Contents (Elt Ideal)) (L) (inb0 inb1) :
    w.read (Elt Ideal) (w.writes (Elt Ideal) f
      (⟨Rect.unit (s := S256x256) ![0, 128] S256x128.size inb1, truncf .bf16 (nnV h (dsV h (P1 h (BitVec.ofNat 32 b) qn1 kn1 ky1 xr xl) gn1 vn1 on1) kn1) bitsLt_bf16_f32⟩
        :: ⟨Rect.unit (s := S256x256) ![0, 0] S256x128.size inb0, truncf .bf16 (nnV h (dsV h (P0 h (BitVec.ofNat 32 b) qn0 kn0 ky0 xr xl) gn0 vn0 on0) kn0) bitsLt_bf16_f32⟩ :: L))
      = dq b q qr k kr v o lse g := by
  refine halves_read w f L _ (dq b q qr k kr v o lse g) rfl (le_refl 256) inb0 inb1 _ _ (fun r d => ?_) (fun r d => ?_) (fun r c hr => absurd hr (by have := r.isLt; omega))
  · refine (nnV_apply h _ _ r d).trans (.trans ?_ (dq_lane b q qr k kr v o lse g 0 r d).symm)
    rw [← sum_dscore b q qr k kr v o lse g hE' hE 0 r fun l => k (ix2 l (lane 0 d))]
    exact Finset.sum_congr rfl fun l _ => by rw [H.d0 h hb, H.head0.k]
  · refine (nnV_apply h _ _ r d).trans (.trans ?_ (dq_lane b q qr k kr v o lse g 1 r d).symm)
    rw [← sum_dscore b q qr k kr v o lse g hE' hE 1 r fun l => k (ix2 l (lane 1 d))]
    exact Finset.sum_congr rfl fun l _ => by rw [H.d1 h hb, H.head1.k]

/-- The gradient of the queries' rotary part after the block. -/
theorem Loads.dqr_read (hb : b < 8) (hE : E = 256 * (b + 1)) (w : View sig κ sp S256x128 .f32) (f : w.ty.Contents (Elt Ideal)) (L) (inb0) :
    w.read (Elt Ideal) (w.writes (Elt Ideal) f
      (⟨Rect.unit (s := S256x128) ![0, 0] S256x128.size inb0,
        dqrV (nnV h (dsV h (P0 h (BitVec.ofNat 32 b) qn0 kn0 ky0 xr xl) gn0 vn0 on0) (shapeCast (SK E) ky0 h.sc))
          (nnV h (dsV h (P1 h (BitVec.ofNat 32 b) qn1 kn1 ky1 xr xl) gn1 vn1 on1) (shapeCast (SK E) ky1 h.sc))⟩ :: L))
      = dqr b q qr k kr v o lse g := by
  refine rows_read w f L (w.read (Elt Ideal) (w.writes (Elt Ideal) f L)) (dqr b q qr k kr v o lse g) (fun _ _ _ => rfl) (le_refl 256) inb0 _ (fun r d => ?_)
    (fun r c hr => absurd hr (by have := r.isLt; omega))
  have e0 : ∀ l d, shapeCast (SK E) ky0 h.sc (ix2 l d) = kr (ix2 (l.castLE hE') d) := fun l d => .trans (by pointwise) (H.kr0 l d)
  have e1 : ∀ l d, shapeCast (SK E) ky1 h.sc (ix2 l d) = kr (ix2 (l.castLE hE') d) := fun l d => .trans (by pointwise) (H.kr1 l d)
  have hd := d.isLt
  rw [dqrV_apply, nnV_apply, nnV_apply]
  simp only [H.d0 h hb, H.d1 h hb, e0, e1]
  rw [sum_dscore b q qr k kr v o lse g hE' hE 0 r fun l => kr (ix2 l d), sum_dscore b q qr k kr v o lse g hE' hE 1 r fun l => kr (ix2 l d)]
  by_cases hd' : d.val < 64
  · rw [if_pos hd']
    exact congrArg (fun i => ∑ l : Fin 2048, dscore b q qr k kr v o lse g i r l * kr (ix2 l d)) (Fin.ext (by show 0 = d.val / 64; omega))
  · rw [if_neg hd']
    exact congrArg (fun i => ∑ l : Fin 2048, dscore b q qr k kr v o lse g i r l * kr (ix2 l d)) (Fin.ext (by show 1 = d.val / 64; omega))

end Contents

end Attn

end
-- ==== Proof.Attn.Body.lean ====
module

public import proofs.«01_k».proof.Proof.Gen.KernelIdeal.Skeleton
public import proofs.«01_k».proof.Proof.Gen.KernelIdeal.Frame
public import proofs.«01_k».proof.Proof.Attn.Reads
public import Idealize.ShloMosaic.Lib.WholeRead

@[expose] public section

/-!
# What one run of the kernel's body does

The thirteen buffers hold `x0 … x12` before it and, after it, the inputs' what they held and the outputs' `y8 … y12`.
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The body's run from contents `x0 … x12` to contents `x0 … x7, y8 … y12`. -/
def BodyTo (c : Dev nD) (i : grid0.Coords) (arg3 : Memref sig .tc .vmem S256x256 .bf16) (harg3 : arg3.IsWhole)
    (arg4 : Memref sig .tc .vmem S256x128 .bf16) (harg4 : arg4.IsWhole)
    (arg5 : Memref sig .tc .vmem S2048x256 .bf16) (harg5 : arg5.IsWhole)
    (arg6 : Memref sig .tc .vmem S2048x128 .bf16) (harg6 : arg6.IsWhole)
    (arg7 : Memref sig .tc .vmem S2048x256 .bf16) (harg7 : arg7.IsWhole)
    (arg8 : Memref sig .tc .vmem S256x256 .bf16) (harg8 : arg8.IsWhole)
    (arg9 : Memref sig .tc .vmem S256x128 .f32) (harg9 : arg9.IsWhole)
    (arg10 : Memref sig .tc .vmem S256x256 .f32) (harg10 : arg10.IsWhole)
    (arg11 : Memref sig .tc .vmem S256x256 .bf16) (harg11 : arg11.IsWhole)
    (arg12 : Memref sig .tc .vmem S256x128 .f32) (harg12 : arg12.IsWhole)
    (arg13 : Memref sig .tc .vmem S2048x256 .f32) (harg13 : arg13.IsWhole)
    (arg14 : Memref sig .tc .vmem S2048x128 .f32) (harg14 : arg14.IsWhole)
    (arg15 : Memref sig .tc .vmem S2048x256 .f32) (harg15 : arg15.IsWhole)
    (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)
    (y8 : Vec Ideal S256x256 .bf16)
    (y9 : Vec Ideal S256x128 .f32)
    (y10 : Vec Ideal S2048x256 .f32)
    (y11 : Vec Ideal S2048x128 .f32)
    (y12 : Vec Ideal S2048x256 .f32) : Prop :=
  ∀ (E : Set ℕ) (K : PUnit → sProp 𝕄),
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare x8
      ∗ owns (c : Thread nD τ) arg12 fullShare x9
      ∗ owns (c : Thread nD τ) arg13 fullShare x10
      ∗ owns (c : Thread nD τ) arg14 fullShare x11
      ∗ owns (c : Thread nD τ) arg15 fullShare x12
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare y8
      ∗ owns (c : Thread nD τ) arg12 fullShare y9
      ∗ owns (c : Thread nD τ) arg13 fullShare y10
      ∗ owns (c : Thread nD τ) arg14 fullShare y11
      ∗ owns (c : Thread nD τ) arg15 fullShare y12) -∗ K ⟨⟩))
    ⊢ wp frame (wpE (defs₀ (F := Ideal)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K

/-- A buffer whose memref reads `y` is held at some contents that read `y`. -/
theorem owns_of_read {sp : Space} {s : Shape} {e : EltTy} (c : Dev nD) (a : Memref sig .tc sp s e) {f : a.view.ty.Contents (Elt Ideal)} {y : Vec Ideal s e}
    (h : a.view.read (Elt Ideal) f = y) : (iprop(a.view.loc (c : Thread nD τ) ↦[a.view.set]{fullShare} f) : sProp 𝕄) ⊢ iprop(∃ f, ⌜a.view.read (Elt Ideal) f = y⌝ ∗ (a.view.loc (c : Thread nD τ) ↦[a.view.set]{fullShare} f)) := by
  iintro H
  iexists _
  isplitr
  · ipureintro; exact h
  iexact H

section Loads

variable {N E : ℕ} {e : EltTy} {sp : Space}

/-- The first `E` rows at head `j`'s lanes, loaded. -/
theorem ld_lane {a : Memref sig .tc sp ⟨2, ![N, 256]⟩ e} (ha : a.IsWhole) (x : Vec Ideal ⟨2, ![N, 256]⟩ e) (hE : E ≤ N) (j : Fin 2) {n : ℕ} (hn : n = 128 * j.val)
    (inb : ∀ a, (![0, n] : Fin 2 → ℕ) a + (SK E).size a ≤ (⟨2, ![N, 256]⟩ : Shape).size a) (l : Fin E) (d : Fin 128) :
    View.readAt (Elt Ideal) a.view (Rect.unit (s := ⟨2, ![N, 256]⟩) ![0, n] (SK E).size inb).toLoadRect (ha.unread x) (ix2 l d) = x (ix2 (l.castLE hE) (lane j d)) := by
  rw [ha.readAt_unread]
  refine congrArg x (funext fun a => Fin.ext ?_)
  revert a
  refine Fin.forall_fin_two.mpr ⟨?_, ?_⟩
  · show 0 + 1 * l.val = l.val; omega
  · show n + 1 * d.val = 128 * j.val + d.val; omega

/-- The first `E` rows loaded. -/
theorem ld_rows {a : Memref sig .tc sp ⟨2, ![N, 128]⟩ e} (ha : a.IsWhole) (x : Vec Ideal ⟨2, ![N, 128]⟩ e) (hE : E ≤ N)
    (inb : ∀ a, (![0, 0] : Fin 2 → ℕ) a + (SK E).size a ≤ (⟨2, ![N, 128]⟩ : Shape).size a) (l : Fin E) (d : Fin 128) :
    View.readAt (Elt Ideal) a.view (Rect.unit (s := ⟨2, ![N, 128]⟩) ![0, 0] (SK E).size inb).toLoadRect (ha.unread x) (ix2 l d) = x (ix2 (l.castLE hE) d) := by
  rw [ha.readAt_unread]
  refine congrArg x (funext fun a => Fin.ext ?_)
  revert a
  refine Fin.forall_fin_two.mpr ⟨?_, ?_⟩
  · show 0 + 1 * l.val = l.val; omega
  · show 0 + 1 * d.val = d.val; omega

/-! A buffer filled with zeros. -/

variable {κ : Kind}

theorem zero_read {s : Shape} (w : View sig κ sp s .f32) (f : w.ty.Contents (Elt Ideal)) {off : Fin s.rank → ℕ} (inb : ∀ a, off a + s.size a ≤ s.size a) {z : s.Idx → EReal} (hz : ∀ y, z y = 0) :
    w.read (Elt Ideal) (w.writes (Elt Ideal) f [⟨Rect.unit (s := s) off s.size inb, z⟩]) = fun _ => 0 :=
  (View.read_writes_full w f inb z []).trans (funext hz)

theorem zero_ld {s : Shape} (w : View sig κ sp s .f32) {off : Fin s.rank → ℕ} (inb : ∀ a, off a + s.size a ≤ s.size a) {z : s.Idx → EReal} (hz : ∀ y, z y = 0) (B : LoadRect s) (x) :
    w.readCov (Val := Elt Ideal) [⟨Rect.unit (s := s) off s.size inb, z⟩] B x = 0 :=
  congrFun (zero_read w w.junk inb hz) (B.idx x)

theorem zero_ld1 (w : View sig κ sp ⟨2, ![N, 256]⟩ .f32) {off : Fin 2 → ℕ} (inb : ∀ a, off a + (⟨2, ![N, 256]⟩ : Shape).size a ≤ (⟨2, ![N, 256]⟩ : Shape).size a)
    {z : (⟨2, ![N, 256]⟩ : Shape).Idx → Elt Ideal .f32} (hz : ∀ y, z y = (0 : EReal))
    (inb0 : ∀ a, (![0, 0] : Fin 2 → ℕ) a + (SK E).size a ≤ (⟨2, ![N, 256]⟩ : Shape).size a) (w0 : (Rect.unit (s := ⟨2, ![N, 256]⟩) ![0, 0] (SK E).size inb0).shape.Idx → Elt Ideal .f32)
    (inb1 : ∀ a, (![0, 128] : Fin 2 → ℕ) a + (SK E).size a ≤ (⟨2, ![N, 256]⟩ : Shape).size a) (x : (SK E).Idx) :
    w.readCov (Val := Elt Ideal) [⟨Rect.unit (s := ⟨2, ![N, 256]⟩) ![0, 0] (SK E).size inb0, w0⟩, ⟨Rect.unit (s := ⟨2, ![N, 256]⟩) off (⟨2, ![N, 256]⟩ : Shape).size inb, z⟩]
      (Rect.unit (s := ⟨2, ![N, 256]⟩) ![0, 128] (SK E).size inb1).toLoadRect x = (0 : EReal) := by
  show w.read (Elt Ideal) (w.writes (Elt Ideal) w.junk _) _ = _
  exact (View.read_writes_cons_unit_of_not_mem w w.junk inb0 w0 _ ((Rect.unit (s := ⟨2, ![N, 256]⟩) ![0, 128] (SK E).size inb1).toLoadRect.idx x) rfl 1
    (.inr (by show 0 + 128 ≤ 128 + 1 * (x 1).val; omega))).trans (congrFun (zero_read w w.junk inb hz) _)

end Loads

variable {E : ℕ}

/-- The input buffers' loads are the loads of a block. -/
theorem loads (hE : E ≤ 2048) {arg3 : Memref sig .tc .vmem S256x256 .bf16} (harg3 : arg3.IsWhole) {arg4 : Memref sig .tc .vmem S256x128 .bf16} (harg4 : arg4.IsWhole) {arg5 : Memref sig .tc .vmem S2048x256 .bf16} (harg5 : arg5.IsWhole) {arg6 : Memref sig .tc .vmem S2048x128 .bf16} (harg6 : arg6.IsWhole) {arg7 : Memref sig .tc .vmem S2048x256 .bf16} (harg7 : arg7.IsWhole) {arg8 : Memref sig .tc .vmem S256x256 .bf16} (harg8 : arg8.IsWhole) {arg9 : Memref sig .tc .vmem S256x128 .f32} (harg9 : arg9.IsWhole) {arg10 : Memref sig .tc .vmem S256x256 .f32} (harg10 : arg10.IsWhole)
    (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (i0 : ∀ a, (![0, 0] : Fin 2 → ℕ) a + S256x128.size a ≤ S256x256.size a) (i1 : ∀ a, (![0, 128] : Fin 2 → ℕ) a + S256x128.size a ≤ S256x256.size a)
    (i2 : ∀ a, (![0, 0] : Fin 2 → ℕ) a + S256x128.size a ≤ S256x128.size a)
    (k0 : ∀ a, (![0, 0] : Fin 2 → ℕ) a + (SK E).size a ≤ S2048x256.size a) (k1 : ∀ a, (![0, 128] : Fin 2 → ℕ) a + (SK E).size a ≤ S2048x256.size a)
    (k2 : ∀ a, (![0, 0] : Fin 2 → ℕ) a + (SK E).size a ≤ S2048x128.size a) :
    Loads hE x0 x1 x2 x3 x4 x5 x6 x7
      (View.readAt (Elt Ideal) arg3.view (Rect.unit (s := S256x256) ![0, 0] S256x128.size i0).toLoadRect (harg3.unread x0))
      (View.readAt (Elt Ideal) arg3.view (Rect.unit (s := S256x256) ![0, 128] S256x128.size i1).toLoadRect (harg3.unread x0))
      (View.readAt (Elt Ideal) arg5.view (Rect.unit (s := S2048x256) ![0, 0] (SK E).size k0).toLoadRect (harg5.unread x2))
      (View.readAt (Elt Ideal) arg7.view (Rect.unit (s := S2048x256) ![0, 0] (SK E).size k0).toLoadRect (harg7.unread x4))
      (View.readAt (Elt Ideal) arg5.view (Rect.unit (s := S2048x256) ![0, 128] (SK E).size k1).toLoadRect (harg5.unread x2))
      (View.readAt (Elt Ideal) arg7.view (Rect.unit (s := S2048x256) ![0, 128] (SK E).size k1).toLoadRect (harg7.unread x4))
      (View.readAt (Elt Ideal) arg6.view (Rect.unit (s := S2048x128) ![0, 0] (SK E).size k2).toLoadRect (harg6.unread x3))
      (View.readAt (Elt Ideal) arg6.view (Rect.unit (s := S2048x128) ![0, 0] (SK E).size k2).toLoadRect (harg6.unread x3))
      (View.readAt (Elt Ideal) arg8.view (Rect.unit (s := S256x256) ![0, 0] S256x128.size i0).toLoadRect (harg8.unread x5))
      (View.readAt (Elt Ideal) arg8.view (Rect.unit (s := S256x256) ![0, 128] S256x128.size i1).toLoadRect (harg8.unread x5))
      (View.readAt (Elt Ideal) arg4.view (Rect.unit (s := S256x128) ![0, 0] S256x128.size i2).toLoadRect (harg4.unread x1))
      (View.readAt (Elt Ideal) arg10.view (Rect.unit (s := S256x256) ![0, 0] S256x128.size i0).toLoadRect (harg10.unread x7))
      (View.readAt (Elt Ideal) arg10.view (Rect.unit (s := S256x256) ![0, 128] S256x128.size i1).toLoadRect (harg10.unread x7))
      (View.readAt (Elt Ideal) arg9.view (Rect.unit (s := S256x128) ![0, 0] S256x128.size i2).toLoadRect (harg9.unread x6)) where
  head0 := ⟨ld_lane (E := 256) harg3 x0 (le_refl _) 0 rfl _, ld_lane harg5 x2 _ 0 rfl _, ld_lane harg7 x4 _ 0 rfl _, ld_lane (E := 256) harg8 x5 (le_refl _) 0 rfl _, ld_lane (E := 256) harg10 x7 (le_refl _) 0 rfl _⟩
  head1 := ⟨ld_lane (E := 256) harg3 x0 (le_refl _) 1 rfl _, ld_lane harg5 x2 _ 1 rfl _, ld_lane harg7 x4 _ 1 rfl _, ld_lane (E := 256) harg8 x5 (le_refl _) 1 rfl _, ld_lane (E := 256) harg10 x7 (le_refl _) 1 rfl _⟩
  qr := ld_rows (E := 256) harg4 x1 (le_refl _) _
  kr0 := ld_rows harg6 x3 _ _
  kr1 := ld_rows harg6 x3 _ _
  lse := ld_rows (E := 256) harg9 x6 (le_refl _) _

/-! The shapes of every number of keys a block may read. -/

theorem sides256 : Sides 256 := ⟨dot_S256x128_S256x128_S256x256_1_1_0_0_n_n_wf, dot_S256x256_S256x128_S256x128_0_0_1_1_n_n_wf, dot_S256x256_S256x128_S256x128_1_0_0_1_n_n_wf, iota_S256x256_d0_w32, iota_S256x256_d1_w32, broadcasts_S256x1_S256x256, shapeCasts_S256x128_S256x128⟩
theorem sides512 : Sides 512 := ⟨dot_S256x128_S512x128_S256x512_1_1_0_0_n_n_wf, dot_S256x512_S256x128_S512x128_0_0_1_1_n_n_wf, dot_S256x512_S512x128_S256x128_1_0_0_1_n_n_wf, iota_S256x512_d0_w32, iota_S256x512_d1_w32, broadcasts_S256x1_S256x512, shapeCasts_S512x128_S512x128⟩
theorem sides768 : Sides 768 := ⟨dot_S256x128_S768x128_S256x768_1_1_0_0_n_n_wf, dot_S256x768_S256x128_S768x128_0_0_1_1_n_n_wf, dot_S256x768_S768x128_S256x128_1_0_0_1_n_n_wf, iota_S256x768_d0_w32, iota_S256x768_d1_w32, broadcasts_S256x1_S256x768, shapeCasts_S768x128_S768x128⟩
theorem sides1024 : Sides 1024 := ⟨dot_S256x128_S1024x128_S256x1024_1_1_0_0_n_n_wf, dot_S256x1024_S256x128_S1024x128_0_0_1_1_n_n_wf, dot_S256x1024_S1024x128_S256x128_1_0_0_1_n_n_wf, iota_S256x1024_d0_w32, iota_S256x1024_d1_w32, broadcasts_S256x1_S256x1024, shapeCasts_S1024x128_S1024x128⟩
theorem sides1280 : Sides 1280 := ⟨dot_S256x128_S1280x128_S256x1280_1_1_0_0_n_n_wf, dot_S256x1280_S256x128_S1280x128_0_0_1_1_n_n_wf, dot_S256x1280_S1280x128_S256x128_1_0_0_1_n_n_wf, iota_S256x1280_d0_w32, iota_S256x1280_d1_w32, broadcasts_S256x1_S256x1280, shapeCasts_S1280x128_S1280x128⟩
theorem sides1536 : Sides 1536 := ⟨dot_S256x128_S1536x128_S256x1536_1_1_0_0_n_n_wf, dot_S256x1536_S256x128_S1536x128_0_0_1_1_n_n_wf, dot_S256x1536_S1536x128_S256x128_1_0_0_1_n_n_wf, iota_S256x1536_d0_w32, iota_S256x1536_d1_w32, broadcasts_S256x1_S256x1536, shapeCasts_S1536x128_S1536x128⟩
theorem sides1792 : Sides 1792 := ⟨dot_S256x128_S1792x128_S256x1792_1_1_0_0_n_n_wf, dot_S256x1792_S256x128_S1792x128_0_0_1_1_n_n_wf, dot_S256x1792_S1792x128_S256x128_1_0_0_1_n_n_wf, iota_S256x1792_d0_w32, iota_S256x1792_d1_w32, broadcasts_S256x1_S256x1792, shapeCasts_S1792x128_S1792x128⟩
theorem sides2048 : Sides 2048 := ⟨dot_S256x128_S2048x128_S256x2048_1_1_0_0_n_n_wf, dot_S256x2048_S256x128_S2048x128_0_0_1_1_n_n_wf, dot_S256x2048_S2048x128_S256x128_1_0_0_1_n_n_wf, iota_S256x2048_d0_w32, iota_S256x2048_d1_w32, broadcasts_S256x1_S256x2048, shapeCasts_S2048x128_S2048x128⟩

end Attn

end
-- ==== Proof.Attn.RunA.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at the first block of a sequence
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At the first block of a sequence all three accumulators are started. -/
theorem run_A (hc1 : k0_cond1 i = 1#1) (hc2 : k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1)
    (hi : (i 2).val < 8) (he : 256 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 (fun _ => 0)) (dkr (i 2).val x0 x1 x2 x3 x4 x5 x6 x7 (fun _ => 0)) (dv (i 2).val x0 x1 x2 x3 x6 x7 (fun _ => 0)) := by
  intro E K
  simp only [cc0_attn_bwd_eq_skeleton]; unfold cc0_attn_bwd_skel
  simp only [k0_part25_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 256 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S256x128_0_0 inb_S2048x256_S256x128_0_128 inb_S2048x128_S256x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides256 hi he _ _ _ _ _
  isplitl [H9]
  · iapply owns_of_read c arg12 ?_ $$ H9
    exact H.dqr_read sides256 hi he _ _ _ _
  isplitl [H10]
  · iapply owns_of_read c arg13 ?_ $$ H10
    exact H.dk_read sides256 hi he _ _ [_] _ (zero_read _ _ _ (fun y => by unfold k0_pay197; pointwise)) _ _ (fun _ _ => zero_ld _ _ (fun y => by unfold k0_pay197; pointwise) _ _) (fun _ _ => zero_ld1 _ _ (fun y => by unfold k0_pay197; pointwise) _ _ _ _)
  isplitl [H11]
  · iapply owns_of_read c arg14 ?_ $$ H11
    exact H.dkr_read sides256 hi he _ _ [_] _ (zero_read _ _ _ (fun y => by unfold k0_pay199; pointwise)) _ _ (fun _ _ => zero_ld _ _ (fun y => by unfold k0_pay199; pointwise) _ _) (View.readCov_cons_toLoadRect _ _ _ _)
  iapply owns_of_read c arg15 ?_ $$ H12
  exact H.dv_read sides256 hi he _ _ [_] _ (zero_read _ _ _ (fun y => by unfold k0_pay198; pointwise)) _ _ (fun _ _ => zero_ld _ _ (fun y => by unfold k0_pay198; pointwise) _ _) (fun _ _ => zero_ld1 _ _ (fun y => by unfold k0_pay198; pointwise) _ _ _ _)

end Attn

end
-- ==== Proof.Attn.RunB.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at the first block of a pair of heads
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At the first block of a later pair of heads the accumulators of the pair are started and the shared one goes on. -/
theorem run_B (hc1 : k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1)
    (hi : (i 2).val < 8) (he : 256 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 (fun _ => 0)) (dkr (i 2).val x0 x1 x2 x3 x4 x5 x6 x7 x11) (dv (i 2).val x0 x1 x2 x3 x6 x7 (fun _ => 0)) := by
  intro E K
  simp only [cc0_attn_bwd_eq_skeleton]; unfold cc0_attn_bwd_skel
  simp only [k0_part25_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 256 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S256x128_0_0 inb_S2048x256_S256x128_0_128 inb_S2048x128_S256x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides256 hi he _ _ _ _ _
  isplitl [H9]
  · iapply owns_of_read c arg12 ?_ $$ H9
    exact H.dqr_read sides256 hi he _ _ _ _
  isplitl [H10]
  · iapply owns_of_read c arg13 ?_ $$ H10
    exact H.dk_read sides256 hi he _ _ [_] _ (zero_read _ _ _ (fun y => by unfold k0_pay197; pointwise)) _ _ (fun _ _ => zero_ld _ _ (fun y => by unfold k0_pay197; pointwise) _ _) (fun _ _ => zero_ld1 _ _ (fun y => by unfold k0_pay197; pointwise) _ _ _ _)
  isplitl [H11]
  · iapply owns_of_read c arg14 ?_ $$ H11
    exact H.dkr_read sides256 hi he _ _ [] _ (harg14.read_unread _) _ _ (ld_rows harg14 x11 _ _) (View.readCov_cons_toLoadRect _ _ _ _)
  iapply owns_of_read c arg15 ?_ $$ H12
  exact H.dv_read sides256 hi he _ _ [_] _ (zero_read _ _ _ (fun y => by unfold k0_pay198; pointwise)) _ _ (fun _ _ => zero_ld _ _ (fun y => by unfold k0_pay198; pointwise) _ _) (fun _ _ => zero_ld1 _ _ (fun y => by unfold k0_pay198; pointwise) _ _ _ _)

end Attn

end
-- ==== Proof.Attn.RunC.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 1
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 1 all three accumulators go on. -/
theorem run_C (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1)
    (hi : (i 2).val < 8) (he : 512 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 512 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S512x128_0_0 inb_S2048x256_S512x128_0_128 inb_S2048x128_S512x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides512 hi he _ _ _ _ _
  isplitl [H9]
  · iapply owns_of_read c arg12 ?_ $$ H9
    exact H.dqr_read sides512 hi he _ _ _ _
  isplitl [H10]
  · iapply owns_of_read c arg13 ?_ $$ H10
    exact H.dk_read sides512 hi he _ _ [] _ (harg13.read_unread _) _ _ (ld_lane harg13 x10 _ 0 rfl _) (ld_lane harg13 x10 _ 1 rfl _)
  isplitl [H11]
  · iapply owns_of_read c arg14 ?_ $$ H11
    exact H.dkr_read sides512 hi he _ _ [] _ (harg14.read_unread _) _ _ (ld_rows harg14 x11 _ _) (View.readCov_cons_toLoadRect _ _ _ _)
  iapply owns_of_read c arg15 ?_ $$ H12
  exact H.dv_read sides512 hi he _ _ [] _ (harg15.read_unread _) _ _ (ld_lane harg15 x12 _ 0 rfl _) (ld_lane harg15 x12 _ 1 rfl _)

end Attn

end
-- ==== Proof.Attn.RunD.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 2
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 2 all three accumulators go on. -/
theorem run_D (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1) (hc7 : ¬k0_cond7 i = 1#1) (hc8 : ¬k0_cond8 i = 1#1) (hc9 : ¬k0_cond9 i = 1#1) (hc10 : ¬k0_cond10 i = 1#1)
    (hi : (i 2).val < 8) (he : 768 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 768 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S768x128_0_0 inb_S2048x256_S768x128_0_128 inb_S2048x128_S768x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides768 hi he _ _ _ _ _
  isplitl [H9]
  · iapply owns_of_read c arg12 ?_ $$ H9
    exact H.dqr_read sides768 hi he _ _ _ _
  isplitl [H10]
  · iapply owns_of_read c arg13 ?_ $$ H10
    exact H.dk_read sides768 hi he _ _ [] _ (harg13.read_unread _) _ _ (ld_lane harg13 x10 _ 0 rfl _) (ld_lane harg13 x10 _ 1 rfl _)
  isplitl [H11]
  · iapply owns_of_read c arg14 ?_ $$ H11
    exact H.dkr_read sides768 hi he _ _ [] _ (harg14.read_unread _) _ _ (ld_rows harg14 x11 _ _) (View.readCov_cons_toLoadRect _ _ _ _)
  iapply owns_of_read c arg15 ?_ $$ H12
  exact H.dv_read sides768 hi he _ _ [] _ (harg15.read_unread _) _ _ (ld_lane harg15 x12 _ 0 rfl _) (ld_lane harg15 x12 _ 1 rfl _)

end Attn

end
-- ==== Proof.Attn.RunE.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 3
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 3 all three accumulators go on. -/
theorem run_E (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1) (hc7 : ¬k0_cond7 i = 1#1) (hc8 : ¬k0_cond8 i = 1#1) (hc9 : ¬k0_cond9 i = 1#1) (hc10 : ¬k0_cond10 i = 1#1)
    (hi : (i 2).val < 8) (he : 1024 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 1024 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S1024x128_0_0 inb_S2048x256_S1024x128_0_128 inb_S2048x128_S1024x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides1024 hi he _ _ _ _ _
  isplitl [H9]
  · iapply owns_of_read c arg12 ?_ $$ H9
    exact H.dqr_read sides1024 hi he _ _ _ _
  isplitl [H10]
  · iapply owns_of_read c arg13 ?_ $$ H10
    exact H.dk_read sides1024 hi he _ _ [] _ (harg13.read_unread _) _ _ (ld_lane harg13 x10 _ 0 rfl _) (ld_lane harg13 x10 _ 1 rfl _)
  isplitl [H11]
  · iapply owns_of_read c arg14 ?_ $$ H11
    exact H.dkr_read sides1024 hi he _ _ [] _ (harg14.read_unread _) _ _ (ld_rows harg14 x11 _ _) (View.readCov_cons_toLoadRect _ _ _ _)
  iapply owns_of_read c arg15 ?_ $$ H12
  exact H.dv_read sides1024 hi he _ _ [] _ (harg15.read_unread _) _ _ (ld_lane harg15 x12 _ 0 rfl _) (ld_lane harg15 x12 _ 1 rfl _)

end Attn

end
-- ==== Proof.Attn.RunF.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 4
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 4 all three accumulators go on. -/
theorem run_F (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : k0_cond7 i = 1#1) (hc8 : ¬k0_cond8 i = 1#1) (hc9 : ¬k0_cond9 i = 1#1) (hc10 : ¬k0_cond10 i = 1#1)
    (hi : (i 2).val < 8) (he : 1280 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 1280 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S1280x128_0_0 inb_S2048x256_S1280x128_0_128 inb_S2048x128_S1280x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides1280 hi he _ _ _ _ _
  isplitl [H9]
  · iapply owns_of_read c arg12 ?_ $$ H9
    exact H.dqr_read sides1280 hi he _ _ _ _
  isplitl [H10]
  · iapply owns_of_read c arg13 ?_ $$ H10
    exact H.dk_read sides1280 hi he _ _ [] _ (harg13.read_unread _) _ _ (ld_lane harg13 x10 _ 0 rfl _) (ld_lane harg13 x10 _ 1 rfl _)
  isplitl [H11]
  · iapply owns_of_read c arg14 ?_ $$ H11
    exact H.dkr_read sides1280 hi he _ _ [] _ (harg14.read_unread _) _ _ (ld_rows harg14 x11 _ _) (View.readCov_cons_toLoadRect _ _ _ _)
  iapply owns_of_read c arg15 ?_ $$ H12
  exact H.dv_read sides1280 hi he _ _ [] _ (harg15.read_unread _) _ _ (ld_lane harg15 x12 _ 0 rfl _) (ld_lane harg15 x12 _ 1 rfl _)

end Attn

end
-- ==== Proof.Attn.RunG.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 5
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 5 all three accumulators go on. -/
theorem run_G (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : k0_cond8 i = 1#1) (hc9 : ¬k0_cond9 i = 1#1) (hc10 : ¬k0_cond10 i = 1#1)
    (hi : (i 2).val < 8) (he : 1536 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 1536 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S1536x128_0_0 inb_S2048x256_S1536x128_0_128 inb_S2048x128_S1536x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides1536 hi he _ _ _ _ _
  isplitl [H9]
  · iapply owns_of_read c arg12 ?_ $$ H9
    exact H.dqr_read sides1536 hi he _ _ _ _
  isplitl [H10]
  · iapply owns_of_read c arg13 ?_ $$ H10
    exact H.dk_read sides1536 hi he _ _ [] _ (harg13.read_unread _) _ _ (ld_lane harg13 x10 _ 0 rfl _) (ld_lane harg13 x10 _ 1 rfl _)
  isplitl [H11]
  · iapply owns_of_read c arg14 ?_ $$ H11
    exact H.dkr_read sides1536 hi he _ _ [] _ (harg14.read_unread _) _ _ (ld_rows harg14 x11 _ _) (View.readCov_cons_toLoadRect _ _ _ _)
  iapply owns_of_read c arg15 ?_ $$ H12
  exact H.dv_read sides1536 hi he _ _ [] _ (harg15.read_unread _) _ _ (ld_lane harg15 x12 _ 0 rfl _) (ld_lane harg15 x12 _ 1 rfl _)

end Attn

end
-- ==== Proof.Attn.RunH.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 6
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 6 all three accumulators go on. -/
theorem run_H (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : k0_cond9 i = 1#1) (hc10 : ¬k0_cond10 i = 1#1)
    (hi : (i 2).val < 8) (he : 1792 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 1792 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S1792x128_0_0 inb_S2048x256_S1792x128_0_128 inb_S2048x128_S1792x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides1792 hi he _ _ _ _ _
  isplitl [H9]
  · iapply owns_of_read c arg12 ?_ $$ H9
    exact H.dqr_read sides1792 hi he _ _ _ _
  isplitl [H10]
  · iapply owns_of_read c arg13 ?_ $$ H10
    exact H.dk_read sides1792 hi he _ _ [] _ (harg13.read_unread _) _ _ (ld_lane harg13 x10 _ 0 rfl _) (ld_lane harg13 x10 _ 1 rfl _)
  isplitl [H11]
  · iapply owns_of_read c arg14 ?_ $$ H11
    exact H.dkr_read sides1792 hi he _ _ [] _ (harg14.read_unread _) _ _ (ld_rows harg14 x11 _ _) (View.readCov_cons_toLoadRect _ _ _ _)
  iapply owns_of_read c arg15 ?_ $$ H12
  exact H.dv_read sides1792 hi he _ _ [] _ (harg15.read_unread _) _ _ (ld_lane harg15 x12 _ 0 rfl _) (ld_lane harg15 x12 _ 1 rfl _)

end Attn

end
-- ==== Proof.Attn.RunI.lean ====
module

public import proofs.«01_k».proof.Proof.Gen.KernelIdeal.Skeleton
public import proofs.«01_k».proof.Proof.Gen.KernelIdeal.Frame
public import proofs.«01_k».proof.Proof.Attn.Body
public import Idealize.ShloMosaic.Lib.WholeRead

@[expose] public section

/-!
# The body at block 7
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

set_option maxHeartbeats 2000000 in
/-- At block 7 all three accumulators go on. -/
theorem run_I (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1) (hc8 : ¬k0_cond8 i = 1#1) (hc9 : ¬k0_cond9 i = 1#1) (hc10 : k0_cond10 i = 1#1)
    (hi : (i 2).val < 8) (he : 2048 = 256 * ((i 2).val + 1)) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 x10) (dkr (i 2).val x0 x1 x2 x3 x4 x5 x6 x7 x11) (dv (i 2).val x0 x1 x2 x3 x6 x7 x12) := by
  intro E K
  simp only [cc0_attn_bwd_eq_skeleton]; unfold cc0_attn_bwd_skel
  simp only [k0_part25_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  sl_exec (disch := first | sl_exact hc1 | sl_exact hc2 | sl_exact hc3 | sl_exact hc4 | sl_exact hc5 | sl_exact hc6 | sl_exact hc7 | sl_exact hc8 | sl_exact hc9 | sl_exact hc10)
  sl_step
  iapply Hk
  have H := loads (show 2048 ≤ 2048 by norm_num) harg3 harg4 harg5 harg6 harg7 harg8 harg9 harg10 x0 x1 x2 x3 x4 x5 x6 x7
    inb_S256x256_S256x128_0_0 inb_S256x256_S256x128_0_128 inb_S256x128_S256x128_0_0 inb_S2048x256_S2048x128_0_0 inb_S2048x256_S2048x128_0_128 inb_S2048x128_S2048x128_0_0
  isplitl [H0]
  · iapply owns_of_read c arg3 (harg3.read_unread x0) $$ H0
  isplitl [H1]
  · iapply owns_of_read c arg4 (harg4.read_unread x1) $$ H1
  isplitl [H2]
  · iapply owns_of_read c arg5 (harg5.read_unread x2) $$ H2
  isplitl [H3]
  · iapply owns_of_read c arg6 (harg6.read_unread x3) $$ H3
  isplitl [H4]
  · iapply owns_of_read c arg7 (harg7.read_unread x4) $$ H4
  isplitl [H5]
  · iapply owns_of_read c arg8 (harg8.read_unread x5) $$ H5
  isplitl [H6]
  · iapply owns_of_read c arg9 (harg9.read_unread x6) $$ H6
  isplitl [H7]
  · iapply owns_of_read c arg10 (harg10.read_unread x7) $$ H7
  isplitl [H8]
  · iapply owns_of_read c arg11 ?_ $$ H8
    exact H.dq_read sides2048 hi he _ _ _ _ _
  isplitl [H9]
  · iapply owns_of_read c arg12 ?_ $$ H9
    exact H.dqr_read sides2048 hi he _ _ _ _
  isplitl [H10]
  · iapply owns_of_read c arg13 ?_ $$ H10
    exact H.dk_read sides2048 hi he _ _ [] _ (harg13.read_unread _) _ _ (ld_lane harg13 x10 _ 0 rfl _) (ld_lane harg13 x10 _ 1 rfl _)
  isplitl [H11]
  · iapply owns_of_read c arg14 ?_ $$ H11
    exact H.dkr_read sides2048 hi he _ _ [] _ (harg14.read_unread _) _ _ (ld_rows harg14 x11 _ _) (View.readCov_cons_toLoadRect _ _ _ _)
  iapply owns_of_read c arg15 ?_ $$ H12
  exact H.dv_read sides2048 hi he _ _ [] _ (harg15.read_unread _) _ _ (ld_lane harg15 x12 _ 0 rfl _) (ld_lane harg15 x12 _ 1 rfl _)

end Attn

end
-- ==== Proof.Attn.At.lean ====
module

public import proofs.«01_k».proof.Proof.Attn.RunA
public import proofs.«01_k».proof.Proof.Attn.RunB
public import proofs.«01_k».proof.Proof.Attn.RunC
public import proofs.«01_k».proof.Proof.Attn.RunD
public import proofs.«01_k».proof.Proof.Attn.RunE
public import proofs.«01_k».proof.Proof.Attn.RunF
public import proofs.«01_k».proof.Proof.Attn.RunG
public import proofs.«01_k».proof.Proof.Attn.RunH
public import proofs.«01_k».proof.Proof.Attn.RunI

@[expose] public section

/-!
# The body at any grid point

The point's number `n` in the grid says which block it is: block `n % 8` of a pair of heads, the pair's first one starting its two accumulators and the
sequence's first one starting the shared one.
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What an accumulator that is started every `J` points holds before point `n` adds to it. -/
def start {s : Shape} (J n : ℕ) (a : s.Idx → EReal) : s.Idx → EReal := if n % J = 0 then fun _ => 0 else a

theorem start_zero {s : Shape} {J n : ℕ} (h : n % J = 0) (a : s.Idx → EReal) : start J n a = fun _ => 0 := if_pos h
theorem start_keep {s : Shape} {J n : ℕ} (h : ¬n % J = 0) (a : s.Idx → EReal) : start J n a = a := if_neg h

/-- What the conditions of the body say of the point. -/
structure At (i : grid0.Coords) (n : ℕ) : Prop where
  row : (i 2).val = n % 8
  c1 : k0_cond1 i = 1#1 ↔ n % 8 = 0
  c2 : k0_cond2 i = 1#1 ↔ n % 32 = 0
  c3 : k0_cond3 i = 1#1 ↔ n % 8 = 0
  c4 : k0_cond4 i = 1#1 ↔ n % 8 = 1
  c5 : k0_cond5 i = 1#1 ↔ n % 8 = 2
  c6 : k0_cond6 i = 1#1 ↔ n % 8 = 3
  c7 : k0_cond7 i = 1#1 ↔ n % 8 = 4
  c8 : k0_cond8 i = 1#1 ↔ n % 8 = 5
  c9 : k0_cond9 i = 1#1 ↔ n % 8 = 6
  c10 : k0_cond10 i = 1#1 ↔ n % 8 = 7

theorem at_row : ∀ t : Fin grid0.N, (grid0.coords t 2).val = t.val % 8 := by decide +kernel
theorem at_c1 : ∀ t : Fin grid0.N, k0_cond1 (grid0.coords t) = 1#1 ↔ t.val % 8 = 0 := by decide +kernel
theorem at_c2 : ∀ t : Fin grid0.N, k0_cond2 (grid0.coords t) = 1#1 ↔ t.val % 32 = 0 := by decide +kernel
theorem at_c3 : ∀ t : Fin grid0.N, k0_cond3 (grid0.coords t) = 1#1 ↔ t.val % 8 = 0 := by decide +kernel
theorem at_c4 : ∀ t : Fin grid0.N, k0_cond4 (grid0.coords t) = 1#1 ↔ t.val % 8 = 1 := by decide +kernel
theorem at_c5 : ∀ t : Fin grid0.N, k0_cond5 (grid0.coords t) = 1#1 ↔ t.val % 8 = 2 := by decide +kernel
theorem at_c6 : ∀ t : Fin grid0.N, k0_cond6 (grid0.coords t) = 1#1 ↔ t.val % 8 = 3 := by decide +kernel
theorem at_c7 : ∀ t : Fin grid0.N, k0_cond7 (grid0.coords t) = 1#1 ↔ t.val % 8 = 4 := by decide +kernel
theorem at_c8 : ∀ t : Fin grid0.N, k0_cond8 (grid0.coords t) = 1#1 ↔ t.val % 8 = 5 := by decide +kernel
theorem at_c9 : ∀ t : Fin grid0.N, k0_cond9 (grid0.coords t) = 1#1 ↔ t.val % 8 = 6 := by decide +kernel
theorem at_c10 : ∀ t : Fin grid0.N, k0_cond10 (grid0.coords t) = 1#1 ↔ t.val % 8 = 7 := by decide +kernel

theorem at_coords (t : Fin grid0.N) : At (grid0.coords t) t.val :=
  ⟨at_row t, at_c1 t, at_c2 t, at_c3 t, at_c4 t, at_c5 t, at_c6 t, at_c7 t, at_c8 t, at_c9 t, at_c10 t⟩

variable (c : Dev nD) (i : grid0.Coords) (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole)
  (x0 : Vec Ideal S256x256 .bf16)
    (x1 : Vec Ideal S256x128 .bf16)
    (x2 : Vec Ideal S2048x256 .bf16)
    (x3 : Vec Ideal S2048x128 .bf16)
    (x4 : Vec Ideal S2048x256 .bf16)
    (x5 : Vec Ideal S256x256 .bf16)
    (x6 : Vec Ideal S256x128 .f32)
    (x7 : Vec Ideal S256x256 .f32)
    (x8 : Vec Ideal S256x256 .bf16)
    (x9 : Vec Ideal S256x128 .f32)
    (x10 : Vec Ideal S2048x256 .f32)
    (x11 : Vec Ideal S2048x128 .f32)
    (x12 : Vec Ideal S2048x256 .f32)

include harg3 harg4 harg5 harg6 harg7 harg8 harg9 harg10 harg11 harg12 harg13 harg14 harg15

/-- The body at point `n`: what it leaves in every buffer. -/
theorem run_at {n : ℕ} (H : At i n) :
    BodyTo c i arg3 harg3 arg4 harg4 arg5 harg5 arg6 harg6 arg7 harg7 arg8 harg8 arg9 harg9 arg10 harg10 arg11 harg11 arg12 harg12 arg13 harg13 arg14 harg14 arg15 harg15
      x0 x1 x2 x3 x4 x5 x6 x7 x8 x9 x10 x11 x12
      (dq (i 2).val x0 x1 x2 x3 x4 x5 x6 x7) (dqr (i 2).val x0 x1 x2 x3 x4 x5 x6 x7)
      (dk (i 2).val x0 x1 x2 x3 x4 x5 x6 x7 (start 8 n x10)) (dkr (i 2).val x0 x1 x2 x3 x4 x5 x6 x7 (start 32 n x11))
      (dv (i 2).val x0 x1 x2 x3 x6 x7 (start 8 n x12)) := by
  by_cases h0 : n % 8 = 0
  · rw [start_zero h0, start_zero h0]
    by_cases h : n % 32 = 0
    · rw [start_zero h]
      exact run_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (H.c1.mpr (by omega)) (H.c2.mpr (by omega)) (H.c3.mpr (by omega)) (fun h => absurd (H.c4.mp h) (by omega)) (fun h => absurd (H.c5.mp h) (by omega)) (fun h => absurd (H.c6.mp h) (by omega)) (fun h => absurd (H.c7.mp h) (by omega)) (fun h => absurd (H.c8.mp h) (by omega)) (fun h => absurd (H.c9.mp h) (by omega)) (fun h => absurd (H.c10.mp h) (by omega)) (by rw [H.row]; omega) (by rw [H.row]; omega)
    · rw [start_keep h]
      exact run_B c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (H.c1.mpr (by omega)) (fun h => absurd (H.c2.mp h) (by omega)) (H.c3.mpr (by omega)) (fun h => absurd (H.c4.mp h) (by omega)) (fun h => absurd (H.c5.mp h) (by omega)) (fun h => absurd (H.c6.mp h) (by omega)) (fun h => absurd (H.c7.mp h) (by omega)) (fun h => absurd (H.c8.mp h) (by omega)) (fun h => absurd (H.c9.mp h) (by omega)) (fun h => absurd (H.c10.mp h) (by omega)) (by rw [H.row]; omega) (by rw [H.row]; omega)
  · rw [start_keep h0, start_keep h0, start_keep (J := 32) (by omega)]
    by_cases h1 : n % 8 = 1
    · exact run_C c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (H.c4.mpr (by omega)) (fun h => absurd (H.c5.mp h) (by omega)) (fun h => absurd (H.c6.mp h) (by omega)) (fun h => absurd (H.c7.mp h) (by omega)) (fun h => absurd (H.c8.mp h) (by omega)) (fun h => absurd (H.c9.mp h) (by omega)) (fun h => absurd (H.c10.mp h) (by omega)) (by rw [H.row]; omega) (by rw [H.row]; omega)
    by_cases h2 : n % 8 = 2
    · exact run_D c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (H.c5.mpr (by omega)) (fun h => absurd (H.c6.mp h) (by omega)) (fun h => absurd (H.c7.mp h) (by omega)) (fun h => absurd (H.c8.mp h) (by omega)) (fun h => absurd (H.c9.mp h) (by omega)) (fun h => absurd (H.c10.mp h) (by omega)) (by rw [H.row]; omega) (by rw [H.row]; omega)
    by_cases h3 : n % 8 = 3
    · exact run_E c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (fun h => absurd (H.c5.mp h) (by omega)) (H.c6.mpr (by omega)) (fun h => absurd (H.c7.mp h) (by omega)) (fun h => absurd (H.c8.mp h) (by omega)) (fun h => absurd (H.c9.mp h) (by omega)) (fun h => absurd (H.c10.mp h) (by omega)) (by rw [H.row]; omega) (by rw [H.row]; omega)
    by_cases h4 : n % 8 = 4
    · exact run_F c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (fun h => absurd (H.c5.mp h) (by omega)) (fun h => absurd (H.c6.mp h) (by omega)) (H.c7.mpr (by omega)) (fun h => absurd (H.c8.mp h) (by omega)) (fun h => absurd (H.c9.mp h) (by omega)) (fun h => absurd (H.c10.mp h) (by omega)) (by rw [H.row]; omega) (by rw [H.row]; omega)
    by_cases h5 : n % 8 = 5
    · exact run_G c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (fun h => absurd (H.c5.mp h) (by omega)) (fun h => absurd (H.c6.mp h) (by omega)) (fun h => absurd (H.c7.mp h) (by omega)) (H.c8.mpr (by omega)) (fun h => absurd (H.c9.mp h) (by omega)) (fun h => absurd (H.c10.mp h) (by omega)) (by rw [H.row]; omega) (by rw [H.row]; omega)
    by_cases h6 : n % 8 = 6
    · exact run_H c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (fun h => absurd (H.c5.mp h) (by omega)) (fun h => absurd (H.c6.mp h) (by omega)) (fun h => absurd (H.c7.mp h) (by omega)) (fun h => absurd (H.c8.mp h) (by omega)) (H.c9.mpr (by omega)) (fun h => absurd (H.c10.mp h) (by omega)) (by rw [H.row]; omega) (by rw [H.row]; omega)
    have h7 : n % 8 = 7 := by omega
    exact run_I c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (fun h => absurd (H.c1.mp h) (by omega)) (fun h => absurd (H.c2.mp h) (by omega)) (fun h => absurd (H.c3.mp h) (by omega)) (fun h => absurd (H.c4.mp h) (by omega)) (fun h => absurd (H.c5.mp h) (by omega)) (fun h => absurd (H.c6.mp h) (by omega)) (fun h => absurd (H.c7.mp h) (by omega)) (fun h => absurd (H.c8.mp h) (by omega)) (fun h => absurd (H.c9.mp h) (by omega)) (H.c10.mpr (by omega)) (by rw [H.row]; omega) (by rw [H.row]; omega)

end Attn

end
-- ==== Proof.Attn.Dats.lean ====
module

public import proofs.«01_k».proof.Proof.Attn.At
public import Idealize.ShloMosaic.Lib.Pipeline.Value
public import Idealize.ShloMosaic.Lib.Claim

@[expose] public section

/-!
# The run of the kernel over the extended reals

The proof data of the pipeline: what every grid point leaves in the outputs' buffers. The queries' gradients are a point's own; the gradients of the keys and
of the values are accumulated over the eight blocks of a pair of heads, that of the keys' rotary part over all the blocks of a sequence.
-/

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What a point leaves in the outputs' buffers -/

def outDq (c : Dev nD) (t : Fin cfg0.N) : S256x256.Idx → EReal := dq (grid0.coords t 2).val (iblk m c 0 t) (iblk m c 1 t) (iblk m c 2 t) (iblk m c 3 t) (iblk m c 4 t) (iblk m c 5 t) (iblk m c 6 t) (iblk m c 7 t)
def outDqr (c : Dev nD) (t : Fin cfg0.N) : S256x128.Idx → EReal := dqr (grid0.coords t 2).val (iblk m c 0 t) (iblk m c 1 t) (iblk m c 2 t) (iblk m c 3 t) (iblk m c 4 t) (iblk m c 5 t) (iblk m c 6 t) (iblk m c 7 t)
def stepDk (c : Dev nD) (t : Fin cfg0.N) (a : S2048x256.Idx → EReal) : S2048x256.Idx → EReal := dk (grid0.coords t 2).val (iblk m c 0 t) (iblk m c 1 t) (iblk m c 2 t) (iblk m c 3 t) (iblk m c 4 t) (iblk m c 5 t) (iblk m c 6 t) (iblk m c 7 t) (start 8 t.val a)
def stepDkr (c : Dev nD) (t : Fin cfg0.N) (a : S2048x128.Idx → EReal) : S2048x128.Idx → EReal := dkr (grid0.coords t 2).val (iblk m c 0 t) (iblk m c 1 t) (iblk m c 2 t) (iblk m c 3 t) (iblk m c 4 t) (iblk m c 5 t) (iblk m c 6 t) (iblk m c 7 t) (start 32 t.val a)
def stepDv (c : Dev nD) (t : Fin cfg0.N) (a : S2048x256.Idx → EReal) : S2048x256.Idx → EReal := dv (grid0.coords t 2).val (iblk m c 0 t) (iblk m c 1 t) (iblk m c 2 t) (iblk m c 3 t) (iblk m c 6 t) (iblk m c 7 t) (start 8 t.val a)

/-- A quantity that every point makes of what the point before left. -/
def through {N : ℕ} {α : Type} (z : α) (f : Fin N → α → α) : (n : ℕ) → n < N → α
  | 0, h => f ⟨0, h⟩ z
  | n + 1, h => f ⟨n + 1, h⟩ (through z f n (Nat.lt_of_succ_lt h))

theorem through_pos {N : ℕ} {α : Type} (z : α) (f : Fin N → α → α) (t : Fin N) (h : t.val ≠ 0) :
    through z f t.val t.isLt = f t (through z f (t.val - 1) (Nat.lt_of_le_of_lt (Nat.sub_le _ _) t.isLt)) := by
  obtain ⟨_ | n, ht⟩ := t
  · exact absurd rfl h
  · rfl

def accDk (c : Dev nD) : (n : ℕ) → n < cfg0.N → S2048x256.Idx → EReal := through (fun _ => 0) (stepDk m c)
def accDkr (c : Dev nD) : (n : ℕ) → n < cfg0.N → S2048x128.Idx → EReal := through (fun _ => 0) (stepDkr m c)
def accDv (c : Dev nD) : (n : ℕ) → n < cfg0.N → S2048x256.Idx → EReal := through (fun _ => 0) (stepDv m c)

/-- A step of an accumulator started every `J` points reads what is there only where it goes on, so what the point before left may be put in its place. -/
theorem through_step {N J : ℕ} {s : Shape} (f : Fin N → (s.Idx → EReal) → s.Idx → EReal) (g : Fin N → (s.Idx → EReal) → s.Idx → EReal)
    (hg : ∀ t a, g t a = f t (start J t.val a)) (t : Fin N) (x : s.Idx → EReal)
    (hx : ¬t.val % J = 0 → x = through (fun _ => 0) g (t.val - 1) (Nat.lt_of_le_of_lt (Nat.sub_le _ _) t.isLt)) :
    f t (start J t.val x) = through (fun _ => 0) g t.val t.isLt := by
  by_cases h : t.val % J = 0
  · rw [start_zero h]
    obtain ⟨_ | n, ht⟩ := t
    · exact ((hg _ _).trans (congrArg (f _) (start_zero h _))).symm
    · exact ((hg _ _).trans (congrArg (f _) (start_zero h _))).symm
  · rw [hx h, through_pos _ _ t (fun e => h (by rw [e, Nat.zero_mod])), hg]

/-! ## The proof data -/

/-- The arrays as the region finds them; the inputs' buffers left as they were fetched; the outputs' as above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outDq m c t
    | ⟨9, _⟩ => outDqr m c t
    | ⟨10, _⟩ => accDk m c t.val t.isLt
    | ⟨11, _⟩ => accDkr m c t.val t.isLt
    | ⟨12, _⟩ => accDv m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outDq m c t := by dsimp only [dats]
theorem after0_9 (c : Dev nD) (t : Fin cfg0.N) : (dats m 0 c).after 9 t = outDqr m c t := by dsimp only [dats]
theorem after0_10 (c : Dev nD) (t : Fin cfg0.N) : (dats m 0 c).after 10 t = accDk m c t.val t.isLt := by dsimp only [dats]
theorem after0_11 (c : Dev nD) (t : Fin cfg0.N) : (dats m 0 c).after 11 t = accDkr m c t.val t.isLt := by dsimp only [dats]
theorem after0_12 (c : Dev nD) (t : Fin cfg0.N) : (dats m 0 c).after 12 t = accDv m c t.val t.isLt := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! No output is idle anywhere: some block's case writes it. -/

theorem not_idle : ∀ w : Fin 13, ∀ i : grid0.Coords, idle0 w i = false := by decide +kernel

/-- Where the accumulator goes on it holds what the point before left. -/
theorem before0_10 (c : Dev nD) (t : Fin cfg0.N) (h : ¬t.val % 8 = 0) (d) :
    (dats m 0 c).before 10 t d = accDk m c (t.val - 1) (Nat.lt_of_le_of_lt (Nat.sub_le _ _) t.isLt) :=
  ((dats m 0 c).before_out_kept 10 rfl t (by omega) (Bool.eq_false_iff.mpr fun e => by have := (flush0_10 _).mp e; simp only at this; omega)
    (not_idle 10) (fun _ _ => rfl) d).trans (after0_10 m c _)

/-- Where the accumulator goes on it holds what the point before left. -/
theorem before0_11 (c : Dev nD) (t : Fin cfg0.N) (h : ¬t.val % 32 = 0) (d) :
    (dats m 0 c).before 11 t d = accDkr m c (t.val - 1) (Nat.lt_of_le_of_lt (Nat.sub_le _ _) t.isLt) :=
  ((dats m 0 c).before_out_kept 11 rfl t (by omega) (Bool.eq_false_iff.mpr fun e => by have := (flush0_11 _).mp e; simp only at this; omega)
    (not_idle 11) (fun _ _ => rfl) d).trans (after0_11 m c _)

/-- Where the accumulator goes on it holds what the point before left. -/
theorem before0_12 (c : Dev nD) (t : Fin cfg0.N) (h : ¬t.val % 8 = 0) (d) :
    (dats m 0 c).before 12 t d = accDv m c (t.val - 1) (Nat.lt_of_le_of_lt (Nat.sub_le _ _) t.isLt) :=
  ((dats m 0 c).before_out_kept 12 rfl t (by omega) (Bool.eq_false_iff.mpr fun e => by have := (flush0_12 _).mp e; simp only at this; omega)
    (not_idle 12) (fun _ _ => rfl) d).trans (after0_12 m c _)

/-! ## The body obligation -/

/-- A window that is not idle is left as the data say. -/
theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [show cfg0.idle w (cfg0.grid.coords t) = false from not_idle w _]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    leaves_live m c 0 t, leaves_live m c 1 t, leaves_live m c 2 t, leaves_live m c 3 t, leaves_live m c 4 t, leaves_live m c 5 t, leaves_live m c 6 t, leaves_live m c 7 t, leaves_live m c 8 t, leaves_live m c 9 t, leaves_live m c 10 t, leaves_live m c 11 t, leaves_live m c 12 t,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [show accDk m c t.val t.isLt = stepDk m c t ((dats m 0 c).before 10 t d10) from
      (through_step (fun t a => dk (grid0.coords t 2).val (iblk m c 0 t) (iblk m c 1 t) (iblk m c 2 t) (iblk m c 3 t) (iblk m c 4 t) (iblk m c 5 t) (iblk m c 6 t) (iblk m c 7 t) a) (stepDk m c) (fun _ _ => rfl) t _ (fun h => before0_10 m c t h d10)).symm,
    show accDkr m c t.val t.isLt = stepDkr m c t ((dats m 0 c).before 11 t d11) from
      (through_step (fun t a => dkr (grid0.coords t 2).val (iblk m c 0 t) (iblk m c 1 t) (iblk m c 2 t) (iblk m c 3 t) (iblk m c 4 t) (iblk m c 5 t) (iblk m c 6 t) (iblk m c 7 t) a) (stepDkr m c) (fun _ _ => rfl) t _ (fun h => before0_11 m c t h d11)).symm,
    show accDv m c t.val t.isLt = stepDv m c t ((dats m 0 c).before 12 t d12) from
      (through_step (fun t a => dv (grid0.coords t 2).val (iblk m c 0 t) (iblk m c 1 t) (iblk m c 2 t) (iblk m c 3 t) (iblk m c 6 t) (iblk m c 7 t) a) (stepDv m c) (fun _ _ => rfl) t _ (fun h => before0_12 m c t h d12)).symm]
  iapply (run_at c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) ((dats m 0 c).before 11 t d11) ((dats m 0 c).before 12 t d12) (at_coords t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- the implicit arguments of the library's run are found by unifying its conclusion with this one
set_option backward.isDefEq.respectTransparency.types false in
/-- The run: every array as the data say, what the host lines after the region make of them, and every semaphore counter zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain m Variants.none) (A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as they began and every semaphore counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Attn

end
-- ==== Proof.Attn.Row.lean ====
module

public import proofs.«01_k».proof.Proof.Attn.Spec

/-! # One row of the attention

A query's row of scores is real where the key is not after the query, and `⊥` elsewhere; `μ` is any real the row is shifted by
(the row's greatest score). The softmax of such a row is real, whichever way it is written, and so is the gradient of its scores:
the reference's two ways of writing them and the kernel's are the same reals. -/

@[expose] public section

noncomputable section

namespace Attn

open Idealize.ShloMosaic

theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

section

variable {n : ℕ} (ok : Fin n → Prop) [DecidablePred ok] (σ : Fin n → ℝ) (μ : ℝ)

/-- The row's scores. -/
def scores (k : Fin n) : EReal := if ok k then (σ k : EReal) else ⊥

/-- The exponential of a shifted score. -/
def weight (k : Fin n) : ℝ := if ok k then Real.exp (σ k - μ) else 0

/-- The exponentials' sum. -/
def total : ℝ := ∑ k, weight ok σ μ k

theorem total_pos {k : Fin n} (h : ok k) : 0 < total ok σ μ := by
  refine Finset.sum_pos' (fun i _ => ?_) ⟨k, Finset.mem_univ k, ?_⟩
  · unfold weight; split
    · exact (Real.exp_pos _).le
    · exact le_rfl
  · unfold weight; rw [if_pos h]; exact Real.exp_pos _

theorem exp_shift (k : Fin n) : Ideal.exp (scores ok σ k - (μ : EReal)) = (weight ok σ μ k : EReal) := by
  unfold scores weight
  split
  · rw [← EReal.coe_sub]; rfl
  · rw [sub_eq_add_neg, EReal.bot_add]; rfl

theorem div_coe (x : ℝ) {y : ℝ} (h : 0 < y) : Ideal.div (x : EReal) (y : EReal) = ((x / y : ℝ) : EReal) := by
  unfold Ideal.div
  rw [if_neg (by exact_mod_cast h.ne'), ← EReal.coe_inv, ← EReal.coe_mul, div_eq_mul_inv]

theorem log_coe {y : ℝ} (h : 0 < y) : Ideal.log (y : EReal) = (Real.log y : EReal) := by
  show (if y ≤ 0 then (⊥ : EReal) else ((Real.log y : ℝ) : EReal)) = _
  rw [if_neg (not_le.mpr h)]

/-- The softmax from the row's shift and the logarithm of its total. -/
theorem exp_lse {k₀ : Fin n} (h : ok k₀) (k : Fin n) :
    Ideal.exp (scores ok σ k - ((μ : EReal) + Ideal.log (total ok σ μ : EReal))) = ((weight ok σ μ k / total ok σ μ : ℝ) : EReal) := by
  have hp := total_pos ok σ μ h
  rw [log_coe hp, ← EReal.coe_add]
  unfold scores
  split
  case isTrue hk =>
    rw [← EReal.coe_sub]
    show ((Real.exp _ : ℝ) : EReal) = _
    refine congrArg _ ?_
    rw [← sub_sub, Real.exp_sub, Real.exp_log hp]
    unfold weight
    rw [if_pos hk]
  case isFalse hk =>
    rw [sub_eq_add_neg, EReal.bot_add]
    unfold weight
    rw [if_neg hk, zero_div]
    rfl

end

section

variable {n m : ℕ} (w : Fin n → ℝ) (Λ : ℝ) (g : Fin m → ℝ) (v : Fin n → Fin m → ℝ)

/-- The gradient of the probability of key `k`. -/
def dprob (k : Fin n) : ℝ := ∑ d, g d * v k d

/-- The row's output, times its gradient, is the probabilities' gradients averaged. -/
theorem sum_out : ∑ d, g d * ∑ k, v k d * (w k / Λ) = ∑ k, dprob g v k * (w k / Λ) := by
  simp only [dprob, Finset.mul_sum, Finset.sum_mul]
  rw [Finset.sum_comm]
  exact Finset.sum_congr rfl fun k _ => Finset.sum_congr rfl fun d _ => by ring

theorem grad_real (hΛ : 0 < Λ) (k : Fin n) :
    w k / Λ * (dprob g v k - ∑ d, g d * ∑ k, v k d * (w k / Λ))
      = (dprob g v k / Λ + -(∑ k, dprob g v k * (1 / (Λ * Λ)) * w k)) * w k := by
  have e : ∑ k, dprob g v k * (1 / (Λ * Λ)) * w k = (∑ k, dprob g v k * (w k / Λ)) / Λ := by
    rw [Finset.sum_div]
    exact Finset.sum_congr rfl fun k _ => by field_simp
  rw [sum_out, e]
  field_simp
  ring

end

end Attn

end

end
-- ==== Proof.Attn.RefReads.lean ====
module

public import proofs.«01_k».proof.Proof.Attn.Row
public import proofs.«01_k».proof.Proof.Gen.ReferenceIdeal.Read
public import Idealize.ShloMosaic.Lib.TwoAxisContraction

/-! # The reference's results read at an index

Row `row b i` is query (or key) `i` of batch element `b`; `col h d` and `rcol h e` are the columns of head `h`. -/

@[expose] public section

set_option maxRecDepth 16384

noncomputable section

namespace Attn.Ref

open Cert.ReferenceIdeal Cert.ReferenceIdeal.Gen Cert.ReferenceIdeal.Read Idealize.ShloMosaic

/-- The row of position `i` of batch element `b`. -/
def row (b : Fin 4) (i : Fin 2048) : Fin 8192 := ⟨2048 * b.val + i.val, by omega⟩

/-- The column of lane `d` of head `h`. -/
def col (h : Fin 8) (d : Fin 128) : Fin 1024 := ⟨128 * h.val + d.val, by omega⟩

/-- The column of rotary lane `e` of head `h`. -/
def rcol (h : Fin 8) (e : Fin 64) : Fin 512 := ⟨64 * h.val + e.val, by omega⟩

theorem split_wide (b : Fin 4) (i : Fin 2048) (h : Fin 8) (d : Fin 128) :
    (((b.val * 2048 + i.val) * 8 + h.val) * 128 + d.val) / 1024 = 2048 * b.val + i.val
      ∧ (((b.val * 2048 + i.val) * 8 + h.val) * 128 + d.val) % 1024 = 128 * h.val + d.val := by omega

theorem split_rot (b : Fin 4) (i : Fin 2048) (h : Fin 8) (e : Fin 64) :
    (((b.val * 2048 + i.val) * 8 + h.val) * 64 + e.val) / 512 = 2048 * b.val + i.val
      ∧ (((b.val * 2048 + i.val) * 8 + h.val) * 64 + e.val) % 512 = 64 * h.val + e.val := by omega

theorem idx_wide (b : Fin 4) (i : Fin 2048) (h : Fin 8) (d : Fin 128) : idx_main_v5 (ix4 b i h d) = ix2 (row b i) (col h d) :=
  funext fun a => match a with
    | ⟨0, _⟩ => Fin.ext (split_wide b i h d).1
    | ⟨1, _⟩ => Fin.ext (split_wide b i h d).2

theorem idx_rot (b : Fin 4) (i : Fin 2048) (h : Fin 8) (e : Fin 64) : idx_main_v6 (ix4 b i h e) = ix2 (row b i) (rcol h e) :=
  funext fun a => match a with
    | ⟨0, _⟩ => Fin.ext (split_rot b i h e).1
    | ⟨1, _⟩ => Fin.ext (split_rot b i h e).2

theorem idx_key (b : Fin 4) (i : Fin 2048) (e : Fin 64) : idx_main_v10 (ix3 b i e) = ix2 (row b i) e :=
  funext fun a => match a with
    | ⟨0, _⟩ => Fin.ext (by show ((b.val * 2048 + i.val) * 64 + e.val) / 64 = 2048 * b.val + i.val; omega)
    | ⟨1, _⟩ => Fin.ext (by show ((b.val * 2048 + i.val) * 64 + e.val) % 64 = e.val; omega)

theorem idx_out_wide (b : Fin 4) (i : Fin 2048) (h : Fin 8) (d : Fin 128) : idx_main_v82 (ix2 (row b i) (col h d)) = ix4 b i h d :=
  funext fun a => match a with
    | ⟨0, _⟩ => Fin.ext (by show ((2048 * b.val + i.val) * 1024 + (128 * h.val + d.val)) / 2097152 = b.val; omega)
    | ⟨1, _⟩ => Fin.ext (by show ((2048 * b.val + i.val) * 1024 + (128 * h.val + d.val)) / 1024 % 2048 = i.val; omega)
    | ⟨2, _⟩ => Fin.ext (by show ((2048 * b.val + i.val) * 1024 + (128 * h.val + d.val)) / 128 % 8 = h.val; omega)
    | ⟨3, _⟩ => Fin.ext (by show ((2048 * b.val + i.val) * 1024 + (128 * h.val + d.val)) % 128 = d.val; omega)

theorem idx_out_rot (b : Fin 4) (i : Fin 2048) (h : Fin 8) (e : Fin 64) : idx_main_v84 (ix2 (row b i) (rcol h e)) = ix4 b i h e :=
  funext fun a => match a with
    | ⟨0, _⟩ => Fin.ext (by show ((2048 * b.val + i.val) * 512 + (64 * h.val + e.val)) / 1048576 = b.val; omega)
    | ⟨1, _⟩ => Fin.ext (by show ((2048 * b.val + i.val) * 512 + (64 * h.val + e.val)) / 512 % 2048 = i.val; omega)
    | ⟨2, _⟩ => Fin.ext (by show ((2048 * b.val + i.val) * 512 + (64 * h.val + e.val)) / 64 % 8 = h.val; omega)
    | ⟨3, _⟩ => Fin.ext (by show ((2048 * b.val + i.val) * 512 + (64 * h.val + e.val)) % 64 = e.val; omega)

theorem idx_out_key (b : Fin 4) (i : Fin 2048) (e : Fin 64) : idx_main_v77 (ix2 (row b i) e) = ix3 b i e :=
  funext fun a => match a with
    | ⟨0, _⟩ => Fin.ext (by show ((2048 * b.val + i.val) * 64 + e.val) / 131072 = b.val; omega)
    | ⟨1, _⟩ => Fin.ext (by show ((2048 * b.val + i.val) * 64 + e.val) / 64 % 2048 = i.val; omega)
    | ⟨2, _⟩ => Fin.ext (by show ((2048 * b.val + i.val) * 64 + e.val) % 64 = e.val; omega)

theorem ix4_ext {n0 n1 n2 n3 : ℕ} {i j : (⟨4, ![n0, n1, n2, n3]⟩ : Shape).Idx} (h0 : i 0 = j 0) (h1 : i 1 = j 1) (h2 : i 2 = j 2) (h3 : i 3 = j 3) : i = j :=
  funext fun a => match a with | ⟨0, _⟩ => h0 | ⟨1, _⟩ => h1 | ⟨2, _⟩ => h2 | ⟨3, _⟩ => h3

theorem ix3_ext {n0 n1 n2 : ℕ} {i j : (⟨3, ![n0, n1, n2]⟩ : Shape).Idx} (h0 : i 0 = j 0) (h1 : i 1 = j 1) (h2 : i 2 = j 2) : i = j :=
  funext fun a => match a with | ⟨0, _⟩ => h0 | ⟨1, _⟩ => h1 | ⟨2, _⟩ => h2

section

variable (x0 : S8192x1024.Idx → EReal) (x1 : S8192x512.Idx → EReal) (x2 : S8192x1024.Idx → EReal) (x3 : S8192x64.Idx → EReal)
  (x4 : S8192x1024.Idx → EReal) (x5 : S8192x1024.Idx → EReal) (b : Fin 4) (h : Fin 8) (i k : Fin 2048)

theorem query_at (d : Fin 128) : val_main_v5 (F := Ideal) x0 (ix4 b i h d) = x0 (ix2 (row b i) (col h d)) := by
  rw [val_main_v5_apply]
  exact congrArg x0 (idx_wide b i h d)

theorem rquery_at (e : Fin 64) : val_main_v6 (F := Ideal) x1 (ix4 b i h e) = x1 (ix2 (row b i) (rcol h e)) := by
  rw [val_main_v6_apply]
  exact congrArg x1 (idx_rot b i h e)

theorem key_at (d : Fin 128) : val_main_v7 (F := Ideal) x2 (ix4 b i h d) = x2 (ix2 (row b i) (col h d)) := by
  rw [val_main_v7_apply]
  exact congrArg x2 (idx_wide b i h d)

theorem value_at (d : Fin 128) : val_main_v8 (F := Ideal) x4 (ix4 b i h d) = x4 (ix2 (row b i) (col h d)) := by
  rw [val_main_v8_apply]
  exact congrArg x4 (idx_wide b i h d)

theorem rkey_at (e : Fin 64) : val_main_v10 (F := Ideal) x3 (ix3 b i e) = x3 (ix2 (row b i) e) := by
  rw [val_main_v10_apply]
  exact congrArg x3 (idx_key b i e)

theorem grad_at (d : Fin 128) : val_main_v55 (F := Ideal) x5 (ix4 b h d i) = x5 (ix2 (row b i) (col h d)) := by
  rw [val_main_v55_apply, show idx_main_v55 (ix4 b h d i) = ix4 b i h d from ix4_ext rfl rfl rfl rfl, val_main_v54_apply]
  exact congrArg x5 (idx_wide b i h d)

/-- The product of a query and a key. -/
def logit : EReal :=
  ∑ d : Fin 128, x0 (ix2 (row b i) (col h d)) * x2 (ix2 (row b k) (col h d)) + ∑ e : Fin 64, x3 (ix2 (row b k) e) * x1 (ix2 (row b i) (rcol h e))

theorem logit_at : val_main_v13 (F := Ideal) x0 x1 x2 x3 (ix4 b h i k) = logit x0 x1 x2 x3 b h i k := by
  rw [val_main_v13_apply, val_main_v9_apply, val_main_v12_apply, val_main_v11_apply]
  refine congrArg₂ (· + ·) ?_ ?_
  · refine (Finset.sum_congr rfl fun d _ => congrArg₂ (· * ·) ?_ ?_)
    · exact (congrArg _ (ix4_ext (j := ix4 b i h d) rfl rfl rfl rfl)).trans (query_at x0 b h i d)
    · exact (congrArg _ (ix4_ext (j := ix4 b k h d) rfl rfl rfl rfl)).trans (key_at x2 b h k d)
  · refine (Finset.sum_congr rfl fun e _ => congrArg₂ (· * ·) ?_ ?_)
    · exact (congrArg _ (ix3_ext (j := ix3 b k e) rfl rfl rfl)).trans (rkey_at x3 b k e)
    · exact (congrArg _ (ix4_ext (j := ix4 b i h e) rfl rfl rfl rfl)).trans (rquery_at x1 b h i e)

theorem mask_at : val_main_v22_1 (F := Ideal) (ix4 b h i k) = if k.val ≤ i.val then 1#1 else 0#1 := by
  rw [val_main_v22_1_apply, val_main_v21_apply, val_main_v19_apply, val_main_v17_apply, val_main_v16_apply, val_main_v20_apply, val_main_v18_apply, val_main_v16_apply]
  show IntOp.cmpi .sle (BitVec.ofNat 32 k.val) (BitVec.ofNat 32 i.val) = _
  have hk := k.isLt
  have hi := i.isLt
  have e : ∀ n : ℕ, n < 2048 → (BitVec.ofNat 32 n).toInt = n := fun n hn => by
    rw [BitVec.toInt_eq_toNat_of_lt (by rw [BitVec.toNat_ofNat]; omega), BitVec.toNat_ofNat, Nat.mod_eq_of_lt (by omega)]
  simp only [IntOp.cmpi, BitVec.sle, e _ hk, e _ hi]
  by_cases hh : k.val ≤ i.val
  · simp [hh]
  · simp [hh]

/-- The score: `⊥` where the key is after the query. -/
def score : EReal := if k.val ≤ i.val then logit x0 x1 x2 x3 b h i k * κ else ⊥

theorem bot_word : Ideal.ofBits .f32 0xFF800000#32 = (⊥ : EReal) := by simp [Ideal.ofBits, Ideal.ieee]

theorem zero_word : Ideal.ofBits .f32 0x00000000#32 = (0 : EReal) := by simp [Ideal.ofBits, Ideal.ieee]

theorem one_word : Ideal.ofBits .f32 0x3F800000#32 = (1 : EReal) := by simp [Ideal.ofBits, Ideal.ieee, -EReal.coe_mul]; norm_num

theorem score_at : val_main_v22_0 (F := Ideal) x0 x1 x2 x3 (ix4 b h i k) = score x0 x1 x2 x3 b h i k := by
  rw [val_main_v22_0_apply, mask_at, val_main_v15_apply, val_main_v14_apply, val_main_call0_v2_apply, logit_at]
  show Scalar.select _ (logit x0 x1 x2 x3 b h i k * κ) (Ideal.ofBits .f32 0xFF800000#32) = _
  rw [bot_word]
  unfold score
  split <;> rfl

/-- The row's greatest score. -/
abbrev peak : EReal := val_main_v23 (F := Ideal) x0 x1 x2 x3 (ix3 b h i)

theorem weight_at : val_main_v43 (F := Ideal) x0 x1 x2 x3 (ix4 b h i k) = Ideal.exp (score x0 x1 x2 x3 b h i k - peak x0 x1 x2 x3 b h i) := by
  rw [val_main_v43_apply, val_main_v42_apply, val_main_v41_apply, val_main_v40_apply, val_main_v30_apply, score_at, val_main_v29_apply]
  show Ideal.exp (score x0 x1 x2 x3 b h i k - max (Ideal.ofBits .f32 0xFF800000#32) (val_main_v23 (F := Ideal) x0 x1 x2 x3 _)) = _
  rw [bot_word, max_eq_right bot_le]
  exact congrArg (fun y => Ideal.exp (score x0 x1 x2 x3 b h i k - val_main_v23 (F := Ideal) x0 x1 x2 x3 y)) (ix3_ext rfl rfl rfl)

theorem total_at : val_main_v44 (F := Ideal) x0 x1 x2 x3 (ix3 b h i) = ∑ k, Ideal.exp (score x0 x1 x2 x3 b h i k - peak x0 x1 x2 x3 b h i) := by
  rw [val_main_v44_apply]
  show Ideal.ofBits .f32 0x00000000#32 + _ = _
  rw [zero_word, zero_add]
  refine Finset.sum_congr rfl fun k _ => ?_
  rw [show idx_main_v44 (ix3 b h i) k = ix4 b h i k from ix4_ext rfl rfl rfl rfl]
  exact weight_at x0 x1 x2 x3 b h i k

/-- The exponential of a score less the row's greatest. -/
def expo : EReal := Ideal.exp (score x0 x1 x2 x3 b h i k - peak x0 x1 x2 x3 b h i)

/-- The row's sum of exponentials. -/
def norm : EReal := ∑ k, expo x0 x1 x2 x3 b h i k

theorem norm_at : val_main_v45 (F := Ideal) x0 x1 x2 x3 (ix4 b h i (0 : Fin 1)) = norm x0 x1 x2 x3 b h i := by
  rw [val_main_v45_apply, show idx_main_v45 (ix4 b h i (0 : Fin 1)) = ix3 b h i from ix3_ext rfl rfl rfl]
  exact total_at x0 x1 x2 x3 b h i

/-- The probability. -/
def prob : EReal := Ideal.div (expo x0 x1 x2 x3 b h i k) (norm x0 x1 x2 x3 b h i)

theorem prob_at : val_main_v47 (F := Ideal) x0 x1 x2 x3 (ix4 b h i k) = prob x0 x1 x2 x3 b h i k := by
  rw [val_main_v47_apply, weight_at, val_main_v46_apply, show idx_main_v46 (ix4 b h i k) = ix4 b h i (0 : Fin 1) from ix4_ext rfl rfl rfl rfl, norm_at]
  rfl

/-- The probability's gradient. -/
def gprob : EReal := ∑ d : Fin 128, x5 (ix2 (row b i) (col h d)) * x4 (ix2 (row b k) (col h d))

theorem gprob_at : val_main_v56 (F := Ideal) x4 x5 (ix4 b h i k) = gprob x4 x5 b h i k := by
  rw [val_main_v56_apply]
  refine Finset.sum_congr rfl fun d _ => congrArg₂ (· * ·) ?_ ?_
  · rw [show lidx_main_v56 (ix4 b h i k) d = ix4 b h d i from ix4_ext rfl rfl rfl rfl, grad_at]
  · rw [show ridx_main_v56 (ix4 b h i k) d = ix4 b k h d from ix4_ext rfl rfl rfl rfl, value_at]

/-- The gradient of the row's sum, negated. -/
def gnorm : EReal := ∑ k, gprob x4 x5 b h i k * Ideal.div 1 (norm x0 x1 x2 x3 b h i * norm x0 x1 x2 x3 b h i) * expo x0 x1 x2 x3 b h i k

theorem gnorm_at : val_main_v62 (F := Ideal) x0 x1 x2 x3 x4 x5 (ix3 b h i) = gnorm x0 x1 x2 x3 x4 x5 b h i := by
  rw [val_main_v62_apply]
  show Ideal.ofBits .f32 0x00000000#32 + _ = _
  rw [zero_word, zero_add]
  refine Finset.sum_congr rfl fun k _ => ?_
  rw [show idx_main_v62 (ix3 b h i) k = ix4 b h i k from ix4_ext rfl rfl rfl rfl, val_main_v61_apply, val_main_v60_apply, gprob_at, weight_at, val_main_v59_apply,
    show idx_main_v59 (ix4 b h i k) = ix4 b h i (0 : Fin 1) from ix4_ext rfl rfl rfl rfl, val_main_v50_apply, val_main_v48_apply, norm_at, val_main_v49_apply]
  show gprob x4 x5 b h i k * Ideal.div (Ideal.ofBits .f32 0x3F800000#32) (norm x0 x1 x2 x3 b h i * norm x0 x1 x2 x3 b h i) * expo x0 x1 x2 x3 b h i k = _
  rw [one_word]

/-- The score's gradient. -/
def gscore : EReal :=
  (if k.val ≤ i.val then
    (Ideal.div (gprob x4 x5 b h i k) (norm x0 x1 x2 x3 b h i) + -gnorm x0 x1 x2 x3 x4 x5 b h i) * expo x0 x1 x2 x3 b h i k
  else 0) * κ

theorem idx_sum : idx_main_v63 (idx_main_v67 (idx_main_v68 (ix4 b h i k)) 0) = ix3 b h i :=
  ix3_ext (Fin.ext (by show (((b.val * 8 + h.val) * 2048 + i.val) * 1 + 0) / 16384 = b.val; omega))
    (Fin.ext (by show (((b.val * 8 + h.val) * 2048 + i.val) * 1 + 0) / 2048 % 8 = h.val; omega))
    (Fin.ext (by show (((b.val * 8 + h.val) * 2048 + i.val) * 1 + 0) % 2048 = i.val; omega))

theorem gscore_at : val_main_v73 (F := Ideal) x0 x1 x2 x3 x4 x5 (ix4 b h i k) = gscore x0 x1 x2 x3 x4 x5 b h i k := by
  rw [val_main_v73_apply, val_main_v71_apply, mask_at, val_main_v70_apply, weight_at, val_main_v69_apply, val_main_v66_apply, gprob_at, val_main_v65_apply,
    show idx_main_v65 (ix4 b h i k) = ix4 b h i (0 : Fin 1) from ix4_ext rfl rfl rfl rfl, norm_at, val_main_v68_apply, val_main_v67_apply, Fin.sum_univ_one,
    val_main_v64_apply, val_main_v63_apply, idx_sum, gnorm_at, val_main_v72_apply, val_main_call1_v0_apply]
  show Scalar.select _ ((Ideal.div (gprob x4 x5 b h i k) (norm x0 x1 x2 x3 b h i) + (Ideal.ofBits .f32 0x00000000#32 + -gnorm x0 x1 x2 x3 x4 x5 b h i))
    * expo x0 x1 x2 x3 b h i k) (Ideal.ofBits .f32 0x00000000#32) * κ = _
  rw [zero_word, zero_add]
  unfold gscore
  split <;> rfl

/-! ## The five results -/

theorem out_dv (d : Fin 128) : val_main_v82 (F := Ideal) x0 x1 x2 x3 x5 (ix2 (row b k) (col h d))
    = ∑ i, x5 (ix2 (row b i) (col h d)) * prob x0 x1 x2 x3 b h i k := by
  rw [val_main_v82_apply, idx_out_wide, val_main_v58_apply, show idx_main_v58 (ix4 b k h d) = ix4 b h d k from ix4_ext rfl rfl rfl rfl, val_main_v57_apply]
  refine Finset.sum_congr rfl fun i _ => congrArg₂ (· * ·) ?_ ?_
  · rw [show lidx_main_v57 (ix4 b h d k) i = ix4 b h d i from ix4_ext rfl rfl rfl rfl, grad_at]
  · rw [show ridx_main_v57 (ix4 b h d k) i = ix4 b h i k from ix4_ext rfl rfl rfl rfl, prob_at]

theorem out_dk (d : Fin 128) : val_main_v83 (F := Ideal) x0 x1 x2 x3 x4 x5 (ix2 (row b k) (col h d))
    = ∑ i, gscore x0 x1 x2 x3 x4 x5 b h i k * x0 (ix2 (row b i) (col h d)) := by
  rw [val_main_v83_apply, show idx_main_v83 (ix2 (row b k) (col h d)) = ix4 b k h d from idx_out_wide b k h d, val_main_v79_apply,
    show idx_main_v79 (ix4 b k h d) = ix4 b h k d from ix4_ext rfl rfl rfl rfl, val_main_v78_apply]
  refine Finset.sum_congr rfl fun i _ => congrArg₂ (· * ·) ?_ ?_
  · rw [show lidx_main_v78 (ix4 b h k d) i = ix4 b h i k from ix4_ext rfl rfl rfl rfl, gscore_at]
  · rw [show ridx_main_v78 (ix4 b h k d) i = ix4 b i h d from ix4_ext rfl rfl rfl rfl, query_at]

theorem out_dq (d : Fin 128) : val_main_v86 (F := Ideal) x0 x1 x2 x3 x4 x5 (ix2 (row b i) (col h d))
    = ∑ k, gscore x0 x1 x2 x3 x4 x5 b h i k * x2 (ix2 (row b k) (col h d)) := by
  rw [val_main_v86_apply, val_main_v85_apply, show idx_main_v85 (ix2 (row b i) (col h d)) = ix4 b i h d from idx_out_wide b i h d, val_main_v81_apply,
    show idx_main_v81 (ix4 b i h d) = ix4 b h i d from ix4_ext rfl rfl rfl rfl, val_main_v80_apply]
  refine Finset.sum_congr rfl fun k _ => congrArg₂ (· * ·) ?_ ?_
  · rw [show lidx_main_v80 (ix4 b h i d) k = ix4 b h i k from ix4_ext rfl rfl rfl rfl, gscore_at]
  · rw [show ridx_main_v80 (ix4 b h i d) k = ix4 b k h d from ix4_ext rfl rfl rfl rfl, key_at]

theorem turned_at : val_main_v74 (F := Ideal) x0 x1 x2 x3 x4 x5 (ix4 b k i h) = gscore x0 x1 x2 x3 x4 x5 b h i k := by
  rw [val_main_v74_apply, show idx_main_v74 (ix4 b k i h) = ix4 b h i k from ix4_ext rfl rfl rfl rfl, gscore_at]

theorem out_dqr (e : Fin 64) : val_main_v84 (F := Ideal) x0 x1 x2 x3 x4 x5 (ix2 (row b i) (rcol h e))
    = ∑ k, gscore x0 x1 x2 x3 x4 x5 b h i k * x3 (ix2 (row b k) e) := by
  rw [val_main_v84_apply, idx_out_rot, val_main_v75_apply]
  refine Finset.sum_congr rfl fun k _ => congrArg₂ (· * ·) ?_ ?_
  · rw [show lidx_main_v75 (ix4 b i h e) k = ix4 b k i h from ix4_ext rfl rfl rfl rfl, turned_at]
  · rw [show ridx_main_v75 (ix4 b i h e) k = ix3 b k e from ix3_ext rfl rfl rfl, rkey_at]

/-- The product whose sum runs over a key's queries and heads. -/
abbrev keysDot := dot_S4x2048x2048x8_S4x2048x8x64_S4x2048x64_23_12_1_3_0_0

theorem keysDot_lhs (e : Fin 64) : keysDot.lhsIdx (ix3 b k e) ((ValueIdx.contrEquiv2 keysDot 2048 8 rfl rfl rfl).symm (i, h)) = ix4 b k i h := by
  have p0 := ValueIdx.contrEquiv2_symm_val0 keysDot 2048 8 rfl rfl rfl (i, h)
  have p1 := ValueIdx.contrEquiv2_symm_val1 keysDot 2048 8 rfl rfl rfl (i, h)
  generalize (ValueIdx.contrEquiv2 keysDot 2048 8 rfl rfl rfl).symm (i, h) = q at p0 p1
  refine ix4_ext (Fin.ext ?_) (Fin.ext ?_) (Fin.ext ?_) (Fin.ext ?_) <;> unfold DotDims.lhsIdx
  · rw [dif_pos (by decide)]; rfl
  · rw [dif_neg (by decide), dif_pos (by decide)]; rfl
  · rw [dif_neg (by decide), dif_neg (by decide)]; exact p0
  · rw [dif_neg (by decide), dif_neg (by decide)]; exact p1

theorem keysDot_rhs (e : Fin 64) : keysDot.rhsIdx (ix3 b k e) ((ValueIdx.contrEquiv2 keysDot 2048 8 rfl rfl rfl).symm (i, h)) = ix4 b i h e := by
  have p0 := ValueIdx.contrEquiv2_symm_val0 keysDot 2048 8 rfl rfl rfl (i, h)
  have p1 := ValueIdx.contrEquiv2_symm_val1 keysDot 2048 8 rfl rfl rfl (i, h)
  generalize (ValueIdx.contrEquiv2 keysDot 2048 8 rfl rfl rfl).symm (i, h) = q at p0 p1
  refine ix4_ext (Fin.ext ?_) (Fin.ext ?_) (Fin.ext ?_) (Fin.ext ?_) <;> unfold DotDims.rhsIdx
  · rw [dif_pos (by decide)]; rfl
  · rw [dif_neg (by decide), dif_neg (by decide)]; exact p0
  · rw [dif_neg (by decide), dif_neg (by decide)]; exact p1
  · rw [dif_neg (by decide), dif_pos (by decide)]; rfl

theorem out_dkr (e : Fin 64) : val_main_v77 (F := Ideal) x0 x1 x2 x3 x4 x5 (ix2 (row b k) e)
    = ∑ i, ∑ h, gscore x0 x1 x2 x3 x4 x5 b h i k * x1 (ix2 (row b i) (rcol h e)) := by
  rw [val_main_v77_apply, idx_out_key]
  unfold val_main_v76
  simp only [Host.dotGeneral]
  rw [Ideal.dotGeneral_apply, ValueIdx.sum_contr2 dot_S4x2048x2048x8_S4x2048x8x64_S4x2048x64_23_12_1_3_0_0 2048 8 rfl rfl rfl]
  refine Finset.sum_congr rfl fun i _ => Finset.sum_congr rfl fun h _ => congrArg₂ (· * ·) ?_ ?_
  · rw [keysDot_lhs, turned_at]
  · rw [keysDot_rhs, rquery_at]

end

end Attn.Ref

end

end
-- ==== Proof.Attn.Host.lean ====
module

public import proofs.«01_k».proof.Proof.Attn.RefReads
public import proofs.«01_k».proof.Proof.Gen.KernelIdeal.Frame

/-! # What the kernel is given besides the arguments

The output `o` of the forward attention and the logarithm `lse` of each row's sum of exponentials, from the reference's masked scores `s` and each
row's greatest score `M`; and the keys' rotary part twice side by side. -/

@[expose] public section

set_option maxRecDepth 16384

noncomputable section

namespace Attn

open Cert.KernelIdeal Cert.KernelIdeal.Gen Idealize.ShloMosaic Idealize.ShloMosaic.TcCoe Idealize.ShloMosaic.StableHlo
open Cert.ReferenceIdeal.Read (val_main_v8 val_main_v22_0 val_main_v23)

section

variable (x : FVec Ideal S4x2048x8x128 .f32) (s : FVec Ideal S4x8x2048x2048 .f32) (M : FVec Ideal S4x8x2048 .f32)

/-- A row's greatest score, as a column. -/
def peaks : FVec Ideal S4x8x2048x1 .f32 := broadcastInDim S4x8x2048x1 ![0, 1, 2] bcast_S4x8x2048_S4x8x2048x1_0_1_2 M

/-- The exponentials of the shifted scores. -/
def expos : FVec Ideal S4x8x2048x2048 .f32 :=
  Host.exp (subf s (broadcastInDim S4x8x2048x2048 ![0, 1, 2, 3] bcast_S4x8x2048x1_S4x8x2048x2048_0_1_2_3 (peaks M)))

/-- Their sum over a row, as a column. -/
def norms : FVec Ideal S4x8x2048x1 .f32 :=
  broadcastInDim S4x8x2048x1 ![0, 1, 2] bcast_S4x8x2048_S4x8x2048x1_0_1_2
    (Host.reduceAdd (expos s M) (constant S_ .f32 0x00000000#32) reducesTo_S4x8x2048x2048_S4x8x2048_d3 h_S_)

/-- The attention's output. -/
def outs : FVec Ideal S8192x1024 .bf16 :=
  truncf .bf16 (shapeCast S8192x1024 (transpose S4x2048x8x128 [0, 3, 1, 2]
    (Host.dotGeneral dot_S4x2048x8x128_S4x8x2048x2048_S4x8x128x2048_1_3_3_2_02_01 none x
      (Host.divf (expos s M) (broadcastInDim S4x8x2048x2048 ![0, 1, 2, 3] bcast_S4x8x2048x1_S4x8x2048x2048_0_1_2_3 (norms s M))))
    transposes_S4x8x128x2048_S4x2048x8x128_0_3_1_2) shapeCasts_S4x2048x8x128_S8192x1024) bitsLt_bf16_f32

/-- The logarithm of a row's sum, unshifted, on each of its head's lanes. -/
def lses : FVec Ideal S8192x512 .f32 :=
  shapeCast S8192x512 (broadcastInDim S8192x8x64 ![0, 1, 2] bcast_S8192x8x1_S8192x8x64_0_1_2
    (shapeCast S8192x8x1 (transpose S4x2048x8 [0, 2, 1]
      (shapeCast S4x8x2048 (addf (peaks M) (Host.log (norms s M))) shapeCasts_S4x8x2048x1_S4x8x2048)
      transposes_S4x8x2048_S4x2048x8_0_2_1) shapeCasts_S4x2048x8_S8192x8x1)) shapeCasts_S8192x8x64_S8192x512

end

variable (m : (ℓ : Loc nD τ sig) → Buf (Elt Ideal) ℓ) (c : Dev nD)

/-- The arguments. -/
abbrev a0 : S8192x1024.Idx → EReal := m ((c : Thread nD τ).loc main_arg0)
abbrev a1 : S8192x512.Idx → EReal := m ((c : Thread nD τ).loc main_arg1)
abbrev a2 : S8192x1024.Idx → EReal := m ((c : Thread nD τ).loc main_arg2)
abbrev a3 : S8192x64.Idx → EReal := m ((c : Thread nD τ).loc main_arg3)
abbrev a4 : S8192x1024.Idx → EReal := m ((c : Thread nD τ).loc main_arg4)
abbrev a5 : S8192x1024.Idx → EReal := m ((c : Thread nD τ).loc main_arg5)

/-- The kernel's keys' rotary part twice side by side. -/
def twice (x : FVec Ideal S8192x64 .bf16) : FVec Ideal S8192x128 .bf16 :=
  concatenate S8192x128 1 [⟨S8192x64, x⟩, ⟨S8192x64, x⟩] concatenates_S8192x64_S8192x64_S8192x128_d1

set_option maxHeartbeats 4000000 in
theorem V_out : V m c main_v35 = outs (val_main_v8 (F := Ideal) (a4 m c)) (val_main_v22_0 (F := Ideal) (a0 m c) (a1 m c) (a2 m c) (a3 m c))
    (val_main_v23 (F := Ideal) (a0 m c) (a1 m c) (a2 m c) (a3 m c)) := by
  unfold V V0
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  all_goals rfl

set_option maxHeartbeats 4000000 in
theorem V_lse : V m c main_v42 = lses (val_main_v22_0 (F := Ideal) (a0 m c) (a1 m c) (a2 m c) (a3 m c))
    (val_main_v23 (F := Ideal) (a0 m c) (a1 m c) (a2 m c) (a3 m c)) := by
  unfold V V0
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  all_goals rfl

set_option maxHeartbeats 4000000 in
theorem V_rkey : V m c main_v43 = twice (a3 m c) := by
  unfold V V0
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  all_goals rfl

section

variable (x : FVec Ideal S4x2048x8x128 .f32) (s : FVec Ideal S4x8x2048x2048 .f32) (M : FVec Ideal S4x8x2048 .f32) (y : FVec Ideal S8192x64 .bf16)
  (b : Fin 4) (h : Fin 8) (i k : Fin 2048)

theorem row_div (p) : (⟨(Ref.row b i).val / 2048, p⟩ : Fin 4) = b := Fin.ext (by show (2048 * b.val + i.val) / 2048 = b.val; omega)
theorem row_mod (p) : (⟨(Ref.row b i).val % 2048, p⟩ : Fin 2048) = i := Fin.ext (by show (2048 * b.val + i.val) % 2048 = i.val; omega)
theorem col_div (d : Fin 128) (p) : (⟨(Ref.col h d).val / 128, p⟩ : Fin 8) = h := Fin.ext (by show (128 * h.val + d.val) / 128 = h.val; omega)
theorem col_mod (d : Fin 128) (p) : (⟨(Ref.col h d).val % 128, p⟩ : Fin 128) = d := Fin.ext (by show (128 * h.val + d.val) % 128 = d.val; omega)
theorem rcol_div (e : Fin 64) (p) : (⟨(Ref.rcol h e).val / 64, p⟩ : Fin 8) = h := Fin.ext (by show (64 * h.val + e.val) / 64 = h.val; omega)

theorem expos_at : expos s M (ix4 b h i k) = Ideal.exp (s (ix4 b h i k) - M (ix3 b h i)) := by
  pointwise [expos, peaks]

theorem norms_at : norms s M (ix4 b h i (0 : Fin 1)) = ∑ k, Ideal.exp (s (ix4 b h i k) - M (ix3 b h i)) := by
  pointwise [norms, expos, peaks]

theorem outs_at (d : Fin 128) : outs x s M (ix2 (Ref.row b i) (Ref.col h d))
    = ∑ k, x (ix4 b k h d) * Ideal.div (expos s M (ix4 b h i k)) (norms s M (ix4 b h i (0 : Fin 1))) := by
  pointwise [outs]
  simp only [row_div, row_mod, col_div, col_mod]

theorem lses_at (e : Fin 64) : lses s M (ix2 (Ref.row b i) (Ref.rcol h e)) = M (ix3 b h i) + Ideal.log (norms s M (ix4 b h i (0 : Fin 1))) := by
  pointwise [lses, peaks]
  simp only [row_div, row_mod, rcol_div]

theorem twice_at (r : Fin 8192) (e : Fin 128) : twice y (ix2 r e) = y (ix2 r ⟨e.val % 64, by omega⟩) := by
  pointwise [twice]
  split
  · exact congrArg (fun e => y (ix2 r e)) (Fin.ext (by show e.val = e.val % 64; omega))
  · exact congrArg (fun e => y (ix2 r e)) (Fin.ext (by show e.val - 64 = e.val % 64; omega))

end

end Attn

end

end
-- ==== Proof.Attn.Finite.lean ====
module

public import proofs.«01_k».proof.Proof.Attn.Host

/-! # The two softmaxes agree on finite arguments

The arguments are real. The kernel takes a probability from the row's logarithm, and subtracts the product of the output with its gradient;
the reference divides by the row's sum, and subtracts the gradient of that sum. -/

@[expose] public section

set_option maxRecDepth 16384

noncomputable section

namespace Attn

open Cert.ReferenceIdeal Cert.ReferenceIdeal.Gen Idealize.ShloMosaic
open Cert.ReferenceIdeal.Read (val_main_v8 val_main_v22_0 val_main_v23)

/-- Reals among the extended reals. -/
abbrev re {ι : Type} (y : ι → ℝ) : ι → EReal := fun j => (y j : EReal)

/-- The scale is a real. -/
theorem κ_real : ∃ r : ℝ, κ = (r : EReal) := by
  refine ⟨κ.toReal, (EReal.coe_toReal ?_ ?_).symm⟩
  · simp [κ, Ideal.ofBits, Ideal.ieee, -EReal.coe_mul]
  · simp [κ, Ideal.ofBits, Ideal.ieee, -EReal.coe_mul]

theorem fold_max_real {n : ℕ} (f : Fin n → EReal) (ht : ∀ k, f k ≠ ⊤) {k₀ : Fin n} (hb : f k₀ ≠ ⊥) :
    ∃ μ : ℝ, Finset.univ.fold max ⊥ f = (μ : EReal) := by
  refine ⟨(Finset.univ.fold max ⊥ f).toReal, (EReal.coe_toReal ?_ ?_).symm⟩
  · exact ((Finset.fold_max_lt _).mpr ⟨bot_lt_top, fun k _ => lt_top_iff_ne_top.mpr (ht k)⟩).ne
  · exact (lt_of_lt_of_le (bot_lt_iff_ne_bot.mpr hb) ((Finset.le_fold_max _).mpr (.inr ⟨k₀, Finset.mem_univ _, le_rfl⟩))).ne'

section

variable (x0 : S8192x1024.Idx → EReal) (x1 : S8192x512.Idx → EReal) (x2 : S8192x1024.Idx → EReal) (x3 : S8192x64.Idx → EReal)
  (x4 : S8192x1024.Idx → EReal) (x5 : S8192x1024.Idx → EReal) (b : Fin 4) (h : Fin 8) (i k : Fin 2048)

theorem peak_eq : Ref.peak x0 x1 x2 x3 b h i = Finset.univ.fold max ⊥ (fun k => Ref.score x0 x1 x2 x3 b h i k) := by
  unfold Ref.peak val_main_v23
  pointwise [Cert.ReferenceIdeal.Read.val_main_cst_1]
  rw [Ref.bot_word]
  simp only [Ref.score_at]

/-- The probability, as the kernel takes it. -/
def kprob : EReal :=
  Ideal.exp (Ref.score x0 x1 x2 x3 b h i k
    - lses (val_main_v22_0 (F := Ideal) x0 x1 x2 x3) (val_main_v23 (F := Ideal) x0 x1 x2 x3) (ix2 (Ref.row b i) (Ref.rcol h 0)))

/-- The score's gradient, as the kernel takes it. -/
def kgscore : EReal :=
  kprob x0 x1 x2 x3 b h i k
    * (Ref.gprob x4 x5 b h i k - ∑ d : Fin 128, x5 (ix2 (Ref.row b i) (Ref.col h d))
        * outs (val_main_v8 (F := Ideal) x4) (val_main_v22_0 (F := Ideal) x0 x1 x2 x3) (val_main_v23 (F := Ideal) x0 x1 x2 x3) (ix2 (Ref.row b i) (Ref.col h d))) * κ

theorem lse_at : lses (val_main_v22_0 (F := Ideal) x0 x1 x2 x3) (val_main_v23 (F := Ideal) x0 x1 x2 x3) (ix2 (Ref.row b i) (Ref.rcol h 0))
    = Ref.peak x0 x1 x2 x3 b h i + Ideal.log (Ref.norm x0 x1 x2 x3 b h i) := by
  rw [lses_at, norms_at]
  simp only [Ref.score_at]
  rfl

theorem out_at (d : Fin 128) :
    outs (val_main_v8 (F := Ideal) x4) (val_main_v22_0 (F := Ideal) x0 x1 x2 x3) (val_main_v23 (F := Ideal) x0 x1 x2 x3) (ix2 (Ref.row b i) (Ref.col h d))
      = ∑ k, x4 (ix2 (Ref.row b k) (Ref.col h d)) * Ref.prob x0 x1 x2 x3 b h i k := by
  rw [outs_at, norms_at]
  simp only [expos_at, Ref.score_at, Ref.value_at]
  rfl

end

section

variable (y0 : S8192x1024.Idx → ℝ) (y1 : S8192x512.Idx → ℝ) (y2 : S8192x1024.Idx → ℝ) (y3 : S8192x64.Idx → ℝ)
  (y4 : S8192x1024.Idx → ℝ) (y5 : S8192x1024.Idx → ℝ) (b : Fin 4) (h : Fin 8) (i k : Fin 2048)

theorem logit_real : ∃ σ : Fin 2048 → ℝ, ∀ k, Ref.logit (re y0) (re y1) (re y2) (re y3) b h i k = (σ k : EReal) :=
  ⟨fun k => ∑ d : Fin 128, y0 (ix2 (Ref.row b i) (Ref.col h d)) * y2 (ix2 (Ref.row b k) (Ref.col h d))
      + ∑ e : Fin 64, y3 (ix2 (Ref.row b k) e) * y1 (ix2 (Ref.row b i) (Ref.rcol h e)), fun k => by
    unfold Ref.logit
    simp only [← EReal.coe_mul, sum_coe, ← EReal.coe_add]⟩

theorem score_real : ∃ σ : Fin 2048 → ℝ, ∀ k, Ref.score (re y0) (re y1) (re y2) (re y3) b h i k = scores (fun k : Fin 2048 => k.val ≤ i.val) σ k := by
  obtain ⟨r, hr⟩ := κ_real
  obtain ⟨σ, hσ⟩ := logit_real y0 y1 y2 y3 b h i
  refine ⟨fun k => σ k * r, fun k => ?_⟩
  unfold Ref.score scores
  rw [hσ, hr, EReal.coe_mul]

theorem peak_real : ∃ μ : ℝ, Ref.peak (re y0) (re y1) (re y2) (re y3) b h i = (μ : EReal) := by
  obtain ⟨σ, hσ⟩ := score_real y0 y1 y2 y3 b h i
  rw [peak_eq]
  refine fold_max_real _ (fun k => ?_) (k₀ := i) ?_
  · rw [hσ]; unfold scores; split
    · exact EReal.coe_ne_top _
    · exact bot_ne_top
  · rw [hσ]; unfold scores; rw [if_pos le_rfl]
    exact EReal.coe_ne_bot _

/-- What the two have in common: the row's weights are real, and their sum is positive. -/
theorem row_real : ∃ (w : Fin 2048 → ℝ) (Λ : ℝ), 0 < Λ ∧ (∀ k, ¬k.val ≤ i.val → w k = 0) ∧ (∀ k, Ref.expo (re y0) (re y1) (re y2) (re y3) b h i k = (w k : EReal))
    ∧ Ref.norm (re y0) (re y1) (re y2) (re y3) b h i = (Λ : EReal) ∧ (∀ k, kprob (re y0) (re y1) (re y2) (re y3) b h i k = ((w k / Λ : ℝ) : EReal))
    ∧ ∀ k, Ref.prob (re y0) (re y1) (re y2) (re y3) b h i k = ((w k / Λ : ℝ) : EReal) := by
  obtain ⟨σ, hσ⟩ := score_real y0 y1 y2 y3 b h i
  obtain ⟨μ, hμ⟩ := peak_real y0 y1 y2 y3 b h i
  have hi : (fun k : Fin 2048 => k.val ≤ i.val) i := le_refl i.val
  have hΛ := total_pos (fun k : Fin 2048 => k.val ≤ i.val) σ μ hi
  have hw : ∀ k, Ref.expo (re y0) (re y1) (re y2) (re y3) b h i k = (weight (fun k : Fin 2048 => k.val ≤ i.val) σ μ k : EReal) := fun k => by
    unfold Ref.expo
    rw [hσ, hμ, exp_shift]
  have hn : Ref.norm (re y0) (re y1) (re y2) (re y3) b h i = (total (fun k : Fin 2048 => k.val ≤ i.val) σ μ : EReal) := by
    unfold Ref.norm total
    simp only [hw, sum_coe]
  refine ⟨weight (fun k : Fin 2048 => k.val ≤ i.val) σ μ, total (fun k : Fin 2048 => k.val ≤ i.val) σ μ, hΛ, fun k hk => ?_, hw, hn, fun k => ?_, fun k => ?_⟩
  · unfold weight; rw [if_neg hk]
  · unfold kprob
    rw [lse_at, hσ, hμ, hn]
    exact exp_lse _ σ μ hi k
  · unfold Ref.prob
    rw [hw, hn, div_coe _ hΛ]

theorem kprob_eq : kprob (re y0) (re y1) (re y2) (re y3) b h i k = Ref.prob (re y0) (re y1) (re y2) (re y3) b h i k := by
  obtain ⟨w, Λ, _, _, _, _, hk, hp⟩ := row_real y0 y1 y2 y3 b h i
  rw [hk, hp]

theorem kgscore_eq : kgscore (re y0) (re y1) (re y2) (re y3) (re y4) (re y5) b h i k = Ref.gscore (re y0) (re y1) (re y2) (re y3) (re y4) (re y5) b h i k := by
  obtain ⟨w, Λ, hΛ, h0, hw, hn, hk, hp⟩ := row_real y0 y1 y2 y3 b h i
  have hg : ∀ k, Ref.gprob (re y4) (re y5) b h i k
      = (dprob (fun d : Fin 128 => y5 (ix2 (Ref.row b i) (Ref.col h d))) (fun k d => y4 (ix2 (Ref.row b k) (Ref.col h d))) k : EReal) := fun k => by
    unfold Ref.gprob dprob
    simp only [← EReal.coe_mul, sum_coe]
  unfold kgscore Ref.gscore Ref.gnorm
  refine congrArg (· * κ) ?_
  simp only [out_at, hk, hp, hg, hw, hn]
  simp only [← EReal.coe_mul, sum_coe, ← EReal.coe_sub, ← EReal.coe_one, div_coe _ (mul_pos hΛ hΛ), div_coe _ hΛ, ← EReal.coe_neg, ← EReal.coe_add]
  rw [grad_real w Λ _ _ hΛ k]
  split
  · rfl
  case isFalse hh => rw [h0 k hh, mul_zero]; rfl

end

end Attn

end

end
-- ==== Proof.Attn.Tiles.lean ====
module

public import proofs.«01_k».proof.Proof.Attn.Dats
public import proofs.«01_k».proof.Proof.Attn.Finite
public import Idealize.ShloMosaic.Lib.Pipeline.ValueKit

/-! # The blocks a grid point works on

Point `t` is block `t % 8` of the queries, pair `t % 32 / 8` of the heads, batch element `t / 32`. -/

@[expose] public section

set_option maxRecDepth 16384

noncomputable section

namespace Attn

open Cert.KernelIdeal Cert.KernelIdeal.Gen Idealize.ShloMosaic Idealize.ShloMosaic.TcCoe
open Cert.ReferenceIdeal.Read (val_main_v8 val_main_v22_0 val_main_v23)

variable (m : (ℓ : Loc nD τ sig) → Buf (Elt Ideal) ℓ) (c : Dev nD)

theorem idx : ∀ t : Fin cfg0.N,
    win0_0.index t = ![t.val / 32 * 8 + t.val % 8, t.val % 32 / 8] ∧ win0_1.index t = ![t.val / 32 * 8 + t.val % 8, t.val % 32 / 8]
    ∧ win0_2.index t = ![t.val / 32, t.val % 32 / 8] ∧ win0_3.index t = ![t.val / 32, 0] ∧ win0_4.index t = ![t.val / 32, t.val % 32 / 8]
    ∧ win0_5.index t = ![t.val / 32 * 8 + t.val % 8, t.val % 32 / 8] ∧ win0_6.index t = ![t.val / 32 * 8 + t.val % 8, t.val % 32 / 8]
    ∧ win0_7.index t = ![t.val / 32 * 8 + t.val % 8, t.val % 32 / 8] ∧ win0_8.index t = ![t.val / 32 * 8 + t.val % 8, t.val % 32 / 8]
    ∧ win0_9.index t = ![t.val / 32 * 8 + t.val % 8, t.val % 32 / 8] ∧ win0_10.index t = ![t.val / 32, t.val % 32 / 8]
    ∧ win0_11.index t = ![t.val / 32, 0] ∧ win0_12.index t = ![t.val / 32, t.val % 32 / 8] ∧ t.val < 128 :=
  (by decide +kernel : ∀ t : Fin grid0.N, _)

theorem points (t : Fin cfg0.N) : t.val < 128 := (idx t).2.2.2.2.2.2.2.2.2.2.2.2.2

/-- The batch element. -/
def batch (t : Fin cfg0.N) : Fin 4 := ⟨t.val / 32, by have := points t; omega⟩

/-- The head that is the pair's `j`-th. -/
def head (t : Fin cfg0.N) (j : Fin 2) : Fin 8 := ⟨2 * (t.val % 32 / 8) + j.val, by omega⟩

/-- The query in row `r` of the block. -/
def query (t : Fin cfg0.N) (r : Fin 256) : Fin 2048 := ⟨256 * (t.val % 8) + r.val, by omega⟩

/-- Rotary lane `e` of the pair's `j`-th head. -/
def half (j : Fin 2) (e : Fin 64) : Fin 128 := ⟨64 * j.val + e.val, by omega⟩

variable (t : Fin cfg0.N)

/-! ## The blocks read at an index -/

theorem blk0 (j : Fin 2) (r : Fin 256) (d : Fin 128) :
    iblk m c 0 t (ix2 r (lane j d)) = a0 m c (ix2 (Ref.row (batch t) (query t r)) (Ref.col (head t j) d)) := by
  blk_ext [iblk, V_main_arg0, idx t, Ref.row, Ref.col, lane, batch, head, query]

theorem blk1 (j : Fin 2) (r : Fin 256) (e : Fin 64) :
    iblk m c 1 t (ix2 r (half j e)) = a1 m c (ix2 (Ref.row (batch t) (query t r)) (Ref.rcol (head t j) e)) := by
  blk_ext [iblk, V_main_arg1, idx t, Ref.row, Ref.rcol, half, batch, head, query]

theorem blk2 (j : Fin 2) (l : Fin 2048) (d : Fin 128) :
    iblk m c 2 t (ix2 l (lane j d)) = a2 m c (ix2 (Ref.row (batch t) l) (Ref.col (head t j) d)) := by
  blk_ext [iblk, V_main_arg2, idx t, Ref.row, Ref.col, lane, batch, head]

theorem blk3 (j : Fin 2) (l : Fin 2048) (e : Fin 64) : iblk m c 3 t (ix2 l (half j e)) = a3 m c (ix2 (Ref.row (batch t) l) e) := by
  have h : iblk m c 3 t (ix2 l (half j e)) = V m c main_v43 (ix2 (Ref.row (batch t) l) (half j e)) := by
    blk_ext [iblk, idx t, Ref.row, half, batch]
  refine (h.trans (congrFun (V_rkey m c) _)).trans ((twice_at (a3 m c) _ _).trans ?_)
  exact congrArg (fun e => a3 m c (ix2 (Ref.row (batch t) l) e)) (Fin.ext (by show (64 * j.val + e.val) % 64 = e.val; omega))

theorem blk4 (j : Fin 2) (l : Fin 2048) (d : Fin 128) :
    iblk m c 4 t (ix2 l (lane j d)) = a4 m c (ix2 (Ref.row (batch t) l) (Ref.col (head t j) d)) := by
  blk_ext [iblk, V_main_arg4, idx t, Ref.row, Ref.col, lane, batch, head]

theorem blk5 (j : Fin 2) (r : Fin 256) (d : Fin 128) :
    iblk m c 5 t (ix2 r (lane j d)) = outs (val_main_v8 (F := Ideal) (a4 m c)) (val_main_v22_0 (F := Ideal) (a0 m c) (a1 m c) (a2 m c) (a3 m c))
      (val_main_v23 (F := Ideal) (a0 m c) (a1 m c) (a2 m c) (a3 m c)) (ix2 (Ref.row (batch t) (query t r)) (Ref.col (head t j) d)) := by
  have h : iblk m c 5 t (ix2 r (lane j d)) = V m c main_v35 (ix2 (Ref.row (batch t) (query t r)) (Ref.col (head t j) d)) := by
    blk_ext [iblk, idx t, Ref.row, Ref.col, lane, batch, head, query]
  exact h.trans (congrFun (V_out m c) _)

theorem read6 (A : S8192x512.Idx → EReal) (j : Fin 2) (r : Fin 256) (e : Fin 64) :
    ((cfg0.win 6).blk t).view.read (Elt Ideal) A (ix2 r (half j e)) = A (ix2 (Ref.row (batch t) (query t r)) (Ref.rcol (head t j) e)) := by
  blk_ext [idx t, Ref.row, Ref.rcol, half, batch, head, query]

theorem V6 : V m c (Pipeline.arrRef spec0 6) = lses (val_main_v22_0 (F := Ideal) (a0 m c) (a1 m c) (a2 m c) (a3 m c))
      (val_main_v23 (F := Ideal) (a0 m c) (a1 m c) (a2 m c) (a3 m c)) := V_lse m c

theorem blk6 (j : Fin 2) (r : Fin 256) :
    iblk m c 6 t (ix2 r ⟨64 * j.val, by omega⟩) = lses (val_main_v22_0 (F := Ideal) (a0 m c) (a1 m c) (a2 m c) (a3 m c))
      (val_main_v23 (F := Ideal) (a0 m c) (a1 m c) (a2 m c) (a3 m c)) (ix2 (Ref.row (batch t) (query t r)) (Ref.rcol (head t j) 0)) := by
  unfold iblk
  rw [V6]
  exact read6 t _ j r 0

theorem blk7 (j : Fin 2) (r : Fin 256) (d : Fin 128) :
    iblk m c 7 t (ix2 r (lane j d)) = a5 m c (ix2 (Ref.row (batch t) (query t r)) (Ref.col (head t j) d)) := by
  blk_ext [iblk, V_main_arg5, idx t, Ref.row, Ref.col, lane, batch, head, query]

/-! ## Probabilities and scores' gradients -/

/-- A head's own half of a pair's rotary lanes. -/
theorem sum_half (j : Fin 2) (f : Fin 128 → EReal) : ∑ d : Fin 128, (if d.val / 64 = j.val then f d else 0) = ∑ e : Fin 64, f (half j e) := by
  rw [Fin.sum_univ_tiles 2 64 rfl, Finset.sum_eq_single j]
  · refine Finset.sum_congr rfl fun e _ => ?_
    rw [if_pos (by show (j.val * 64 + e.val) / 64 = j.val; omega)]
    exact congrArg f (Fin.ext (by show j.val * 64 + e.val = 64 * j.val + e.val; omega))
  · intro s _ hs
    refine Finset.sum_eq_zero fun e _ => if_neg fun h => hs (Fin.ext ?_)
    have h : (s.val * 64 + e.val) / 64 = j.val := h
    omega
  · exact fun h => absurd (Finset.mem_univ _) h

theorem tile_score (j : Fin 2) (r : Fin 256) (l : Fin 2048) :
    score (grid0.coords t 2).val (iblk m c 0 t) (iblk m c 1 t) (iblk m c 2 t) (iblk m c 3 t) j r l
      = Ref.score (a0 m c) (a1 m c) (a2 m c) (a3 m c) (batch t) (head t j) (query t r) l := by
  unfold score Ref.score Ref.logit
  rw [at_row]
  refine if_congr Iff.rfl (congrArg (· * κ) (congrArg₂ (· + ·) ?_ ?_)) rfl
  · exact Finset.sum_congr rfl fun d _ => by rw [blk0, blk2]
  · refine Eq.trans (Finset.sum_congr rfl fun d _ => ?_) ((sum_half j (fun d => (fun x y : EReal => x * y) (iblk m c 1 t (ix2 r d)) (iblk m c 3 t (ix2 l d)))).trans
      (Finset.sum_congr rfl fun e _ => ?_))
    · unfold rot
      split
      · rfl
      · exact zero_mul _
    · exact (congrArg₂ (fun x y : EReal => x * y) (blk1 m c t j r e) (blk3 m c t j l e)).trans (mul_comm _ _)

theorem tile_prob (j : Fin 2) (r : Fin 256) (l : Fin 2048) :
    prob (grid0.coords t 2).val (iblk m c 0 t) (iblk m c 1 t) (iblk m c 2 t) (iblk m c 3 t) (iblk m c 6 t) j r l
      = kprob (a0 m c) (a1 m c) (a2 m c) (a3 m c) (batch t) (head t j) (query t r) l := by
  exact congrArg₂ (fun x y : EReal => Ideal.exp (x - y)) (tile_score m c t j r l) (blk6 m c t j r)

theorem tile_dscore (j : Fin 2) (r : Fin 256) (l : Fin 2048) :
    dscore (grid0.coords t 2).val (iblk m c 0 t) (iblk m c 1 t) (iblk m c 2 t) (iblk m c 3 t) (iblk m c 4 t) (iblk m c 5 t) (iblk m c 6 t) (iblk m c 7 t) j r l
      = kgscore (a0 m c) (a1 m c) (a2 m c) (a3 m c) (a4 m c) (a5 m c) (batch t) (head t j) (query t r) l := by
  exact congrArg₂ (fun x y : EReal => x * y * κ) (tile_prob m c t j r l)
    (congrArg₂ (fun x y : EReal => x - y)
      (Finset.sum_congr rfl fun d _ => congrArg₂ (fun x y : EReal => x * y) (blk7 m c t j r d) (blk4 m c t j l d))
      (Finset.sum_congr rfl fun d _ => congrArg₂ (fun x y : EReal => x * y) (blk7 m c t j r d) (blk5 m c t j r d)))

end Attn

end

end
-- ==== Proof.Attn.Arrays.lean ====
module

public import proofs.«01_k».proof.Proof.Attn.Tiles
public import Idealize.ShloMosaic.Lib.Pipeline.ValueKit

@[expose] public section

/-!
# What the kernel's arrays hold after the last grid point

The gradients of the queries are written once a point. Those of the keys and the values are summed over the points of a pair of heads, and that of the shared
rotary key over all the points of a batch element: the blocks of queries put together are the whole sequence.
-/

set_option maxRecDepth 16384

noncomputable section

namespace Attn

open Cert.KernelIdeal Cert.KernelIdeal.Gen
open Idealize.ShloMosaic Idealize.ShloMosaic.TcCoe
open Idealize.SL Idealize.SL.RA Idealize.SL.BI Idealize.SL.Sem
open Idealize.ShloMosaic.Pipeline

variable (m : (ℓ : Loc nD τ sig) → Buf (Elt Ideal) ℓ) (c : Dev nD)

/-- The kernel's score gradient of device `c`'s arrays. -/
abbrev gs (b : Fin 4) (h : Fin 8) (i k : Fin 2048) : EReal := kgscore (a0 m c) (a1 m c) (a2 m c) (a3 m c) (a4 m c) (a5 m c) b h i k

/-- The kernel's probability of device `c`'s arrays. -/
abbrev pr (b : Fin 4) (h : Fin 8) (i k : Fin 2048) : EReal := kprob (a0 m c) (a1 m c) (a2 m c) (a3 m c) b h i k

/-! ## Arrays read by batch element, head, position and lane -/

/-- The array with `f b h i d` at batch element `b`, head `h`, position `i` and lane `d`. -/
def spread (f : Fin 4 → Fin 8 → Fin 2048 → Fin 128 → EReal) (y : S8192x1024.Idx) : EReal :=
  f ⟨(y 0).val / 2048, by have : (y 0).val < 8192 := (y 0).isLt; omega⟩ ⟨(y 1).val / 128, by have : (y 1).val < 1024 := (y 1).isLt; omega⟩
    ⟨(y 0).val % 2048, by omega⟩ ⟨(y 1).val % 128, by omega⟩

/-- The same of an array of rotary lanes, -/
def rspread (f : Fin 4 → Fin 8 → Fin 2048 → Fin 64 → EReal) (y : S8192x512.Idx) : EReal :=
  f ⟨(y 0).val / 2048, by have : (y 0).val < 8192 := (y 0).isLt; omega⟩ ⟨(y 1).val / 64, by have : (y 1).val < 512 := (y 1).isLt; omega⟩
    ⟨(y 0).val % 2048, by omega⟩ ⟨(y 1).val % 64, by omega⟩

/-- and of the array of a pair's rotary lanes, which the pairs share. -/
def pspread (f : Fin 4 → Fin 2 → Fin 2048 → Fin 64 → EReal) (y : S8192x128.Idx) : EReal :=
  f ⟨(y 0).val / 2048, by have : (y 0).val < 8192 := (y 0).isLt; omega⟩ ⟨(y 1).val / 64, by have : (y 1).val < 128 := (y 1).isLt; omega⟩
    ⟨(y 0).val % 2048, by omega⟩ ⟨(y 1).val % 64, by omega⟩

theorem spread_at (f) (b : Fin 4) (h : Fin 8) (i : Fin 2048) (d : Fin 128) : spread f (ix2 (Ref.row b i) (Ref.col h d)) = f b h i d :=
  congr (congr (congr (congrArg f (Fin.ext (by show (2048 * b.val + i.val) / 2048 = b.val; omega))) (Fin.ext (by show (128 * h.val + d.val) / 128 = h.val; omega)))
    (Fin.ext (by show (2048 * b.val + i.val) % 2048 = i.val; omega))) (Fin.ext (by show (128 * h.val + d.val) % 128 = d.val; omega))

theorem rspread_at (f) (b : Fin 4) (h : Fin 8) (i : Fin 2048) (e : Fin 64) : rspread f (ix2 (Ref.row b i) (Ref.rcol h e)) = f b h i e :=
  congr (congr (congr (congrArg f (Fin.ext (by show (2048 * b.val + i.val) / 2048 = b.val; omega))) (Fin.ext (by show (64 * h.val + e.val) / 64 = h.val; omega)))
    (Fin.ext (by show (2048 * b.val + i.val) % 2048 = i.val; omega))) (Fin.ext (by show (64 * h.val + e.val) % 64 = e.val; omega))

theorem pspread_at (f) (b : Fin 4) (j : Fin 2) (i : Fin 2048) (e : Fin 64) : pspread f (ix2 (Ref.row b i) (half j e)) = f b j i e :=
  congr (congr (congr (congrArg f (Fin.ext (by show (2048 * b.val + i.val) / 2048 = b.val; omega))) (Fin.ext (by show (64 * j.val + e.val) / 64 = j.val; omega)))
    (Fin.ext (by show (2048 * b.val + i.val) % 2048 = i.val; omega))) (Fin.ext (by show (64 * j.val + e.val) % 64 = e.val; omega))

theorem ix2_ext {n0 n1 : ℕ} {i j : (⟨2, ![n0, n1]⟩ : Shape).Idx} (h0 : i 0 = j 0) (h1 : i 1 = j 1) : i = j :=
  funext fun a => match a with
    | ⟨0, _⟩ => h0
    | ⟨1, _⟩ => h1

theorem lane_cases {n : ℕ} (y : (⟨2, ![n, 256]⟩ : Shape).Idx) : ∃ (r : Fin n) (j : Fin 2) (d : Fin 128), y = ix2 r (lane j d) := by
  have h : (y 1).val < 256 := (y 1).isLt
  exact ⟨y 0, ⟨(y 1).val / 128, by omega⟩, ⟨(y 1).val % 128, by omega⟩, ix2_ext rfl (Fin.ext (by show (y 1).val = 128 * ((y 1).val / 128) + (y 1).val % 128; omega))⟩

theorem half_cases {n : ℕ} (y : (⟨2, ![n, 128]⟩ : Shape).Idx) : ∃ (r : Fin n) (j : Fin 2) (e : Fin 64), y = ix2 r (half j e) := by
  have h : (y 1).val < 128 := (y 1).isLt
  exact ⟨y 0, ⟨(y 1).val / 64, by omega⟩, ⟨(y 1).val % 64, by omega⟩, ix2_ext rfl (Fin.ext (by show (y 1).val = 64 * ((y 1).val / 64) + (y 1).val % 64; omega))⟩

/-! ## Where the windows write -/

variable (t : Fin cfg0.N)

theorem emb8 (A : S8192x1024.Idx → EReal) (r : Fin 256) (j : Fin 2) (d : Fin 128) :
    A ((win0_8.blk t).view.emb (ix2 r (lane j d))) = A (ix2 (Ref.row (batch t) (query t r)) (Ref.col (head t j) d)) := by
  blk_ext [idx t, Ref.row, Ref.col, lane, batch, head, query]

theorem emb9 (A : S8192x512.Idx → EReal) (r : Fin 256) (j : Fin 2) (e : Fin 64) :
    A ((win0_9.blk t).view.emb (ix2 r (half j e))) = A (ix2 (Ref.row (batch t) (query t r)) (Ref.rcol (head t j) e)) := by
  blk_ext [idx t, Ref.row, Ref.rcol, half, batch, head, query]

theorem emb10 (A : S8192x1024.Idx → EReal) (l : Fin 2048) (j : Fin 2) (d : Fin 128) :
    A ((win0_10.blk t).view.emb (ix2 l (lane j d))) = A (ix2 (Ref.row (batch t) l) (Ref.col (head t j) d)) := by
  blk_ext [idx t, Ref.row, Ref.col, lane, batch, head, query]

theorem emb11 (A : S8192x128.Idx → EReal) (l : Fin 2048) (j : Fin 2) (e : Fin 64) :
    A ((win0_11.blk t).view.emb (ix2 l (half j e))) = A (ix2 (Ref.row (batch t) l) (half j e)) := by
  blk_ext [idx t, Ref.row, half, batch, head, query]

theorem emb12 (A : S8192x1024.Idx → EReal) (l : Fin 2048) (j : Fin 2) (d : Fin 128) :
    A ((win0_12.blk t).view.emb (ix2 l (lane j d))) = A (ix2 (Ref.row (batch t) l) (Ref.col (head t j) d)) := by
  blk_ext [idx t, Ref.row, Ref.col, lane, batch, head, query]

/-! ## The queries' gradients -/

theorem dq_entry (j : Fin 2) (r : Fin 256) (d : Fin 128) :
    outDq m c t (ix2 r (lane j d)) = ∑ l : Fin 2048, gs m c (batch t) (head t j) (query t r) l * a2 m c (ix2 (Ref.row (batch t) l) (Ref.col (head t j) d)) := by
  unfold outDq
  refine (dq_lane _ _ _ _ _ _ _ _ _ j r d).trans (Finset.sum_congr rfl fun l _ => ?_)
  exact congrArg₂ (fun x y : EReal => x * y) (tile_dscore m c t j r l) (blk2 m c t j l d)

theorem dqr_entry (j : Fin 2) (r : Fin 256) (e : Fin 64) :
    outDqr m c t (ix2 r (half j e)) = ∑ l : Fin 2048, gs m c (batch t) (head t j) (query t r) l * a3 m c (ix2 (Ref.row (batch t) l) e) := by
  unfold outDqr
  have hj : ∀ p, (⟨(half j e).val / 64, p⟩ : Fin 2) = j := fun p => Fin.ext (by show (64 * j.val + e.val) / 64 = j.val; omega)
  refine Finset.sum_congr rfl fun l _ => ?_
  refine congrArg₂ (fun x y : EReal => x * y) (Eq.trans ?_ (tile_dscore m c t j r l)) (blk3 m c t j l e)
  exact congrArg (fun i => dscore (grid0.coords t 2).val (iblk m c 0 t) (iblk m c 1 t) (iblk m c 2 t) (iblk m c 3 t) (iblk m c 4 t) (iblk m c 5 t) (iblk m c 6 t) (iblk m c 7 t) i r l) (hj _)

/-- The queries' gradient, -/
def gDq (b : Fin 4) (h : Fin 8) (i : Fin 2048) (d : Fin 128) : EReal := ∑ l : Fin 2048, gs m c b h i l * a2 m c (ix2 (Ref.row b l) (Ref.col h d))

/-- that of their rotary part, -/
def gDqr (b : Fin 4) (h : Fin 8) (i : Fin 2048) (e : Fin 64) : EReal := ∑ l : Fin 2048, gs m c b h i l * a3 m c (ix2 (Ref.row b l) e)

/-- the keys' gradient, -/
def gDk (b : Fin 4) (h : Fin 8) (l : Fin 2048) (d : Fin 128) : EReal := ∑ i : Fin 2048, gs m c b h i l * a0 m c (ix2 (Ref.row b i) (Ref.col h d))

/-- what the pairs' `j`-th heads give the rotary key, the point `s` of the batch element having block `s % 8` of the heads' pair `s / 8`, -/
def gDkr (b : Fin 4) (j : Fin 2) (l : Fin 2048) (e : Fin 64) : EReal :=
  ∑ s : Fin 32, ∑ r : Fin 256, gs m c b ⟨2 * (s.val / 8) + j.val, by omega⟩ ⟨256 * (s.val % 8) + r.val, by omega⟩ l
    * a1 m c (ix2 (Ref.row b ⟨256 * (s.val % 8) + r.val, by omega⟩) (Ref.rcol ⟨2 * (s.val / 8) + j.val, by omega⟩ e))

/-- and the values' gradient. -/
def gDv (b : Fin 4) (h : Fin 8) (l : Fin 2048) (d : Fin 128) : EReal := ∑ i : Fin 2048, pr m c b h i l * a5 m c (ix2 (Ref.row b i) (Ref.col h d))

theorem arr_dq : (dats m 0 c).arrAt 8 cfg0.N = spread (gDq m c) := by
  refine (dats m 0 c).arrAt_eq_of_covers 8 _ (by decide +kernel) fun t hf y => ?_
  blk_simp
  rw [after0_8]
  obtain ⟨r, j, d, rfl⟩ := lane_cases y
  exact (dq_entry m c t j r d).trans ((emb8 t _ r j d).trans (spread_at (gDq m c) _ _ _ _)).symm

theorem arr_dqr : (dats m 0 c).arrAt 9 cfg0.N = rspread (gDqr m c) := by
  refine (dats m 0 c).arrAt_eq_of_covers 9 _ (by decide +kernel) fun t hf y => ?_
  blk_simp
  rw [after0_9]
  obtain ⟨r, j, e, rfl⟩ := half_cases y
  exact (dqr_entry m c t j r e).trans ((emb9 t _ r j e).trans (rspread_at (gDqr m c) _ _ _ _)).symm

/-! ## What a point adds to the keys' and the values' gradients -/

def addDk (t : Fin cfg0.N) : S2048x256.Idx → EReal := dk (grid0.coords t 2).val (iblk m c 0 t) (iblk m c 1 t) (iblk m c 2 t) (iblk m c 3 t) (iblk m c 4 t) (iblk m c 5 t) (iblk m c 6 t) (iblk m c 7 t) (fun _ => 0)
def addDkr (t : Fin cfg0.N) : S2048x128.Idx → EReal := dkr (grid0.coords t 2).val (iblk m c 0 t) (iblk m c 1 t) (iblk m c 2 t) (iblk m c 3 t) (iblk m c 4 t) (iblk m c 5 t) (iblk m c 6 t) (iblk m c 7 t) (fun _ => 0)
def addDv (t : Fin cfg0.N) : S2048x256.Idx → EReal := dv (grid0.coords t 2).val (iblk m c 0 t) (iblk m c 1 t) (iblk m c 2 t) (iblk m c 3 t) (iblk m c 6 t) (iblk m c 7 t) (fun _ => 0)

theorem dk_entry (j : Fin 2) (l : Fin 2048) (d : Fin 128) : addDk m c t (ix2 l (lane j d))
    = ∑ r : Fin 256, gs m c (batch t) (head t j) (query t r) l * a0 m c (ix2 (Ref.row (batch t) (query t r)) (Ref.col (head t j) d)) := by
  unfold addDk
  refine (dk_lane _ _ _ _ _ _ _ _ _ _ j l d).trans ((zero_add _).trans (Finset.sum_congr rfl fun r _ => ?_))
  exact congrArg₂ (fun x y : EReal => x * y) (tile_dscore m c t j r l) (blk0 m c t j r d)

theorem dv_entry (j : Fin 2) (l : Fin 2048) (d : Fin 128) : addDv m c t (ix2 l (lane j d))
    = ∑ r : Fin 256, pr m c (batch t) (head t j) (query t r) l * a5 m c (ix2 (Ref.row (batch t) (query t r)) (Ref.col (head t j) d)) := by
  unfold addDv
  refine (dv_lane _ _ _ _ _ _ _ _ j l d).trans ((zero_add _).trans (Finset.sum_congr rfl fun r _ => ?_))
  exact congrArg₂ (fun x y : EReal => x * y) (tile_prob m c t j r l) (blk7 m c t j r d)

/-- The head whose half it is gets its queries' rotary part, the other head gets nothing. -/
theorem rot_half (q : S256x128.Idx → EReal) (i j : Fin 2) (r : Fin 256) (e : Fin 64) : rot q i r (half j e) = if i = j then q (ix2 r (half j e)) else 0 := by
  unfold rot
  refine if_congr ⟨fun h => Fin.ext ?_, fun h => ?_⟩ rfl rfl
  · have h : (64 * j.val + e.val) / 64 = i.val := h
    omega
  · subst h
    show (64 * i.val + e.val) / 64 = i.val
    omega

theorem dkr_entry (j : Fin 2) (l : Fin 2048) (e : Fin 64) : addDkr m c t (ix2 l (half j e))
    = ∑ r : Fin 256, gs m c (batch t) (head t j) (query t r) l * a1 m c (ix2 (Ref.row (batch t) (query t r)) (Ref.rcol (head t j) e)) := by
  have key : ∀ i : Fin 2, ∑ r : Fin 256, dscore (grid0.coords t 2).val (iblk m c 0 t) (iblk m c 1 t) (iblk m c 2 t) (iblk m c 3 t) (iblk m c 4 t) (iblk m c 5 t)
        (iblk m c 6 t) (iblk m c 7 t) i r l * rot (iblk m c 1 t) i r (half j e)
      = if i = j then ∑ r : Fin 256, gs m c (batch t) (head t j) (query t r) l * a1 m c (ix2 (Ref.row (batch t) (query t r)) (Ref.rcol (head t j) e)) else 0 := by
    intro i
    by_cases h : i = j
    · subst h
      rw [if_pos rfl]
      refine Finset.sum_congr rfl fun r _ => congrArg₂ (fun x y : EReal => x * y) (tile_dscore m c t i r l) ?_
      exact (rot_half _ i i r e).trans ((if_pos rfl).trans (blk1 m c t i r e))
    · rw [if_neg h]
      refine Finset.sum_eq_zero fun r _ => ?_
      rw [rot_half, if_neg h, mul_zero]
  refine (congrArg₂ (fun x y : EReal => 0 + x + y) (key 0) (key 1)).trans ?_
  have hj := j.isLt
  obtain h | h : j = 0 ∨ j = 1 := by
    rcases (by omega : j.val = 0 ∨ j.val = 1) with h | h
    · exact .inl (Fin.ext h)
    · exact .inr (Fin.ext h)
  · rw [if_pos h.symm, if_neg (by rw [h]; decide), zero_add, add_zero]
  · rw [if_neg (by rw [h]; decide), if_pos h.symm, zero_add, zero_add]

/-- An accumulator started every `J` points holds, at the last point of a run, the sum of what the run's points add. -/
theorem through_sum {N J : ℕ} [NeZero J] {s : Shape} (f : Fin N → (s.Idx → EReal) → s.Idx → EReal) (add : Fin N → s.Idx → EReal)
    (hf : ∀ t a y, f t a y = start J t.val a y + add t y) (t : Fin N) (ht : t.val % J = J - 1) (y : s.Idx) :
    through (fun _ => 0) f t.val t.isLt y = ∑ p : Fin J, add ⟨J * (t.val / J) + p.val, Pipeline.run_point_lt_of_flush t ht p⟩ y := by
  refine (Pipeline.eq_sum_fin_of_reset_step_apply_of_flush (through (fun _ => 0) f) J (fun _ => 0) add (fun t h y => ?_) (fun t h y => ?_) t ht y).trans (zero_add _)
  · obtain ⟨_ | n, hn⟩ := t
    · exact (hf _ _ _).trans (congrArg (fun z : s.Idx → EReal => z y + add _ y) (start_zero h _))
    · exact (hf _ _ _).trans (congrArg (fun z : s.Idx → EReal => z y + add _ y) (start_zero h _))
  · rw [through_pos _ _ t (fun e => h (by rw [e, Nat.zero_mod])), hf, start_keep h]

/-! ## The summed arrays -/

/-- The `s`-th point of a run over a pair of heads: its batch element, its heads and its queries. -/
theorem run_batch (s : Fin 8) (p) : batch ⟨8 * (t.val / 8) + s.val, p⟩ = batch t := Fin.ext (by show (8 * (t.val / 8) + s.val) / 32 = t.val / 32; omega)
theorem run_head (s : Fin 8) (p) (j : Fin 2) : head ⟨8 * (t.val / 8) + s.val, p⟩ j = head t j :=
  Fin.ext (by show 2 * ((8 * (t.val / 8) + s.val) % 32 / 8) + j.val = 2 * (t.val % 32 / 8) + j.val; omega)
theorem run_query (s : Fin 8) (p) (r : Fin 256) (hl : s.val * 256 + r.val < 2048) : query ⟨8 * (t.val / 8) + s.val, p⟩ r = ⟨s.val * 256 + r.val, hl⟩ :=
  Fin.ext (by show 256 * ((8 * (t.val / 8) + s.val) % 8) + r.val = s.val * 256 + r.val; omega)

/-- The `s`-th point of a run over a batch element. -/
theorem long_batch (s : Fin 32) (p) : batch ⟨32 * (t.val / 32) + s.val, p⟩ = batch t := Fin.ext (by show (32 * (t.val / 32) + s.val) / 32 = t.val / 32; omega)
theorem long_head (s : Fin 32) (p) (j : Fin 2) : head ⟨32 * (t.val / 32) + s.val, p⟩ j = ⟨2 * (s.val / 8) + j.val, by omega⟩ :=
  Fin.ext (by show 2 * ((32 * (t.val / 32) + s.val) % 32 / 8) + j.val = 2 * (s.val / 8) + j.val; omega)
theorem long_query (s : Fin 32) (p) (r : Fin 256) : query ⟨32 * (t.val / 32) + s.val, p⟩ r = ⟨256 * (s.val % 8) + r.val, by omega⟩ :=
  Fin.ext (by show 256 * ((32 * (t.val / 32) + s.val) % 8) + r.val = 256 * (s.val % 8) + r.val; omega)

theorem arr_dk : (dats m 0 c).arrAt 10 cfg0.N = spread (gDk m c) := by
  refine (dats m 0 c).arrAt_eq_of_covers 10 _ (by decide +kernel) fun t hf y => ?_
  blk_simp
  rw [after0_10]
  obtain ⟨l, j, d, rfl⟩ := lane_cases y
  refine (through_sum (stepDk m c) (addDk m c) (fun t a y => congrArg (fun x : EReal => _ + x) (zero_add _).symm) t ((flush0_10 t).mp hf) _).trans ?_
  refine Eq.trans (Fin.sum_fin_congr fun s => dk_entry m c _ j l d) ?_
  refine Eq.trans ?_ ((emb10 t _ l j d).trans (spread_at (gDk m c) _ _ _ _)).symm
  refine Fin.sum_mul_add_congr fun s r hl => ?_
  rw [run_batch, run_head, run_query t s _ r hl]

theorem arr_dv : (dats m 0 c).arrAt 12 cfg0.N = spread (gDv m c) := by
  refine (dats m 0 c).arrAt_eq_of_covers 12 _ (by decide +kernel) fun t hf y => ?_
  blk_simp
  rw [after0_12]
  obtain ⟨l, j, d, rfl⟩ := lane_cases y
  refine (through_sum (stepDv m c) (addDv m c) (fun t a y => congrArg (fun x : EReal => _ + x) (zero_add _).symm) t ((flush0_12 t).mp hf) _).trans ?_
  refine Eq.trans (Fin.sum_fin_congr fun s => dv_entry m c _ j l d) ?_
  refine Eq.trans ?_ ((emb12 t _ l j d).trans (spread_at (gDv m c) _ _ _ _)).symm
  refine Fin.sum_mul_add_congr fun s r hl => ?_
  rw [run_batch, run_head, run_query t s _ r hl]

theorem arr_dkr : (dats m 0 c).arrAt 11 cfg0.N = pspread (gDkr m c) := by
  refine (dats m 0 c).arrAt_eq_of_covers 11 _ (by decide +kernel) fun t hf y => ?_
  blk_simp
  rw [after0_11]
  obtain ⟨l, j, e, rfl⟩ := half_cases y
  have hf' : ∀ (t : Fin cfg0.N) a y, stepDkr m c t a y = start 32 t.val a y + addDkr m c t y := fun t a y => by
    unfold stepDkr addDkr dkr
    rw [zero_add]
    exact add_assoc _ _ _
  refine (through_sum (stepDkr m c) (addDkr m c) hf' t ((flush0_11 t).mp hf) _).trans ?_
  refine Eq.trans (Fin.sum_fin_congr fun s => dkr_entry m c _ j l e) ?_
  refine Eq.trans ?_ ((emb11 t _ l j e).trans (pspread_at (gDkr m c) _ _ _ _)).symm
  refine Fin.sum_fin_congr fun s => Fin.sum_fin_congr fun r => ?_
  rw [long_batch, long_head, long_query]

/-- The two halves of the rotary key's gradient together: every query of every head. -/
theorem gDkr_sum (b : Fin 4) (l : Fin 2048) (e : Fin 64) :
    gDkr m c b 0 l e + gDkr m c b 1 l e = ∑ i : Fin 2048, ∑ h : Fin 8, gs m c b h i l * a1 m c (ix2 (Ref.row b i) (Ref.rcol h e)) := by
  have half : ∀ j : Fin 2, gDkr m c b j l e = ∑ p : Fin 4, ∑ i : Fin 2048, gs m c b ⟨p.val * 2 + j.val, by omega⟩ i l
      * a1 m c (ix2 (Ref.row b i) (Ref.rcol ⟨p.val * 2 + j.val, by omega⟩ e)) := by
    intro j
    unfold gDkr
    rw [Fin.sum_univ_tiles 4 8 rfl]
    refine Finset.sum_congr rfl fun p _ => Fin.sum_mul_add_congr fun s r hl => ?_
    have hh : (⟨2 * ((p.val * 8 + s.val) / 8) + j.val, by omega⟩ : Fin 8) = ⟨p.val * 2 + j.val, by omega⟩ := Fin.ext (by show 2 * ((p.val * 8 + s.val) / 8) + j.val = p.val * 2 + j.val; omega)
    have hi : (⟨256 * ((p.val * 8 + s.val) % 8) + r.val, by omega⟩ : Fin 2048) = ⟨s.val * 256 + r.val, hl⟩ := Fin.ext (by show 256 * ((p.val * 8 + s.val) % 8) + r.val = s.val * 256 + r.val; omega)
    exact congrArg₂ (fun h i => gs m c b h i l * a1 m c (ix2 (Ref.row b i) (Ref.rcol h e))) hh hi
  rw [half 0, half 1, ← Finset.sum_add_distrib, Finset.sum_comm, Fin.sum_univ_tiles 4 2 rfl]
  exact Finset.sum_congr rfl fun p _ => (Fin.sum_univ_two fun j : Fin 2 => ∑ i : Fin 2048, gs m c b ⟨p.val * 2 + j.val, by omega⟩ i l
      * a1 m c (ix2 (Ref.row b i) (Ref.rcol ⟨p.val * 2 + j.val, by omega⟩ e))).symm

end Attn

end

end
-- ==== Proof.Attn.Pre.lean ====
module

public import proofs.«01_k».proof.Defs
public import proofs.«01_k».proof.Proof.Attn.Finite
public import Idealize.ShloMosaic.Lib.Pointwise

@[expose] public section

/-!
# What the precondition says

Every entry of every argument has an absolute value below infinity, so it is a real number.
-/

set_option maxRecDepth 16384

noncomputable section

namespace Attn

open Idealize.ShloMosaic Idealize.ShloMosaic.TcCoe Idealize.SL.Sem

theorem preFacts : Cert.Pre_finite.Facts := by
  constructor <;> decide

theorem inf_word : Ideal.ofBits .f32 0x7F800000#32 = (⊤ : EReal) := by simp [Ideal.ofBits, Ideal.ieee]

/-- A number whose absolute value is below infinity is real. -/
theorem real_of_lt {x : EReal} (h : Ideal.cmp .olt (max x (-x)) (Ideal.ofBits .f32 0x7F800000#32) = 1#1) : ∃ r : ℝ, x = r := by
  rw [inf_word] at h
  induction x with
  | bot => simp [Ideal.cmp] at h
  | top => simp [Ideal.cmp] at h
  | coe r => exact ⟨r, rfl⟩

/-- An array all of whose entries are real. -/
def AllReal {s : Shape} (x : s.Idx → EReal) : Prop := ∃ y : s.Idx → ℝ, x = re y

theorem allReal {s : Shape} {x : s.Idx → EReal} {p : s.Idx → BitVec 1} (h : p = fun _ => 1#1)
    (hp : ∀ j, p j = Ideal.cmp .olt (max (x j) (-(x j))) (Ideal.ofBits .f32 0x7F800000#32)) : AllReal x :=
  ⟨fun j => (real_of_lt ((hp j).symm.trans (congrFun h j))).choose, funext fun j => (real_of_lt ((hp j).symm.trans (congrFun h j))).choose_spec⟩

theorem reals [Cert.Pre_finite.Facts] {m : (ℓ : Loc Cert.KernelIdeal.nD Cert.KernelIdeal.τ Cert.KernelIdeal.sig) → Buf (Elt Ideal) ℓ} (h : Cert.Pre_KernelIdeal_finite m)
    (c : Dev Cert.KernelIdeal.nD) : AllReal (a0 m c) ∧ AllReal (a1 m c) ∧ AllReal (a2 m c) ∧ AllReal (a3 m c) ∧ AllReal (a4 m c) ∧ AllReal (a5 m c) :=
  ⟨allReal (h c).1 fun _ => rfl, allReal (h c).2.1 fun _ => rfl, allReal (h c).2.2.1 fun _ => rfl, allReal (h c).2.2.2.1 fun _ => rfl,
    allReal (h c).2.2.2.2.1 fun _ => rfl, allReal (h c).2.2.2.2.2 fun _ => rfl⟩

end Attn

end

end
-- ==== Proof.Attn.Results.lean ====
module

public import proofs.«01_k».proof.Proof.Attn.Arrays
public import proofs.«01_k».proof.Proof.Attn.Pre
public import Idealize.ShloMosaic.Lib.Pointwise
public import Idealize.ShloMosaic.Lib.Pipeline.ValueKit

@[expose] public section

/-!
# The kernel's results

The host adds the two halves of the rotary key's gradient. Each result is then the reference's where the arguments are real.
-/

set_option maxRecDepth 16384

noncomputable section

namespace Attn

open Cert.KernelIdeal Cert.KernelIdeal.Gen
open Cert.ReferenceIdeal.Read (val_main_v77 val_main_v82 val_main_v83 val_main_v84 val_main_v86)
open Idealize.ShloMosaic Idealize.ShloMosaic.TcCoe Idealize.ShloMosaic.Tactic
open Idealize.SL Idealize.SL.RA Idealize.SL.BI Idealize.SL.Sem
open Idealize.ShloMosaic.Pipeline

variable (m : (ℓ : Loc nD τ sig) → Buf (Elt Ideal) ℓ) (c : Dev nD)

/-- The two halves of the lanes added. -/
def halves (x : FVec Ideal S8192x128 .f32) : FVec Ideal S8192x64 .f32 :=
  addf (extractStridedSlice S8192x64 ![0, 0] x slices_S8192x128_S8192x64_0_0) (extractStridedSlice S8192x64 ![0, 64] x slices_S8192x128_S8192x64_0_64)

theorem halves_at (x : FVec Ideal S8192x128 .f32) (r : Fin 8192) (e : Fin 64) : halves x (ix2 r e) = x (ix2 r (half 0 e)) + x (ix2 r (half 1 e)) := by
  pointwise [halves]
  exact congrArg₂ (fun i j => x (ix2 r i) + x (ix2 r j)) (Fin.ext (by show e.val = 64 * 0 + e.val; omega)) (Fin.ext (by show 64 + e.val = 64 * 1 + e.val; omega))

theorem tail : Pipeline.afterTail₀ cfgs (dats m) 0 (V0 m) [hostOps1] c main_v47 = halves (pspread (gDkr m c)) := by
  unfold Pipeline.afterTail₀
  simp only [hostOps1, List.flatten_cons, List.flatten_nil, List.append_nil]
  after_results_simp
  have h := Pipeline.withArrays_arr (cfgs 0).spec launch0.win.arr_inj c (V0 m c) (fun w => (dats m 0 c).arrAt w (cfgs 0).N) 11
  exact congrArg halves (h.trans (arr_dkr m c))

/-! ## The reference's results, where the arguments are real -/

theorem gscore_of_real {x0 x2 x4 x5 : S8192x1024.Idx → EReal} {x1 : S8192x512.Idx → EReal} {x3 : S8192x64.Idx → EReal}
    (h : AllReal x0 ∧ AllReal x1 ∧ AllReal x2 ∧ AllReal x3 ∧ AllReal x4 ∧ AllReal x5) (b : Fin 4) (n : Fin 8) (i k : Fin 2048) :
    kgscore x0 x1 x2 x3 x4 x5 b n i k = Ref.gscore x0 x1 x2 x3 x4 x5 b n i k := by
  obtain ⟨⟨y0, rfl⟩, ⟨y1, rfl⟩, ⟨y2, rfl⟩, ⟨y3, rfl⟩, ⟨y4, rfl⟩, ⟨y5, rfl⟩⟩ := h
  exact kgscore_eq y0 y1 y2 y3 y4 y5 b n i k

theorem prob_of_real {x0 x2 : S8192x1024.Idx → EReal} {x1 : S8192x512.Idx → EReal} {x3 : S8192x64.Idx → EReal}
    (h0 : AllReal x0) (h1 : AllReal x1) (h2 : AllReal x2) (h3 : AllReal x3) (b : Fin 4) (n : Fin 8) (i k : Fin 2048) :
    kprob x0 x1 x2 x3 b n i k = Ref.prob x0 x1 x2 x3 b n i k := by
  obtain ⟨y0, rfl⟩ := h0
  obtain ⟨y1, rfl⟩ := h1
  obtain ⟨y2, rfl⟩ := h2
  obtain ⟨y3, rfl⟩ := h3
  exact kprob_eq y0 y1 y2 y3 b n i k

theorem row_cases (r : Fin 8192) : ∃ (b : Fin 4) (i : Fin 2048), r = Ref.row b i :=
  ⟨⟨r.val / 2048, by omega⟩, ⟨r.val % 2048, by omega⟩, Fin.ext (by show r.val = 2048 * (r.val / 2048) + r.val % 2048; omega)⟩

theorem col_cases (y : S8192x1024.Idx) : ∃ (b : Fin 4) (i : Fin 2048) (h : Fin 8) (d : Fin 128), y = ix2 (Ref.row b i) (Ref.col h d) := by
  obtain ⟨b, i, hr⟩ := row_cases (y 0)
  have h : (y 1).val < 1024 := (y 1).isLt
  exact ⟨b, i, ⟨(y 1).val / 128, by omega⟩, ⟨(y 1).val % 128, by omega⟩, ix2_ext hr (Fin.ext (by show (y 1).val = 128 * ((y 1).val / 128) + (y 1).val % 128; omega))⟩

theorem rcol_cases (y : S8192x512.Idx) : ∃ (b : Fin 4) (i : Fin 2048) (h : Fin 8) (e : Fin 64), y = ix2 (Ref.row b i) (Ref.rcol h e) := by
  obtain ⟨b, i, hr⟩ := row_cases (y 0)
  have h : (y 1).val < 512 := (y 1).isLt
  exact ⟨b, i, ⟨(y 1).val / 64, by omega⟩, ⟨(y 1).val % 64, by omega⟩, ix2_ext hr (Fin.ext (by show (y 1).val = 64 * ((y 1).val / 64) + (y 1).val % 64; omega))⟩

variable (hr : AllReal (a0 m c) ∧ AllReal (a1 m c) ∧ AllReal (a2 m c) ∧ AllReal (a3 m c) ∧ AllReal (a4 m c) ∧ AllReal (a5 m c))

include hr

theorem dq_eq : spread (gDq m c) = val_main_v86 (F := Ideal) (a0 m c) (a1 m c) (a2 m c) (a3 m c) (a4 m c) (a5 m c) := by
  funext y
  obtain ⟨b, i, h, d, rfl⟩ := col_cases y
  rw [spread_at, Ref.out_dq]
  exact Finset.sum_congr rfl fun l _ => congrArg (fun x : EReal => x * _) (gscore_of_real hr b h i l)

theorem dqr_eq : rspread (gDqr m c) = val_main_v84 (F := Ideal) (a0 m c) (a1 m c) (a2 m c) (a3 m c) (a4 m c) (a5 m c) := by
  funext y
  obtain ⟨b, i, h, e, rfl⟩ := rcol_cases y
  rw [rspread_at, Ref.out_dqr]
  exact Finset.sum_congr rfl fun l _ => congrArg (fun x : EReal => x * _) (gscore_of_real hr b h i l)

theorem dk_eq : spread (gDk m c) = val_main_v83 (F := Ideal) (a0 m c) (a1 m c) (a2 m c) (a3 m c) (a4 m c) (a5 m c) := by
  funext y
  obtain ⟨b, l, h, d, rfl⟩ := col_cases y
  rw [spread_at, Ref.out_dk]
  exact Finset.sum_congr rfl fun i _ => congrArg (fun x : EReal => x * _) (gscore_of_real hr b h i l)

theorem dkr_eq : halves (pspread (gDkr m c)) = val_main_v77 (F := Ideal) (a0 m c) (a1 m c) (a2 m c) (a3 m c) (a4 m c) (a5 m c) := by
  funext y
  obtain ⟨b, l, e, rfl⟩ : ∃ (b : Fin 4) (l : Fin 2048) (e : Fin 64), y = ix2 (Ref.row b l) e := by
    obtain ⟨b, l, hy⟩ := row_cases (y 0)
    exact ⟨b, l, y 1, ix2_ext hy rfl⟩
  refine (halves_at _ _ _).trans ?_
  rw [pspread_at, pspread_at, gDkr_sum]
  refine Eq.trans ?_ (Ref.out_dkr (a0 m c) (a1 m c) (a2 m c) (a3 m c) (a4 m c) (a5 m c) b l e).symm
  exact Finset.sum_congr rfl fun i _ => Finset.sum_congr rfl fun h _ => congrArg (fun x : EReal => x * _) (gscore_of_real hr b h i l)

theorem dv_eq : spread (gDv m c) = val_main_v82 (F := Ideal) (a0 m c) (a1 m c) (a2 m c) (a3 m c) (a5 m c) := by
  funext y
  obtain ⟨b, l, h, d, rfl⟩ := col_cases y
  rw [spread_at, Ref.out_dv]
  exact Finset.sum_congr rfl fun i _ => (congrArg (fun x : EReal => x * _) (prob_of_real hr.1 hr.2.1 hr.2.2.1 hr.2.2.2.1 b h i l)).trans (mul_comm _ _)

end Attn

end

end
-- ==== Proof.Attn.Value.lean ====
module

public import proofs.«01_k».proof.Proof.Attn.Results

@[expose] public section

/-!
# The two runs

The kernel's run leaves the reference's terms of its own arguments in its results, and the reference's run of the same arguments leaves them too.
-/

set_option maxRecDepth 16384

noncomputable section

namespace Attn

open Idealize.ShloMosaic Idealize.ShloMosaic.TcCoe
open Idealize.SL.Sem

section Kernel

open Cert.KernelIdeal Cert.KernelIdeal.Gen
open Cert.ReferenceIdeal.Read (val_main_v77 val_main_v82 val_main_v83 val_main_v84 val_main_v86)

variable (m : (ℓ : Loc nD τ sig) → Buf (Elt Ideal) ℓ) (ρ : Dev nD → PrngReg)

/-- The kernel's run: its results are the reference's terms of its arguments, which end as they began. -/
theorem kernel_value
    (hr : ∀ c : Dev nD, AllReal (a0 m c) ∧ AllReal (a1 m c) ∧ AllReal (a2 m c) ∧ AllReal (a3 m c) ∧ AllReal (a4 m c) ∧ AllReal (a5 m c)) :
    θ_run defs (onTc (τ := τ) (main (F := Ideal))) ⟨m, fun _ => 0, ρ⟩ (fun r => ∀ c : Dev nD,
      r.2.mem ((c.tc : Thread nD τ).loc main_v44_0) = val_main_v86 (F := Ideal) (a0 m c) (a1 m c) (a2 m c) (a3 m c) (a4 m c) (a5 m c)
      ∧ r.2.mem ((c.tc : Thread nD τ).loc main_v44_1) = val_main_v84 (F := Ideal) (a0 m c) (a1 m c) (a2 m c) (a3 m c) (a4 m c) (a5 m c)
      ∧ r.2.mem ((c.tc : Thread nD τ).loc main_v44_2) = val_main_v83 (F := Ideal) (a0 m c) (a1 m c) (a2 m c) (a3 m c) (a4 m c) (a5 m c)
      ∧ r.2.mem ((c.tc : Thread nD τ).loc main_v47) = val_main_v77 (F := Ideal) (a0 m c) (a1 m c) (a2 m c) (a3 m c) (a4 m c) (a5 m c)
      ∧ r.2.mem ((c.tc : Thread nD τ).loc main_v44_4) = val_main_v82 (F := Ideal) (a0 m c) (a1 m c) (a2 m c) (a3 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 8).trans ((arr_dq m c).trans (dq_eq m c (hr c))), ((h.1 c).1 9).trans ((arr_dqr m c).trans (dqr_eq m c (hr c))),
      ((h.1 c).1 10).trans ((arr_dk m c).trans (dk_eq m c (hr c))),
      ((h.1 c).2 main_v47 (Pipeline.mem_restRefs_of main_v47 (by decide) (by decide))).trans ((tail m c).trans (dkr_eq m c (hr c))),
      ((h.1 c).1 12).trans ((arr_dv m c).trans (dv_eq m c (hr c))), h.2.1 c⟩)
    (θ_run_and (run_main m ρ) (frame m ρ))

end Kernel

section Reference

open Cert.ReferenceIdeal

variable (m : (ℓ : Loc nD τ sig) → Buf (Elt Ideal) ℓ) (ρ : Dev nD → PrngReg)

/-- The reference's frame: its run leaves its arguments as they were, and it has no semaphore. -/
theorem ref_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2.2.2, sem_eq_zero_of_no_sems rfl _⟩) (Value.run (F := Ideal) m ρ)

end Reference

/-- Both programs compute the same five arrays where the arguments are real. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  letI := preFacts
  refine ⟨_, _, _, _, _, kernel_value m g fun c => reals hpre c, (θ_run _ _ _).mono (fun r h c => ?_) (Cert.ReferenceIdeal.Value.run (F := Ideal) m' g')⟩
  obtain ⟨e0, e1, e2, e3, e4, e5⟩ := hargs c
  obtain ⟨h86, h84, h83, h77, h82, hrest⟩ := h c
  refine ⟨h86.trans ((Cert.ReferenceIdeal.Read.val_main_v86_eq m' c).trans ?_), h84.trans ((Cert.ReferenceIdeal.Read.val_main_v84_eq m' c).trans ?_),
    h83.trans ((Cert.ReferenceIdeal.Read.val_main_v83_eq m' c).trans ?_), h77.trans ((Cert.ReferenceIdeal.Read.val_main_v77_eq m' c).trans ?_),
    h82.trans ((Cert.ReferenceIdeal.Read.val_main_v82_eq m' c).trans ?_), hrest⟩
  · rw [e0, e1, e2, e3, e4, e5]
  · rw [e0, e1, e2, e3, e4, e5]
  · rw [e0, e1, e2, e3, e4, e5]
  · rw [e0, e1, e2, e3, e4, e5]
  · rw [e0, e1, e2, e3, e5]

end Attn

end

end
-- ==== Proof.Bits.Body.lean ====
module

public import proofs.«01_k».proof.Proof.Gen.Kernel.Skeleton
public import proofs.«01_k».proof.Proof.Gen.Kernel.Frame
public import proofs.«01_k».proof.Proof.Gen.Kernel.Points

@[expose] public section

/-!
# The kernel's body, whatever the numbers are

For the frame of the program over machine numbers nothing need be known of what the body leaves in its outputs: it runs to the end, and its inputs' buffers are as they were.
-/

set_option maxRecDepth 16384

noncomputable section

namespace AttnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body runs, hands the inputs' buffers back as they were and the outputs' buffers at some contents. -/
def Keeps (c : Dev nD) (i : grid0.Coords)
  (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole) : Prop :=
  ∀ (x0 : Vec F S256x256 .bf16)
  (x1 : Vec F S256x128 .bf16)
  (x2 : Vec F S2048x256 .bf16)
  (x3 : Vec F S2048x128 .bf16)
  (x4 : Vec F S2048x256 .bf16)
  (x5 : Vec F S256x256 .bf16)
  (x6 : Vec F S256x128 .f32)
  (x7 : Vec F S256x256 .f32)
    (E : Set ℕ) (K : PUnit → sProp 𝕄),
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K

/-- What the conditions of the body say of the point. -/
structure At (i : grid0.Coords) (n : ℕ) : Prop where
  c1 : k0_cond1 i = 1#1 ↔ n % 8 = 0
  c2 : k0_cond2 i = 1#1 ↔ n % 32 = 0
  c3 : k0_cond3 i = 1#1 ↔ n % 8 = 0
  c4 : k0_cond4 i = 1#1 ↔ n % 8 = 1
  c5 : k0_cond5 i = 1#1 ↔ n % 8 = 2
  c6 : k0_cond6 i = 1#1 ↔ n % 8 = 3
  c7 : k0_cond7 i = 1#1 ↔ n % 8 = 4
  c8 : k0_cond8 i = 1#1 ↔ n % 8 = 5
  c9 : k0_cond9 i = 1#1 ↔ n % 8 = 6
  c10 : k0_cond10 i = 1#1 ↔ n % 8 = 7

theorem at_coords (t : Fin grid0.N) : At (grid0.coords t) t.val where
  c1 := (by decide +kernel : ∀ t : Fin grid0.N, k0_cond1 (grid0.coords t) = 1#1 ↔ t.val % 8 = 0) t
  c2 := (by decide +kernel : ∀ t : Fin grid0.N, k0_cond2 (grid0.coords t) = 1#1 ↔ t.val % 32 = 0) t
  c3 := (by decide +kernel : ∀ t : Fin grid0.N, k0_cond3 (grid0.coords t) = 1#1 ↔ t.val % 8 = 0) t
  c4 := (by decide +kernel : ∀ t : Fin grid0.N, k0_cond4 (grid0.coords t) = 1#1 ↔ t.val % 8 = 1) t
  c5 := (by decide +kernel : ∀ t : Fin grid0.N, k0_cond5 (grid0.coords t) = 1#1 ↔ t.val % 8 = 2) t
  c6 := (by decide +kernel : ∀ t : Fin grid0.N, k0_cond6 (grid0.coords t) = 1#1 ↔ t.val % 8 = 3) t
  c7 := (by decide +kernel : ∀ t : Fin grid0.N, k0_cond7 (grid0.coords t) = 1#1 ↔ t.val % 8 = 4) t
  c8 := (by decide +kernel : ∀ t : Fin grid0.N, k0_cond8 (grid0.coords t) = 1#1 ↔ t.val % 8 = 5) t
  c9 := (by decide +kernel : ∀ t : Fin grid0.N, k0_cond9 (grid0.coords t) = 1#1 ↔ t.val % 8 = 6) t
  c10 := (by decide +kernel : ∀ t : Fin grid0.N, k0_cond10 (grid0.coords t) = 1#1 ↔ t.val % 8 = 7) t

set_option maxHeartbeats 20000000 in
/-- The body at any point: each condition is decided by the point. -/
theorem keeps (c : Dev nD) (i : grid0.Coords)
  (arg3 : Memref sig .tc .vmem S256x256 .bf16) (harg3 : arg3.IsWhole)
  (arg4 : Memref sig .tc .vmem S256x128 .bf16) (harg4 : arg4.IsWhole)
  (arg5 : Memref sig .tc .vmem S2048x256 .bf16) (harg5 : arg5.IsWhole)
  (arg6 : Memref sig .tc .vmem S2048x128 .bf16) (harg6 : arg6.IsWhole)
  (arg7 : Memref sig .tc .vmem S2048x256 .bf16) (harg7 : arg7.IsWhole)
  (arg8 : Memref sig .tc .vmem S256x256 .bf16) (harg8 : arg8.IsWhole)
  (arg9 : Memref sig .tc .vmem S256x128 .f32) (harg9 : arg9.IsWhole)
  (arg10 : Memref sig .tc .vmem S256x256 .f32) (harg10 : arg10.IsWhole)
  (arg11 : Memref sig .tc .vmem S256x256 .bf16) (harg11 : arg11.IsWhole)
  (arg12 : Memref sig .tc .vmem S256x128 .f32) (harg12 : arg12.IsWhole)
  (arg13 : Memref sig .tc .vmem S2048x256 .f32) (harg13 : arg13.IsWhole)
  (arg14 : Memref sig .tc .vmem S2048x128 .f32) (harg14 : arg14.IsWhole)
  (arg15 : Memref sig .tc .vmem S2048x256 .f32) (harg15 : arg15.IsWhole) {n : ℕ} (P : At i n) :
    Keeps (F := F) c i arg3 harg3 arg4 harg4 arg5 harg5 arg6 harg6 arg7 harg7 arg8 harg8 arg9 harg9 arg10 harg10 arg11 harg11 arg12 harg12 arg13 harg13 arg14 harg14 arg15 harg15 := by
  have hn : n % 32 = 0 ∨ (n % 8 = 0 ∧ ¬n % 32 = 0) ∨ n % 8 = 1 ∨ n % 8 = 2 ∨ n % 8 = 3 ∨ n % 8 = 4 ∨ n % 8 = 5 ∨ n % 8 = 6 ∨ n % 8 = 7 := by omega
  intro x0 x1 x2 x3 x4 x5 x6 x7 E K
  simp only [cc0_attn_bwd_eq_skeleton]; unfold cc0_attn_bwd_skel
  simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  rcases hn with hn | hn | hn | hn | hn | hn | hn | hn | hn
  all_goals
    sl_exec (disch := first | sl_exact (P.c1.mpr (by omega)) | sl_exact (fun h => absurd (P.c1.mp h) (by omega)) | sl_exact (P.c2.mpr (by omega)) | sl_exact (fun h => absurd (P.c2.mp h) (by omega)) | sl_exact (P.c3.mpr (by omega)) | sl_exact (fun h => absurd (P.c3.mp h) (by omega)) | sl_exact (P.c4.mpr (by omega)) | sl_exact (fun h => absurd (P.c4.mp h) (by omega)) | sl_exact (P.c5.mpr (by omega)) | sl_exact (fun h => absurd (P.c5.mp h) (by omega)) | sl_exact (P.c6.mpr (by omega)) | sl_exact (fun h => absurd (P.c6.mp h) (by omega)) | sl_exact (P.c7.mpr (by omega)) | sl_exact (fun h => absurd (P.c7.mp h) (by omega)) | sl_exact (P.c8.mpr (by omega)) | sl_exact (fun h => absurd (P.c8.mp h) (by omega)) | sl_exact (P.c9.mpr (by omega)) | sl_exact (fun h => absurd (P.c9.mp h) (by omega)) | sl_exact (P.c10.mpr (by omega)) | sl_exact (fun h => absurd (P.c10.mp h) (by omega)))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end AttnFrame

end
-- ==== Proof.Bits.Frame.lean ====
module

public import proofs.«01_k».proof.Proof.Bits.Body
public import Idealize.ShloMosaic.Lib.Claim

@[expose] public section

/-!
# The frame of the program over machine numbers

The run of the whole program, nothing being said of the results: it ends without a fault, the arguments are as they were and every semaphore counter is zero.
-/

set_option maxRecDepth 16384

noncomputable section

namespace AttnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' windows: of what is left there nothing is said. -/
def outs : Fin 13 → Bool := fun w => decide (8 ≤ w.val)

/-- The buffers that the host lines after the kernel write. -/
def late : Finset (Ref sig .tc) := {main_v45, main_v46, main_v47}

theorem late_writes : ∀ ops ∈ ([hostOps1] : List (List (HloOp τ sig (Elt F)))), ∀ op ∈ ops,
    ∀ b : Ref sig .tc, Proc.devRef .tc b ∈ op.writes → b ∈ late := by
  intro ops hops op hop b hb
  obtain rfl := List.mem_singleton.mp hops
  simp only [hostOps1, List.mem_cons, List.mem_nil_iff, or_false] at hop
  rcases hop with rfl | rfl | rfl
  all_goals
    simp only [StableHlo.unary_writes, StableHlo.binary_writes, Finset.mem_singleton] at hb
    obtain rfl := Proc.devRef_injective .tc hb
    decide

/-- The pipeline's data: an input's buffer holds its block after a point as before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem not_idle : ∀ w : Fin 13, ∀ i : grid0.Coords, idle0 w i = false := by decide +kernel

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [show cfg0.idle w (cfg0.grid.coords t) = false from not_idle w _]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c)]
  rw [show (dats m 0 c).Φ t.succ = (dats m 0 c).Φ t.castSucc from rfl,
    show (dats m 0 c).owesAt () t.succ = (dats m 0 c).owesAt () t.castSucc from rfl,
    leaves m c 0 t, leaves m c 1 t, leaves m c 2 t, leaves m c 3 t, leaves m c 4 t, leaves m c 5 t, leaves m c 6 t, leaves m c 7 t,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (keeps c (grid0.coords t) _ _ _ _ _ _ _ _ _ _ _ _ _ _ _ _ _ _ _ _ _ _ _ _ _ _ (at_coords t) (iblk m c 0 t) (iblk m c 1 t) (iblk m c 2 t) (iblk m c 3 t) (iblk m c 4 t) (iblk m c 5 t) (iblk m c 6 t) (iblk m c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

-- the implicit arguments of the library's run are found by unifying its conclusion with this one
set_option backward.isDefEq.respectTransparency.types false in
set_option maxHeartbeats 800000 in
/-- The run: the inputs' arrays unchanged, and every semaphore counter zero. -/
theorem run_main : θ_run defs (onTc (τ := τ) (main (F := F))) (s₀ m ρ)
    (fun r => (Pipeline.RDat.FramePostR (cfgs 0) (fun c => (dats m 0 c).toRForget outs) late (V m)) r ∧ r.2.sem = fun _ => 0) :=
  Pipeline.θ_run_frame_around_T_forget (Q' := _) cfgs (dats m) (0 : Fin 1) launch0 defs₀ Variants.none outs late m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := late_writes)
    (hmain := hmain m Variants.none) (hA := A_eq m) (hΦ := fun _ _ => rfl)

/-- The arguments after the run: five are staged, and one is read by the host alone. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat late (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePostR.arr_in h c 0 rfl).trans ((hA c 0).trans (V_main_arg0 m c)), (Pipeline.RDat.FramePostR.arr_in h c 1 rfl).trans ((hA c 1).trans (V_main_arg1 m c)),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)), (Pipeline.RDat.FramePostR.arr_in h c 7 rfl).trans ((hA c 7).trans (V_main_arg5 m c))⟩) h

/-- The frame: the arguments end as they began and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (fun c => (dats m 0 c).toRForget outs) (A_eq m) ((θ_run defs _ _).mono (fun _ h => h.1) (run_main m ρ)))
    ((θ_run defs _ _).mono (fun _ h => h.2) (run_main m ρ))

end AttnFrame

end
-- ==== Proof.Product.Basic.lean ====
module

public import Idealize.ShloMosaic.Lib.Pipeline.ValueKit
public import Idealize.ShloMosaic.Lib.VecWindow
public import Idealize.ShloMosaic.Lib.Pointwise

@[expose] public section

/-!
# Products of two matrices, whole and by chunks of the rows they are summed over

A layer `x ↦ x w` (`plain`) has two products in its backward pass. The gradient of `x` is `g wᵀ`: rows of `g` against rows of `w` (`rows`). The gradient of `w`
is `xᵀ g`: columns of `x` against columns of `g` (`columns`), summed over the rows. A block of the first two is computed in one go; a block of the third is
accumulated over chunks of the rows, and `accumulated` puts the chunks together. The rest is what the kernels' loads, stores and matrix products are at these shapes.
-/

set_option maxRecDepth 16384

noncomputable section

namespace Product

open Idealize.ShloMosaic Idealize.ShloMosaic.TcCoe

/-- An array of `M` rows of `N`. -/
abbrev Mat (M N : ℕ) : Shape := ⟨2, ![M, N]⟩

variable {M N K : ℕ}

/-- Rows of `A` against rows of `B`. -/
def rows (A : (Mat M K).Idx → EReal) (B : (Mat N K).Idx → EReal) (y : (Mat M N).Idx) : EReal := ∑ k : Fin K, A (ix2 (y 0) k) * B (ix2 (y 1) k)

/-- Rows of `A` against columns of `B`. -/
def plain (A : (Mat M K).Idx → EReal) (B : (Mat K N).Idx → EReal) (y : (Mat M N).Idx) : EReal := ∑ k : Fin K, A (ix2 (y 0) k) * B (ix2 k (y 1))

/-- Columns of `A` against columns of `B`. -/
def columns (A : (Mat K M).Idx → EReal) (B : (Mat K N).Idx → EReal) (y : (Mat M N).Idx) : EReal := ∑ k : Fin K, A (ix2 k (y 0)) * B (ix2 k (y 1))

theorem rows_congr {M' N' : ℕ} {A : (Mat M K).Idx → EReal} {B : (Mat N K).Idx → EReal} {A' : (Mat M' K).Idx → EReal} {B' : (Mat N' K).Idx → EReal}
    {y : (Mat M N).Idx} {z : (Mat M' N').Idx} (hA : ∀ k, A (ix2 (y 0) k) = A' (ix2 (z 0) k)) (hB : ∀ k, B (ix2 (y 1) k) = B' (ix2 (z 1) k)) :
    rows A B y = rows A' B' z :=
  Finset.sum_congr rfl fun k _ => congrArg₂ (fun a b : EReal => a * b) (hA k) (hB k)

theorem plain_congr {M' N' : ℕ} {A : (Mat M K).Idx → EReal} {B : (Mat K N).Idx → EReal} {A' : (Mat M' K).Idx → EReal} {B' : (Mat K N').Idx → EReal}
    {y : (Mat M N).Idx} {z : (Mat M' N').Idx} (hA : ∀ k, A (ix2 (y 0) k) = A' (ix2 (z 0) k)) (hB : ∀ k, B (ix2 k (y 1)) = B' (ix2 k (z 1))) :
    plain A B y = plain A' B' z :=
  Finset.sum_congr rfl fun k _ => congrArg₂ (fun a b : EReal => a * b) (hA k) (hB k)

/-- A sum over pairs of entries is one of the products, where the entries are the product's. -/
theorem plain_of {i : Fin K → (Mat M K).Idx} {j : Fin K → (Mat K N).Idx} (A : (Mat M K).Idx → EReal) (B : (Mat K N).Idx → EReal) (y : (Mat M N).Idx)
    (hi : ∀ k, i k = ix2 (y 0) k) (hj : ∀ k, j k = ix2 k (y 1)) : ∑ k, A (i k) * B (j k) = plain A B y :=
  Finset.sum_congr rfl fun k _ => congrArg₂ (fun a b : EReal => a * b) (congrArg A (hi k)) (congrArg B (hj k))

theorem rows_of {i : Fin K → (Mat M K).Idx} {j : Fin K → (Mat N K).Idx} (A : (Mat M K).Idx → EReal) (B : (Mat N K).Idx → EReal) (y : (Mat M N).Idx)
    (hi : ∀ k, i k = ix2 (y 0) k) (hj : ∀ k, j k = ix2 (y 1) k) : ∑ k, A (i k) * B (j k) = rows A B y :=
  Finset.sum_congr rfl fun k _ => congrArg₂ (fun a b : EReal => a * b) (congrArg A (hi k)) (congrArg B (hj k))

theorem columns_of {i : Fin K → (Mat K M).Idx} {j : Fin K → (Mat K N).Idx} (A : (Mat K M).Idx → EReal) (B : (Mat K N).Idx → EReal) (y : (Mat M N).Idx)
    (hi : ∀ k, i k = ix2 k (y 0)) (hj : ∀ k, j k = ix2 k (y 1)) : ∑ k, B (j k) * A (i k) = columns A B y :=
  Finset.sum_congr rfl fun k _ => (mul_comm _ _).trans (congrArg₂ (fun a b : EReal => a * b) (congrArg A (hi k)) (congrArg B (hj k)))

/-! ## The matrix unit -/

/-- The dimension numbers of `plain`, -/
def plainDims (wf : DotDims.WF (Mat M K) (Mat K N) (Mat M N) [1] [0] [0] [1] [] []) : DotDims (Mat M K) (Mat K N) (Mat M N) where
  lhsContracting := [1]
  rhsContracting := [0]
  lhsNonContracting := [0]
  rhsNonContracting := [1]
  lhsBatch := []
  rhsBatch := []
  wf := wf

/-- of `rows` -/
def rowsDims (wf : DotDims.WF (Mat M K) (Mat N K) (Mat M N) [1] [1] [0] [0] [] []) : DotDims (Mat M K) (Mat N K) (Mat M N) where
  lhsContracting := [1]
  rhsContracting := [1]
  lhsNonContracting := [0]
  rhsNonContracting := [0]
  lhsBatch := []
  rhsBatch := []
  wf := wf

/-- and of `columns`. -/
def columnsDims (wf : DotDims.WF (Mat K M) (Mat K N) (Mat M N) [0] [0] [1] [1] [] []) : DotDims (Mat K M) (Mat K N) (Mat M N) where
  lhsContracting := [0]
  rhsContracting := [0]
  lhsNonContracting := [1]
  rhsNonContracting := [1]
  lhsBatch := []
  rhsBatch := []
  wf := wf

theorem matmul_plain (wf) (x : FVec Ideal (Mat M K) .bf16) (w : FVec Ideal (Mat K N) .bf16) :
    matmul (plainDims wf) none x w (constant (Mat M N) .f32 0x00000000#32) = plain x w := by
  funext y
  refine (Ideal.matmul_apply₁_of (plainDims wf) (a := 1) rfl (K := K) rfl x w (constant (F := Ideal) (Mat M N) .f32 0x00000000#32) y
    (fun k => ix2 (y 0) k) (fun k => ix2 k (y 1)) (fun k => by funext a; fin_cases a <;> rfl) (fun k => by funext a; fin_cases a <;> rfl)).trans ?_
  unfold plain
  pointwise

theorem matmul_rows (wf) (x : FVec Ideal (Mat M K) .bf16) (w : FVec Ideal (Mat N K) .bf16) :
    matmul (rowsDims wf) none x w (constant (Mat M N) .f32 0x00000000#32) = rows x w := by
  funext y
  refine (Ideal.matmul_apply₁_of (rowsDims wf) (a := 1) rfl (K := K) rfl x w (constant (F := Ideal) (Mat M N) .f32 0x00000000#32) y
    (fun k => ix2 (y 0) k) (fun k => ix2 (y 1) k) (fun k => by funext a; fin_cases a <;> rfl) (fun k => by funext a; fin_cases a <;> rfl)).trans ?_
  unfold rows
  pointwise

theorem matmul_columns (wf) (x : FVec Ideal (Mat K M) .bf16) (g : FVec Ideal (Mat K N) .bf16) :
    matmul (columnsDims wf) none x g (constant (Mat M N) .f32 0x00000000#32) = columns x g := by
  funext y
  refine (Ideal.matmul_apply₁_of (columnsDims wf) (a := 0) rfl (K := K) rfl x g (constant (F := Ideal) (Mat M N) .f32 0x00000000#32) y
    (fun k => ix2 k (y 0)) (fun k => ix2 k (y 1)) (fun k => by funext a; fin_cases a <;> rfl) (fun k => by funext a; fin_cases a <;> rfl)).trans ?_
  unfold columns
  pointwise

/-- A product of columns added to what is there. -/
theorem columns_added (wf) (hc) (p : FVec Ideal (Mat M N) .f32) (x : FVec Ideal (Mat K M) .bf16) (g : FVec Ideal (Mat K N) .bf16) (y : (Mat M N).Idx) :
    (shapeCast (Mat M N) (addf p (matmul (columnsDims wf) none x g (constant (Mat M N) .f32 0x00000000#32))) hc y : EReal) = p y + columns x g y := by
  rw [shapeCast_self]
  exact congrArg (fun a : EReal => p y + a) (congrFun (matmul_columns wf x g) y)

/-- A buffer cleared. -/
theorem cleared (hc) (y : (Mat M N).Idx) : (shapeCast (Mat M N) (broadcast (Mat M N) (Scalar.ofBits (F := Ideal) .f32 0x00000000#32)) hc y : EReal) = 0 := by
  pointwise

/-- A product of rows with an array added. -/
theorem rows_added (wf) (x : FVec Ideal (Mat M K) .bf16) (w : FVec Ideal (Mat N K) .bf16) (p : FVec Ideal (Mat M N) .f32) (y : (Mat M N).Idx) :
    (addf (matmul (rowsDims wf) none x w (constant (Mat M N) .f32 0x00000000#32)) p y : EReal) = rows x w y + p y :=
  congrArg (fun a : EReal => a + p y) (congrFun (matmul_rows wf x w) y)

/-! ## Loads and stores of whole buffers -/

theorem origin : (![0, 0] : Fin 2 → ℕ) = fun _ => 0 := by
  funext a
  fin_cases a <;> rfl

variable {sig : RefSig} {κ : Kind} {sp : Space} {e : EltTy}

/-- A load of a whole buffer reads its contents. -/
theorem load (b : Memref sig κ sp (Mat M N) e) (h : b.IsWhole) (inb) (x : (Mat M N).Idx → Elt Ideal e) :
    b.view.readAt (Elt Ideal) (Rect.unit (s := Mat M N) ![0, 0] ![M, N] inb).toLoadRect (h.unread x) = x := by
  rw [View.readAt_eq_ld, h.read_unread]
  exact View.ld_unit_zero origin inb x

/-- So does a load of the contents alone. -/
theorem load_contents (inb) (x : (Mat M N).Idx → Elt Ideal e) : View.ld x (Rect.unit (s := Mat M N) ![0, 0] ![M, N] inb) = x :=
  View.ld_unit_zero origin inb x

/-- A load of a buffer just stored whole reads what was stored. -/
theorem reload (v : View sig κ sp (Mat M N) e) (inb) (x : (Mat M N).Idx → Elt Ideal e) :
    v.readCov [(⟨Rect.unit (s := Mat M N) ![0, 0] ![M, N] inb, x⟩ : View.Piece (Elt Ideal) (Mat M N) e)] (Rect.unit (s := Mat M N) ![0, 0] ![M, N] inb).toLoadRect = x :=
  View.readCov_unit_zero v origin inb x

/-- What a buffer holds after a store of the whole is what was stored, -/
theorem stored (inb) (x : (Mat M N).Idx → Elt Ideal e) (L : List (View.Piece (Elt Ideal) (Mat M N) e)) :
    View.canon ((⟨Rect.unit (s := Mat M N) ![0, 0] ![M, N] inb, x⟩ : View.Piece (Elt Ideal) (Mat M N) e) :: L) = x :=
  View.canon_cons_unit_zero (Val := Elt Ideal) origin inb x L

/-- also read back through the buffer. -/
theorem stored_read (v : View sig κ sp (Mat M N) e) (inb) (x : (Mat M N).Idx → Elt Ideal e) (L : List (View.Piece (Elt Ideal) (Mat M N) e)) :
    v.read (Elt Ideal) (v.writes (Elt Ideal) v.junk ((⟨Rect.unit (s := Mat M N) ![0, 0] ![M, N] inb, x⟩ : View.Piece (Elt Ideal) (Mat M N) e) :: L)) = x := by
  rw [View.read_writes_junk_eq_canon]
  exact stored inb x L

/-! ## Accumulation over chunks of the rows -/

/-- A buffer started anew every `J` points, to which each point adds a sum of `R` terms, holds at the last point of a run the sum of the run's `J R` terms. -/
theorem summed {S : Shape} {P J R L : ℕ} [NeZero J] (hL : L = J * R) (outs : (n : ℕ) → n < P → S.Idx → EReal) (terms : Fin P → Fin R → S.Idx → EReal)
    (first : ∀ t : Fin P, t.val % J = 0 → ∀ y, outs t.val t.isLt y = 0 + ∑ r, terms t r y)
    (next : ∀ t : Fin P, ¬t.val % J = 0 → ∀ y, outs t.val t.isLt y = outs (t.val - 1) (Nat.lt_of_le_of_lt (Nat.sub_le _ _) t.isLt) y + ∑ r, terms t r y)
    (t : Fin P) (ht : t.val % J = J - 1) (y : S.Idx) (f : Fin L → EReal)
    (hf : ∀ (u : Fin P) (s : ℕ) (r : Fin R) (hl : s * R + r.val < L), u.val / J = t.val / J → u.val % J = s → terms u r y = f ⟨s * R + r.val, hl⟩) :
    outs t.val t.isLt y = ∑ l, f l := by
  refine (Pipeline.eq_sum_fin_of_reset_step_apply_of_flush outs J (fun _ => 0) (fun t y => ∑ r, terms t r y) first next t ht y).trans ((zero_add _).trans ?_)
  refine Fin.sum_mul_add_congr (fun s r hl => ?_) hL
  have hJ := Nat.pos_of_ne_zero (NeZero.ne J)
  have hq : (J * (t.val / J) + s.val) / J = t.val / J := by rw [Nat.mul_add_div hJ, Nat.div_eq_of_lt s.isLt, Nat.add_zero]
  have hm : (J * (t.val / J) + s.val) % J = s.val := by rw [Nat.mul_add_mod, Nat.mod_eq_of_lt s.isLt]
  exact hf _ _ r hl hq hm

/-- An accumulator cleared every `J` points, to which each point adds the product of its chunks of `R` rows, holds at the last point of a run
    the product of the `J R` rows the chunks are cut from; and so does the block it is then copied to. At a point `outs` is the block and the accumulator,
    `add` a point's addition, `zero` the cleared accumulator. -/
theorem accumulated {P J R L : ℕ} [NeZero J] (hL : L = J * R) (outs : (n : ℕ) → n < P → ((Mat M N).Idx → EReal) × ((Mat M N).Idx → EReal))
    (add : ((Mat M N).Idx → EReal) → ((Mat R M).Idx → EReal) → ((Mat R N).Idx → EReal) → (Mat M N).Idx → EReal) (zero : (Mat M N).Idx → EReal)
    (hadd : ∀ p x g y, add p x g y = p y + columns x g y) (hzero : ∀ y, zero y = 0)
    (x : Fin P → (Mat R M).Idx → EReal) (g : Fin P → (Mat R N).Idx → EReal)
    (first : ∀ t : Fin P, t.val % J = 0 → (outs t.val t.isLt).2 = add zero (x t) (g t))
    (next : ∀ t : Fin P, ¬t.val % J = 0 → (outs t.val t.isLt).2 = add (outs (t.val - 1) (Nat.lt_of_le_of_lt (Nat.sub_le _ _) t.isLt)).2 (x t) (g t))
    (last : ∀ t : Fin P, t.val % J = J - 1 → (outs t.val t.isLt).1 = (outs t.val t.isLt).2)
    (t : Fin P) (ht : t.val % J = J - 1) (y : (Mat M N).Idx) (A B : Fin L → EReal)
    (hA : ∀ (u : Fin P) (s : ℕ) (r : Fin R) (hl : s * R + r.val < L), u.val / J = t.val / J → u.val % J = s → x u (ix2 r (y 0)) = A ⟨s * R + r.val, hl⟩)
    (hB : ∀ (u : Fin P) (s : ℕ) (r : Fin R) (hl : s * R + r.val < L), u.val / J = t.val / J → u.val % J = s → g u (ix2 r (y 1)) = B ⟨s * R + r.val, hl⟩) :
    (outs t.val t.isLt).1 y = ∑ l, A l * B l := by
  exact (congrFun (last t ht) y).trans (summed hL (fun n h => (outs n h).2) (fun t r y => x t (ix2 r (y 0)) * g t (ix2 r (y 1)))
    (fun t h y => (congrFun (first t h) y).trans ((hadd _ _ _ y).trans (congrArg (fun a : EReal => a + _) (hzero y))))
    (fun t h y => (congrFun (next t h) y).trans (hadd _ _ _ y)) t ht y _ fun u s r hl hq hm => congrArg₂ (fun a b : EReal => a * b) (hA u s r hl hq hm) (hB u s r hl hq hm))

/-! ## Two programs and their arrays -/

/-- Two programs that end with one array each, the same, end with one array. Each also keeps what it keeps. -/
theorem agree {nD : ℕ} {τ τ' : Topo} {sig sig' : RefSig} {Val : EltTy → Type} [∀ e, Nonempty (Val e)] {Λ Λ' : Idealize.SL.Sem.Labels}
    {defs : Defs nD τ sig Val Λ} {p} {s : MemSt nD τ sig Val} {defs' : Defs nD τ' sig' Val Λ'} {p'} {s' : MemSt nD τ' sig' Val}
    {β : Dev nD → Type} {get : PUnit × MemSt nD τ sig Val → (c : Dev nD) → β c} {get' : PUnit × MemSt nD τ' sig' Val → (c : Dev nD) → β c} {a a' : (c : Dev nD) → β c}
    {K : Dev nD → PUnit × MemSt nD τ sig Val → Prop} {K' : Dev nD → PUnit × MemSt nD τ' sig' Val → Prop}
    (h : θ_run defs p s fun r => ∀ c, get r c = a c ∧ K c r) (h' : θ_run defs' p' s' fun r => ∀ c, get' r c = a' c ∧ K' c r) (ha : ∀ c, a' c = a c) :
    ∃ v : (c : Dev nD) → β c, θ_run defs p s (fun r => ∀ c, get r c = v c ∧ K c r) ∧ θ_run defs' p' s' (fun r => ∀ c, get' r c = v c ∧ K' c r) :=
  ⟨a, h, (θ_run _ _ _).mono (fun _ hr c => ⟨(hr c).1.trans (ha c), (hr c).2⟩) h'⟩

/-- The same of two programs that end with two arrays each. -/
theorem agree_two {nD : ℕ} {τ τ' : Topo} {sig sig' : RefSig} {Val : EltTy → Type} [∀ e, Nonempty (Val e)] {Λ Λ' : Idealize.SL.Sem.Labels}
    {defs : Defs nD τ sig Val Λ} {p} {s : MemSt nD τ sig Val} {defs' : Defs nD τ' sig' Val Λ'} {p'} {s' : MemSt nD τ' sig' Val}
    {α β : Dev nD → Type} {get : PUnit × MemSt nD τ sig Val → (c : Dev nD) → α c} {get' : PUnit × MemSt nD τ' sig' Val → (c : Dev nD) → α c} {a a' : (c : Dev nD) → α c}
    {got : PUnit × MemSt nD τ sig Val → (c : Dev nD) → β c} {got' : PUnit × MemSt nD τ' sig' Val → (c : Dev nD) → β c} {b b' : (c : Dev nD) → β c}
    {K : Dev nD → PUnit × MemSt nD τ sig Val → Prop} {K' : Dev nD → PUnit × MemSt nD τ' sig' Val → Prop}
    (h : θ_run defs p s fun r => ∀ c, get r c = a c ∧ got r c = b c ∧ K c r) (h' : θ_run defs' p' s' fun r => ∀ c, get' r c = a' c ∧ got' r c = b' c ∧ K' c r)
    (ha : ∀ c, a' c = a c) (hb : ∀ c, b' c = b c) :
    ∃ (v : (c : Dev nD) → α c) (w : (c : Dev nD) → β c), θ_run defs p s (fun r => ∀ c, get r c = v c ∧ got r c = w c ∧ K c r) ∧
      θ_run defs' p' s' (fun r => ∀ c, get' r c = v c ∧ got' r c = w c ∧ K' c r) :=
  ⟨a, b, h, (θ_run _ _ _).mono (fun _ hr c => ⟨(hr c).1.trans (ha c), (hr c).2.1.trans (hb c), (hr c).2.2⟩) h'⟩

/-- The same of five results. -/
theorem agree_five {nD : ℕ} {τ τ' : Topo} {sig sig' : RefSig} {Val : EltTy → Type} [∀ e, Nonempty (Val e)] {Λ Λ' : Idealize.SL.Sem.Labels}
    {defs : Defs nD τ sig Val Λ} {p} {s : MemSt nD τ sig Val} {defs' : Defs nD τ' sig' Val Λ'} {p'} {s' : MemSt nD τ' sig' Val} {α β γ δ ε : Dev nD → Type}
    {get : PUnit × MemSt nD τ sig Val → (c : Dev nD) → α c} {get' : PUnit × MemSt nD τ' sig' Val → (c : Dev nD) → α c} {a a' : (c : Dev nD) → α c}
    {got : PUnit × MemSt nD τ sig Val → (c : Dev nD) → β c} {got' : PUnit × MemSt nD τ' sig' Val → (c : Dev nD) → β c} {b b' : (c : Dev nD) → β c}
    {gat : PUnit × MemSt nD τ sig Val → (c : Dev nD) → γ c} {gat' : PUnit × MemSt nD τ' sig' Val → (c : Dev nD) → γ c} {d d' : (c : Dev nD) → γ c}
    {put : PUnit × MemSt nD τ sig Val → (c : Dev nD) → δ c} {put' : PUnit × MemSt nD τ' sig' Val → (c : Dev nD) → δ c} {e e' : (c : Dev nD) → δ c}
    {pat : PUnit × MemSt nD τ sig Val → (c : Dev nD) → ε c} {pat' : PUnit × MemSt nD τ' sig' Val → (c : Dev nD) → ε c} {f f' : (c : Dev nD) → ε c}
    {K : Dev nD → PUnit × MemSt nD τ sig Val → Prop} {K' : Dev nD → PUnit × MemSt nD τ' sig' Val → Prop}
    (h : θ_run defs p s fun r => ∀ c, get r c = a c ∧ got r c = b c ∧ gat r c = d c ∧ put r c = e c ∧ pat r c = f c ∧ K c r)
    (h' : θ_run defs' p' s' fun r => ∀ c, get' r c = a' c ∧ got' r c = b' c ∧ gat' r c = d' c ∧ put' r c = e' c ∧ pat' r c = f' c ∧ K' c r)
    (ha : ∀ c, a' c = a c) (hb : ∀ c, b' c = b c) (hd : ∀ c, d' c = d c) (he : ∀ c, e' c = e c) (hf : ∀ c, f' c = f c) :
    ∃ (v : (c : Dev nD) → α c) (w : (c : Dev nD) → β c) (x : (c : Dev nD) → γ c) (y : (c : Dev nD) → δ c) (z : (c : Dev nD) → ε c), θ_run defs p s (fun r => ∀ c, get r c = v c ∧ got r c = w c ∧ gat r c = x c ∧ put r c = y c ∧ pat r c = z c ∧ K c r) ∧
      θ_run defs' p' s' (fun r => ∀ c, get' r c = v c ∧ got' r c = w c ∧ gat' r c = x c ∧ put' r c = y c ∧ pat' r c = z c ∧ K' c r) :=
  ⟨a, b, d, e, f, h, (θ_run _ _ _).mono (fun _ hr c => ⟨(hr c).1.trans (ha c), (hr c).2.1.trans (hb c), (hr c).2.2.1.trans (hd c), (hr c).2.2.2.1.trans (he c), (hr c).2.2.2.2.1.trans (hf c), (hr c).2.2.2.2.2⟩) h'⟩

/-- A program without semaphores ends with none counting: with what is kept on every device, its frame. -/
theorem frame_of_run {nD : ℕ} {τ : Topo} {sig : RefSig} {Val : EltTy → Type} [∀ e, Nonempty (Val e)] {Λ : Idealize.SL.Sem.Labels} {defs : Defs nD τ sig Val Λ} {p} {s : MemSt nD τ sig Val}
    {A B : Dev nD → PUnit × MemSt nD τ sig Val → Prop} (hs : sig.nSem + sig.nDmaSem = 0) (h : θ_run defs p s fun r => ∀ c, A c r ∧ B c r) :
    θ_run defs p s fun r => (∀ c, B c r) ∧ r.2.sem = fun _ => 0 :=
  (θ_run _ _ _).mono (fun r h => ⟨fun c => (h c).2, sem_eq_zero_of_no_sems hs _⟩) h

/-- The same of a program with two results. -/
theorem frame_of_run_two {nD : ℕ} {τ : Topo} {sig : RefSig} {Val : EltTy → Type} [∀ e, Nonempty (Val e)] {Λ : Idealize.SL.Sem.Labels} {defs : Defs nD τ sig Val Λ} {p} {s : MemSt nD τ sig Val}
    {A A' B : Dev nD → PUnit × MemSt nD τ sig Val → Prop} (hs : sig.nSem + sig.nDmaSem = 0) (h : θ_run defs p s fun r => ∀ c, A c r ∧ A' c r ∧ B c r) :
    θ_run defs p s fun r => (∀ c, B c r) ∧ r.2.sem = fun _ => 0 :=
  frame_of_run (A := fun c r => A c r ∧ A' c r) hs ((θ_run _ _ _).mono (fun _ h c => and_assoc.mpr (h c)) h)

/-- The same of a program with five results. -/
theorem frame_of_run_five {nD : ℕ} {τ : Topo} {sig : RefSig} {Val : EltTy → Type} [∀ e, Nonempty (Val e)] {Λ : Idealize.SL.Sem.Labels} {defs : Defs nD τ sig Val Λ} {p} {s : MemSt nD τ sig Val}
    {A A' A'' A₃ A₄ B : Dev nD → PUnit × MemSt nD τ sig Val → Prop} (hs : sig.nSem + sig.nDmaSem = 0)
    (h : θ_run defs p s fun r => ∀ c, A c r ∧ A' c r ∧ A'' c r ∧ A₃ c r ∧ A₄ c r ∧ B c r) : θ_run defs p s fun r => (∀ c, B c r) ∧ r.2.sem = fun _ => 0 :=
  (θ_run _ _ _).mono (fun r h => ⟨fun c => (h c).2.2.2.2.2, sem_eq_zero_of_no_sems hs _⟩) h

end Product

end

end
-- ==== Proof.Product.Forward.lean ====
module

public import proofs.«01_k».proof.Proof.Product.Basic
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.InIdeal.Value
public import proofs.«01_k».proof.Proof.Gen.InRefIdeal.Run
public import proofs.«01_k».proof.Proof.Gen.InRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.KvqIdeal.Value
public import proofs.«01_k».proof.Proof.Gen.KvqRefIdeal.Run
public import proofs.«01_k».proof.Proof.Gen.KvqRefIdeal.Read
public import proofs.«01_k».proof.Proof.Gen.RopeIdeal.Value
public import proofs.«01_k».proof.Proof.Gen.RopeRefIdeal.Run
public import proofs.«01_k».proof.Proof.Gen.RopeRefIdeal.Read
public import proofs.«01_k».proof.Proof.Gen.DtIdeal.Value
public import proofs.«01_k».proof.Proof.Gen.DtRefIdeal.Run
public import proofs.«01_k».proof.Proof.Gen.DtRefIdeal.Read
public import proofs.«01_k».proof.Proof.Gen.QIdeal.Value
public import proofs.«01_k».proof.Proof.Gen.QRefIdeal.Run
public import proofs.«01_k».proof.Proof.Gen.QRefIdeal.Read
public import proofs.«01_k».proof.Proof.Gen.KvIdeal.Value
public import proofs.«01_k».proof.Proof.Gen.KvRefIdeal.Run
public import proofs.«01_k».proof.Proof.Gen.KvRefIdeal.Read
public import proofs.«01_k».proof.Defs

@[expose] public section

/-!
# Projections

The up and down projections of the feed-forward block, the input and output projections of the state space block and its projection to the time steps, the output projection
of attention and its projections to and from the low ranks of queries and keys. Each point computes one block of `plain x w`, for two of them narrowed to bf16, the identity over
the extended reals; the blocks are the whole array (`arr`). The reference's array is the same (`reference`), so the two programs agree (`algebraic`).
-/

set_option maxRecDepth 16384

noncomputable section

open Idealize.ShloMosaic Idealize.ShloMosaic.TcCoe Idealize.SL.Sem

/-! ## An up projection of the feed-forward block -/

namespace Product.Up

section Kernel

open Cert.UpIdeal Cert.UpIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ t.val < 16 :=
  (by decide +kernel : ∀ t : Fin grid0.N, _)

theorem arr : (dats m 0 c).arrAt 2 cfg0.N
    = plain (M := 8192) (N := 2816) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.UpRefIdeal in
theorem reference (x : (Mat 8192 1024).Idx → EReal) (w : (Mat 1024 2816).Idx → EReal) : Read.val_main_v2 (F := Ideal) x w = plain x w :=
  funext fun y => (Read.val_main_v2_apply _ _ y).trans (plain_of _ _ y (fun _ => eq_ix2 _) (fun _ => eq_ix2 _))

theorem algebraic : Cert.algebraic_UpIdeal_UpRefIdeal (hUpIdeal := Cert.UpIdeal.Gen.facts) (hUpRefIdeal := Cert.UpRefIdeal.Gen.facts) :=
  fun m g m' g' _ hargs => agree (Cert.UpIdeal.Value.run_blocks m g) (Cert.UpRefIdeal.Value.run m' g') fun c =>
    (Cert.UpRefIdeal.Read.val_main_v2_eq _ _).trans ((reference _ _).trans ((congrArg₂ plain (hargs c).1 (hargs c).2).trans (arr m c).symm))

end Product.Up

/-! ## The down projection of the feed-forward block -/

namespace Product.Down

section Kernel

open Cert.DownIdeal Cert.DownIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 1024) (K := 2816) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.DownRefIdeal in
theorem reference (x : (Mat 8192 2816).Idx → EReal) (w : (Mat 2816 1024).Idx → EReal) : Read.val_main_v2 (F := Ideal) x w = plain x w :=
  funext fun y => (Read.val_main_v2_apply _ _ y).trans (plain_of _ _ y (fun _ => eq_ix2 _) (fun _ => eq_ix2 _))

theorem algebraic : Cert.algebraic_DownIdeal_DownRefIdeal (hDownIdeal := Cert.DownIdeal.Gen.facts) (hDownRefIdeal := Cert.DownRefIdeal.Gen.facts) :=
  fun m g m' g' _ hargs => agree (Cert.DownIdeal.Value.run_blocks m g) (Cert.DownRefIdeal.Value.run m' g') fun c =>
    (Cert.DownRefIdeal.Read.val_main_v2_eq _ _).trans ((reference _ _).trans ((congrArg₂ plain (hargs c).1 (hargs c).2).trans (arr m c).symm))

end Product.Down

/-! ## An input projection of the state space block -/

namespace Product.In

section Kernel

open Cert.InIdeal Cert.InIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ t.val < 16 :=
  (by decide +kernel : ∀ t : Fin grid0.N, _)

theorem arr : (dats m 0 c).arrAt 2 cfg0.N
    = plain (M := 8192) (N := 2048) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.InRefIdeal in
theorem reference (x : (Mat 8192 1024).Idx → EReal) (w : (Mat 1024 2048).Idx → EReal) : Read.val_main_v2 (F := Ideal) x w = plain x w :=
  funext fun y => (Read.val_main_v2_apply _ _ y).trans (plain_of _ _ y (fun _ => eq_ix2 _) (fun _ => eq_ix2 _))

theorem algebraic : Cert.algebraic_InIdeal_InRefIdeal (hInIdeal := Cert.InIdeal.Gen.facts) (hInRefIdeal := Cert.InRefIdeal.Gen.facts) :=
  fun m g m' g' _ hargs => agree (Cert.InIdeal.Value.run_blocks m g) (Cert.InRefIdeal.Value.run m' g') fun c =>
    (Cert.InRefIdeal.Read.val_main_v2_eq _ _).trans ((reference _ _).trans ((congrArg₂ plain (hargs c).1 (hargs c).2).trans (arr m c).symm))

end Product.In

/-! ## The output projection of the state space block -/

namespace Product.Out

section Kernel

open Cert.OutIdeal Cert.OutIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 1024) (K := 2048) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.OutRefIdeal in
theorem reference (x : (Mat 8192 2048).Idx → EReal) (w : (Mat 2048 1024).Idx → EReal) : Read.val_main_v2 (F := Ideal) x w = plain x w :=
  funext fun y => (Read.val_main_v2_apply _ _ y).trans (plain_of _ _ y (fun _ => eq_ix2 _) (fun _ => eq_ix2 _))

theorem algebraic : Cert.algebraic_OutIdeal_OutRefIdeal (hOutIdeal := Cert.OutIdeal.Gen.facts) (hOutRefIdeal := Cert.OutRefIdeal.Gen.facts) :=
  fun m g m' g' _ hargs => agree (Cert.OutIdeal.Value.run_blocks m g) (Cert.OutRefIdeal.Value.run m' g') fun c =>
    (Cert.OutRefIdeal.Read.val_main_v2_eq _ _).trans ((reference _ _).trans ((congrArg₂ plain (hargs c).1 (hargs c).2).trans (arr m c).symm))

end Product.Out

/-! ## The output projection of attention -/

namespace Product.AttnOut

section Kernel

open Cert.AttnOutIdeal Cert.AttnOutIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 1024) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.AttnOutRefIdeal in
theorem reference (x : (Mat 8192 1024).Idx → EReal) (w : (Mat 1024 1024).Idx → EReal) : Read.val_main_v2 (F := Ideal) x w = plain x w :=
  funext fun y => (Read.val_main_v2_apply _ _ y).trans (plain_of _ _ y (fun _ => eq_ix2 _) (fun _ => eq_ix2 _))

theorem algebraic : Cert.algebraic_AttnOutIdeal_AttnOutRefIdeal (hAttnOutIdeal := Cert.AttnOutIdeal.Gen.facts) (hAttnOutRefIdeal := Cert.AttnOutRefIdeal.Gen.facts) :=
  fun m g m' g' _ hargs => agree (Cert.AttnOutIdeal.Value.run_blocks m g) (Cert.AttnOutRefIdeal.Value.run m' g') fun c =>
    (Cert.AttnOutRefIdeal.Read.val_main_v2_eq _ _).trans ((reference _ _).trans ((congrArg₂ plain (hargs c).1 (hargs c).2).trans (arr m c).symm))

end Product.AttnOut

/-! ## The projection of attention to the low ranks and to the rotary part of the keys -/

namespace Product.Kvq

section Kernel

open Cert.KvqIdeal Cert.KvqIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 768) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.KvqRefIdeal in
theorem reference (x : (Mat 8192 1024).Idx → EReal) (w : (Mat 1024 768).Idx → EReal) : Read.val_main_v2 (F := Ideal) x w = plain x w :=
  funext fun y => (Read.val_main_v2_apply _ _ y).trans (plain_of _ _ y (fun _ => eq_ix2 _) (fun _ => eq_ix2 _))

theorem algebraic : Cert.algebraic_KvqIdeal_KvqRefIdeal (hKvqIdeal := Cert.KvqIdeal.Gen.facts) (hKvqRefIdeal := Cert.KvqRefIdeal.Gen.facts) :=
  fun m g m' g' _ hargs => agree (Cert.KvqIdeal.Value.run_blocks m g) (Cert.KvqRefIdeal.Value.run m' g') fun c =>
    (Cert.KvqRefIdeal.Read.val_main_v2_eq _ _).trans ((reference _ _).trans ((congrArg₂ plain (hargs c).1 (hargs c).2).trans (arr m c).symm))

end Product.Kvq

/-! ## The projection of the rotary part of the queries from their low rank -/

namespace Product.Rope

section Kernel

open Cert.RopeIdeal Cert.RopeIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 512) (K := 384) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.RopeRefIdeal in
theorem reference (x : (Mat 8192 384).Idx → EReal) (w : (Mat 384 512).Idx → EReal) : Read.val_main_v2 (F := Ideal) x w = plain x w :=
  funext fun y => (Read.val_main_v2_apply _ _ y).trans (plain_of _ _ y (fun _ => eq_ix2 _) (fun _ => eq_ix2 _))

theorem algebraic : Cert.algebraic_RopeIdeal_RopeRefIdeal (hRopeIdeal := Cert.RopeIdeal.Gen.facts) (hRopeRefIdeal := Cert.RopeRefIdeal.Gen.facts) :=
  fun m g m' g' _ hargs => agree (Cert.RopeIdeal.Value.run_blocks m g) (Cert.RopeRefIdeal.Value.run m' g') fun c =>
    (Cert.RopeRefIdeal.Read.val_main_v2_eq _ _).trans ((reference _ _).trans ((congrArg₂ plain (hargs c).1 (hargs c).2).trans (arr m c).symm))

end Product.Rope

/-! ## The projection of the state space block to the time steps -/

namespace Product.Dt

section Kernel

open Cert.DtIdeal Cert.DtIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 128) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.DtRefIdeal in
theorem reference (x : (Mat 8192 1024).Idx → EReal) (w : (Mat 1024 128).Idx → EReal) : Read.val_main_v2 (F := Ideal) x w = plain x w :=
  funext fun y => (Read.val_main_v2_apply _ _ y).trans (plain_of _ _ y (fun _ => eq_ix2 _) (fun _ => eq_ix2 _))

theorem algebraic : Cert.algebraic_DtIdeal_DtRefIdeal (hDtIdeal := Cert.DtIdeal.Gen.facts) (hDtRefIdeal := Cert.DtRefIdeal.Gen.facts) :=
  fun m g m' g' _ hargs => agree (Cert.DtIdeal.Value.run_blocks m g) (Cert.DtRefIdeal.Value.run m' g') fun c =>
    (Cert.DtRefIdeal.Read.val_main_v2_eq _ _).trans ((reference _ _).trans ((congrArg₂ plain (hargs c).1 (hargs c).2).trans (arr m c).symm))

end Product.Dt

/-! ## The projection of the queries from their low rank -/

namespace Product.Q

section Kernel

open Cert.QIdeal Cert.QIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 1024) (K := 384) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.QRefIdeal in
theorem reference (x : (Mat 8192 384).Idx → EReal) (w : (Mat 384 1024).Idx → EReal) : Read.val_main_v3 (F := Ideal) x w = plain x w :=
  funext fun y => (Read.val_main_v2_apply _ _ y).trans (plain_of _ _ y (fun _ => eq_ix2 _) (fun _ => eq_ix2 _))

theorem algebraic : Cert.algebraic_QIdeal_QRefIdeal (hQIdeal := Cert.QIdeal.Gen.facts) (hQRefIdeal := Cert.QRefIdeal.Gen.facts) :=
  fun m g m' g' _ hargs => agree (Cert.QIdeal.Value.run_blocks m g) (Cert.QRefIdeal.Value.run m' g') fun c =>
    (Cert.QRefIdeal.Read.val_main_v3_eq _ _).trans ((reference _ _).trans ((congrArg₂ plain (hargs c).1 (hargs c).2).trans (arr m c).symm))

end Product.Q

/-! ## A projection of the keys or values from their low rank -/

namespace Product.Kv

section Kernel

open Cert.KvIdeal Cert.KvIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = plain (M := 8192) (N := 1024) (K := 256) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_plain _ _ _) y).trans (plain_congr (fun k => by blk_ext [iblk, V_main_arg0, idx t]) (fun k => by blk_ext [iblk, V_main_arg1, idx t]))

end Kernel

open Cert.KvRefIdeal in
theorem reference (x : (Mat 8192 256).Idx → EReal) (w : (Mat 256 1024).Idx → EReal) : Read.val_main_v3 (F := Ideal) x w = plain x w :=
  funext fun y => (Read.val_main_v2_apply _ _ y).trans (plain_of _ _ y (fun _ => eq_ix2 _) (fun _ => eq_ix2 _))

theorem algebraic : Cert.algebraic_KvIdeal_KvRefIdeal (hKvIdeal := Cert.KvIdeal.Gen.facts) (hKvRefIdeal := Cert.KvRefIdeal.Gen.facts) :=
  fun m g m' g' _ hargs => agree (Cert.KvIdeal.Value.run_blocks m g) (Cert.KvRefIdeal.Value.run m' g') fun c =>
    (Cert.KvRefIdeal.Read.val_main_v3_eq _ _).trans ((reference _ _).trans ((congrArg₂ plain (hargs c).1 (hargs c).2).trans (arr m c).symm))

end Product.Kv

end

end
-- ==== Proof.Product.InputGradient.lean ====
module

public import proofs.«01_k».proof.Proof.Product.Basic
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.AttnOutDxIdeal.Value
public import proofs.«01_k».proof.Proof.Gen.AttnOutDxRefIdeal.Run
public import proofs.«01_k».proof.Proof.Gen.AttnOutDxRefIdeal.Read
public import proofs.«01_k».proof.Proof.Gen.QDxIdeal.Value
public import proofs.«01_k».proof.Proof.Gen.QDxRefIdeal.Run
public import proofs.«01_k».proof.Proof.Gen.QDxRefIdeal.Read
public import proofs.«01_k».proof.Proof.Gen.KDxIdeal.Value
public import proofs.«01_k».proof.Proof.Gen.KDxRefIdeal.Run
public import proofs.«01_k».proof.Proof.Gen.KDxRefIdeal.Read
public import proofs.«01_k».proof.Defs

@[expose] public section

/-!
# Gradients of a projection's input

The down projection of the feed-forward block, the output projection of the state space block, the output projection of attention and its projections of the queries and keys from
their low ranks. Each point computes one block of `rows g w`; the blocks are the whole array (`arr`). The reference's array is the same (`reference`), so the two programs agree (`algebraic`).
-/

set_option maxRecDepth 16384

noncomputable section

open Idealize.ShloMosaic Idealize.ShloMosaic.TcCoe Idealize.SL.Sem

/-! ## The down projection -/

namespace Product.DownDx

section Kernel

open Cert.DownDxIdeal Cert.DownDxIdeal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

theorem arr : (dats m 0 c).arrAt 2 cfg0.N
    = rows (M := 8192) (N := 2816) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_rows _ _ _) y).trans (rows_congr (fun k => by blk_ext [iblk, V_main_arg0, idx t]) (fun k => by blk_ext [iblk, V_main_arg1, idx t]))

end Kernel

open Cert.DownDxRefIdeal in
theorem reference (g : (Mat 8192 1024).Idx → EReal) (w : (Mat 2816 1024).Idx → EReal) : Read.val_main_v4 (F := Ideal) g w = rows g w :=
  funext fun y => (Read.val_main_v4_apply _ _ y).trans (rows_of _ _ y (fun _ => eq_ix2 _) (fun _ => eq_ix2 _))

theorem algebraic : Cert.algebraic_DownDxIdeal_DownDxRefIdeal (hDownDxIdeal := Cert.DownDxIdeal.Gen.facts) (hDownDxRefIdeal := Cert.DownDxRefIdeal.Gen.facts) :=
  fun m g m' g' _ hargs => agree (Cert.DownDxIdeal.Value.run_blocks m g) (Cert.DownDxRefIdeal.Value.run m' g') fun c =>
    (Cert.DownDxRefIdeal.Read.val_main_v4_eq _ _).trans ((reference _ _).trans ((congrArg₂ rows (hargs c).1 (hargs c).2).trans (arr m c).symm))

end Product.DownDx

/-! ## The output projection of the state space block -/

namespace Product.OutDx

section Kernel

open Cert.OutDxIdeal Cert.OutDxIdeal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

theorem arr : (dats m 0 c).arrAt 2 cfg0.N
    = rows (M := 8192) (N := 2048) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_rows _ _ _) y).trans (rows_congr (fun k => by blk_ext [iblk, V_main_arg0, idx t]) (fun k => by blk_ext [iblk, V_main_arg1, idx t]))

end Kernel

open Cert.OutDxRefIdeal in
theorem reference (g : (Mat 8192 1024).Idx → EReal) (w : (Mat 2048 1024).Idx → EReal) : Read.val_main_v4 (F := Ideal) g w = rows g w :=
  funext fun y => (Read.val_main_v4_apply _ _ y).trans (rows_of _ _ y (fun _ => eq_ix2 _) (fun _ => eq_ix2 _))

theorem algebraic : Cert.algebraic_OutDxIdeal_OutDxRefIdeal (hOutDxIdeal := Cert.OutDxIdeal.Gen.facts) (hOutDxRefIdeal := Cert.OutDxRefIdeal.Gen.facts) :=
  fun m g m' g' _ hargs => agree (Cert.OutDxIdeal.Value.run_blocks m g) (Cert.OutDxRefIdeal.Value.run m' g') fun c =>
    (Cert.OutDxRefIdeal.Read.val_main_v4_eq _ _).trans ((reference _ _).trans ((congrArg₂ rows (hargs c).1 (hargs c).2).trans (arr m c).symm))

end Product.OutDx

/-! ## The output projection of attention -/

namespace Product.AttnOutDx

section Kernel

open Cert.AttnOutDxIdeal Cert.AttnOutDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = rows (M := 8192) (N := 1024) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_rows _ _ _) y).trans (rows_congr (fun k => by blk_ext [iblk, V_main_arg0, idx t]) (fun k => by blk_ext [iblk, V_main_arg1, idx t]))

end Kernel

open Cert.AttnOutDxRefIdeal in
theorem reference (g : (Mat 8192 1024).Idx → EReal) (w : (Mat 1024 1024).Idx → EReal) : Read.val_main_v4 (F := Ideal) g w = rows g w :=
  funext fun y => (Read.val_main_v4_apply _ _ y).trans (rows_of _ _ y (fun _ => eq_ix2 _) (fun _ => eq_ix2 _))

theorem algebraic : Cert.algebraic_AttnOutDxIdeal_AttnOutDxRefIdeal (hAttnOutDxIdeal := Cert.AttnOutDxIdeal.Gen.facts) (hAttnOutDxRefIdeal := Cert.AttnOutDxRefIdeal.Gen.facts) :=
  fun m g m' g' _ hargs => agree (Cert.AttnOutDxIdeal.Value.run_blocks m g) (Cert.AttnOutDxRefIdeal.Value.run m' g') fun c =>
    (Cert.AttnOutDxRefIdeal.Read.val_main_v4_eq _ _).trans ((reference _ _).trans ((congrArg₂ rows (hargs c).1 (hargs c).2).trans (arr m c).symm))

end Product.AttnOutDx

/-! ## The projection of the queries from their low rank -/

namespace Product.QDx

section Kernel

open Cert.QDxIdeal Cert.QDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = rows (M := 8192) (N := 384) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_rows _ _ _) y).trans (rows_congr (fun k => by blk_ext [iblk, V_main_arg0, idx t]) (fun k => by blk_ext [iblk, V_main_arg1, idx t]))

end Kernel

open Cert.QDxRefIdeal in
theorem reference (g : (Mat 8192 1024).Idx → EReal) (w : (Mat 384 1024).Idx → EReal) : Read.val_main_v4 (F := Ideal) g w = rows g w :=
  funext fun y => (Read.val_main_v4_apply _ _ y).trans (rows_of _ _ y (fun _ => eq_ix2 _) (fun _ => eq_ix2 _))

theorem algebraic : Cert.algebraic_QDxIdeal_QDxRefIdeal (hQDxIdeal := Cert.QDxIdeal.Gen.facts) (hQDxRefIdeal := Cert.QDxRefIdeal.Gen.facts) :=
  fun m g m' g' _ hargs => agree (Cert.QDxIdeal.Value.run_blocks m g) (Cert.QDxRefIdeal.Value.run m' g') fun c =>
    (Cert.QDxRefIdeal.Read.val_main_v4_eq _ _).trans ((reference _ _).trans ((congrArg₂ rows (hargs c).1 (hargs c).2).trans (arr m c).symm))

end Product.QDx

/-! ## The projection of the keys from their low rank -/

namespace Product.KDx

section Kernel

open Cert.KDxIdeal Cert.KDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem arr : (dats m 0 c).arrAt 2 cfg0.N
    = rows (M := 8192) (N := 256) (K := 1024) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2, out0_2, load_contents, load_contents, stored]
  exact (congrFun (matmul_rows _ _ _) y).trans (rows_congr (A := iblk m c 0 t) (fun k => by blk_ext [iblk, V_main_arg0, idx t]) (fun k => by blk_ext [iblk, V_main_arg1, idx t]))

end Kernel

open Cert.KDxRefIdeal in
theorem reference (g : (Mat 8192 1024).Idx → EReal) (w : (Mat 256 1024).Idx → EReal) : Read.val_main_v3 (F := Ideal) g w = rows g w :=
  funext fun y => (Read.val_main_v3_apply _ _ y).trans (rows_of _ _ y (fun _ => eq_ix2 _) (fun _ => eq_ix2 _))

theorem algebraic : Cert.algebraic_KDxIdeal_KDxRefIdeal (hKDxIdeal := Cert.KDxIdeal.Gen.facts) (hKDxRefIdeal := Cert.KDxRefIdeal.Gen.facts) :=
  fun m g m' g' _ hargs => agree (Cert.KDxIdeal.Value.run_blocks m g) (Cert.KDxRefIdeal.Value.run m' g') fun c =>
    (Cert.KDxRefIdeal.Read.val_main_v3_eq _ _).trans ((reference _ _).trans ((congrArg₂ rows (hargs c).1 (hargs c).2).trans (arr m c).symm))

end Product.KDx

end

end
-- ==== Proof.Product.AddedGradient.lean ====
module

public import proofs.«01_k».proof.Proof.Product.Basic
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.InBDxIdeal.Value
public import proofs.«01_k».proof.Proof.Gen.InBDxRefIdeal.Run
public import proofs.«01_k».proof.Proof.Gen.InBDxRefIdeal.Read
public import proofs.«01_k».proof.Proof.Gen.RopeDxIdeal.Value
public import proofs.«01_k».proof.Proof.Gen.RopeDxRefIdeal.Run
public import proofs.«01_k».proof.Proof.Gen.RopeDxRefIdeal.Read
public import proofs.«01_k».proof.Proof.Gen.VDxIdeal.Value
public import proofs.«01_k».proof.Proof.Gen.VDxRefIdeal.Run
public import proofs.«01_k».proof.Proof.Gen.VDxRefIdeal.Read
public import proofs.«01_k».proof.Proof.Gen.KvqDxIdeal.Value
public import proofs.«01_k».proof.Proof.Gen.KvqDxRefIdeal.Run
public import proofs.«01_k».proof.Proof.Gen.KvqDxRefIdeal.Read
public import proofs.«01_k».proof.Proof.Gen.DtDxIdeal.Value
public import proofs.«01_k».proof.Proof.Gen.DtDxRefIdeal.Run
public import proofs.«01_k».proof.Proof.Gen.DtDxRefIdeal.Read
public import proofs.«01_k».proof.Defs

@[expose] public section

/-!
# Gradients of a projection's input, added to another gradient

The up projections of the feed-forward block, the input projections of the state space block to its 2048 channels, to its 1024 states and to the time steps, and of the attention
the projections to the low ranks, of the rotary part of the queries and of the values. An input that goes through several
projections has the sum of their gradients, and each call adds its own to the sum so far: a point computes one block of `rows g w` and adds the block of the third array.
-/

set_option maxRecDepth 16384

noncomputable section

open Idealize.ShloMosaic Idealize.ShloMosaic.TcCoe Idealize.SL.Sem

/-! ## An up projection -/

namespace Product.UpDx

section Kernel

open Cert.UpDxIdeal Cert.UpDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 1024) (K := 2816) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.UpDxRefIdeal in
theorem reference (g : (Mat 8192 2816).Idx → EReal) (w : (Mat 1024 2816).Idx → EReal) (p : (Mat 8192 1024).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_UpDxIdeal_UpDxRefIdeal (hUpDxIdeal := Cert.UpDxIdeal.Gen.facts) (hUpDxRefIdeal := Cert.UpDxRefIdeal.Gen.facts) :=
  fun m g m' g' _ hargs => agree (Cert.UpDxIdeal.Value.run_blocks m g) (Cert.UpDxRefIdeal.Value.run m' g') fun c =>
    (Cert.UpDxRefIdeal.Read.val_main_v5_eq _ _ _).trans ((reference _ _ _).trans ((by rw [(hargs c).1, (hargs c).2.1, (hargs c).2.2] : _ = _).trans (arr m c).symm))

end Product.UpDx

/-! ## An input projection to the channels -/

namespace Product.InDx

section Kernel

open Cert.InDxIdeal Cert.InDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 1024) (K := 2048) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.InDxRefIdeal in
theorem reference (g : (Mat 8192 2048).Idx → EReal) (w : (Mat 1024 2048).Idx → EReal) (p : (Mat 8192 1024).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_InDxIdeal_InDxRefIdeal (hInDxIdeal := Cert.InDxIdeal.Gen.facts) (hInDxRefIdeal := Cert.InDxRefIdeal.Gen.facts) :=
  fun m g m' g' _ hargs => agree (Cert.InDxIdeal.Value.run_blocks m g) (Cert.InDxRefIdeal.Value.run m' g') fun c =>
    (Cert.InDxRefIdeal.Read.val_main_v5_eq _ _ _).trans ((reference _ _ _).trans ((by rw [(hargs c).1, (hargs c).2.1, (hargs c).2.2] : _ = _).trans (arr m c).symm))

end Product.InDx

/-! ## An input projection to the states -/

namespace Product.InBDx

section Kernel

open Cert.InBDxIdeal Cert.InBDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 1024) (K := 1024) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.InBDxRefIdeal in
theorem reference (g : (Mat 8192 1024).Idx → EReal) (w : (Mat 1024 1024).Idx → EReal) (p : (Mat 8192 1024).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_InBDxIdeal_InBDxRefIdeal (hInBDxIdeal := Cert.InBDxIdeal.Gen.facts) (hInBDxRefIdeal := Cert.InBDxRefIdeal.Gen.facts) :=
  fun m g m' g' _ hargs => agree (Cert.InBDxIdeal.Value.run_blocks m g) (Cert.InBDxRefIdeal.Value.run m' g') fun c =>
    (Cert.InBDxRefIdeal.Read.val_main_v5_eq _ _ _).trans ((reference _ _ _).trans ((by rw [(hargs c).1, (hargs c).2.1, (hargs c).2.2] : _ = _).trans (arr m c).symm))

end Product.InBDx

/-! ## The projection of the rotary part of the queries from their low rank -/

namespace Product.RopeDx

section Kernel

open Cert.RopeDxIdeal Cert.RopeDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 384) (K := 512) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.RopeDxRefIdeal in
theorem reference (g : (Mat 8192 512).Idx → EReal) (w : (Mat 384 512).Idx → EReal) (p : (Mat 8192 384).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_RopeDxIdeal_RopeDxRefIdeal (hRopeDxIdeal := Cert.RopeDxIdeal.Gen.facts) (hRopeDxRefIdeal := Cert.RopeDxRefIdeal.Gen.facts) :=
  fun m g m' g' _ hargs => agree (Cert.RopeDxIdeal.Value.run_blocks m g) (Cert.RopeDxRefIdeal.Value.run m' g') fun c =>
    (Cert.RopeDxRefIdeal.Read.val_main_v5_eq _ _ _).trans ((reference _ _ _).trans ((by rw [(hargs c).1, (hargs c).2.1, (hargs c).2.2] : _ = _).trans (arr m c).symm))

end Product.RopeDx

/-! ## The projection of the values from their low rank -/

namespace Product.VDx

section Kernel

open Cert.VDxIdeal Cert.VDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 256) (K := 1024) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (A := iblk m c 0 t) (fun k => by blk_ext [iblk, V_main_arg0, idx t]) (fun k => by blk_ext [iblk, V_main_arg1, idx t])) (by blk_ext [iblk, V_main_arg2, idx t]))

end Kernel

open Cert.VDxRefIdeal in
theorem reference (g : (Mat 8192 1024).Idx → EReal) (w : (Mat 256 1024).Idx → EReal) (p : (Mat 8192 256).Idx → EReal) :
    Read.val_main_v4 (F := Ideal) g w p = fun y => rows g w y + p y :=
  funext fun y => congrArg (fun a : EReal => a + p y) ((Read.val_main_v3_apply _ _ y).trans (rows_of _ _ y (fun _ => eq_ix2 _) (fun _ => eq_ix2 _)))

theorem algebraic : Cert.algebraic_VDxIdeal_VDxRefIdeal (hVDxIdeal := Cert.VDxIdeal.Gen.facts) (hVDxRefIdeal := Cert.VDxRefIdeal.Gen.facts) :=
  fun m g m' g' _ hargs => agree (Cert.VDxIdeal.Value.run_blocks m g) (Cert.VDxRefIdeal.Value.run m' g') fun c =>
    (Cert.VDxRefIdeal.Read.val_main_v4_eq _ _ _).trans ((reference _ _ _).trans ((by rw [(hargs c).1, (hargs c).2.1, (hargs c).2.2] : _ = _).trans (arr m c).symm))

end Product.VDx

/-! ## The projection of attention to the low ranks and to the rotary part of the keys -/

namespace Product.KvqDx

section Kernel

open Cert.KvqDxIdeal Cert.KvqDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 1024) (K := 768) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.KvqDxRefIdeal in
theorem reference (g : (Mat 8192 768).Idx → EReal) (w : (Mat 1024 768).Idx → EReal) (p : (Mat 8192 1024).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_KvqDxIdeal_KvqDxRefIdeal (hKvqDxIdeal := Cert.KvqDxIdeal.Gen.facts) (hKvqDxRefIdeal := Cert.KvqDxRefIdeal.Gen.facts) :=
  fun m g m' g' _ hargs => agree (Cert.KvqDxIdeal.Value.run_blocks m g) (Cert.KvqDxRefIdeal.Value.run m' g') fun c =>
    (Cert.KvqDxRefIdeal.Read.val_main_v5_eq _ _ _).trans ((reference _ _ _).trans ((by rw [(hargs c).1, (hargs c).2.1, (hargs c).2.2] : _ = _).trans (arr m c).symm))

end Product.KvqDx

/-! ## The projection of the state space block to the time steps -/

namespace Product.DtDx

section Kernel

open Cert.DtDxIdeal Cert.DtDxIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem arr : (dats m 0 c).arrAt 3 cfg0.N = fun y => rows (M := 8192) (N := 1024) (K := 128) (m ((c.tc : Thread nD τ).loc main_arg0)) (m ((c.tc : Thread nD τ).loc main_arg1)) y
    + (m ((c.tc : Thread nD τ).loc main_arg2) y : EReal) := by
  refine (dats m 0 c).arrAt_eq_of_covers 3 _ (by decide +kernel) fun t hf y => ?_
  obtain ⟨-, -, -, -, hN⟩ := idx t
  blk_simp
  rw [after0_3, out0_3, load_contents, load_contents, load_contents, stored]
  exact (rows_added _ _ _ _ y).trans (congrArg₂ (fun a b : EReal => a + b)
    (rows_congr (fun k => by blk_ext [iblk, V_main_arg0, idx t]) (fun k => by blk_ext [iblk, V_main_arg1, idx t])) (by blk_ext [iblk, V_main_arg2, idx t]))

end Kernel

open Cert.DtDxRefIdeal in
theorem reference (g : (Mat 8192 128).Idx → EReal) (w : (Mat 1024 128).Idx → EReal) (p : (Mat 8192 1024).Idx → EReal) :
    Read.val_main_v5 (F := Ideal) g w p = fun y => rows g w y + p y :=
  funext fun y => congrArg (fun a : EReal => a + p y) ((Read.val_main_v4_apply _ _ y).trans (rows_of _ _ y (fun _ => eq_ix2 _) (fun _ => eq_ix2 _)))

theorem algebraic : Cert.algebraic_DtDxIdeal_DtDxRefIdeal (hDtDxIdeal := Cert.DtDxIdeal.Gen.facts) (hDtDxRefIdeal := Cert.DtDxRefIdeal.Gen.facts) :=
  fun m g m' g' _ hargs => agree (Cert.DtDxIdeal.Value.run_blocks m g) (Cert.DtDxRefIdeal.Value.run m' g') fun c =>
    (Cert.DtDxRefIdeal.Read.val_main_v5_eq _ _ _).trans ((reference _ _ _).trans ((by rw [(hargs c).1, (hargs c).2.1, (hargs c).2.2] : _ = _).trans (arr m c).symm))

end Product.DtDx

end

end
-- ==== Proof.Product.WeightGradient.lean ====
module

public import proofs.«01_k».proof.Proof.Product.Basic
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.AttnOutDwIdeal.Value
public import proofs.«01_k».proof.Proof.Gen.AttnOutDwRefIdeal.Run
public import proofs.«01_k».proof.Proof.Gen.AttnOutDwRefIdeal.Read
public import proofs.«01_k».proof.Proof.Gen.KvqDwIdeal.Value
public import proofs.«01_k».proof.Proof.Gen.KvqDwRefIdeal.Run
public import proofs.«01_k».proof.Proof.Gen.KvqDwRefIdeal.Read
public import proofs.«01_k».proof.Proof.Gen.QDwIdeal.Value
public import proofs.«01_k».proof.Proof.Gen.QDwRefIdeal.Run
public import proofs.«01_k».proof.Proof.Gen.QDwRefIdeal.Read
public import proofs.«01_k».proof.Proof.Gen.RopeDwIdeal.Value
public import proofs.«01_k».proof.Proof.Gen.RopeDwRefIdeal.Run
public import proofs.«01_k».proof.Proof.Gen.RopeDwRefIdeal.Read
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.Gen.DtDwIdeal.Value
public import proofs.«01_k».proof.Proof.Gen.DtDwRefIdeal.Run
public import proofs.«01_k».proof.Proof.Gen.DtDwRefIdeal.Read
public import proofs.«01_k».proof.Defs

@[expose] public section

/-!
# Gradients of a projection's weights

The down and up projections of the feed-forward block, the input and output projections of the state space block and its projection to the time steps, the output projection of
attention and its projections to and from the low ranks. A block of
`columns x g` takes eight points, one a chunk of 1024 rows. The first stores its product in the scratch (`first`), the others add theirs to it (`next`), and the eighth also
copies the scratch out (`last`); so the blocks are the whole array (`arr`). The reference computes the transpose of `gᵀ x`, the same array (`reference`), so the two programs
agree (`algebraic`).
-/

set_option maxRecDepth 16384

noncomputable section

open Idealize.ShloMosaic Idealize.ShloMosaic.TcCoe Idealize.SL.Sem

/-! ## The down projection of the feed-forward block -/

namespace Product.DownDw

section Kernel

open Cert.DownDwIdeal Cert.DownDwIdeal.Gen

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] ∧ t.val < 16 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 2816) (N := 1024) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.DownDwRefIdeal in
theorem reference (x : (Mat 8192 2816).Idx → EReal) (g : (Mat 8192 1024).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_DownDwIdeal_DownDwRefIdeal (hDownDwIdeal := Cert.DownDwIdeal.Gen.facts) (hDownDwRefIdeal := Cert.DownDwRefIdeal.Gen.facts) :=
  fun m g m' g' _ hargs => agree (Cert.DownDwIdeal.Value.run_blocks m g) (Cert.DownDwRefIdeal.Value.run m' g') fun c =>
    (Cert.DownDwRefIdeal.Read.val_main_v5_eq _ _).trans ((reference _ _).trans ((congrArg₂ columns (hargs c).1 (hargs c).2).trans (arr m c).symm))

end Product.DownDw

/-! ## An up projection of the feed-forward block -/

namespace Product.UpDw

section Kernel

open Cert.UpDwIdeal Cert.UpDwIdeal.Gen

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] ∧ t.val < 16 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 1024) (N := 2816) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.UpDwRefIdeal in
theorem reference (x : (Mat 8192 1024).Idx → EReal) (g : (Mat 8192 2816).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_UpDwIdeal_UpDwRefIdeal (hUpDwIdeal := Cert.UpDwIdeal.Gen.facts) (hUpDwRefIdeal := Cert.UpDwRefIdeal.Gen.facts) :=
  fun m g m' g' _ hargs => agree (Cert.UpDwIdeal.Value.run_blocks m g) (Cert.UpDwRefIdeal.Value.run m' g') fun c =>
    (Cert.UpDwRefIdeal.Read.val_main_v5_eq _ _).trans ((reference _ _).trans ((congrArg₂ columns (hargs c).1 (hargs c).2).trans (arr m c).symm))

end Product.UpDw

/-! ## An input projection of the state space block -/

namespace Product.InDw

section Kernel

open Cert.InDwIdeal Cert.InDwIdeal.Gen

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] ∧ t.val < 16 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 1024) (N := 2048) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.InDwRefIdeal in
theorem reference (x : (Mat 8192 1024).Idx → EReal) (g : (Mat 8192 2048).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_InDwIdeal_InDwRefIdeal (hInDwIdeal := Cert.InDwIdeal.Gen.facts) (hInDwRefIdeal := Cert.InDwRefIdeal.Gen.facts) :=
  fun m g m' g' _ hargs => agree (Cert.InDwIdeal.Value.run_blocks m g) (Cert.InDwRefIdeal.Value.run m' g') fun c =>
    (Cert.InDwRefIdeal.Read.val_main_v5_eq _ _).trans ((reference _ _).trans ((congrArg₂ columns (hargs c).1 (hargs c).2).trans (arr m c).symm))

end Product.InDw

/-! ## The output projection of the state space block -/

namespace Product.OutDw

section Kernel

open Cert.OutDwIdeal Cert.OutDwIdeal.Gen

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] ∧ t.val < 16 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 2048) (N := 1024) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.OutDwRefIdeal in
theorem reference (x : (Mat 8192 2048).Idx → EReal) (g : (Mat 8192 1024).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_OutDwIdeal_OutDwRefIdeal (hOutDwIdeal := Cert.OutDwIdeal.Gen.facts) (hOutDwRefIdeal := Cert.OutDwRefIdeal.Gen.facts) :=
  fun m g m' g' _ hargs => agree (Cert.OutDwIdeal.Value.run_blocks m g) (Cert.OutDwRefIdeal.Value.run m' g') fun c =>
    (Cert.OutDwRefIdeal.Read.val_main_v5_eq _ _).trans ((reference _ _).trans ((congrArg₂ columns (hargs c).1 (hargs c).2).trans (arr m c).symm))

end Product.OutDw

/-! ## The output projection of attention -/

namespace Product.AttnOutDw

section Kernel

open Cert.AttnOutDwIdeal Cert.AttnOutDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 1024) (N := 1024) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.AttnOutDwRefIdeal in
theorem reference (x : (Mat 8192 1024).Idx → EReal) (g : (Mat 8192 1024).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_AttnOutDwIdeal_AttnOutDwRefIdeal (hAttnOutDwIdeal := Cert.AttnOutDwIdeal.Gen.facts) (hAttnOutDwRefIdeal := Cert.AttnOutDwRefIdeal.Gen.facts) :=
  fun m g m' g' _ hargs => agree (Cert.AttnOutDwIdeal.Value.run_blocks m g) (Cert.AttnOutDwRefIdeal.Value.run m' g') fun c =>
    (Cert.AttnOutDwRefIdeal.Read.val_main_v5_eq _ _).trans ((reference _ _).trans ((congrArg₂ columns (hargs c).1 (hargs c).2).trans (arr m c).symm))

end Product.AttnOutDw

/-! ## The projection of attention to the low ranks and to the rotary part of the keys -/

namespace Product.KvqDw

section Kernel

open Cert.KvqDwIdeal Cert.KvqDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 1024) (N := 768) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.KvqDwRefIdeal in
theorem reference (x : (Mat 8192 1024).Idx → EReal) (g : (Mat 8192 768).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_KvqDwIdeal_KvqDwRefIdeal (hKvqDwIdeal := Cert.KvqDwIdeal.Gen.facts) (hKvqDwRefIdeal := Cert.KvqDwRefIdeal.Gen.facts) :=
  fun m g m' g' _ hargs => agree (Cert.KvqDwIdeal.Value.run_blocks m g) (Cert.KvqDwRefIdeal.Value.run m' g') fun c =>
    (Cert.KvqDwRefIdeal.Read.val_main_v5_eq _ _).trans ((reference _ _).trans ((congrArg₂ columns (hargs c).1 (hargs c).2).trans (arr m c).symm))

end Product.KvqDw

/-! ## The projection of the queries from their low rank -/

namespace Product.QDw

section Kernel

open Cert.QDwIdeal Cert.QDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 384) (N := 1024) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.QDwRefIdeal in
theorem reference (x : (Mat 8192 384).Idx → EReal) (g : (Mat 8192 1024).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_QDwIdeal_QDwRefIdeal (hQDwIdeal := Cert.QDwIdeal.Gen.facts) (hQDwRefIdeal := Cert.QDwRefIdeal.Gen.facts) :=
  fun m g m' g' _ hargs => agree (Cert.QDwIdeal.Value.run_blocks m g) (Cert.QDwRefIdeal.Value.run m' g') fun c =>
    (Cert.QDwRefIdeal.Read.val_main_v5_eq _ _).trans ((reference _ _).trans ((congrArg₂ columns (hargs c).1 (hargs c).2).trans (arr m c).symm))

end Product.QDw

/-! ## The projection of the rotary part of the queries from their low rank -/

namespace Product.RopeDw

section Kernel

open Cert.RopeDwIdeal Cert.RopeDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 384) (N := 512) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.RopeDwRefIdeal in
theorem reference (x : (Mat 8192 384).Idx → EReal) (g : (Mat 8192 512).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_RopeDwIdeal_RopeDwRefIdeal (hRopeDwIdeal := Cert.RopeDwIdeal.Gen.facts) (hRopeDwRefIdeal := Cert.RopeDwRefIdeal.Gen.facts) :=
  fun m g m' g' _ hargs => agree (Cert.RopeDwIdeal.Value.run_blocks m g) (Cert.RopeDwRefIdeal.Value.run m' g') fun c =>
    (Cert.RopeDwRefIdeal.Read.val_main_v5_eq _ _).trans ((reference _ _).trans ((congrArg₂ columns (hargs c).1 (hargs c).2).trans (arr m c).symm))

end Product.RopeDw

/-! ## A projection of the keys or values from their low rank -/

namespace Product.KvDw

section Kernel

open Cert.KvDwIdeal Cert.KvDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v15 kernelRun0_C.sl.HS0_1
  simp only [stored_read, reload]

theorem arr : (dats m 0 c).arrAt 2 cfg0.N
    = columns (M := 256) (N := 1024) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.KvDwRefIdeal in
theorem reference (x : (Mat 8192 256).Idx → EReal) (g : (Mat 8192 1024).Idx → EReal) : Read.val_main_v4 (F := Ideal) x g = columns x g :=
  funext fun y => (Read.val_main_v4_apply _ _ y).trans ((Read.val_main_v3_apply _ _ _).trans (columns_of _ _ y (fun _ => eq_ix2 _) (fun _ => eq_ix2 _)))

theorem algebraic : Cert.algebraic_KvDwIdeal_KvDwRefIdeal (hKvDwIdeal := Cert.KvDwIdeal.Gen.facts) (hKvDwRefIdeal := Cert.KvDwRefIdeal.Gen.facts) :=
  fun m g m' g' _ hargs => agree (Cert.KvDwIdeal.Value.run_blocks m g) (Cert.KvDwRefIdeal.Value.run m' g') fun c =>
    (Cert.KvDwRefIdeal.Read.val_main_v4_eq _ _).trans ((reference _ _).trans ((congrArg₂ columns (hargs c).1 (hargs c).2).trans (arr m c).symm))

end Product.KvDw

/-! ## The projection of the state space block to the time steps -/

namespace Product.DtDw

section Kernel

open Cert.DtDwIdeal Cert.DtDwIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ t.val < 8 :=
  (by decide +kernel : ∀ t : Fin grid0.N, _)

theorem first (t : Fin cfg0.N) (h : t.val % 8 = 0) : (outsAt0 m c t.val t.isLt).2 = k0_pay2 (k0_pay1 (F := Ideal)) (iblk m c 0 t) (iblk m c 1 t) := by
  rw [outsAt0_A m c t h (by omega)]
  unfold sout0_A_0 kernelRun0_A kernelRun0_A.sl.v3 kernelRun0_A.sl.HS0_1
  simp only [stored_read, reload, load]

theorem next (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    unfold sout0_C_0 kernelRun0_C kernelRun0_C.sl.HS0_1
    simp only [stored_read, load]
    exact congrArg (fun p => k0_pay2 p _ _) (load _ _ _ _)
  · rw [outsAt0_B m c t h h1]
    unfold sout0_B_0 kernelRun0_B
    simp only [stored_read, load]
    exact congrArg (fun p => k0_pay2 p _ _) (load _ _ _ _)

theorem last (t : Fin cfg0.N) (h : t.val % 8 = 7) : (outsAt0 m c t.val t.isLt).1 = (outsAt0 m c t.val t.isLt).2 := by
  rw [outsAt0_C m c t (by omega) h]
  unfold out0_C_2 sout0_C_0 kernelRun0_C kernelRun0_C.sl.v14 kernelRun0_C.sl.HS0_1
  simp only [stored_read, reload]

theorem arr : (dats m 0 c).arrAt 2 cfg0.N
    = columns (M := 1024) (N := 128) (K := 8192) (m ((c.tc : Thread nD τ).loc main_arg0)) (m ((c.tc : Thread nD τ).loc main_arg1)) := by
  refine (dats m 0 c).arrAt_eq_of_covers 2 _ (by decide +kernel) fun t hf y => ?_
  obtain ⟨-, -, -, hN⟩ := idx t
  blk_simp
  rw [after0_2]
  refine accumulated (J := 8) (R := 1024) rfl (outsAt0 m c) (k0_pay2 (F := Ideal)) (k0_pay1 (F := Ideal)) (columns_added _ _) (cleared _) (fun t => iblk m c 0 t) (fun t => iblk m c 1 t)
    (first m c) (next m c) (last m c) t ((flush0_2 t).mp hf) y _ _ (fun u s r hl hq hm => ?_) (fun u s r hl hq hm => ?_)
  · blk_ext [iblk, V_main_arg0, idx t, idx u]
  · blk_ext [iblk, V_main_arg1, idx t, idx u]

end Kernel

open Cert.DtDwRefIdeal in
theorem reference (x : (Mat 8192 1024).Idx → EReal) (g : (Mat 8192 128).Idx → EReal) : Read.val_main_v5 (F := Ideal) x g = columns x g :=
  funext fun y => (Read.val_main_v5_apply _ _ y).trans ((Read.val_main_v4_apply _ _ _).trans (columns_of _ _ y (fun _ => eq_ix2 _) (fun _ => eq_ix2 _)))

theorem algebraic : Cert.algebraic_DtDwIdeal_DtDwRefIdeal (hDtDwIdeal := Cert.DtDwIdeal.Gen.facts) (hDtDwRefIdeal := Cert.DtDwRefIdeal.Gen.facts) :=
  fun m g m' g' _ hargs => agree (Cert.DtDwIdeal.Value.run_blocks m g) (Cert.DtDwRefIdeal.Value.run m' g') fun c =>
    (Cert.DtDwRefIdeal.Read.val_main_v5_eq _ _).trans ((reference _ _).trans ((congrArg₂ columns (hargs c).1 (hargs c).2).trans (arr m c).symm))

end Product.DtDw

end

end
-- ==== Proof.Norm.Basic.lean ====
module

public import proofs.«01_k».proof.Proof.Product.Basic

@[expose] public section

/-!
# The gradients of a root mean square norm

A row `a` with the gains `g` has the norm `a g r`, where `r = (mean of a² + ε)^(-1/2)`. Of a cotangent row `b`, the gradient of `a` is `back N a g b`, and the gradient of the
gains is the sum over the rows of `gain N a b`. `N` is the row's length, as the programs divide by it. The gradient of `a` has two equal halves, one for each factor of `a²`.
-/

set_option maxRecDepth 16384

noncomputable section

open Idealize.ShloMosaic Product

namespace Norm

variable {C : ℕ}

/-- The mean square of a row of length `N.1`, over the small constant `N.2`. -/
def square (N : EReal × EReal) (a : Fin C → EReal) : EReal := Ideal.div (∑ k, a k * a k) N.1 + N.2

/-- Half of what the mean square contributes to the gradient of a row, as a factor of the row. -/
def half (N : EReal × EReal) (a g b : Fin C → EReal) : EReal :=
  Ideal.div ((∑ k, a k * (b k * g k)) * (Ideal.ofBits .f32 3204448256#32 * Ideal.div (Ideal.rsqrt (square N a)) (square N a))) N.1

/-- The gradient of a row. -/
def back (N : EReal × EReal) (a g b : Fin C → EReal) (j : Fin C) : EReal :=
  b j * g j * Ideal.rsqrt (square N a) + a j * half N a g b + half N a g b * a j

/-- A row's contribution to the gradient of the gains. -/
def gain (N : EReal × EReal) (a b : Fin C → EReal) (j : Fin C) : EReal := a j * Ideal.rsqrt (square N a) * b j

/-- Row `i` of a matrix. -/
abbrev row {R : ℕ} (x : (Mat R C).Idx → EReal) (i : Fin R) (k : Fin C) : EReal := x (ix2 i k)

variable {R : ℕ}

/-- The norm of a row, with the gains. -/
def forth (N : EReal × EReal) (a g : Fin C → EReal) (j : Fin C) : EReal := a j * Ideal.rsqrt (square N a) * g j

/-- The norm of a matrix's rows. -/
def forths (N : EReal × EReal) (x : (Mat R C).Idx → EReal) (g : (Mat 1 C).Idx → EReal) (y : (Mat R C).Idx) : EReal := forth N (row x (y 0)) (row g 0) (y 1)

/-- The gradient of a matrix whose rows are normalised. -/
def backs (N : EReal × EReal) (x : (Mat R C).Idx → EReal) (g : (Mat 1 C).Idx → EReal) (ct : (Mat R C).Idx → EReal) (y : (Mat R C).Idx) : EReal :=
  back N (row x (y 0)) (row g 0) (row ct (y 0)) (y 1)

/-- The gradient of the gains. -/
def gains (N : EReal × EReal) (x ct : (Mat R C).Idx → EReal) (y : (Mat 1 C).Idx) : EReal := ∑ i, gain N (row x i) (row ct i) (y 1)

theorem backs_congr (N : EReal × EReal) {R' : ℕ} {x ct : (Mat R C).Idx → EReal} {x' ct' : (Mat R' C).Idx → EReal} {g g' : (Mat 1 C).Idx → EReal} {y : (Mat R C).Idx} {y' : (Mat R' C).Idx}
    (hx : ∀ k, x (ix2 (y 0) k) = x' (ix2 (y' 0) k)) (hg : ∀ k, g (ix2 0 k) = g' (ix2 0 k)) (hct : ∀ k, ct (ix2 (y 0) k) = ct' (ix2 (y' 0) k)) (hj : y 1 = y' 1) :
    backs N x g ct y = backs N x' g' ct' y' := by
  rw [backs, backs, show row x (y 0) = row x' (y' 0) from funext hx, show row g 0 = row g' 0 from funext hg, show row ct (y 0) = row ct' (y' 0) from funext hct, hj]

theorem forths_congr (N : EReal × EReal) {R' : ℕ} {x : (Mat R C).Idx → EReal} {x' : (Mat R' C).Idx → EReal} {g g' : (Mat 1 C).Idx → EReal} {y : (Mat R C).Idx} {y' : (Mat R' C).Idx}
    (hx : ∀ k, x (ix2 (y 0) k) = x' (ix2 (y' 0) k)) (hg : ∀ k, g (ix2 0 k) = g' (ix2 0 k)) (hj : y 1 = y' 1) : forths N x g y = forths N x' g' y' := by
  rw [forths, forths, show row x (y 0) = row x' (y' 0) from funext hx, show row g 0 = row g' 0 from funext hg, hj]

theorem gain_congr (N : EReal × EReal) {R' : ℕ} {x ct : (Mat R C).Idx → EReal} {x' ct' : (Mat R' C).Idx → EReal} {i : Fin R} {i' : Fin R'}
    (hx : ∀ k, x (ix2 i k) = x' (ix2 i' k)) (hct : ∀ k, ct (ix2 i k) = ct' (ix2 i' k)) (j : Fin C) :
    gain N (row x i) (row ct i) j = gain N (row x' i') (row ct' i') j := by
  rw [show row x i = row x' i' from funext hx, show row ct i = row ct' i' from funext hct]

theorem at_eq (x : (Mat R C).Idx → EReal) (i : Fin R) {k k' : Fin C} (h : k.val = k'.val) : x (ix2 i k) = x (ix2 i k') := by rw [Fin.ext h]

/-- Matrices are equal whose entries are. -/
theorem mat_ext {α : Type} {f h : (Mat R C).Idx → α} (H : ∀ i j, f (ix2 i j) = h (ix2 i j)) : f = h :=
  funext fun y => by rw [eq_ix2 y]; exact H _ _

/-- Matrices of one row are equal whose entries in it are. -/
theorem row_ext {α : Type} {f h : (Mat 1 C).Idx → α} (H : ∀ j, f (ix2 0 j) = h (ix2 0 j)) : f = h :=
  mat_ext fun i j => by rw [Fin.fin_one_eq_zero i]; exact H j

end Norm
-- ==== Proof.Norm.Query.lean ====
module

public import proofs.«01_k».proof.Proof.Norm.Basic
public import proofs.«01_k».proof.Proof.Gen.QNormDxIdeal.Value
public import proofs.«01_k».proof.Proof.Gen.QNormDxRefIdeal.Run
public import proofs.«01_k».proof.Proof.Gen.QNormDxRefIdeal.Read
public import proofs.«01_k».proof.Proof.Gen.QNormIdeal.Value
public import proofs.«01_k».proof.Proof.Gen.QNormRefIdeal.Run
public import proofs.«01_k».proof.Proof.Gen.QNormRefIdeal.Read
public import proofs.«01_k».proof.Defs

@[expose] public section

/-!
# The root mean square norm of the queries

The rows normalised are the last 384 columns of the joint projection to the low ranks. The gradient's program takes a block of 512 rows at a point: it stores the gradient of the
block (`stored_back`), and adds the block's part of the gradient of the gains to what the points before left (`first`, `next`), which the first point clears. So the two
arrays are those of all the rows (`arr_back`, `arr_gain`), and the reference's are the same (`reference_back`, `reference_gain`). The forward program (`Forward`) stores
the norm of a block at each point.
-/

set_option maxRecDepth 16384

noncomputable section

open Idealize.ShloMosaic Idealize.ShloMosaic.TcCoe Idealize.SL.Sem Product

namespace Norm.Query

/-- The length of a row, and the constant its mean square is taken over. -/
abbrev width : EReal × EReal := (Ideal.ofBits .f32 1136656384#32, Ideal.ofBits .f32 897988541#32)

/-- The columns of the joint projection that are normalised. -/
abbrev cols (x : (Mat 8192 768).Idx → EReal) (y : (Mat 8192 384).Idx) : EReal := x (ix2 (y 0) ⟨384 + (y 1).val, Nat.add_lt_add_left (y 1).isLt 384⟩)

section Kernel

open Cert.QNormDxIdeal Cert.QNormDxIdeal.Gen

/-- The mean square of a row, as the kernel computes it. -/
theorem pay_square (x : (Mat 512 384).Idx → EReal) (i : Fin 512) : k0_pay3 (F := Ideal) x (ix2 i 0) = square width (row x i) := by
  unfold k0_pay3
  pointwise
  rfl

theorem pay_gain (x ct : (Mat 512 384).Idx → EReal) (j : Fin 384) : k0_pay5 (F := Ideal) x ct (ix2 0 j) = ∑ i, gain width (row x i) (row ct i) j := by
  refine Eq.trans ?_ (Finset.sum_congr rfl fun i _ => congrArg (fun z => x (ix2 i j) * Ideal.rsqrt z * ct (ix2 i j)) (pay_square x i))
  unfold k0_pay5 k0_pay4
  generalize k0_pay3 (F := Ideal) x = z
  pointwise

theorem pay_back (x ct : (Mat 512 384).Idx → EReal) (g : (Mat 1 384).Idx → EReal) (i : Fin 512) (j : Fin 384) :
    k0_pay6 (F := Ideal) x g ct (ix2 i j) = back width (row x i) (row g 0) (row ct i) j := by
  unfold back half
  rw [← pay_square]
  unfold k0_pay6 k0_pay4
  generalize k0_pay3 (F := Ideal) x = z
  pointwise
  simp only [Finset.univ_unique, Finset.sum_singleton]
  rfl

theorem pay_gains (x ct : (Mat 512 384).Idx → EReal) : k0_pay5 (F := Ideal) x ct = gains width x ct := row_ext (pay_gain x ct)

variable (m : (ℓ : Loc nD τ sig) → Buf (Elt Ideal) ℓ) (c : Dev nD)

theorem idx : ∀ t : Fin cfg0.N, win0_0.index t = ![t.val, 1] ∧ win0_1.index t = ![0, 0] ∧ win0_2.index t = ![t.val, 0] ∧ win0_3.index t = ![t.val, 0] ∧ win0_4.index t = ![0, 0] ∧ t.val < 16 :=
  (by decide +kernel : ∀ t : Fin grid0.N, _)

theorem stored_back (t : Fin cfg0.N) : (outsAt0 m c t.val t.isLt).1 = backs width (iblk m c 0 t) (iblk m c 1 t) (iblk m c 2 t) := by
  refine Eq.trans ?_ (mat_ext (pay_back (iblk m c 0 t) (iblk m c 2 t) (iblk m c 1 t)))
  by_cases h : t.val % 16 = 0
  · rw [outsAt0_A m c t h]
    unfold out0_A_3 kernelRun0_A
    simp only [stored_read, Product.load]
  · rw [outsAt0_B m c t h]
    unfold out0_B_3 kernelRun0_B
    simp only [stored_read, Product.load]

theorem first (t : Fin cfg0.N) (h : t.val % 16 = 0) : (outsAt0 m c t.val t.isLt).2 = k0_pay2 (k0_pay5 (F := Ideal) (iblk m c 0 t) (iblk m c 2 t)) (k0_pay1 (F := Ideal)) := by
  rw [outsAt0_A m c t h]
  unfold out0_A_4 kernelRun0_A kernelRun0_A.sl.r kernelRun0_A.sl.v41 kernelRun0_A.sl.H4_1
  simp only [stored_read, reload, Product.load]

theorem next (t : Fin cfg0.N) (h : ¬t.val % 16 = 0) : (outsAt0 m c t.val t.isLt).2
    = k0_pay2 (k0_pay5 (F := Ideal) (iblk m c 0 t) (iblk m c 2 t)) (outsAt0 m c (t.val - 1) (Nat.lt_of_le_of_lt (Nat.sub_le _ _) t.isLt)).2 := by
  rw [outsAt0_B m c t h]
  unfold out0_B_4 kernelRun0_B kernelRun0_B.sl.r
  simp only [stored_read, Product.load]

theorem pay_add (p q : (Mat 1 384).Idx → EReal) (y : (Mat 1 384).Idx) : k0_pay2 (F := Ideal) q p y = p y + q y := by
  unfold k0_pay2
  pointwise

theorem pay_zero (y : (Mat 1 384).Idx) : k0_pay1 (F := Ideal) y = (0 : EReal) := by
  unfold k0_pay1
  pointwise

theorem arr_back : (dats m 0 c).arrAt 3 cfg0.N
    = backs width (cols (m ((c.tc : Thread nD τ).loc main_arg0))) (m ((c.tc : Thread nD τ).loc main_arg1)) (m ((c.tc : Thread nD τ).loc main_arg2)) := by
  refine (dats m 0 c).arrAt_eq_of_covers 3 _ (by decide +kernel) fun t hf y => ?_
  obtain ⟨-, -, -, -, -, hN⟩ := idx t
  blk_simp
  rw [after0_3, stored_back]
  refine backs_congr _ (fun k => ?_) (fun k => ?_) (fun k => ?_) ?_
  · blk_ext [iblk, V_main_arg0, idx t]
  · blk_ext [iblk, V_main_arg1, idx t]
  · blk_ext [iblk, V_main_arg2, idx t]
  · exact Fin.ext (by simp [idx t])

theorem arr_gain : (dats m 0 c).arrAt 4 cfg0.N
    = gains width (cols (m ((c.tc : Thread nD τ).loc main_arg0))) (m ((c.tc : Thread nD τ).loc main_arg2)) := by
  refine (dats m 0 c).arrAt_eq_of_covers 4 _ (by decide +kernel) fun t hf y => ?_
  obtain ⟨-, -, -, -, -, hN⟩ := idx t
  blk_simp
  rw [after0_4]
  refine (summed (J := 16) (R := 512) rfl (fun n h => (outsAt0 m c n h).2) (fun t r y => gain width (row (iblk m c 0 t) r) (row (iblk m c 2 t) r) (y 1))
    (fun t h y => ?_) (fun t h y => ?_) t ((flush0_4 t).mp hf) y _ fun u s r hl hq hm => ?_)
  · refine (congrFun (first m c t h) y).trans ((pay_add _ _ y).trans (congrArg₂ (fun a b : EReal => a + b) (pay_zero y) ?_))
    exact congrFun (pay_gains _ _) y
  · refine (congrFun (next m c t h) y).trans ((pay_add _ _ y).trans (congrArg (fun a : EReal => _ + a) ?_))
    exact congrFun (pay_gains _ _) y
  · have hj : ((win0_4.blk t).view.emb y) 1 = y 1 := Fin.ext (by simp [idx t])
    rw [hj]
    refine gain_congr _ (fun k => ?_) (fun k => ?_) _
    · blk_ext [iblk, V_main_arg0, idx u]
    · blk_ext [iblk, V_main_arg2, idx u]

end Kernel

section Reference
open Cert.QNormDxRefIdeal
variable (x : (Mat 8192 768).Idx → EReal) (g : (Mat 1 384).Idx → EReal) (ct : (Mat 8192 384).Idx → EReal)

theorem ref_part (i : Fin 8192) (j : Fin 384) : Read.val_main_v0 (F := Ideal) x (ix2 i j) = cols x (ix2 i j) := by
  unfold Read.val_main_v0
  pointwise
  rfl

theorem ref_square (i : Fin 8192) : Read.val_main_v8 (F := Ideal) x (ix2 i 0) = square width (row (cols x) i) := by
  unfold Read.val_main_v8 Read.val_main_v7 Read.val_main_v6 Read.val_main_v5 Read.val_main_v4 Read.val_main_v3 Read.val_main_v2 Read.val_main_cst Read.val_main_cst_0 Read.val_main_cst_1
  pointwise
  simp only [ref_part]
  rfl

theorem ref_gain (j : Fin 384) : Read.val_main_v38 (F := Ideal) x ct (ix2 0 j) = ∑ i, gain width (row (cols x) i) (row ct i) j := by
  unfold gain
  simp only [← ref_square]
  unfold Read.val_main_v38 Read.val_main_v23 Read.val_main_v20 Read.val_main_v19 Read.val_main_v18 Read.val_main_v14 Read.val_main_v13 Read.val_main_v9 Read.val_main_cst_3 Read.val_main_cst_4
  generalize Read.val_main_v8 (F := Ideal) x = z
  pointwise
  simp only [ref_part, Finset.univ_unique, Finset.sum_singleton]

theorem ref_back (i : Fin 8192) (j : Fin 384) : Read.val_main_v39 (F := Ideal) x g ct (ix2 i j) = back width (row (cols x) i) (row g 0) (row ct i) j := by
  unfold back half
  simp only [← ref_square]
  unfold Read.val_main_v39 Read.val_main_v37 Read.val_main_v36 Read.val_main_v35 Read.val_main_v34 Read.val_main_v33 Read.val_main_v32 Read.val_main_v31 Read.val_main_v30 Read.val_main_v29 Read.val_main_v28 Read.val_main_v27 Read.val_main_v26 Read.val_main_v25 Read.val_main_v24 Read.val_main_v22 Read.val_main_v21 Read.val_main_v15 Read.val_main_v12 Read.val_main_v11 Read.val_main_v10 Read.val_main_v9 Read.val_main_v1
    Read.val_main_cst_2 Read.val_main_cst_5 Read.val_main_cst_6 Read.val_main_cst_7
  generalize Read.val_main_v8 (F := Ideal) x = z
  pointwise
  simp only [ref_part]
  simp only [Finset.univ_unique, Finset.sum_singleton]
  rfl
theorem reference_back : Read.val_main_v39 (F := Ideal) x g ct = backs width (cols x) g ct := mat_ext (ref_back x g ct)

theorem reference_gain : Read.val_main_v38 (F := Ideal) x ct = gains width (cols x) ct := row_ext (ref_gain x ct)

end Reference

theorem algebraic : Cert.algebraic_QNormDxIdeal_QNormDxRefIdeal (hQNormDxIdeal := Cert.QNormDxIdeal.Gen.facts) (hQNormDxRefIdeal := Cert.QNormDxRefIdeal.Gen.facts) :=
  fun m g m' g' _ hargs => agree_two (Cert.QNormDxIdeal.Value.run_blocks m g) (Cert.QNormDxRefIdeal.Value.run m' g')
    (fun c => (Cert.QNormDxRefIdeal.Read.val_main_v39_eq _ _).trans ((reference_back _ _ _).trans
      ((by rw [(hargs c).1, (hargs c).2.1, (hargs c).2.2] : _ = _).trans (arr_back m c).symm)))
    (fun c => (Cert.QNormDxRefIdeal.Read.val_main_v38_eq _ _).trans ((reference_gain _ _).trans ((by rw [(hargs c).1, (hargs c).2.2] : _ = _).trans (arr_gain m c).symm)))

namespace Forward

section Kernel

open Cert.QNormIdeal Cert.QNormIdeal.Gen

theorem pay (x : (Mat 512 384).Idx → EReal) (g : (Mat 1 384).Idx → EReal) : k0_pay1 (F := Ideal) x g = forths width x g := by
  refine mat_ext fun i j => ?_
  unfold k0_pay1
  pointwise
  rfl

variable (m : (ℓ : Loc nD τ sig) → Buf (Elt Ideal) ℓ) (c : Dev nD)

theorem idx : ∀ t : Fin cfg0.N, win0_0.index t = ![t.val, 1] ∧ win0_1.index t = ![0, 0] ∧ win0_2.index t = ![t.val, 0] ∧ t.val < 16 :=
  (by decide +kernel : ∀ t : Fin grid0.N, _)

theorem arr : (dats m 0 c).arrAt 2 cfg0.N = forths width (cols (m ((c.tc : Thread nD τ).loc main_arg0))) (m ((c.tc : Thread nD τ).loc main_arg1)) := by
  refine (dats m 0 c).arrAt_eq_of_covers 2 _ (by decide +kernel) fun t hf y => ?_
  obtain ⟨-, -, -, hN⟩ := idx t
  blk_simp
  rw [after0_2]
  unfold out0_2 r0_0 r0_1
  rw [stored]
  simp only [load_contents, pay]
  refine forths_congr _ (fun k => ?_) (fun k => ?_) (Fin.ext (by simp [idx t]))
  · blk_ext [iblk, V_main_arg0, idx t]
  · blk_ext [iblk, V_main_arg1, idx t]

end Kernel

section Reference

open Cert.QNormRefIdeal

variable (x : (Mat 8192 768).Idx → EReal) (g : (Mat 1 384).Idx → EReal)

theorem reference : Read.val_main_v15 (F := Ideal) x g = forths width (cols x) g := by
  refine mat_ext fun i j => ?_
  unfold Read.val_main_v15 Read.val_main_v14 Read.val_main_v13 Read.val_main_v12 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst Read.val_main_cst_0 Read.val_main_cst_1
  pointwise
  rfl

end Reference

theorem algebraic : Cert.algebraic_QNormIdeal_QNormRefIdeal (hQNormIdeal := Cert.QNormIdeal.Gen.facts) (hQNormRefIdeal := Cert.QNormRefIdeal.Gen.facts) :=
  fun m g m' g' _ hargs => agree (Cert.QNormIdeal.Value.run_blocks m g) (Cert.QNormRefIdeal.Value.run m' g') fun c =>
    (Cert.QNormRefIdeal.Read.val_main_v15_eq _ _).trans ((reference _ _).trans ((by rw [(hargs c).1, (hargs c).2] : _ = _).trans (arr m c).symm))

end Forward

end Norm.Query
-- ==== Proof.Norm.Gated.lean ====
module

public import proofs.«01_k».proof.Proof.Norm.Basic
public import proofs.«01_k».proof.Proof.Gen.GatedIdeal.Value
public import proofs.«01_k».proof.Proof.Gen.GatedRefIdeal.Run
public import proofs.«01_k».proof.Proof.Gen.GatedRefIdeal.Read
public import proofs.«01_k».proof.Proof.Gen.GatedDxIdeal.Value
public import proofs.«01_k».proof.Proof.Gen.GatedDxRefIdeal.Run
public import proofs.«01_k».proof.Proof.Gen.GatedDxRefIdeal.Read
public import proofs.«01_k».proof.Defs

@[expose] public section

/-!
# The gated norm after the scan

A row of 2048 lanes is 8 groups of 256. A group of the scan's output `u`, of its input `v` and of the gate `z` is joined to `(u + d v) z σ(z)`, and the joined group is
normalised. The programs take a block of 512 rows of one group at a point (`Group` are the group's parts), the points of a group one after another, so that the gradients of
`d` and of the gains are accumulated over the blocks (`first`, `next`). The references split the rows in groups.
-/

set_option maxRecDepth 16384

noncomputable section

open Idealize.ShloMosaic Idealize.ShloMosaic.TcCoe Idealize.SL.Sem Product

namespace Norm.Gated

/-! ## The functions of a group -/

/-- The length of a group, and the constant its mean square is taken over. -/
abbrev width : EReal × EReal := (Ideal.ofBits .f32 1132462080#32, Ideal.ofBits .f32 925353388#32)

/-- A group of a row: of the scan's output and input, of the gate, of the factors of the input, and of the gains. -/
structure Group where
  u : Fin 256 → EReal
  v : Fin 256 → EReal
  z : Fin 256 → EReal
  d : Fin 256 → EReal
  g : Fin 256 → EReal

namespace Group

variable (G : Group) (b : Fin 256 → EReal) (k : Fin 256)

/-- The gate's factor. -/
def gate : EReal := G.z k * Ideal.logistic (G.z k)

/-- The scan's output with its input. -/
def sum : EReal := G.u k + G.d k * G.v k

/-- What is normalised. -/
def joined : EReal := G.sum k * G.gate k

/-- The norm. -/
def normal : EReal := forth width G.joined G.g k

/-- The gradient of what is normalised. -/
def inner : EReal := back width G.joined G.g b k

/-- The gradient of the scan's output. -/
def output : EReal := G.inner b k * G.gate k

/-- The gradient of the scan's input. -/
def input : EReal := G.d k * G.output b k

/-- The gradient of the gate. -/
def gates : EReal :=
  G.sum k * G.inner b k * Ideal.logistic (G.z k) + G.z k * (G.sum k * G.inner b k) * (Ideal.logistic (G.z k) * (1 - Ideal.logistic (G.z k)))

/-- A row's contribution to the gradient of the factors. -/
def factor : EReal := G.output b k * G.v k

end Group

variable {R : ℕ}

/-- The lane `k` of group `q`. -/
abbrev lane (q : Fin 8) (k : Fin 256) : Fin 2048 := ⟨q.val * 256 + k.val, by have := q.isLt; have := k.isLt; omega⟩

/-- A group of a row of an array. -/
abbrev part (x : (Mat R 2048).Idx → EReal) (i : Fin R) (q : Fin 8) (k : Fin 256) : EReal := x (ix2 i (lane q k))

theorem group_ext {G H : Group} (hu : ∀ k, G.u k = H.u k) (hv : ∀ k, G.v k = H.v k) (hz : ∀ k, G.z k = H.z k) (hd : ∀ k, G.d k = H.d k) (hg : ∀ k, G.g k = H.g k) : G = H := by
  cases G
  cases H
  exact congr (congr (congr (congr (congrArg Group.mk (funext hu)) (funext hv)) (funext hz)) (funext hd)) (funext hg)

/-- A group's number and the lane in it. -/
theorem lane_div (q : Fin 8) (k : Fin 256) (h) : (⟨(q.val * 256 + k.val) / 256, h⟩ : Fin 8) = q := Fin.ext (by have := k.isLt; show (q.val * 256 + k.val) / 256 = q.val; omega)

theorem lane_mod (q : Fin 8) (k : Fin 256) (h) : (⟨(q.val * 256 + k.val) % 256, h⟩ : Fin 256) = k := Fin.ext (by have := k.isLt; show (q.val * 256 + k.val) % 256 = k.val; omega)

/-- A row of a block. -/
def ofBlock (u v z : (Mat R 256).Idx → EReal) (d g : (Mat 1 256).Idx → EReal) (i : Fin R) : Group := ⟨row u i, row v i, row z i, row d 0, row g 0⟩

/-- A group of a row of the arrays. -/
def ofArray (u v z : (Mat R 2048).Idx → EReal) (d g : (Mat 1 2048).Idx → EReal) (i : Fin R) (q : Fin 8) : Group := ⟨part u i q, part v i q, part z i q, part d 0 q, part g 0 q⟩

/-- The array whose groups' lanes are given. -/
def wide (f : Fin R → Fin 8 → Fin 256 → EReal) (y : (Mat R 2048).Idx) : EReal :=
  f (y 0) ⟨(y 1).val / 256, by have : (y 1).val < 2048 := (y 1).isLt; omega⟩ ⟨(y 1).val % 256, Nat.mod_lt _ (by decide)⟩

theorem wide_at (f : Fin R → Fin 8 → Fin 256 → EReal) {y : (Mat R 2048).Idx} {i : Fin R} {q : Fin 8} {k : Fin 256} (h0 : y 0 = i) (h1 : (y 1).val = q.val * 256 + k.val) :
    wide f y = f i q k := by
  have hk := k.isLt
  have hq : (⟨(y 1).val / 256, by have : (y 1).val < 2048 := (y 1).isLt; omega⟩ : Fin 8) = q := Fin.ext (by show (y 1).val / 256 = q.val; omega)
  have hm : (⟨(y 1).val % 256, Nat.mod_lt _ (by decide)⟩ : Fin 256) = k := Fin.ext (by show (y 1).val % 256 = k.val; omega)
  rw [wide, h0, hq, hm]

/-- An array is known by the lanes of its groups. -/
theorem wide_ext {x : (Mat R 2048).Idx → EReal} {f : Fin R → Fin 8 → Fin 256 → EReal} (h : ∀ i q k, x (ix2 i (lane q k)) = f i q k) : x = wide f := by
  refine mat_ext fun i j => ?_
  have hj := j.isLt
  have hl : j = lane ⟨j.val / 256, by omega⟩ ⟨j.val % 256, Nat.mod_lt _ (by decide)⟩ := Fin.ext (by show j.val = j.val / 256 * 256 + j.val % 256; omega)
  exact (congrArg (fun l => x (ix2 i l)) hl).trans (h _ _ _)

/-! ## The norm -/

namespace Forward

section Kernel

open Cert.GatedIdeal Cert.GatedIdeal.Gen

theorem pay (u v z : (Mat 512 256).Idx → EReal) (d g : (Mat 1 256).Idx → EReal) (i : Fin 512) (j : Fin 256) :
    k0_pay1 (F := Ideal) u v z d g (ix2 i j) = (ofBlock u v z d g i).normal j := by
  unfold k0_pay1
  pointwise
  rfl

variable (m : (ℓ : Loc nD τ sig) → Buf (Elt Ideal) ℓ) (c : Dev nD)

theorem idx : ∀ t : Fin cfg0.N, win0_0.index t = ![t.val % 16, t.val / 16] ∧ win0_1.index t = ![t.val % 16, t.val / 16] ∧ win0_2.index t = ![t.val % 16, t.val / 16] ∧
    win0_3.index t = ![0, t.val / 16] ∧ win0_4.index t = ![0, t.val / 16] ∧ win0_5.index t = ![t.val % 16, t.val / 16] ∧ t.val < 128 :=
  (by decide +kernel : ∀ t : Fin grid0.N, _)

/-- A row of a point's blocks. -/
abbrev blocks (t : Fin cfg0.N) (i : Fin 512) : Group := ofBlock (iblk m c 0 t) (iblk m c 1 t) (iblk m c 2 t) (iblk m c 3 t) (iblk m c 4 t) i

/-- A group of a row of the arguments. -/
abbrev arrays (i : Fin 8192) (q : Fin 8) : Group :=
  ofArray (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) i q

theorem groups (t : Fin cfg0.N) (i : Fin 512) (l : Fin 8192) (q : Fin 8) (hl : l.val = t.val % 16 * 512 + i.val) (hq : q.val = t.val / 16) :
    blocks m c t i = arrays m c l q := by
  refine group_ext (fun k => ?_) (fun k => ?_) (fun k => ?_) (fun k => ?_) (fun k => ?_)
  · show iblk m c 0 t (ix2 i k) = m ((c.tc : Thread nD τ).loc main_arg0) (ix2 l (lane q k))
    blk_ext [iblk, V_main_arg0, idx t, hl, hq]
  · show iblk m c 1 t (ix2 i k) = m ((c.tc : Thread nD τ).loc main_arg1) (ix2 l (lane q k))
    blk_ext [iblk, V_main_arg1, idx t, hl, hq]
  · show iblk m c 2 t (ix2 i k) = m ((c.tc : Thread nD τ).loc main_arg2) (ix2 l (lane q k))
    blk_ext [iblk, V_main_arg2, idx t, hl, hq]
  · show iblk m c 3 t (ix2 0 k) = m ((c.tc : Thread nD τ).loc main_arg3) (ix2 0 (lane q k))
    blk_ext [iblk, V_main_arg3, idx t, hq]
  · show iblk m c 4 t (ix2 0 k) = m ((c.tc : Thread nD τ).loc main_arg4) (ix2 0 (lane q k))
    blk_ext [iblk, V_main_arg4, idx t, hq]

theorem arr : (dats m 0 c).arrAt 5 cfg0.N = wide fun i q => (arrays m c i q).normal := by
  refine (dats m 0 c).arrAt_eq_of_covers 5 _ (by decide +kernel) fun t hf y => ?_
  obtain ⟨-, -, -, -, -, -, hN⟩ := idx t
  have hy : (y 0).val < 512 := (y 0).isLt
  blk_simp
  rw [after0_5]
  unfold out0_5 r0_0 r0_1
  rw [stored]
  simp only [load_contents]
  refine (congrArg _ (eq_ix2 y)).trans ((pay _ _ _ _ _ _ _).trans ?_)
  rw [wide_at (i := ⟨t.val % 16 * 512 + (y 0).val, by omega⟩) (q := ⟨t.val / 16, by omega⟩) (k := y 1) _ (Fin.ext (by simp [idx t])) (by simp [idx t])]
  exact congrArg (fun G : Group => G.normal (y 1)) (groups m c t (y 0) _ _ rfl rfl)

end Kernel

section Reference

open Cert.GatedRefIdeal

variable (u v z : (Mat 8192 2048).Idx → EReal) (d g : (Mat 1 2048).Idx → EReal)

theorem ref_joined (i : Fin 8192) (q : Fin 8) (k : Fin 256) : Read.val_main_v7 (F := Ideal) u v z d (ix3 i q k) = (ofArray u v z d g i q).joined k := by
  unfold Read.val_main_v7 Read.val_main_v6 Read.val_main_v5 Read.val_main_v4 Read.val_main_v3 Read.val_main_v2 Read.val_main_v1 Read.val_main_v0 Read.val_main_call0_v5 Read.val_main_call0_v4
    Read.val_main_call0_v3 Read.val_main_call0_v2 Read.val_main_call0_v1 Read.val_main_call0_v0 Read.val_main_call0_cst Read.val_main_call0_cst_0
  pointwise
  rfl

theorem reference : Read.val_main_v23 (F := Ideal) u v z d g = wide fun i q => (ofArray u v z d g i q).normal := by
  refine wide_ext fun i q k => ?_
  unfold Group.normal forth square
  simp only [← ref_joined]
  unfold Read.val_main_v23 Read.val_main_v22 Read.val_main_v21 Read.val_main_v20 Read.val_main_v19 Read.val_main_v18 Read.val_main_v17 Read.val_main_v16 Read.val_main_v15 Read.val_main_v14
    Read.val_main_v13 Read.val_main_v12 Read.val_main_v11 Read.val_main_v10 Read.val_main_v9 Read.val_main_v8 Read.val_main_cst Read.val_main_cst_0 Read.val_main_cst_1
  generalize Read.val_main_v7 (F := Ideal) u v z d = w
  pointwise
  simp only [lane_div, lane_mod]
  rfl

end Reference

theorem algebraic : Cert.algebraic_GatedIdeal_GatedRefIdeal (hGatedIdeal := Cert.GatedIdeal.Gen.facts) (hGatedRefIdeal := Cert.GatedRefIdeal.Gen.facts) :=
  fun m g m' g' _ hargs => agree (Cert.GatedIdeal.Value.run_blocks m g) (Cert.GatedRefIdeal.Value.run m' g') fun c =>
    (Cert.GatedRefIdeal.Read.val_main_v23_eq _ _ _ _ _).trans ((reference _ _ _ _ _).trans
      ((by rw [(hargs c).1, (hargs c).2.1, (hargs c).2.2.1, (hargs c).2.2.2.1, (hargs c).2.2.2.2] : _ = _).trans (arr m c).symm))

end Forward

namespace Backward

section Kernel

open Cert.GatedDxIdeal Cert.GatedDxIdeal.Gen

variable (u v z b : (Mat 512 256).Idx → EReal) (d g : (Mat 1 256).Idx → EReal)

theorem pay_joined (i : Fin 512) (j : Fin 256) : k0_pay5 (F := Ideal) u v z d (ix2 i j) = (ofBlock u v z d g i).joined j := by
  unfold k0_pay5 k0_pay4 k0_pay2 k0_pay1
  pointwise
  rfl

theorem pay_square (i : Fin 512) : k0_pay6 (F := Ideal) u v z d (ix2 i 0) = square width (ofBlock u v z d g i).joined := by
  unfold square
  simp only [← pay_joined]
  unfold k0_pay6
  generalize k0_pay5 (F := Ideal) u v z d = a
  pointwise

theorem pay_gain (j : Fin 256) : k0_pay9 (F := Ideal) u v z d b (ix2 0 j) = ∑ i, gain width (ofBlock u v z d g i).joined (row b i) j := by
  unfold gain
  simp only [← pay_square, ← pay_joined]
  unfold k0_pay9 k0_pay7
  generalize k0_pay6 (F := Ideal) u v z d = s
  generalize k0_pay5 (F := Ideal) u v z d = a
  pointwise

/-- The gradient of what is normalised, as the kernel computes it. -/
abbrev payInner : (Mat 512 256).Idx → EReal :=
  k0_pay13 (F := Ideal) (k0_pay5 (F := Ideal) u v z d) (k0_pay8 (F := Ideal) u v z d) (k0_pay10 (F := Ideal) g b) (k0_pay11 (F := Ideal) u v z d g b) (k0_pay12 (F := Ideal) u v z d)

theorem pay_inner (i : Fin 512) (j : Fin 256) : payInner u v z b d g (ix2 i j) = (ofBlock u v z d g i).inner (row b i) j := by
  unfold Group.inner back half
  simp only [← pay_square, ← pay_joined]
  unfold payInner k0_pay13 k0_pay12 k0_pay11 k0_pay10 k0_pay8 k0_pay7
  generalize k0_pay6 (F := Ideal) u v z d = s
  generalize k0_pay5 (F := Ideal) u v z d = a
  pointwise
  simp only [Finset.univ_unique, Finset.sum_singleton]
  rfl

/-- The gradients of the three arrays, and the additions to the gradients of the factors and of the gains, as the kernel computes them. -/
abbrev payOutput : (Mat 512 256).Idx → EReal :=
  k0_pay14 (F := Ideal) (k0_pay4 (F := Ideal) z) (k0_pay5 (F := Ideal) u v z d) (k0_pay8 (F := Ideal) u v z d) (k0_pay10 (F := Ideal) g b) (k0_pay11 (F := Ideal) u v z d g b) (k0_pay12 (F := Ideal) u v z d)

abbrev payInput : (Mat 512 256).Idx → EReal :=
  k0_pay15 (F := Ideal) d (k0_pay4 (F := Ideal) z) (k0_pay5 (F := Ideal) u v z d) (k0_pay8 (F := Ideal) u v z d) (k0_pay10 (F := Ideal) g b) (k0_pay11 (F := Ideal) u v z d g b) (k0_pay12 (F := Ideal) u v z d)

abbrev payGates : (Mat 512 256).Idx → EReal :=
  k0_pay16 (F := Ideal) z (k0_pay1 (F := Ideal) u v d) (k0_pay2 (F := Ideal) z) (k0_pay3 (F := Ideal) z) (k0_pay5 (F := Ideal) u v z d) (k0_pay8 (F := Ideal) u v z d) (k0_pay10 (F := Ideal) g b) (k0_pay11 (F := Ideal) u v z d g b) (k0_pay12 (F := Ideal) u v z d)

abbrev payFactor (a : (Mat 1 256).Idx → EReal) : (Mat 1 256).Idx → EReal :=
  k0_pay19 (F := Ideal) v (k0_pay4 (F := Ideal) z) (k0_pay5 (F := Ideal) u v z d) (k0_pay8 (F := Ideal) u v z d) (k0_pay10 (F := Ideal) g b) (k0_pay11 (F := Ideal) u v z d g b) (k0_pay12 (F := Ideal) u v z d) a

abbrev payGain (a : (Mat 1 256).Idx → EReal) : (Mat 1 256).Idx → EReal := k0_pay20 (F := Ideal) (k0_pay9 (F := Ideal) u v z d b) a

theorem pay_output : payOutput u v z b d g = fun y => (ofBlock u v z d g (y 0)).output (row b (y 0)) (y 1) := by
  refine mat_ext fun i j => ?_
  refine Eq.trans (b := payInner u v z b d g (ix2 i j) * (z (ix2 i j) * Ideal.logistic (z (ix2 i j)))) ?_ (congrArg (· * _) (pay_inner u v z b d g i j))
  unfold payOutput k0_pay14 k0_pay4 k0_pay2
  pointwise

theorem pay_input : payInput u v z b d g = fun y => (ofBlock u v z d g (y 0)).input (row b (y 0)) (y 1) := by
  refine mat_ext fun i j => ?_
  refine Eq.trans (b := d (ix2 0 j) * payOutput u v z b d g (ix2 i j)) ?_ (congrArg (_ * ·) (congrFun (pay_output u v z b d g) (ix2 i j)))
  unfold payInput k0_pay15
  pointwise

theorem pay_gates : payGates u v z b d g = fun y => (ofBlock u v z d g (y 0)).gates (row b (y 0)) (y 1) := by
  refine mat_ext fun i j => ?_
  show _ = (ofBlock u v z d g i).gates (row b i) j
  unfold Group.gates
  rw [← pay_inner]
  unfold payGates k0_pay16 k0_pay3 k0_pay2 k0_pay1
  pointwise
  rfl

theorem pay_factor (a : (Mat 1 256).Idx → EReal) (j : Fin 256) : payFactor u v z b d g a (ix2 0 j) = a (ix2 0 j) + ∑ i, (ofBlock u v z d g i).factor (row b i) j := by
  refine Eq.trans (b := a (ix2 0 j) + ∑ i, payOutput u v z b d g (ix2 i j) * v (ix2 i j)) ?_
    (congrArg (_ + ·) (Finset.sum_congr rfl fun i _ => congrArg (· * _) (congrFun (pay_output u v z b d g) (ix2 i j))))
  unfold payFactor k0_pay19
  pointwise

theorem pay_more (a : (Mat 1 256).Idx → EReal) (j : Fin 256) :
    payGain u v z b d a (ix2 0 j) = a (ix2 0 j) + ∑ i, gain width (ofBlock u v z d g i).joined (row b i) j := by
  rw [← pay_gain]
  unfold payGain k0_pay20
  pointwise

theorem pay_zero (y : (Mat 1 256).Idx) : k0_pay17 (F := Ideal) y = (0 : EReal) := by
  unfold k0_pay17
  pointwise

theorem pay_nought (y : (Mat 1 256).Idx) : k0_pay18 (F := Ideal) y = (0 : EReal) := by
  unfold k0_pay18
  pointwise

variable (m : (ℓ : Loc nD τ sig) → Buf (Elt Ideal) ℓ) (c : Dev nD)

theorem idx : ∀ t : Fin cfg0.N, win0_0.index t = ![t.val % 16, t.val / 16] ∧ win0_1.index t = ![t.val % 16, t.val / 16] ∧ win0_2.index t = ![t.val % 16, t.val / 16] ∧
    win0_3.index t = ![0, t.val / 16] ∧ win0_4.index t = ![0, t.val / 16] ∧ win0_5.index t = ![t.val % 16, t.val / 16] ∧ win0_6.index t = ![t.val % 16, t.val / 16] ∧
    win0_7.index t = ![t.val % 16, t.val / 16] ∧ win0_8.index t = ![t.val % 16, t.val / 16] ∧ win0_9.index t = ![0, t.val / 16] ∧ win0_10.index t = ![0, t.val / 16] ∧ t.val < 128 :=
  (by decide +kernel : ∀ t : Fin grid0.N, _)

/-- A row of a point's blocks. -/
abbrev blocks (t : Fin cfg0.N) (i : Fin 512) : Group := ofBlock (iblk m c 0 t) (iblk m c 1 t) (iblk m c 2 t) (iblk m c 3 t) (iblk m c 4 t) i

/-- A group of a row of the arguments. -/
abbrev arrays (i : Fin 8192) (q : Fin 8) : Group :=
  ofArray (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) i q

theorem groups (t : Fin cfg0.N) (i : Fin 512) (l : Fin 8192) (q : Fin 8) (hl : l.val = t.val % 16 * 512 + i.val) (hq : q.val = t.val / 16) :
    blocks m c t i = arrays m c l q := by
  refine group_ext (fun k => ?_) (fun k => ?_) (fun k => ?_) (fun k => ?_) (fun k => ?_)
  · show iblk m c 0 t (ix2 i k) = m ((c.tc : Thread nD τ).loc main_arg0) (ix2 l (lane q k))
    blk_ext [iblk, V_main_arg0, idx t, hl, hq]
  · show iblk m c 1 t (ix2 i k) = m ((c.tc : Thread nD τ).loc main_arg1) (ix2 l (lane q k))
    blk_ext [iblk, V_main_arg1, idx t, hl, hq]
  · show iblk m c 2 t (ix2 i k) = m ((c.tc : Thread nD τ).loc main_arg2) (ix2 l (lane q k))
    blk_ext [iblk, V_main_arg2, idx t, hl, hq]
  · show iblk m c 3 t (ix2 0 k) = m ((c.tc : Thread nD τ).loc main_arg3) (ix2 0 (lane q k))
    blk_ext [iblk, V_main_arg3, idx t, hq]
  · show iblk m c 4 t (ix2 0 k) = m ((c.tc : Thread nD τ).loc main_arg4) (ix2 0 (lane q k))
    blk_ext [iblk, V_main_arg4, idx t, hq]

theorem first (t : Fin cfg0.N) (h : t.val % 16 = 0) : outsAt0 m c t.val t.isLt
    = (payOutput (iblk m c 0 t) (iblk m c 1 t) (iblk m c 2 t) (iblk m c 5 t) (iblk m c 3 t) (iblk m c 4 t), payInput (iblk m c 0 t) (iblk m c 1 t) (iblk m c 2 t) (iblk m c 5 t) (iblk m c 3 t) (iblk m c 4 t), payGates (iblk m c 0 t) (iblk m c 1 t) (iblk m c 2 t) (iblk m c 5 t) (iblk m c 3 t) (iblk m c 4 t),
      payFactor (iblk m c 0 t) (iblk m c 1 t) (iblk m c 2 t) (iblk m c 5 t) (iblk m c 3 t) (iblk m c 4 t) (k0_pay17 (F := Ideal)), payGain (iblk m c 0 t) (iblk m c 1 t) (iblk m c 2 t) (iblk m c 5 t) (iblk m c 3 t) (k0_pay18 (F := Ideal))) := by
  rw [outsAt0_A m c t h]
  unfold out0_A_6 out0_A_7 out0_A_8 out0_A_9 out0_A_10 kernelRun0_A kernelRun0_A.sl.v66 kernelRun0_A.sl.v70 kernelRun0_A.sl.H9_1 kernelRun0_A.sl.H10_1 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12
  simp only [stored_read, reload, Product.load]

theorem next (t : Fin cfg0.N) (h : ¬t.val % 16 = 0) : outsAt0 m c t.val t.isLt
    = (payOutput (iblk m c 0 t) (iblk m c 1 t) (iblk m c 2 t) (iblk m c 5 t) (iblk m c 3 t) (iblk m c 4 t), payInput (iblk m c 0 t) (iblk m c 1 t) (iblk m c 2 t) (iblk m c 5 t) (iblk m c 3 t) (iblk m c 4 t), payGates (iblk m c 0 t) (iblk m c 1 t) (iblk m c 2 t) (iblk m c 5 t) (iblk m c 3 t) (iblk m c 4 t),
      payFactor (iblk m c 0 t) (iblk m c 1 t) (iblk m c 2 t) (iblk m c 5 t) (iblk m c 3 t) (iblk m c 4 t) (outsAt0 m c (t.val - 1) (Nat.lt_of_le_of_lt (Nat.sub_le _ _) t.isLt)).2.2.2.1, payGain (iblk m c 0 t) (iblk m c 1 t) (iblk m c 2 t) (iblk m c 5 t) (iblk m c 3 t) (outsAt0 m c (t.val - 1) (Nat.lt_of_le_of_lt (Nat.sub_le _ _) t.isLt)).2.2.2.2) := by
  rw [outsAt0_B m c t h]
  unfold out0_B_6 out0_B_7 out0_B_8 out0_B_9 out0_B_10 kernelRun0_B kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12
  simp only [stored_read, Product.load]

/-- The first three blocks a point leaves are the gradients of its blocks. -/
theorem stored_blocks (t : Fin cfg0.N) : ∃ p q, outsAt0 m c t.val t.isLt = (payOutput (iblk m c 0 t) (iblk m c 1 t) (iblk m c 2 t) (iblk m c 5 t) (iblk m c 3 t) (iblk m c 4 t), payInput (iblk m c 0 t) (iblk m c 1 t) (iblk m c 2 t) (iblk m c 5 t) (iblk m c 3 t) (iblk m c 4 t), payGates (iblk m c 0 t) (iblk m c 1 t) (iblk m c 2 t) (iblk m c 5 t) (iblk m c 3 t) (iblk m c 4 t), p, q) := by
  by_cases h : t.val % 16 = 0
  · exact ⟨_, _, first m c t h⟩
  · exact ⟨_, _, next m c t h⟩

/-- A group of a row of the cotangent. -/
abbrev cotangent (i : Fin 8192) (q : Fin 8) : Fin 256 → EReal := part (m ((c.tc : Thread nD τ).loc main_arg5)) i q

/-- What is computed of a row of a point's blocks is computed of the row and the group they are cut from. -/
theorem reach (f : Group → (Fin 256 → EReal) → EReal) (t : Fin cfg0.N) (i : Fin 512) (l : Fin 8192) (q : Fin 8) (hl : l.val = t.val % 16 * 512 + i.val) (hq : q.val = t.val / 16) :
    f (blocks m c t i) (row (iblk m c 5 t) i) = f (arrays m c l q) (cotangent m c l q) := by
  refine congrArg₂ f (groups m c t i l q hl hq) (funext fun k => ?_)
  show iblk m c 5 t (ix2 i k) = m ((c.tc : Thread nD τ).loc main_arg5) (ix2 l (lane q k))
  blk_ext [iblk, V_main_arg5, idx t, hl, hq]

theorem arr_output : (dats m 0 c).arrAt 6 cfg0.N = wide fun i q => (arrays m c i q).output (cotangent m c i q) := by
  refine (dats m 0 c).arrAt_eq_of_covers 6 _ (by decide +kernel) fun t hf y => ?_
  obtain ⟨-, -, -, -, -, -, -, -, -, -, -, hN⟩ := idx t
  have hy : (y 0).val < 512 := (y 0).isLt
  obtain ⟨p, q, e⟩ := stored_blocks m c t
  blk_simp
  rw [after0_6, e, wide_at (i := ⟨t.val % 16 * 512 + (y 0).val, by omega⟩) (q := ⟨t.val / 16, by omega⟩) (k := y 1) _ (Fin.ext (by simp [idx t])) (by simp [idx t])]
  exact (congrFun (pay_output _ _ _ _ _ _) y).trans (reach m c (fun G b => G.output b (y 1)) t (y 0) _ _ rfl rfl)

theorem arr_input : (dats m 0 c).arrAt 7 cfg0.N = wide fun i q => (arrays m c i q).input (cotangent m c i q) := by
  refine (dats m 0 c).arrAt_eq_of_covers 7 _ (by decide +kernel) fun t hf y => ?_
  obtain ⟨-, -, -, -, -, -, -, -, -, -, -, hN⟩ := idx t
  have hy : (y 0).val < 512 := (y 0).isLt
  obtain ⟨p, q, e⟩ := stored_blocks m c t
  blk_simp
  rw [after0_7, e, wide_at (i := ⟨t.val % 16 * 512 + (y 0).val, by omega⟩) (q := ⟨t.val / 16, by omega⟩) (k := y 1) _ (Fin.ext (by simp [idx t])) (by simp [idx t])]
  exact (congrFun (pay_input _ _ _ _ _ _) y).trans (reach m c (fun G b => G.input b (y 1)) t (y 0) _ _ rfl rfl)

theorem arr_gates : (dats m 0 c).arrAt 8 cfg0.N = wide fun i q => (arrays m c i q).gates (cotangent m c i q) := by
  refine (dats m 0 c).arrAt_eq_of_covers 8 _ (by decide +kernel) fun t hf y => ?_
  obtain ⟨-, -, -, -, -, -, -, -, -, -, -, hN⟩ := idx t
  have hy : (y 0).val < 512 := (y 0).isLt
  obtain ⟨p, q, e⟩ := stored_blocks m c t
  blk_simp
  rw [after0_8, e, wide_at (i := ⟨t.val % 16 * 512 + (y 0).val, by omega⟩) (q := ⟨t.val / 16, by omega⟩) (k := y 1) _ (Fin.ext (by simp [idx t])) (by simp [idx t])]
  exact (congrFun (pay_gates _ _ _ _ _ _) y).trans (reach m c (fun G b => G.gates b (y 1)) t (y 0) _ _ rfl rfl)

theorem arr_factor : (dats m 0 c).arrAt 9 cfg0.N = wide fun _ q k => ∑ i, (arrays m c i q).factor (cotangent m c i q) k := by
  refine (dats m 0 c).arrAt_eq_of_covers 9 _ (by decide +kernel) fun t hf y => ?_
  obtain ⟨-, -, -, -, -, -, -, -, -, -, -, hN⟩ := idx t
  have hy : ∀ y : (Mat 1 256).Idx, y = ix2 0 (y 1) := fun y => (eq_ix2 y).trans (congrArg (fun i => ix2 i (y 1)) (Subsingleton.elim _ _))
  blk_simp
  rw [after0_9, wide_at (i := 0) (q := ⟨t.val / 16, by omega⟩) (k := y 1) _ (Subsingleton.elim (α := Fin 1) _ _) (by simp [idx t])]
  refine summed (J := 16) (R := 512) rfl (fun n h => (outsAt0 m c n h).2.2.2.1) (fun t i y => (blocks m c t i).factor (row (iblk m c 5 t) i) (y 1))
    (fun t h y => ?_) (fun t h y => ?_) t ((flush0_9 t).mp hf) y _ fun x s i hl hq hm => ?_
  · refine (congrArg (fun o => o.2.2.2.1 y) (first m c t h)).trans ?_
    rw [hy y]
    exact (pay_factor _ _ _ _ _ _ _ _).trans (congrArg (· + _) (pay_zero _))
  · refine (congrArg (fun o => o.2.2.2.1 y) (next m c t h)).trans ?_
    rw [hy y]
    exact pay_factor _ _ _ _ _ _ _ _
  · exact reach m c (fun G b => G.factor b (y 1)) x i _ _ (by rw [hm]) hq.symm

theorem arr_gain : (dats m 0 c).arrAt 10 cfg0.N = wide fun _ q k => ∑ i, gain width (arrays m c i q).joined (cotangent m c i q) k := by
  refine (dats m 0 c).arrAt_eq_of_covers 10 _ (by decide +kernel) fun t hf y => ?_
  obtain ⟨-, -, -, -, -, -, -, -, -, -, -, hN⟩ := idx t
  have hy : ∀ y : (Mat 1 256).Idx, y = ix2 0 (y 1) := fun y => (eq_ix2 y).trans (congrArg (fun i => ix2 i (y 1)) (Subsingleton.elim _ _))
  blk_simp
  rw [after0_10, wide_at (i := 0) (q := ⟨t.val / 16, by omega⟩) (k := y 1) _ (Subsingleton.elim (α := Fin 1) _ _) (by simp [idx t])]
  refine summed (J := 16) (R := 512) rfl (fun n h => (outsAt0 m c n h).2.2.2.2) (fun t i y => gain width (blocks m c t i).joined (row (iblk m c 5 t) i) (y 1))
    (fun t h y => ?_) (fun t h y => ?_) t ((flush0_10 t).mp hf) y _ fun x s i hl hq hm => ?_
  · refine (congrArg (fun o => o.2.2.2.2 y) (first m c t h)).trans ?_
    rw [hy y]
    exact (pay_more _ _ _ _ _ (iblk m c 4 t) _ _).trans (congrArg (· + _) (pay_nought _))
  · refine (congrArg (fun o => o.2.2.2.2 y) (next m c t h)).trans ?_
    rw [hy y]
    exact pay_more _ _ _ _ _ (iblk m c 4 t) _ _
  · exact reach m c (fun G b => gain width G.joined b (y 1)) x i _ _ (by rw [hm]) hq.symm

end Kernel

section Reference

open Cert.GatedDxRefIdeal

variable (u v z b : (Mat 8192 2048).Idx → EReal) (d g : (Mat 1 2048).Idx → EReal)

theorem ref_joined (i : Fin 8192) (q : Fin 8) (k : Fin 256) : Read.val_main_v7 (F := Ideal) u v z d (ix3 i q k) = (ofArray u v z d g i q).joined k := by
  unfold Read.val_main_v7 Read.val_main_v6 Read.val_main_v4 Read.val_main_v3 Read.val_main_v2 Read.val_main_v1 Read.val_main_v0 Read.val_main_v5_0 Read.val_main_v5_2 Read.val_main_call0_v4
    Read.val_main_call0_v3 Read.val_main_call0_v2 Read.val_main_call0_v1 Read.val_main_call0_v0 Read.val_main_call0_cst Read.val_main_call0_cst_0
  pointwise
  rfl

theorem ref_square (i : Fin 8192) (q : Fin 8) : Read.val_main_v14 (F := Ideal) u v z d (ix3 i q 0) = square width (ofArray u v z d g i q).joined := by
  unfold square
  simp only [← ref_joined]
  unfold Read.val_main_v14 Read.val_main_v13 Read.val_main_v12 Read.val_main_v11 Read.val_main_v10 Read.val_main_v9 Read.val_main_v8 Read.val_main_cst Read.val_main_cst_0 Read.val_main_cst_1
  generalize Read.val_main_v7 (F := Ideal) u v z d = w
  pointwise

theorem ref_inner (i : Fin 8192) (q : Fin 8) (k : Fin 256) : Read.val_main_v47 (F := Ideal) u v z d g b (ix3 i q k) = (ofArray u v z d g i q).inner (part b i q) k := by
  unfold Group.inner back half
  simp only [← ref_square, ← ref_joined]
  unfold Read.val_main_v47 Read.val_main_v46 Read.val_main_v45 Read.val_main_v44 Read.val_main_v43 Read.val_main_v42 Read.val_main_v41 Read.val_main_v40 Read.val_main_v39 Read.val_main_v38
    Read.val_main_v37 Read.val_main_v36 Read.val_main_v35 Read.val_main_v34 Read.val_main_v33 Read.val_main_v30 Read.val_main_v29 Read.val_main_v23 Read.val_main_v22 Read.val_main_v18
    Read.val_main_v17 Read.val_main_v16 Read.val_main_v15 Read.val_main_cst_2 Read.val_main_cst_5 Read.val_main_cst_6 Read.val_main_cst_7
  generalize Read.val_main_v14 (F := Ideal) u v z d = s
  generalize Read.val_main_v7 (F := Ideal) u v z d = w
  pointwise
  simp only [Finset.univ_unique, Finset.sum_singleton]
  rfl

theorem ref_outer (i : Fin 8192) (q : Fin 8) (k : Fin 256) : Read.val_main_v48 (F := Ideal) u v z d g b (ix2 i (lane q k)) = (ofArray u v z d g i q).inner (part b i q) k := by
  rw [← ref_inner]
  unfold Read.val_main_v48
  generalize Read.val_main_v47 (F := Ideal) u v z d g b = w
  pointwise
  simp only [lane_div, lane_mod]

theorem ref_output (i : Fin 8192) (q : Fin 8) (k : Fin 256) : Read.val_main_v50 (F := Ideal) u v z d g b (ix2 i (lane q k)) = (ofArray u v z d g i q).output (part b i q) k := by
  unfold Group.output
  rw [← ref_outer]
  unfold Read.val_main_v50 Read.val_main_v5_0 Read.val_main_v5_2 Read.val_main_call0_v4 Read.val_main_call0_v3 Read.val_main_call0_v2 Read.val_main_call0_v1 Read.val_main_call0_v0 Read.val_main_call0_cst Read.val_main_call0_cst_0
  generalize Read.val_main_v48 (F := Ideal) u v z d g b = w
  pointwise
  rfl

theorem reference_output : Read.val_main_v50 (F := Ideal) u v z d g b = wide fun i q => (ofArray u v z d g i q).output (part b i q) := wide_ext (ref_output u v z b d g)

theorem reference_input : Read.val_main_v53 (F := Ideal) u v z d g b = wide fun i q => (ofArray u v z d g i q).input (part b i q) := by
  refine wide_ext fun i q k => ?_
  unfold Group.input
  rw [← ref_output]
  unfold Read.val_main_v53 Read.val_main_v52 Read.val_main_v1 Read.val_main_v0
  generalize Read.val_main_v50 (F := Ideal) u v z d g b = w
  pointwise
  rfl

theorem reference_gates : Read.val_main_v59 (F := Ideal) u v z d g b = wide fun i q => (ofArray u v z d g i q).gates (part b i q) := by
  refine wide_ext fun i q k => ?_
  unfold Group.gates
  rw [← ref_outer]
  unfold Read.val_main_v59 Read.val_main_v51 Read.val_main_call1_v2 Read.val_main_call1_v1 Read.val_main_call1_v0 Read.val_main_v49 Read.val_main_v4 Read.val_main_v3 Read.val_main_v2
    Read.val_main_v1 Read.val_main_v0 Read.val_main_v5_1 Read.val_main_call0_v7 Read.val_main_call0_v6 Read.val_main_call0_cst_1 Read.val_main_v5_2 Read.val_main_call0_v4 Read.val_main_call0_v3 Read.val_main_call0_v2 Read.val_main_call0_v1 Read.val_main_call0_v0 Read.val_main_call0_cst Read.val_main_call0_cst_0
  generalize Read.val_main_v48 (F := Ideal) u v z d g b = w
  pointwise
  rfl

theorem reference_factor : Read.val_main_v58 (F := Ideal) u v z d g b = wide fun _ q k => ∑ i, (ofArray u v z d g i q).factor (part b i q) k := by
  refine wide_ext fun i q k => ?_
  unfold Group.factor
  simp only [← ref_output]
  unfold Read.val_main_v58 Read.val_main_v57 Read.val_main_v56 Read.val_main_v55 Read.val_main_v54 Read.val_main_cst_8 Read.val_main_cst_9
  generalize Read.val_main_v50 (F := Ideal) u v z d g b = w
  pointwise
  simp only [Finset.univ_unique, Finset.sum_singleton]
  rfl

theorem ref_gain (i : Fin 8192) (q : Fin 8) (k : Fin 256) : Read.val_main_v26 (F := Ideal) u v z d b (ix2 i (lane q k)) = gain width (ofArray u v z d g i q).joined (part b i q) k := by
  unfold gain
  simp only [← ref_square, ← ref_joined]
  unfold Read.val_main_v26 Read.val_main_v21 Read.val_main_v20 Read.val_main_v19 Read.val_main_v15
  generalize Read.val_main_v14 (F := Ideal) u v z d = r
  generalize Read.val_main_v7 (F := Ideal) u v z d = w
  pointwise
  simp only [lane_div, lane_mod]

theorem reference_gain : Read.val_main_v32 (F := Ideal) u v z d b = wide fun _ q k => ∑ i, gain width (ofArray u v z d g i q).joined (part b i q) k := by
  refine wide_ext fun i q k => ?_
  simp only [← ref_gain]
  unfold Read.val_main_v32 Read.val_main_v31 Read.val_main_v28 Read.val_main_v27 Read.val_main_cst_3 Read.val_main_cst_4
  generalize Read.val_main_v26 (F := Ideal) u v z d b = w
  pointwise
  simp only [Finset.univ_unique, Finset.sum_singleton]

end Reference

theorem algebraic : Cert.algebraic_GatedDxIdeal_GatedDxRefIdeal (hGatedDxIdeal := Cert.GatedDxIdeal.Gen.facts) (hGatedDxRefIdeal := Cert.GatedDxRefIdeal.Gen.facts) :=
  fun m g m' g' _ hargs => agree_five (Cert.GatedDxIdeal.Value.run_blocks m g) (Cert.GatedDxRefIdeal.Value.run m' g')
    (fun c => (Cert.GatedDxRefIdeal.Read.val_main_v50_eq _ _).trans ((reference_output _ _ _ _ _ _).trans
      ((by rw [(hargs c).1, (hargs c).2.1, (hargs c).2.2.1, (hargs c).2.2.2.1, (hargs c).2.2.2.2.1, (hargs c).2.2.2.2.2] : _ = _).trans (arr_output m c).symm)))
    (fun c => (Cert.GatedDxRefIdeal.Read.val_main_v53_eq _ _).trans ((reference_input _ _ _ _ _ _).trans
      ((by rw [(hargs c).1, (hargs c).2.1, (hargs c).2.2.1, (hargs c).2.2.2.1, (hargs c).2.2.2.2.1, (hargs c).2.2.2.2.2] : _ = _).trans (arr_input m c).symm)))
    (fun c => (Cert.GatedDxRefIdeal.Read.val_main_v59_eq _ _).trans ((reference_gates _ _ _ _ _ _).trans
      ((by rw [(hargs c).1, (hargs c).2.1, (hargs c).2.2.1, (hargs c).2.2.2.1, (hargs c).2.2.2.2.1, (hargs c).2.2.2.2.2] : _ = _).trans (arr_gates m c).symm)))
    (fun c => (Cert.GatedDxRefIdeal.Read.val_main_v58_eq _ _).trans ((reference_factor _ _ _ _ _ _).trans
      ((by rw [(hargs c).1, (hargs c).2.1, (hargs c).2.2.1, (hargs c).2.2.2.1, (hargs c).2.2.2.2.1, (hargs c).2.2.2.2.2] : _ = _).trans (arr_factor m c).symm)))
    (fun c => (Cert.GatedDxRefIdeal.Read.val_main_v32_eq _ _ _ _ _).trans ((reference_gain _ _ _ _ _ (m ((c.tc : Thread Cert.GatedDxIdeal.nD Cert.GatedDxIdeal.τ).loc Cert.GatedDxIdeal.main_arg4))).trans
      ((by rw [(hargs c).1, (hargs c).2.1, (hargs c).2.2.1, (hargs c).2.2.2.1, (hargs c).2.2.2.2.2] : _ = _).trans (arr_gain m c).symm)))

end Backward

end Norm.Gated
-- ==== Proof.Norm.Key.lean ====
module

public import proofs.«01_k».proof.Proof.Norm.Basic
public import proofs.«01_k».proof.Proof.Gen.KvNormDxIdeal.Value
public import proofs.«01_k».proof.Proof.Gen.KvNormDxRefIdeal.Run
public import proofs.«01_k».proof.Proof.Gen.KvNormDxRefIdeal.Read
public import proofs.«01_k».proof.Proof.Gen.KvNormIdeal.Value
public import proofs.«01_k».proof.Proof.Gen.KvNormRefIdeal.Run
public import proofs.«01_k».proof.Proof.Gen.KvNormRefIdeal.Read
public import proofs.«01_k».proof.Defs

@[expose] public section

/-!
# The root mean square norm of the keys and values

The rows normalised are the first 256 columns of the joint projection to the low ranks. The gradient's program takes a block of 512 rows at a point: it stores the gradient of the
block (`stored_back`), and adds the block's part of the gradient of the gains to what the points before left (`first`, `next`), which the first point clears. So the two
arrays are those of all the rows (`arr_back`, `arr_gain`), and the reference's are the same (`reference_back`, `reference_gain`). The forward program (`Forward`) stores
the norm of a block at each point.
-/

set_option maxRecDepth 16384

noncomputable section

open Idealize.ShloMosaic Idealize.ShloMosaic.TcCoe Idealize.SL.Sem Product

namespace Norm.Key

/-- The length of a row, and the constant its mean square is taken over. -/
abbrev width : EReal × EReal := (Ideal.ofBits .f32 1132462080#32, Ideal.ofBits .f32 897988541#32)

/-- The columns of the joint projection that are normalised. -/
abbrev cols (x : (Mat 8192 768).Idx → EReal) (y : (Mat 8192 256).Idx) : EReal := x (ix2 (y 0) ⟨(y 1).val, Nat.lt_of_lt_of_le (y 1).isLt (by decide)⟩)

section Kernel

open Cert.KvNormDxIdeal Cert.KvNormDxIdeal.Gen

/-- The mean square of a row, as the kernel computes it. -/
theorem pay_square (x : (Mat 512 256).Idx → EReal) (i : Fin 512) : k0_pay3 (F := Ideal) x (ix2 i 0) = square width (row x i) := by
  unfold k0_pay3
  pointwise
  rfl

theorem pay_gain (x ct : (Mat 512 256).Idx → EReal) (j : Fin 256) : k0_pay5 (F := Ideal) x ct (ix2 0 j) = ∑ i, gain width (row x i) (row ct i) j := by
  refine Eq.trans ?_ (Finset.sum_congr rfl fun i _ => congrArg (fun z => x (ix2 i j) * Ideal.rsqrt z * ct (ix2 i j)) (pay_square x i))
  unfold k0_pay5 k0_pay4
  generalize k0_pay3 (F := Ideal) x = z
  pointwise

theorem pay_back (x ct : (Mat 512 256).Idx → EReal) (g : (Mat 1 256).Idx → EReal) (i : Fin 512) (j : Fin 256) :
    k0_pay6 (F := Ideal) x g ct (ix2 i j) = back width (row x i) (row g 0) (row ct i) j := by
  unfold back half
  rw [← pay_square]
  unfold k0_pay6 k0_pay4
  generalize k0_pay3 (F := Ideal) x = z
  pointwise
  simp only [Finset.univ_unique, Finset.sum_singleton]
  rfl

theorem pay_gains (x ct : (Mat 512 256).Idx → EReal) : k0_pay5 (F := Ideal) x ct = gains width x ct := row_ext (pay_gain x ct)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ t.val < 16 :=
  (by decide +kernel : ∀ t : Fin grid0.N, _)

theorem stored_back (t : Fin cfg0.N) : (outsAt0 m c t.val t.isLt).1 = backs width (iblk m c 0 t) (iblk m c 1 t) (iblk m c 2 t) := by
  refine Eq.trans ?_ (mat_ext (pay_back (iblk m c 0 t) (iblk m c 2 t) (iblk m c 1 t)))
  by_cases h : t.val % 16 = 0
  · rw [outsAt0_A m c t h]
    unfold out0_A_3 kernelRun0_A
    simp only [stored_read, Product.load]
  · rw [outsAt0_B m c t h]
    unfold out0_B_3 kernelRun0_B
    simp only [stored_read, Product.load]

theorem first (t : Fin cfg0.N) (h : t.val % 16 = 0) : (outsAt0 m c t.val t.isLt).2 = k0_pay2 (k0_pay5 (F := Ideal) (iblk m c 0 t) (iblk m c 2 t)) (k0_pay1 (F := Ideal)) := by
  rw [outsAt0_A m c t h]
  unfold out0_A_4 kernelRun0_A kernelRun0_A.sl.r kernelRun0_A.sl.v41 kernelRun0_A.sl.H4_1
  simp only [stored_read, reload, Product.load]

theorem next (t : Fin cfg0.N) (h : ¬t.val % 16 = 0) : (outsAt0 m c t.val t.isLt).2
    = k0_pay2 (k0_pay5 (F := Ideal) (iblk m c 0 t) (iblk m c 2 t)) (outsAt0 m c (t.val - 1) (Nat.lt_of_le_of_lt (Nat.sub_le _ _) t.isLt)).2 := by
  rw [outsAt0_B m c t h]
  unfold out0_B_4 kernelRun0_B kernelRun0_B.sl.r
  simp only [stored_read, Product.load]

theorem pay_add (p q : (Mat 1 256).Idx → EReal) (y : (Mat 1 256).Idx) : k0_pay2 (F := Ideal) q p y = p y + q y := by
  unfold k0_pay2
  pointwise

theorem pay_zero (y : (Mat 1 256).Idx) : k0_pay1 (F := Ideal) y = (0 : EReal) := by
  unfold k0_pay1
  pointwise

theorem arr_back : (dats m 0 c).arrAt 3 cfg0.N
    = backs width (cols (m ((c.tc : Thread nD τ).loc main_arg0))) (m ((c.tc : Thread nD τ).loc main_arg1)) (m ((c.tc : Thread nD τ).loc main_arg2)) := by
  refine (dats m 0 c).arrAt_eq_of_covers 3 _ (by decide +kernel) fun t hf y => ?_
  obtain ⟨-, -, -, -, -, hN⟩ := idx t
  blk_simp
  rw [after0_3, stored_back]
  refine backs_congr _ (fun k => ?_) (fun k => ?_) (fun k => ?_) ?_
  · blk_ext [iblk, V_main_arg0, idx t]
  · blk_ext [iblk, V_main_arg1, idx t]
  · blk_ext [iblk, V_main_arg2, idx t]
  · exact Fin.ext (by simp [idx t])

theorem arr_gain : (dats m 0 c).arrAt 4 cfg0.N
    = gains width (cols (m ((c.tc : Thread nD τ).loc main_arg0))) (m ((c.tc : Thread nD τ).loc main_arg2)) := by
  refine (dats m 0 c).arrAt_eq_of_covers 4 _ (by decide +kernel) fun t hf y => ?_
  obtain ⟨-, -, -, -, -, hN⟩ := idx t
  blk_simp
  rw [after0_4]
  refine (summed (J := 16) (R := 512) rfl (fun n h => (outsAt0 m c n h).2) (fun t r y => gain width (row (iblk m c 0 t) r) (row (iblk m c 2 t) r) (y 1))
    (fun t h y => ?_) (fun t h y => ?_) t ((flush0_4 t).mp hf) y _ fun u s r hl hq hm => ?_)
  · refine (congrFun (first m c t h) y).trans ((pay_add _ _ y).trans (congrArg₂ (fun a b : EReal => a + b) (pay_zero y) ?_))
    exact congrFun (pay_gains _ _) y
  · refine (congrFun (next m c t h) y).trans ((pay_add _ _ y).trans (congrArg (fun a : EReal => _ + a) ?_))
    exact congrFun (pay_gains _ _) y
  · have hj : ((win0_4.blk t).view.emb y) 1 = y 1 := Fin.ext (by simp [idx t])
    rw [hj]
    refine gain_congr _ (fun k => ?_) (fun k => ?_) _
    · blk_ext [iblk, V_main_arg0, idx u]
    · blk_ext [iblk, V_main_arg2, idx u]

end Kernel

section Reference
open Cert.KvNormDxRefIdeal
variable (x : (Mat 8192 768).Idx → EReal) (g : (Mat 1 256).Idx → EReal) (ct : (Mat 8192 256).Idx → EReal)

theorem ref_part (i : Fin 8192) (j : Fin 256) : Read.val_main_v0 (F := Ideal) x (ix2 i j) = cols x (ix2 i j) := by
  unfold Read.val_main_v0
  pointwise
  rfl

theorem ref_square (i : Fin 8192) : Read.val_main_v8 (F := Ideal) x (ix2 i 0) = square width (row (cols x) i) := by
  unfold Read.val_main_v8 Read.val_main_v7 Read.val_main_v6 Read.val_main_v5 Read.val_main_v4 Read.val_main_v3 Read.val_main_v2 Read.val_main_cst Read.val_main_cst_0 Read.val_main_cst_1
  pointwise
  simp only [ref_part]
  rfl

theorem ref_gain (j : Fin 256) : Read.val_main_v38 (F := Ideal) x ct (ix2 0 j) = ∑ i, gain width (row (cols x) i) (row ct i) j := by
  unfold gain
  simp only [← ref_square]
  unfold Read.val_main_v38 Read.val_main_v23 Read.val_main_v20 Read.val_main_v19 Read.val_main_v18 Read.val_main_v14 Read.val_main_v13 Read.val_main_v9 Read.val_main_cst_3 Read.val_main_cst_4
  generalize Read.val_main_v8 (F := Ideal) x = z
  pointwise
  simp only [ref_part, Finset.univ_unique, Finset.sum_singleton]

theorem ref_back (i : Fin 8192) (j : Fin 256) : Read.val_main_v39 (F := Ideal) x g ct (ix2 i j) = back width (row (cols x) i) (row g 0) (row ct i) j := by
  unfold back half
  simp only [← ref_square]
  unfold Read.val_main_v39 Read.val_main_v37 Read.val_main_v36 Read.val_main_v35 Read.val_main_v34 Read.val_main_v33 Read.val_main_v32 Read.val_main_v31 Read.val_main_v30 Read.val_main_v29 Read.val_main_v28 Read.val_main_v27 Read.val_main_v26 Read.val_main_v25 Read.val_main_v24 Read.val_main_v22 Read.val_main_v21 Read.val_main_v15 Read.val_main_v12 Read.val_main_v11 Read.val_main_v10 Read.val_main_v9 Read.val_main_v1
    Read.val_main_cst_2 Read.val_main_cst_5 Read.val_main_cst_6 Read.val_main_cst_7
  generalize Read.val_main_v8 (F := Ideal) x = z
  pointwise
  simp only [ref_part]
  simp only [Finset.univ_unique, Finset.sum_singleton]
  rfl
theorem reference_back : Read.val_main_v39 (F := Ideal) x g ct = backs width (cols x) g ct := mat_ext (ref_back x g ct)

theorem reference_gain : Read.val_main_v38 (F := Ideal) x ct = gains width (cols x) ct := row_ext (ref_gain x ct)

end Reference

theorem algebraic : Cert.algebraic_KvNormDxIdeal_KvNormDxRefIdeal (hKvNormDxIdeal := Cert.KvNormDxIdeal.Gen.facts) (hKvNormDxRefIdeal := Cert.KvNormDxRefIdeal.Gen.facts) :=
  fun m g m' g' _ hargs => agree_two (Cert.KvNormDxIdeal.Value.run_blocks m g) (Cert.KvNormDxRefIdeal.Value.run m' g')
    (fun c => (Cert.KvNormDxRefIdeal.Read.val_main_v39_eq _ _).trans ((reference_back _ _ _).trans
      ((by rw [(hargs c).1, (hargs c).2.1, (hargs c).2.2] : _ = _).trans (arr_back m c).symm)))
    (fun c => (Cert.KvNormDxRefIdeal.Read.val_main_v38_eq _ _).trans ((reference_gain _ _).trans ((by rw [(hargs c).1, (hargs c).2.2] : _ = _).trans (arr_gain m c).symm)))

namespace Forward

section Kernel

open Cert.KvNormIdeal Cert.KvNormIdeal.Gen

theorem pay (x : (Mat 512 256).Idx → EReal) (g : (Mat 1 256).Idx → EReal) : k0_pay1 (F := Ideal) x g = forths width x g := by
  refine mat_ext fun i j => ?_
  unfold k0_pay1
  pointwise
  rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 16 :=
  (by decide +kernel : ∀ t : Fin grid0.N, _)

theorem arr : (dats m 0 c).arrAt 2 cfg0.N = forths width (cols (m ((c.tc : Thread nD τ).loc main_arg0))) (m ((c.tc : Thread nD τ).loc main_arg1)) := by
  refine (dats m 0 c).arrAt_eq_of_covers 2 _ (by decide +kernel) fun t hf y => ?_
  obtain ⟨-, -, -, hN⟩ := idx t
  blk_simp
  rw [after0_2]
  unfold out0_2 r0_0 r0_1
  rw [stored]
  simp only [load_contents, pay]
  refine forths_congr _ (fun k => ?_) (fun k => ?_) (Fin.ext (by simp [idx t]))
  · blk_ext [iblk, V_main_arg0, idx t]
  · blk_ext [iblk, V_main_arg1, idx t]

end Kernel

section Reference

open Cert.KvNormRefIdeal

variable (x : (Mat 8192 768).Idx → EReal) (g : (Mat 1 256).Idx → EReal)

theorem reference : Read.val_main_v15 (F := Ideal) x g = forths width (cols x) g := by
  refine mat_ext fun i j => ?_
  unfold Read.val_main_v15 Read.val_main_v14 Read.val_main_v13 Read.val_main_v12 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst Read.val_main_cst_0 Read.val_main_cst_1
  pointwise
  rfl

end Reference

theorem algebraic : Cert.algebraic_KvNormIdeal_KvNormRefIdeal (hKvNormIdeal := Cert.KvNormIdeal.Gen.facts) (hKvNormRefIdeal := Cert.KvNormRefIdeal.Gen.facts) :=
  fun m g m' g' _ hargs => agree (Cert.KvNormIdeal.Value.run_blocks m g) (Cert.KvNormRefIdeal.Value.run m' g') fun c =>
    (Cert.KvNormRefIdeal.Read.val_main_v15_eq _ _).trans ((reference _ _).trans ((by rw [(hargs c).1, (hargs c).2] : _ = _).trans (arr m c).symm))

end Forward

end Norm.Key
-- ==== Proof.Norm.Layer.lean ====
module

public import proofs.«01_k».proof.Proof.Norm.Basic
public import proofs.«01_k».proof.Proof.Gen.LnYIdeal.Value
public import proofs.«01_k».proof.Proof.Gen.LnYRefIdeal.Run
public import proofs.«01_k».proof.Proof.Gen.LnYRefIdeal.Read
public import proofs.«01_k».proof.Proof.Gen.LnLastIdeal.Value
public import proofs.«01_k».proof.Proof.Gen.LnLastRefIdeal.Run
public import proofs.«01_k».proof.Proof.Gen.LnLastRefIdeal.Read
public import proofs.«01_k».proof.Defs

@[expose] public section

/-!
# The layer norm of a residual

Both programs take `x = α h + mix` and return `(x - mean x) (var x + ε)^(-1/2) g + b` of each row. A point does it for 512 rows (`stored_wide`, `stored_narrow`), so the blocks
are the whole array (`arr_wide`, `arr_narrow`, and `arr` of the second program). The first program returns the array in two formats, the second in one.
-/

set_option maxRecDepth 16384

noncomputable section

open Idealize.ShloMosaic Idealize.ShloMosaic.TcCoe Idealize.SL.Sem Product

namespace Norm.Layer

/-! ## The function of a row -/

/-- The length of a row. -/
abbrev width : EReal := Ideal.ofBits .f32 1149239296#32

variable {C R : ℕ}

/-- The row that is normalised: the scaled residual and what is added to it. -/
def joined (h mix : Fin C → EReal) (k : Fin C) : EReal := Ideal.ofBits .f32 1068827891#32 * h k + mix k

/-- A row less its mean. -/
def centred (a : Fin C → EReal) (k : Fin C) : EReal := a k - Ideal.div (∑ l, a l) width

/-- The variance of a row, over the small constant. -/
def spread (a : Fin C → EReal) : EReal := Ideal.div (∑ k, centred a k * centred a k) width + Ideal.ofBits .f32 925353388#32

/-- The norm of a row, with the gains and the offsets. -/
def normal (a g b : Fin C → EReal) (j : Fin C) : EReal := centred a j * Ideal.rsqrt (spread a) * g j + b j

/-- The norm of the rows. -/
def layer (h mix : (Mat R C).Idx → EReal) (g b : (Mat 1 C).Idx → EReal) (y : (Mat R C).Idx) : EReal :=
  normal (joined (row h (y 0)) (row mix (y 0))) (row g 0) (row b 0) (y 1)

theorem layer_congr {R' : ℕ} {h mix : (Mat R C).Idx → EReal} {h' mix' : (Mat R' C).Idx → EReal} {g b g' b' : (Mat 1 C).Idx → EReal} {y : (Mat R C).Idx} {y' : (Mat R' C).Idx}
    (hh : ∀ k, h (ix2 (y 0) k) = h' (ix2 (y' 0) k)) (hm : ∀ k, mix (ix2 (y 0) k) = mix' (ix2 (y' 0) k)) (hg : ∀ k, g (ix2 0 k) = g' (ix2 0 k)) (hb : ∀ k, b (ix2 0 k) = b' (ix2 0 k))
    (hj : y 1 = y' 1) : layer h mix g b y = layer h' mix' g' b' y' := by
  rw [layer, layer, show row h (y 0) = row h' (y' 0) from funext hh, show row mix (y 0) = row mix' (y' 0) from funext hm, show row g 0 = row g' 0 from funext hg,
    show row b 0 = row b' 0 from funext hb, hj]

/-! ## The norms whose result is returned in two formats -/

namespace Both

section Kernel

open Cert.LnYIdeal Cert.LnYIdeal.Gen

theorem pay (h mix : (Mat 512 1024).Idx → EReal) (g b : (Mat 1 1024).Idx → EReal) : k0_pay1 (F := Ideal) h mix g b = layer h mix g b := by
  refine mat_ext fun i j => ?_
  unfold k0_pay1
  pointwise
  rfl

variable (m : (ℓ : Loc nD τ sig) → Buf (Elt Ideal) ℓ) (c : Dev nD)

/-- The array, of the arguments. -/
abbrev result : (Mat 8192 1024).Idx → EReal :=
  layer (m ((c.tc : Thread nD τ).loc main_arg0)) (m ((c.tc : Thread nD τ).loc main_arg1)) (m ((c.tc : Thread nD τ).loc main_arg2)) (m ((c.tc : Thread nD τ).loc main_arg3))

theorem idx : ∀ t : Fin cfg0.N, win0_0.index t = ![t.val, 0] ∧ win0_1.index t = ![t.val, 0] ∧ win0_2.index t = ![0, 0] ∧ win0_3.index t = ![0, 0] ∧
    win0_4.index t = ![t.val, 0] ∧ win0_5.index t = ![t.val, 0] ∧ t.val < 16 :=
  (by decide +kernel : ∀ t : Fin grid0.N, _)

theorem stored_wide (t : Fin cfg0.N) : out0_4 (iblk m c 0 t) (iblk m c 1 t) (iblk m c 2 t) (iblk m c 3 t)
    = layer (iblk m c 0 t) (iblk m c 1 t) (iblk m c 2 t) (iblk m c 3 t) := by
  unfold out0_4 r0_0 r0_1
  rw [stored]
  simp only [load_contents, pay]

theorem stored_narrow (t : Fin cfg0.N) : out0_5 (iblk m c 0 t) (iblk m c 1 t) (iblk m c 2 t) (iblk m c 3 t)
    = layer (iblk m c 0 t) (iblk m c 1 t) (iblk m c 2 t) (iblk m c 3 t) := by
  unfold out0_5 r0_0 r0_1 k0_pay2
  rw [stored]
  simp only [load_contents, pay]
  rfl

/-- The norm of a point's blocks is the array at the places of the block. -/
theorem block (t : Fin cfg0.N) (y : (Mat 512 1024).Idx) (y' : (Mat 8192 1024).Idx) (hy : (y' 0).val = t.val * 512 + (y 0).val) (hj : y 1 = y' 1) :
    layer (iblk m c 0 t) (iblk m c 1 t) (iblk m c 2 t) (iblk m c 3 t) y = result m c y' := by
  refine layer_congr (fun k => ?_) (fun k => ?_) (fun k => ?_) (fun k => ?_) hj
  · blk_ext [iblk, V_main_arg0, idx t, hy]
  · blk_ext [iblk, V_main_arg1, idx t, hy]
  · blk_ext [iblk, V_main_arg2, idx t]
  · blk_ext [iblk, V_main_arg3, idx t]

theorem arr_wide : (dats m 0 c).arrAt 4 cfg0.N = result m c := by
  refine (dats m 0 c).arrAt_eq_of_covers 4 _ (by decide +kernel) fun t hf y => ?_
  blk_simp
  rw [after0_4, stored_wide]
  exact block m c t y _ (by simp [idx t]) (Fin.ext (by simp [idx t]))

theorem arr_narrow : (dats m 0 c).arrAt 5 cfg0.N = result m c := by
  refine (dats m 0 c).arrAt_eq_of_covers 5 _ (by decide +kernel) fun t hf y => ?_
  blk_simp
  rw [after0_5, stored_narrow]
  exact block m c t y _ (by simp [idx t]) (Fin.ext (by simp [idx t]))

end Kernel

section Reference

open Cert.LnYRefIdeal

variable (h mix : (Mat 8192 1024).Idx → EReal) (g b : (Mat 1 1024).Idx → EReal)

theorem reference : Read.val_main_v28 (F := Ideal) h mix g b = layer h mix g b := by
  refine mat_ext fun i j => ?_
  unfold Read.val_main_v28 Read.val_main_v27 Read.val_main_v26 Read.val_main_v25 Read.val_main_v24 Read.val_main_v23 Read.val_main_v22 Read.val_main_v21 Read.val_main_v20
    Read.val_main_v19 Read.val_main_v18 Read.val_main_v17 Read.val_main_v16 Read.val_main_v15 Read.val_main_v14 Read.val_main_v13 Read.val_main_v12 Read.val_main_v11
    Read.val_main_v10 Read.val_main_v9 Read.val_main_v8 Read.val_main_v7 Read.val_main_v6 Read.val_main_v5 Read.val_main_v4 Read.val_main_v3 Read.val_main_v2
    Read.val_main_v1 Read.val_main_v0 Read.val_main_cst Read.val_main_cst_0 Read.val_main_cst_1 Read.val_main_cst_2 Read.val_main_cst_3 Read.val_main_cst_4
  pointwise
  rfl

theorem reference_narrow : Read.val_main_v29 (F := Ideal) h mix g b = layer h mix g b := reference h mix g b

end Reference

theorem algebraic : Cert.algebraic_LnYIdeal_LnYRefIdeal (hLnYIdeal := Cert.LnYIdeal.Gen.facts) (hLnYRefIdeal := Cert.LnYRefIdeal.Gen.facts) :=
  fun m g m' g' _ hargs => agree_two (Cert.LnYIdeal.Value.run_blocks m g) (Cert.LnYRefIdeal.Value.run m' g')
    (fun c => (Cert.LnYRefIdeal.Read.val_main_v28_eq _ _ _ _).trans ((reference _ _ _ _).trans
      ((by rw [(hargs c).1, (hargs c).2.1, (hargs c).2.2.1, (hargs c).2.2.2] : _ = _).trans (arr_wide m c).symm)))
    (fun c => (Cert.LnYRefIdeal.Read.val_main_v29_eq _ _ _ _).trans ((reference_narrow _ _ _ _).trans
      ((by rw [(hargs c).1, (hargs c).2.1, (hargs c).2.2.1, (hargs c).2.2.2] : _ = _).trans (arr_narrow m c).symm)))

end Both

/-! ## The last norm -/

namespace Last

section Kernel

open Cert.LnLastIdeal Cert.LnLastIdeal.Gen

theorem pay (h mix : (Mat 512 1024).Idx → EReal) (g b : (Mat 1 1024).Idx → EReal) : k0_pay1 (F := Ideal) h mix g b = layer h mix g b :=
  Both.pay h mix g b

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0] ∧
    win0_4.index t = ![t.val, 0] ∧ t.val < 16 :=
  (by decide +kernel : ∀ t : Fin grid0.N, _)

theorem arr : (dats m 0 c).arrAt 4 cfg0.N = layer (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 4 _ (by decide +kernel) fun t hf y => ?_
  blk_simp
  rw [after0_4]
  unfold out0_4 r0_0 r0_1
  rw [stored]
  simp only [load_contents, pay]
  refine layer_congr (fun k => ?_) (fun k => ?_) (fun k => ?_) (fun k => ?_) (Fin.ext (by simp [idx t]))
  · blk_ext [iblk, V_main_arg0, idx t]
  · blk_ext [iblk, V_main_arg1, idx t]
  · blk_ext [iblk, V_main_arg2, idx t]
  · blk_ext [iblk, V_main_arg3, idx t]

end Kernel

theorem reference (h mix : (Mat 8192 1024).Idx → EReal) (g b : (Mat 1 1024).Idx → EReal) : Cert.LnLastRefIdeal.Read.val_main_v28 (F := Ideal) h mix g b = layer h mix g b :=
  Both.reference h mix g b

theorem algebraic : Cert.algebraic_LnLastIdeal_LnLastRefIdeal (hLnLastIdeal := Cert.LnLastIdeal.Gen.facts) (hLnLastRefIdeal := Cert.LnLastRefIdeal.Gen.facts) :=
  fun m g m' g' _ hargs => agree (Cert.LnLastIdeal.Value.run_blocks m g) (Cert.LnLastRefIdeal.Value.run m' g') fun c =>
    (Cert.LnLastRefIdeal.Read.val_main_v28_eq _ _ _ _).trans ((reference _ _ _ _).trans
      ((by rw [(hargs c).1, (hargs c).2.1, (hargs c).2.2.1, (hargs c).2.2.2] : _ = _).trans (arr m c).symm))

end Last

end Norm.Layer
-- ==== Proof.Rotary.lean ====
module

public import proofs.«01_k».proof.Proof.Norm.Basic
public import proofs.«01_k».proof.Proof.Gen.TurnIdeal.Value
public import proofs.«01_k».proof.Proof.Gen.TurnRefIdeal.Run
public import proofs.«01_k».proof.Proof.Gen.TurnRefIdeal.Read
public import proofs.«01_k».proof.Proof.Gen.TurnDxIdeal.Value
public import proofs.«01_k».proof.Proof.Gen.TurnDxRefIdeal.Run
public import proofs.«01_k».proof.Proof.Gen.TurnDxRefIdeal.Read
public import proofs.«01_k».proof.Defs

@[expose] public section

/-!
# The rotary embedding

A head has 64 lanes, the first half of which is turned against the second by the angles of the token: lane `k` of the first half becomes `a k c - a (k + 32) s`, lane `k` of the
second `a k c + a (k - 32) s` (`turn`). The gradient turns back (`back`). The programs take two heads at a time, 128 lanes, with the tables of `c` and `s` repeated along them
(`tiled`), and reach the other half by two rotations of the lanes, of which each lane selects one. The references split each head in its halves.
-/

set_option maxRecDepth 16384

noncomputable section

open Idealize.ShloMosaic Idealize.ShloMosaic.TcCoe Idealize.SL.Sem Product Norm

namespace Rotary

/-! ## The function of a row -/

variable {C : ℕ}

/-- The lane of the other half of the head. -/
def partner (k : Fin C) : Fin C := ⟨if k.val % 64 < 32 then (k.val + 32) % C else k.val - 32, by have := k.isLt; split <;> [exact Nat.mod_lt _ (by omega); omega]⟩

theorem partner_first {k : Fin C} (h : k.val % 64 < 32) : (partner k).val = (k.val + 32) % C := if_pos h

theorem partner_second {k : Fin C} (h : ¬k.val % 64 < 32) : (partner k).val = k.val - 32 := if_neg h

/-- A row turned, each head by the cosines `c` and the sines `s`. -/
def turn (a c s : Fin C → EReal) (k : Fin C) : EReal :=
  if k.val % 64 < 32 then a k * c k - a (partner k) * s k else a k * c k + a (partner k) * s k

/-- A row turned back. -/
def back (a c s : Fin C → EReal) (k : Fin C) : EReal :=
  if k.val % 64 < 32 then a (partner k) * s (partner k) + a k * c k else a k * c k - a (partner k) * s (partner k)

theorem turn_congr {C' : ℕ} {a c s : Fin C → EReal} {a' c' s' : Fin C' → EReal} {k : Fin C} {k' : Fin C'} (hk : k.val % 64 = k'.val % 64) (ha : a k = a' k')
    (hp : a (partner k) = a' (partner k')) (hc : c k = c' k') (hs : s k = s' k') : turn a c s k = turn a' c' s' k' := by
  rw [turn, turn, hk, ha, hp, hc, hs]

theorem back_congr {C' : ℕ} {a c s : Fin C → EReal} {a' c' s' : Fin C' → EReal} {k : Fin C} {k' : Fin C'} (hk : k.val % 64 = k'.val % 64) (ha : a k = a' k')
    (hp : a (partner k) = a' (partner k')) (hc : c k = c' k') (hs : s (partner k) = s' (partner k')) : back a c s k = back a' c' s' k' := by
  rw [back, back, hk, ha, hp, hc, hs]

/-- A table of 32 angles repeated along a row. -/
abbrev around (w : (Mat 8192 32).Idx → EReal) (i : Fin 8192) (k : Fin C) : EReal := w (ix2 i ⟨k.val % 32, Nat.mod_lt _ (by decide)⟩)

/-- The rows turned. -/
def turns (x : (Mat 8192 512).Idx → EReal) (c s : (Mat 8192 32).Idx → EReal) (y : (Mat 8192 512).Idx) : EReal := turn (row x (y 0)) (around c (y 0)) (around s (y 0)) (y 1)

/-- The rows turned back. -/
def backs (x : (Mat 8192 512).Idx → EReal) (c s : (Mat 8192 32).Idx → EReal) (y : (Mat 8192 512).Idx) : EReal := back (row x (y 0)) (around c (y 0)) (around s (y 0)) (y 1)

/-- The partner of a lane of a block of two heads is the partner of the lane in the row. -/
theorem partner_block (j : Fin 128) (k : Fin 512) (q : ℕ) (hk : k.val = q * 128 + j.val) : (partner k).val = q * 128 + (partner j).val := by
  have hj := j.isLt
  have hq := k.isLt
  have hm : k.val % 64 = j.val % 64 := by omega
  by_cases h : j.val % 64 < 32
  · rw [partner_first h, partner_first (hm ▸ h)]; omega
  · rw [partner_second h, partner_second (hm ▸ h)]; omega

/-- The remainder of a lane by 64, as the programs compute it. -/
def within (n : ℕ) : BitVec 32 :=
  let d : BitVec 32 := Scalar.select (Scalar.cmpi .eq 64#32 0#32) 1#32 64#32
  let r := IntOp.remsi ArithUnit.vector (BitVec.ofNat 32 n) d
  Scalar.select (IntOp.andi (IntOp.xori (IntOp.cmpi .slt r 0#32) (Scalar.cmpi .slt d 0#32)) (IntOp.cmpi .ne r 0#32)) (IntOp.addi r d) r

/-- The programs' choice of a rotation is by the half of the head. -/
theorem half (j : Fin 128) (u v : EReal) : Scalar.select (IntOp.cmpi .slt (within j.val) 32#32) u v = if j.val % 64 < 32 then u else v := by
  have h : ∀ j : Fin 128, IntOp.cmpi .slt (within j.val) 32#32 = if j.val % 64 < 32 then 1#1 else 0#1 := by decide +kernel
  rw [h]
  split <;> rfl

/-- A lane rotated by `n`. -/
abbrev rolled (n : ℕ) (j : Fin 128) : Fin 128 := ⟨(j.val + 128 - n) % 128, Nat.mod_lt _ (by decide)⟩

/-- A row turned, as the programs compute it. -/
def spun (x c s : (Mat 512 128).Idx → EReal) (i : Fin 512) (j : Fin 128) : EReal :=
  x (ix2 i j) * c (ix2 i j) + Scalar.select (IntOp.cmpi .slt (within j.val) 32#32) (0 - x (ix2 i (rolled 96 j))) (x (ix2 i (rolled 32 j))) * s (ix2 i j)

theorem spun_eq (x c s : (Mat 512 128).Idx → EReal) (i : Fin 512) (j : Fin 128) : spun x c s i j = turn (row x i) (row c i) (row s i) j := by
  have hj := j.isLt
  rw [spun, half]
  by_cases h : j.val % 64 < 32
  · rw [turn, if_pos h, if_pos h, zero_sub, EReal.neg_mul, ← sub_eq_add_neg]
    exact congrArg₂ (· - ·) rfl (congrArg₂ (· * ·) (at_eq _ _ (by rw [partner_first h]; show (j.val + 128 - 96) % 128 = (j.val + 32) % 128; omega)) rfl)
  · rw [turn, if_neg h, if_neg h]
    exact congrArg₂ (· + ·) rfl (congrArg₂ (· * ·) (at_eq _ _ (by rw [partner_second h]; show (j.val + 128 - 32) % 128 = j.val - 32; omega)) rfl)

/-- A row turned back, as the programs compute it. -/
def unspun (x c s : (Mat 512 128).Idx → EReal) (i : Fin 512) (j : Fin 128) : EReal :=
  0 - Scalar.select (IntOp.cmpi .slt (within j.val) 32#32) (0 - x (ix2 i (rolled 96 j)) * s (ix2 i (rolled 96 j))) (x (ix2 i (rolled 32 j)) * s (ix2 i (rolled 32 j)))
    + x (ix2 i j) * c (ix2 i j)

theorem unspun_eq (x c s : (Mat 512 128).Idx → EReal) (i : Fin 512) (j : Fin 128) : unspun x c s i j = back (row x i) (row c i) (row s i) j := by
  have hj := j.isLt
  rw [unspun, half]
  by_cases h : j.val % 64 < 32
  · have hp : (j.val + 128 - 96) % 128 = (partner j).val := by rw [partner_first h]; omega
    rw [back, if_pos h, if_pos h, zero_sub, zero_sub, neg_neg]
    exact congrArg₂ (· + ·) (congrArg₂ (· * ·) (at_eq _ _ hp) (at_eq _ _ hp)) rfl
  · have hp : (j.val + 128 - 32) % 128 = (partner j).val := by rw [partner_second h]; omega
    rw [back, if_neg h, if_neg h, zero_sub, add_comm, ← sub_eq_add_neg]
    exact congrArg₂ (· - ·) rfl (congrArg₂ (· * ·) (at_eq _ _ hp) (at_eq _ _ hp))

open Cert.TurnIdeal Cert.TurnIdeal.Gen in
/-- A table repeated along the lanes. -/
def tiled (w : (Mat 8192 32).Idx → EReal) : (Mat 8192 128).Idx → EReal :=
  shapeCast S8192x128 (broadcastInDim S1x8192x4x32 ![0, 1, 2, 3] bcast_S1x8192x1x32_S1x8192x4x32_0_1_2_3
    (shapeCast S1x8192x1x32 (w : FVec Ideal S8192x32 .f32) shapeCasts_S8192x32_S1x8192x1x32)) shapeCasts_S1x8192x4x32_S8192x128

open Cert.TurnIdeal Cert.TurnIdeal.Gen in
theorem tiled_apply (w : (Mat 8192 32).Idx → EReal) (i : Fin 8192) (j : Fin 128) : tiled w (ix2 i j) = w (ix2 i ⟨j.val % 32, Nat.mod_lt _ (by decide)⟩) := by
  unfold tiled
  pointwise

/-! ## The embedding -/

namespace Forward

section Kernel

open Cert.TurnIdeal Cert.TurnIdeal.Gen

theorem pay (x c s : (Mat 512 128).Idx → EReal) (i : Fin 512) (j : Fin 128) : k0_pay1 (F := Ideal) x c s (ix2 i j) = turn (row x i) (row c i) (row s i) j := by
  refine Eq.trans ?_ (spun_eq x c s i j)
  unfold k0_pay1 spun
  pointwise
  rfl

variable (m : (ℓ : Loc nD τ sig) → Buf (Elt Ideal) ℓ) (c : Dev nD)

theorem V_cos : V m c main_v2 = tiled (m ((c.tc : Thread nD τ).loc main_arg1)) := by
  unfold V hostOps0
  after_results_simp
  rfl

theorem V_sin : V m c main_v5 = tiled (m ((c.tc : Thread nD τ).loc main_arg2)) := by
  unfold V hostOps0
  after_results_simp
  rfl

theorem idx : ∀ t : Fin cfg0.N, win0_0.index t = ![t.val / 4, t.val % 4] ∧ win0_1.index t = ![t.val / 4, 0] ∧ win0_2.index t = ![t.val / 4, 0] ∧
    win0_3.index t = ![t.val / 4, t.val % 4] ∧ t.val < 64 :=
  (by decide +kernel : ∀ t : Fin grid0.N, _)

/-- A point's blocks turned are the array at the places of the block. -/
theorem block (t : Fin cfg0.N) (i : Fin 512) (j : Fin 128) (y : (Mat 8192 512).Idx) (h0 : (y 0).val = t.val / 4 * 512 + i.val) (h1 : (y 1).val = t.val % 4 * 128 + j.val) :
    turn (row (iblk m c 0 t) i) (row (iblk m c 1 t) i) (row (iblk m c 2 t) i) j
      = turns (m ((c.tc : Thread nD τ).loc main_arg0)) (m ((c.tc : Thread nD τ).loc main_arg1)) (m ((c.tc : Thread nD τ).loc main_arg2)) y := by
  have hp := partner_block j (y 1) _ h1
  have hl : j.val % 32 = (y 1).val % 32 := by omega
  refine turn_congr (by omega) ?_ ?_ ?_ ?_
  · show iblk m c 0 t (ix2 i j) = m ((c.tc : Thread nD τ).loc main_arg0) (ix2 (y 0) (y 1))
    blk_ext [iblk, V_main_arg0, idx t, h0, h1]
  · show iblk m c 0 t (ix2 i (partner j)) = m ((c.tc : Thread nD τ).loc main_arg0) (ix2 (y 0) (partner (y 1)))
    blk_ext [iblk, V_main_arg0, idx t, h0, hp]
  · refine Eq.trans (b := tiled (m ((c.tc : Thread nD τ).loc main_arg1)) (ix2 (y 0) j)) ?_ ((tiled_apply _ _ _).trans (at_eq _ _ hl))
    rw [← V_cos]
    show iblk m c 1 t (ix2 i j) = _
    blk_ext [iblk, idx t, h0]
  · refine Eq.trans (b := tiled (m ((c.tc : Thread nD τ).loc main_arg2)) (ix2 (y 0) j)) ?_ ((tiled_apply _ _ _).trans (at_eq _ _ hl))
    rw [← V_sin]
    show iblk m c 2 t (ix2 i j) = _
    blk_ext [iblk, idx t, h0]

theorem arr : (dats m 0 c).arrAt 3 cfg0.N
    = turns (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold out0_3 r0_0
  rw [stored]
  simp only [load_contents]
  refine (congrArg _ (eq_ix2 y)).trans ((pay _ _ _ _ _).trans (block m c t _ _ _ ?_ ?_))
  · simp [idx t]
  · simp [idx t]

end Kernel

section Reference

open Cert.TurnRefIdeal

variable (x : (Mat 8192 512).Idx → EReal) (c s : (Mat 8192 32).Idx → EReal)

theorem reference : Read.val_main_v17 (F := Ideal) x c s = turns x c s := by
  refine mat_ext fun i j => ?_
  rw [Read.val_main_v17_apply]
  unfold Read.val_main_v16 Read.val_main_v15 Read.val_main_v14 Read.val_main_v13 Read.val_main_v12 Read.val_main_v11 Read.val_main_v10 Read.val_main_v9 Read.val_main_v8 Read.val_main_v7
    Read.val_main_v6 Read.val_main_v5 Read.val_main_v4 Read.val_main_v3 Read.val_main_v2 Read.val_main_v1 Read.val_main_v0
  pointwise
  have hj := j.isLt
  unfold turns turn
  by_cases h : j.val % 64 < 32
  · rw [dif_pos h]
    refine Eq.trans ?_ (if_pos h).symm
    refine congrArg₂ (· - ·) (congrArg₂ (· * ·) rfl (at_eq _ _ ?_)) (congrArg₂ (· * ·) (at_eq _ _ ?_) (at_eq _ _ ?_))
    · show j.val % 64 = j.val % 32; omega
    · refine Eq.trans ?_ (partner_first h).symm; show j.val / 64 * 64 + (32 + j.val % 64) = (j.val + 32) % 512; omega
    · show j.val % 64 = j.val % 32; omega
  · rw [dif_neg h]
    refine Eq.trans ?_ (if_neg h).symm
    refine congrArg₂ (· + ·) (congrArg₂ (· * ·) (at_eq _ _ ?_) (at_eq _ _ ?_)) (congrArg₂ (· * ·) (at_eq _ _ ?_) (at_eq _ _ ?_))
    · show j.val / 64 * 64 + (32 + (j.val % 64 - 32)) = j.val; omega
    · show j.val % 64 - 32 = j.val % 32; omega
    · refine Eq.trans ?_ (partner_second h).symm; show j.val / 64 * 64 + (j.val % 64 - 32) = j.val - 32; omega
    · show j.val % 64 - 32 = j.val % 32; omega

end Reference

theorem algebraic : Cert.algebraic_TurnIdeal_TurnRefIdeal (hTurnIdeal := Cert.TurnIdeal.Gen.facts) (hTurnRefIdeal := Cert.TurnRefIdeal.Gen.facts) :=
  fun m g m' g' _ hargs => agree (Cert.TurnIdeal.Value.run_blocks m g) (Cert.TurnRefIdeal.Value.run m' g') fun c =>
    (Cert.TurnRefIdeal.Read.val_main_v17_eq _ _ _).trans ((reference _ _ _).trans ((by rw [(hargs c).1, (hargs c).2.1, (hargs c).2.2] : _ = _).trans (arr m c).symm))

end Forward

/-! ## Its gradient -/

namespace Backward

section Kernel

open Cert.TurnDxIdeal Cert.TurnDxIdeal.Gen

theorem pay (c s ct : (Mat 512 128).Idx → EReal) (i : Fin 512) (j : Fin 128) : k0_pay1 (F := Ideal) c s ct (ix2 i j) = back (row ct i) (row c i) (row s i) j := by
  refine Eq.trans ?_ (unspun_eq ct c s i j)
  unfold k0_pay1 unspun
  pointwise
  rfl

variable (m : (ℓ : Loc nD τ sig) → Buf (Elt Ideal) ℓ) (c : Dev nD)

theorem V_cos : V m c main_v2 = tiled (m ((c.tc : Thread nD τ).loc main_arg1)) := by
  unfold V hostOps0
  after_results_simp
  rfl

theorem V_sin : V m c main_v5 = tiled (m ((c.tc : Thread nD τ).loc main_arg2)) := by
  unfold V hostOps0
  after_results_simp
  rfl

theorem idx : ∀ t : Fin cfg0.N, win0_1.index t = ![t.val / 4, 0] ∧ win0_2.index t = ![t.val / 4, 0] ∧ win0_3.index t = ![t.val / 4, t.val % 4] ∧
    win0_4.index t = ![t.val / 4, t.val % 4] ∧ t.val < 64 :=
  (by decide +kernel : ∀ t : Fin grid0.N, _)

/-- A point's blocks turned back are the array at the places of the block. -/
theorem block (t : Fin cfg0.N) (i : Fin 512) (j : Fin 128) (y : (Mat 8192 512).Idx) (h0 : (y 0).val = t.val / 4 * 512 + i.val) (h1 : (y 1).val = t.val % 4 * 128 + j.val) :
    back (row (iblk m c 3 t) i) (row (iblk m c 1 t) i) (row (iblk m c 2 t) i) j
      = backs (m ((c.tc : Thread nD τ).loc main_arg3)) (m ((c.tc : Thread nD τ).loc main_arg1)) (m ((c.tc : Thread nD τ).loc main_arg2)) y := by
  have hp := partner_block j (y 1) _ h1
  refine back_congr (by omega) ?_ ?_ ?_ ?_
  · show iblk m c 3 t (ix2 i j) = m ((c.tc : Thread nD τ).loc main_arg3) (ix2 (y 0) (y 1))
    blk_ext [iblk, V_main_arg3, idx t, h0, h1]
  · show iblk m c 3 t (ix2 i (partner j)) = m ((c.tc : Thread nD τ).loc main_arg3) (ix2 (y 0) (partner (y 1)))
    blk_ext [iblk, V_main_arg3, idx t, h0, hp]
  · refine Eq.trans (b := tiled (m ((c.tc : Thread nD τ).loc main_arg1)) (ix2 (y 0) j)) ?_
      ((tiled_apply _ _ _).trans (at_eq _ _ (by show j.val % 32 = (y 1).val % 32; omega)))
    rw [← V_cos]
    show iblk m c 1 t (ix2 i j) = _
    blk_ext [iblk, idx t, h0]
  · refine Eq.trans (b := tiled (m ((c.tc : Thread nD τ).loc main_arg2)) (ix2 (y 0) (partner j))) ?_
      ((tiled_apply _ _ _).trans (at_eq _ _ (by show (partner j).val % 32 = (partner (C := 512) (y 1)).val % 32; rw [hp]; omega)))
    rw [← V_sin]
    show iblk m c 2 t (ix2 i (partner j)) = _
    blk_ext [iblk, idx t, h0]

theorem arr : (dats m 0 c).arrAt 4 cfg0.N
    = backs (m ((c.tc : Thread nD τ).loc main_arg3)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold out0_4 r0_0
  rw [stored]
  simp only [load_contents]
  refine (congrArg _ (eq_ix2 y)).trans ((pay _ _ _ _ _).trans (block m c t _ _ _ ?_ ?_))
  · simp [idx t]
  · simp [idx t]

end Kernel

section Reference

open Cert.TurnDxRefIdeal

variable (ct : (Mat 8192 512).Idx → EReal) (c s : (Mat 8192 32).Idx → EReal)

theorem reference : Read.val_main_v33 (F := Ideal) c s ct = backs ct c s := by
  refine mat_ext fun i j => ?_
  rw [Read.val_main_v33_apply]
  unfold Read.val_main_v32 Read.val_main_v31 Read.val_main_v30 Read.val_main_v29 Read.val_main_v28 Read.val_main_v27 Read.val_main_v26 Read.val_main_v25 Read.val_main_v24
    Read.val_main_v23 Read.val_main_v22 Read.val_main_v21 Read.val_main_v20 Read.val_main_v19 Read.val_main_v18 Read.val_main_v17 Read.val_main_v2 Read.val_main_v1
  pointwise
  have hj := j.isLt
  unfold backs back
  by_cases h : j.val % 64 < 32
  · rw [dif_pos h]
    refine Eq.trans ?_ (if_pos h).symm
    have hp : (j.val + 32) % 512 = (partner j).val := (partner_first h).symm
    refine congrArg₂ (· + ·) (congrArg₂ (· * ·) (at_eq _ _ ?_) (at_eq _ _ ?_)) (congrArg₂ (· * ·) rfl (at_eq _ _ ?_))
    · show j.val / 64 * 64 + (32 + j.val % 64) = (partner j).val; omega
    · show j.val % 64 = (partner j).val % 32; omega
    · show j.val % 64 = j.val % 32; omega
  · rw [dif_neg h]
    refine Eq.trans ?_ (if_neg h).symm
    have hp : j.val - 32 = (partner j).val := (partner_second h).symm
    rw [EReal.neg_mul, ← sub_eq_add_neg]
    refine congrArg₂ (· - ·) (congrArg₂ (· * ·) (at_eq _ _ ?_) (at_eq _ _ ?_)) (congrArg₂ (· * ·) (at_eq _ _ ?_) (at_eq _ _ ?_))
    · show j.val / 64 * 64 + (32 + (j.val % 64 - 32)) = j.val; omega
    · show j.val % 64 - 32 = j.val % 32; omega
    · show j.val / 64 * 64 + (j.val % 64 - 32) = (partner j).val; omega
    · show j.val % 64 - 32 = (partner j).val % 32; omega

end Reference

theorem algebraic : Cert.algebraic_TurnDxIdeal_TurnDxRefIdeal (hTurnDxIdeal := Cert.TurnDxIdeal.Gen.facts) (hTurnDxRefIdeal := Cert.TurnDxRefIdeal.Gen.facts) :=
  fun m g m' g' _ hargs => agree (Cert.TurnDxIdeal.Value.run_blocks m g) (Cert.TurnDxRefIdeal.Value.run m' g') fun c =>
    (Cert.TurnDxRefIdeal.Read.val_main_v33_eq _ _ _).trans ((reference _ _ _).trans ((by rw [(hargs c).2.1, (hargs c).2.2.1, (hargs c).2.2.2] : _ = _).trans (arr m c).symm))

end Backward

end Rotary
-- ==== Proof.KeyRotary.lean ====
module

public import proofs.«01_k».proof.Proof.Rotary
public import proofs.«01_k».proof.Proof.Gen.KeyTurnIdeal.Value
public import proofs.«01_k».proof.Proof.Gen.KeyTurnRefIdeal.Run
public import proofs.«01_k».proof.Proof.Gen.KeyTurnRefIdeal.Read
public import proofs.«01_k».proof.Proof.Gen.KeyTurnDxIdeal.Value
public import proofs.«01_k».proof.Proof.Gen.KeyTurnDxRefIdeal.Run
public import proofs.«01_k».proof.Proof.Gen.KeyTurnDxRefIdeal.Read
public import proofs.«01_k».proof.Defs

@[expose] public section

/-!
# The rotary embedding of the keys

The keys' rotary part is one head for all heads of the queries. The programs take it in a window of two heads, the second of which is zero (`padded`), turn both and add to each
the other, so that both become the turned head (`turn_twice`). The gradient adds the gradients of the two copies and turns back, in both halves of the window again.
-/

set_option maxRecDepth 16384

noncomputable section

open Idealize.ShloMosaic Idealize.ShloMosaic.TcCoe Idealize.SL.Sem Product Norm

namespace Rotary.Key

/-! ## The function of a row -/

/-- The lane of the head at a lane of the window. -/
abbrev lane (k : Fin 128) : Fin 64 := ⟨k.val % 64, Nat.mod_lt _ (by decide)⟩

/-- The keys' rotary part of a row of the projection. -/
abbrev head (x : (Mat 8192 320).Idx → EReal) (i : Fin 8192) (k : Fin 64) : EReal := x (ix2 i ⟨256 + k.val, Nat.add_lt_add_left k.isLt 256⟩)

/-- The gradients of the two copies of the head, added. -/
abbrev both (ct : (Mat 8192 128).Idx → EReal) (i : Fin 8192) (k : Fin 64) : EReal :=
  ct (ix2 i ⟨k.val, Nat.lt_trans k.isLt (by decide)⟩) + ct (ix2 i ⟨64 + k.val, Nat.add_lt_add_left k.isLt 64⟩)

/-- The head turned, twice. -/
def turns (x : (Mat 8192 320).Idx → EReal) (c s : (Mat 8192 32).Idx → EReal) (y : (Mat 8192 128).Idx) : EReal :=
  turn (head x (y 0)) (around c (y 0)) (around s (y 0)) (lane (y 1))

/-- The gradient of the head, twice. -/
def backs (ct : (Mat 8192 128).Idx → EReal) (c s : (Mat 8192 32).Idx → EReal) (y : (Mat 8192 128).Idx) : EReal :=
  back (both ct (y 0)) (around c (y 0)) (around s (y 0)) (lane (y 1))

theorem partner_lane (k : Fin 128) : (partner k).val % 64 = (partner (lane k)).val := by
  have hk := k.isLt
  have hl : (lane k).val % 64 = k.val % 64 := Nat.mod_mod _ _
  by_cases h : k.val % 64 < 32
  · rw [partner_first h, partner_first (hl.symm ▸ h)]; show (k.val + 32) % 128 % 64 = (k.val % 64 + 32) % 64; omega
  · rw [partner_second h, partner_second (hl.symm ▸ h)]; show (k.val - 32) % 64 = k.val % 64 - 32; omega

theorem partner_same (k : Fin 128) : (partner k).val / 64 = k.val / 64 := by
  have hk := k.isLt
  by_cases h : k.val % 64 < 32
  · rw [partner_first h]; omega
  · rw [partner_second h]; omega

/-- A row that is zero at a lane and at its partner stays zero there. -/
theorem turn_zero {a c s : Fin 128 → EReal} {k : Fin 128} (h : a k = 0) (hp : a (partner k) = 0) : turn a c s k = 0 := by
  rw [turn, h, hp, zero_mul, zero_mul, sub_zero, add_zero, ite_self]

/-- A head turned beside a zero head, each of the two added to the other. -/
theorem turn_twice {z c s : Fin 128 → EReal} {a c' s' : Fin 64 → EReal} (hz : ∀ k, z k = if k.val < 64 then a (lane k) else 0) (hc : ∀ k, c k = c' (lane k))
    (hs : ∀ k, s k = s' (lane k)) (k : Fin 128) : turn z c s k + turn z c s (rolled 64 k) = turn a c' s' (lane k) := by
  have hk := k.isLt
  have first : ∀ l : Fin 128, l.val < 64 → turn z c s l = turn a c' s' (lane l) := fun l hl => by
    have hp : (partner l).val < 64 := by have := partner_same l; omega
    refine turn_congr (Nat.mod_mod _ _).symm ((hz l).trans (if_pos hl)) (((hz _).trans (if_pos hp)).trans (congrArg a (Fin.ext (partner_lane l)))) (hc l) (hs l)
  have second : ∀ l : Fin 128, ¬l.val < 64 → turn z c s l = 0 := fun l hl => by
    have hp : ¬(partner l).val < 64 := by have := partner_same l; omega
    exact turn_zero ((hz l).trans (if_neg hl)) ((hz _).trans (if_neg hp))
  by_cases h : k.val < 64
  · rw [first k h, second (rolled 64 k) (by show ¬(k.val + 128 - 64) % 128 < 64; omega), add_zero]
  · rw [second k h, first (rolled 64 k) (by show (k.val + 128 - 64) % 128 < 64; omega), zero_add]
    exact congrArg _ (Fin.ext (by show (k.val + 128 - 64) % 128 % 64 = k.val % 64; omega))

/-- An array of the head put twice beside itself is the head at the lane of either copy. -/
theorem copies (f : Fin 64 → EReal) (k : Fin 128) :
    (if h : k.val < 64 then f ⟨k.val, h⟩ else f ⟨k.val - 64, by have := k.isLt; omega⟩) = f (lane k) := by
  have hk := k.isLt
  split <;> exact congrArg f (Fin.ext (by simp only [lane]; omega))

theorem both_lane (ct : (Mat 8192 128).Idx → EReal) (i : Fin 8192) (k : Fin 128) : ct (ix2 i k) + ct (ix2 i (rolled 64 k)) = both ct i (lane k) := by
  have hk := k.isLt
  by_cases h : k.val < 64
  · exact congrArg₂ (· + ·) (at_eq _ _ (by show k.val = k.val % 64; omega)) (at_eq _ _ (by show (k.val + 128 - 64) % 128 = 64 + k.val % 64; omega))
  · rw [add_comm]
    exact congrArg₂ (· + ·) (at_eq _ _ (by show (k.val + 128 - 64) % 128 = k.val % 64; omega)) (at_eq _ _ (by show k.val = 64 + k.val % 64; omega))

open Cert.KeyTurnIdeal Cert.KeyTurnIdeal.Gen in
/-- The projection with zeros after the keys' rotary part. -/
def padded (x : (Mat 8192 320).Idx → EReal) : (Mat 8192 768).Idx → EReal :=
  concatenate S8192x768 1 [⟨S8192x320, (x : FVec Ideal S8192x320 .f32)⟩,
    ⟨S8192x448, broadcastInDim S8192x448 ![] bcast_S_S8192x448 (constant S_ .f32 0x00000000#32 : FVec Ideal S_ .f32)⟩] concatenates_S8192x320_S8192x448_S8192x768_d1

open Cert.KeyTurnIdeal Cert.KeyTurnIdeal.Gen in
theorem padded_apply (x : (Mat 8192 320).Idx → EReal) (i : Fin 8192) (k : Fin 128) :
    padded x (ix2 i ⟨256 + k.val, by have := k.isLt; omega⟩) = if k.val < 64 then head x i (lane k) else 0 := by
  have hk := k.isLt
  unfold padded
  pointwise
  by_cases h : k.val < 64
  · rw [if_pos h, dif_pos (show 256 + k.val < 320 by omega)]
    exact at_eq _ _ (by show 256 + k.val = 256 + k.val % 64; omega)
  · rw [if_neg h, dif_neg (show ¬256 + k.val < 320 by omega)]

theorem tiled_lane (w : (Mat 8192 32).Idx → EReal) (i : Fin 8192) (k : Fin 128) : tiled w (ix2 i k) = around w i (lane k) :=
  (tiled_apply w i k).trans (at_eq _ _ (by show k.val % 32 = k.val % 64 % 32; omega))

/-! ## The embedding -/

namespace Forward

section Kernel

open Cert.KeyTurnIdeal Cert.KeyTurnIdeal.Gen

theorem pay (x c s : (Mat 512 128).Idx → EReal) (i : Fin 512) (j : Fin 128) :
    k0_pay1 (F := Ideal) x c s (ix2 i j) = turn (row x i) (row c i) (row s i) j + turn (row x i) (row c i) (row s i) (rolled 64 j) := by
  rw [← spun_eq, ← spun_eq]
  unfold k0_pay1 spun
  pointwise
  rfl

variable (m : (ℓ : Loc nD τ sig) → Buf (Elt Ideal) ℓ) (c : Dev nD)

theorem V_window : V m c main_v1 = padded (m ((c.tc : Thread nD τ).loc main_arg0)) := by
  unfold V hostOps0
  after_results_simp
  rfl

theorem V_cos : V m c main_v4 = tiled (m ((c.tc : Thread nD τ).loc main_arg1)) := by
  unfold V hostOps0
  after_results_simp
  rfl

theorem V_sin : V m c main_v7 = tiled (m ((c.tc : Thread nD τ).loc main_arg2)) := by
  unfold V hostOps0
  after_results_simp
  rfl

theorem idx : ∀ t : Fin cfg0.N, win0_0.index t = ![t.val, 2] ∧ win0_1.index t = ![t.val, 0] ∧ win0_2.index t = ![t.val, 0] ∧ win0_3.index t = ![t.val, 0] ∧ t.val < 16 :=
  (by decide +kernel : ∀ t : Fin grid0.N, _)

/-- A point's blocks turned are the array at the places of the block. -/
theorem block (t : Fin cfg0.N) (i : Fin 512) (j : Fin 128) (y : (Mat 8192 128).Idx) (h0 : (y 0).val = t.val * 512 + i.val) (h1 : (y 1).val = j.val) :
    turn (row (iblk m c 0 t) i) (row (iblk m c 1 t) i) (row (iblk m c 2 t) i) j + turn (row (iblk m c 0 t) i) (row (iblk m c 1 t) i) (row (iblk m c 2 t) i) (rolled 64 j)
      = turns (m ((c.tc : Thread nD τ).loc main_arg0)) (m ((c.tc : Thread nD τ).loc main_arg1)) (m ((c.tc : Thread nD τ).loc main_arg2)) y := by
  refine (turn_twice (a := head (m ((c.tc : Thread nD τ).loc main_arg0)) (y 0)) (c' := around (m ((c.tc : Thread nD τ).loc main_arg1)) (y 0))
    (s' := around (m ((c.tc : Thread nD τ).loc main_arg2)) (y 0)) (fun k => ?_) (fun k => ?_) (fun k => ?_) j).trans
    (congrArg (turn _ _ _) (Fin.ext (by show j.val % 64 = (y 1).val % 64; rw [h1])))
  · refine Eq.trans ?_ (padded_apply _ _ _)
    rw [← V_window]
    show iblk m c 0 t (ix2 i k) = _
    blk_ext [iblk, idx t, h0]
  · refine Eq.trans (b := tiled (m ((c.tc : Thread nD τ).loc main_arg1)) (ix2 (y 0) k)) ?_ (tiled_lane _ _ _)
    rw [← V_cos]
    show iblk m c 1 t (ix2 i k) = _
    blk_ext [iblk, idx t, h0]
  · refine Eq.trans (b := tiled (m ((c.tc : Thread nD τ).loc main_arg2)) (ix2 (y 0) k)) ?_ (tiled_lane _ _ _)
    rw [← V_sin]
    show iblk m c 2 t (ix2 i k) = _
    blk_ext [iblk, idx t, h0]

theorem arr : (dats m 0 c).arrAt 3 cfg0.N
    = turns (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold out0_3 r0_0
  rw [stored]
  simp only [load_contents]
  refine (congrArg _ (eq_ix2 y)).trans ((pay _ _ _ _ _).trans (block m c t _ _ _ ?_ ?_))
  · simp [idx t]
  · simp [idx t]

end Kernel

section Reference

open Cert.KeyTurnRefIdeal

variable (x : (Mat 8192 320).Idx → EReal) (c s : (Mat 8192 32).Idx → EReal)

theorem once : Read.val_main_v9 (F := Ideal) x c s = fun y : (Mat 8192 64).Idx => turn (head x (y 0)) (around c (y 0)) (around s (y 0)) (y 1) := by
  refine mat_ext fun i j => ?_
  unfold Read.val_main_v9 Read.val_main_v8 Read.val_main_v7 Read.val_main_v6 Read.val_main_v5 Read.val_main_v4 Read.val_main_v3 Read.val_main_v2 Read.val_main_v1 Read.val_main_v0
  pointwise
  have hj := j.isLt
  unfold turn
  by_cases h : j.val % 64 < 32
  · rw [dif_pos (show j.val < 32 by omega)]
    refine Eq.trans ?_ (if_pos h).symm
    have hp : (j.val + 32) % 64 = (partner j).val := (partner_first h).symm
    refine congrArg₂ (· - ·) (congrArg₂ (· * ·) rfl (at_eq _ _ ?_)) (congrArg₂ (· * ·) (at_eq _ _ ?_) (at_eq _ _ ?_))
    · show j.val = j.val % 32; omega
    · show 256 + (32 + j.val) = 256 + (partner j).val; omega
    · show j.val = j.val % 32; omega
  · rw [dif_neg (show ¬j.val < 32 by omega)]
    refine Eq.trans ?_ (if_neg h).symm
    have hp : j.val - 32 = (partner j).val := (partner_second h).symm
    refine congrArg₂ (· + ·) (congrArg₂ (· * ·) (at_eq _ _ ?_) (at_eq _ _ ?_)) (congrArg₂ (· * ·) (at_eq _ _ ?_) (at_eq _ _ ?_))
    · show 256 + (32 + (j.val - 32)) = 256 + j.val; omega
    · show j.val - 32 = j.val % 32; omega
    · show 256 + (j.val - 32) = 256 + (partner j).val; omega
    · show j.val - 32 = j.val % 32; omega

theorem reference : Read.val_main_v11 (F := Ideal) x c s = turns x c s := by
  refine mat_ext fun i j => ?_
  rw [Read.val_main_v11_apply]
  unfold Read.val_main_v10
  rw [once]
  pointwise
  exact copies _ j

end Reference

theorem algebraic : Cert.algebraic_KeyTurnIdeal_KeyTurnRefIdeal (hKeyTurnIdeal := Cert.KeyTurnIdeal.Gen.facts) (hKeyTurnRefIdeal := Cert.KeyTurnRefIdeal.Gen.facts) :=
  fun m g m' g' _ hargs => agree (Cert.KeyTurnIdeal.Value.run_blocks m g) (Cert.KeyTurnRefIdeal.Value.run m' g') fun c =>
    (Cert.KeyTurnRefIdeal.Read.val_main_v11_eq _ _ _).trans ((reference _ _ _).trans ((by rw [(hargs c).1, (hargs c).2.1, (hargs c).2.2] : _ = _).trans (arr m c).symm))

end Forward

/-! ## Its gradient -/

namespace Backward

section Kernel

open Cert.KeyTurnDxIdeal Cert.KeyTurnDxIdeal.Gen

theorem pay (c s ct : (Mat 512 128).Idx → EReal) (i : Fin 512) (j : Fin 128) :
    k0_pay1 (F := Ideal) c s ct (ix2 i j) = back (fun k => ct (ix2 i k) + ct (ix2 i (rolled 64 k))) (row c i) (row s i) j := by
  refine Eq.trans ?_ (unspun_eq (fun y => ct y + ct (ix2 (y 0) (rolled 64 (y 1)))) c s i j)
  unfold k0_pay1 unspun
  pointwise
  rfl

variable (m : (ℓ : Loc nD τ sig) → Buf (Elt Ideal) ℓ) (c : Dev nD)

theorem V_cos : V m c main_v4 = tiled (m ((c.tc : Thread nD τ).loc main_arg1)) := by
  unfold V hostOps0
  after_results_simp
  rfl

theorem V_sin : V m c main_v7 = tiled (m ((c.tc : Thread nD τ).loc main_arg2)) := by
  unfold V hostOps0
  after_results_simp
  rfl

theorem idx : ∀ t : Fin cfg0.N, win0_1.index t = ![t.val, 0] ∧ win0_2.index t = ![t.val, 0] ∧ win0_3.index t = ![t.val, 0] ∧ win0_4.index t = ![t.val, 0] ∧ t.val < 16 :=
  (by decide +kernel : ∀ t : Fin grid0.N, _)

/-- A point's blocks turned back are the array at the places of the block. -/
theorem block (t : Fin cfg0.N) (i : Fin 512) (j : Fin 128) (y : (Mat 8192 128).Idx) (h0 : (y 0).val = t.val * 512 + i.val) (h1 : (y 1).val = j.val) :
    back (fun k => row (iblk m c 3 t) i k + row (iblk m c 3 t) i (rolled 64 k)) (row (iblk m c 1 t) i) (row (iblk m c 2 t) i) j
      = backs (m ((c.tc : Thread nD τ).loc main_arg3)) (m ((c.tc : Thread nD τ).loc main_arg1)) (m ((c.tc : Thread nD τ).loc main_arg2)) y := by
  have hl : lane j = lane (y 1) := Fin.ext (by show j.val % 64 = (y 1).val % 64; rw [h1])
  have sum : ∀ k, row (iblk m c 3 t) i k + row (iblk m c 3 t) i (rolled 64 k) = both (m ((c.tc : Thread nD τ).loc main_arg3)) (y 0) (lane k) := fun k => by
    refine Eq.trans (congrArg₂ (· + ·) ?_ ?_) (both_lane _ _ _)
    · show iblk m c 3 t (ix2 i k) = m ((c.tc : Thread nD τ).loc main_arg3) (ix2 (y 0) k)
      blk_ext [iblk, V_main_arg3, idx t, h0]
    · show iblk m c 3 t (ix2 i (rolled 64 k)) = m ((c.tc : Thread nD τ).loc main_arg3) (ix2 (y 0) (rolled 64 k))
      blk_ext [iblk, V_main_arg3, idx t, h0]
  have cos : ∀ k, row (iblk m c 1 t) i k = around (m ((c.tc : Thread nD τ).loc main_arg1)) (y 0) (lane k) := fun k => by
    refine Eq.trans (b := tiled (m ((c.tc : Thread nD τ).loc main_arg1)) (ix2 (y 0) k)) ?_ (tiled_lane _ _ _)
    rw [← V_cos]
    show iblk m c 1 t (ix2 i k) = _
    blk_ext [iblk, idx t, h0]
  have sin : ∀ k, row (iblk m c 2 t) i k = around (m ((c.tc : Thread nD τ).loc main_arg2)) (y 0) (lane k) := fun k => by
    refine Eq.trans (b := tiled (m ((c.tc : Thread nD τ).loc main_arg2)) (ix2 (y 0) k)) ?_ (tiled_lane _ _ _)
    rw [← V_sin]
    show iblk m c 2 t (ix2 i k) = _
    blk_ext [iblk, idx t, h0]
  have hp : lane (partner j) = partner (lane j) := Fin.ext (partner_lane j)
  refine Eq.trans ?_ (congrArg (back _ _ _) hl)
  exact back_congr (Nat.mod_mod _ _).symm (sum j) ((sum _).trans (congrArg _ hp)) (cos j) ((sin _).trans (congrArg _ hp))

theorem arr : (dats m 0 c).arrAt 4 cfg0.N
    = backs (m ((c.tc : Thread nD τ).loc main_arg3)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold out0_4 r0_0
  rw [stored]
  simp only [load_contents]
  refine (congrArg _ (eq_ix2 y)).trans ((pay _ _ _ _ _).trans (block m c t _ _ _ ?_ ?_))
  · simp [idx t]
  · simp [idx t]

end Kernel

section Reference

open Cert.KeyTurnDxRefIdeal

variable (ct : (Mat 8192 128).Idx → EReal) (c s : (Mat 8192 32).Idx → EReal)

theorem once : Read.val_main_v23 (F := Ideal) c s ct = fun y : (Mat 8192 64).Idx => back (both ct (y 0)) (around c (y 0)) (around s (y 0)) (y 1) := by
  refine mat_ext fun i j => ?_
  unfold Read.val_main_v23 Read.val_main_v22 Read.val_main_v21 Read.val_main_v20 Read.val_main_v19 Read.val_main_v18 Read.val_main_v17 Read.val_main_v16 Read.val_main_v15
    Read.val_main_v14 Read.val_main_v13 Read.val_main_v12 Read.val_main_v11
  pointwise
  have hj := j.isLt
  have sum : ∀ (k : Fin 64) (n : ℕ) (hn : n < 128) (hn' : 64 + n < 128), n = k.val → ct (ix2 i ⟨n, hn⟩) + ct (ix2 i ⟨64 + n, hn'⟩) = both ct i k := by
    rintro k _ _ _ rfl
    rfl
  unfold back
  by_cases h : j.val % 64 < 32
  · rw [dif_pos (show j.val < 32 by omega)]
    refine Eq.trans ?_ (if_pos h).symm
    have hp : (j.val + 32) % 64 = (partner j).val := (partner_first h).symm
    refine congrArg₂ (· + ·) (congrArg₂ (· * ·) (sum _ _ _ _ (by omega)) (at_eq _ _ ?_)) (congrArg₂ (· * ·) (sum _ _ _ _ rfl) (at_eq _ _ ?_))
    · show j.val = (partner j).val % 32; omega
    · show j.val = j.val % 32; omega
  · rw [dif_neg (show ¬j.val < 32 by omega)]
    refine Eq.trans ?_ (if_neg h).symm
    have hp : j.val - 32 = (partner j).val := (partner_second h).symm
    rw [EReal.neg_mul, ← sub_eq_add_neg]
    refine congrArg₂ (· - ·) (congrArg₂ (· * ·) (sum _ _ _ _ (by omega)) (at_eq _ _ ?_)) (congrArg₂ (· * ·) (sum _ _ _ _ hp) (at_eq _ _ ?_))
    · show j.val - 32 = j.val % 32; omega
    · show j.val - 32 = (partner j).val % 32; omega

theorem reference : Read.val_main_v25 (F := Ideal) c s ct = backs ct c s := by
  refine mat_ext fun i j => ?_
  rw [Read.val_main_v25_apply]
  unfold Read.val_main_v24
  rw [once]
  pointwise
  exact copies _ j

end Reference

theorem algebraic : Cert.algebraic_KeyTurnDxIdeal_KeyTurnDxRefIdeal (hKeyTurnDxIdeal := Cert.KeyTurnDxIdeal.Gen.facts) (hKeyTurnDxRefIdeal := Cert.KeyTurnDxRefIdeal.Gen.facts) :=
  fun m g m' g' _ hargs => agree (Cert.KeyTurnDxIdeal.Value.run_blocks m g) (Cert.KeyTurnDxRefIdeal.Value.run m' g') fun c =>
    (Cert.KeyTurnDxRefIdeal.Read.val_main_v25_eq _ _ _).trans ((reference _ _ _).trans ((by rw [(hargs c).2.1, (hargs c).2.2.1, (hargs c).2.2.2] : _ = _).trans (arr m c).symm))

end Backward

end Rotary.Key
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Attn.Value
public import proofs.«01_k».proof.Proof.Bits.Frame
public import proofs.«01_k».proof.Proof.Product.Forward
public import proofs.«01_k».proof.Proof.Product.InputGradient
public import proofs.«01_k».proof.Proof.Product.AddedGradient
public import proofs.«01_k».proof.Proof.Product.WeightGradient
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.AttnOutDw
public import proofs.«01_k».proof.Proof.Gen.AttnOutDw.Frame
public import proofs.«01_k».proof.Proof.Gen.AttnOutDwIdeal
public import proofs.«01_k».proof.Proof.Gen.AttnOutDwIdeal.Frame
public import proofs.«01_k».proof.Proof.Gen.AttnOutDwIdeal.Value
public import proofs.«01_k».proof.Proof.Gen.AttnOutDwRefIdeal
public import proofs.«01_k».proof.Proof.Gen.AttnOutDwRefIdeal.Run
public import proofs.«01_k».proof.Proof.Gen.AttnOutDwRefIdeal.Read
public import proofs.«01_k».proof.Proof.Gen.AttnOutDx
public import proofs.«01_k».proof.Proof.Gen.AttnOutDx.Frame
public import proofs.«01_k».proof.Proof.Gen.AttnOutDxIdeal
public import proofs.«01_k».proof.Proof.Gen.AttnOutDxIdeal.Frame
public import proofs.«01_k».proof.Proof.Gen.AttnOutDxIdeal.Value
public import proofs.«01_k».proof.Proof.Gen.AttnOutDxRefIdeal
public import proofs.«01_k».proof.Proof.Gen.AttnOutDxRefIdeal.Run
public import proofs.«01_k».proof.Proof.Gen.AttnOutDxRefIdeal.Read
public import proofs.«01_k».proof.Proof.Gen.InBDx
public import proofs.«01_k».proof.Proof.Gen.InBDx.Frame
public import proofs.«01_k».proof.Proof.Gen.InBDxIdeal
public import proofs.«01_k».proof.Proof.Gen.InBDxIdeal.Frame
public import proofs.«01_k».proof.Proof.Gen.InBDxIdeal.Value
public import proofs.«01_k».proof.Proof.Gen.InBDxRefIdeal
public import proofs.«01_k».proof.Proof.Gen.InBDxRefIdeal.Run
public import proofs.«01_k».proof.Proof.Gen.InBDxRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.AttnOutRefIdeal.Read
public import proofs.«01_k».proof.Proof.Gen.KvqDw
public import proofs.«01_k».proof.Proof.Gen.KvqDw.Frame
public import proofs.«01_k».proof.Proof.Gen.KvqDwIdeal
public import proofs.«01_k».proof.Proof.Gen.KvqDwIdeal.Frame
public import proofs.«01_k».proof.Proof.Gen.KvqDwIdeal.Value
public import proofs.«01_k».proof.Proof.Gen.KvqDwRefIdeal
public import proofs.«01_k».proof.Proof.Gen.KvqDwRefIdeal.Run
public import proofs.«01_k».proof.Proof.Gen.KvqDwRefIdeal.Read
public import proofs.«01_k».proof.Proof.Gen.QDw
public import proofs.«01_k».proof.Proof.Gen.QDw.Frame
public import proofs.«01_k».proof.Proof.Gen.QDwIdeal
public import proofs.«01_k».proof.Proof.Gen.QDwIdeal.Frame
public import proofs.«01_k».proof.Proof.Gen.QDwIdeal.Value
public import proofs.«01_k».proof.Proof.Gen.QDwRefIdeal
public import proofs.«01_k».proof.Proof.Gen.QDwRefIdeal.Run
public import proofs.«01_k».proof.Proof.Gen.QDwRefIdeal.Read
public import proofs.«01_k».proof.Proof.Gen.RopeDw
public import proofs.«01_k».proof.Proof.Gen.RopeDw.Frame
public import proofs.«01_k».proof.Proof.Gen.RopeDwIdeal
public import proofs.«01_k».proof.Proof.Gen.RopeDwIdeal.Frame
public import proofs.«01_k».proof.Proof.Gen.RopeDwIdeal.Value
public import proofs.«01_k».proof.Proof.Gen.RopeDwRefIdeal
public import proofs.«01_k».proof.Proof.Gen.RopeDwRefIdeal.Run
public import proofs.«01_k».proof.Proof.Gen.RopeDwRefIdeal.Read
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.Gen.DtDw
public import proofs.«01_k».proof.Proof.Gen.DtDw.Frame
public import proofs.«01_k».proof.Proof.Gen.DtDwIdeal
public import proofs.«01_k».proof.Proof.Gen.DtDwIdeal.Frame
public import proofs.«01_k».proof.Proof.Gen.DtDwIdeal.Value
public import proofs.«01_k».proof.Proof.Gen.DtDwRefIdeal
public import proofs.«01_k».proof.Proof.Gen.DtDwRefIdeal.Run
public import proofs.«01_k».proof.Proof.Gen.DtDwRefIdeal.Read
public import proofs.«01_k».proof.Proof.Gen.QDx
public import proofs.«01_k».proof.Proof.Gen.QDx.Frame
public import proofs.«01_k».proof.Proof.Gen.QDxIdeal
public import proofs.«01_k».proof.Proof.Gen.QDxIdeal.Frame
public import proofs.«01_k».proof.Proof.Gen.QDxIdeal.Value
public import proofs.«01_k».proof.Proof.Gen.QDxRefIdeal
public import proofs.«01_k».proof.Proof.Gen.QDxRefIdeal.Run
public import proofs.«01_k».proof.Proof.Gen.QDxRefIdeal.Read
public import proofs.«01_k».proof.Proof.Gen.KDx
public import proofs.«01_k».proof.Proof.Gen.KDx.Frame
public import proofs.«01_k».proof.Proof.Gen.KDxIdeal
public import proofs.«01_k».proof.Proof.Gen.KDxIdeal.Frame
public import proofs.«01_k».proof.Proof.Gen.KDxIdeal.Value
public import proofs.«01_k».proof.Proof.Gen.KDxRefIdeal
public import proofs.«01_k».proof.Proof.Gen.KDxRefIdeal.Run
public import proofs.«01_k».proof.Proof.Gen.KDxRefIdeal.Read
public import proofs.«01_k».proof.Proof.Gen.RopeDx
public import proofs.«01_k».proof.Proof.Gen.RopeDx.Frame
public import proofs.«01_k».proof.Proof.Gen.RopeDxIdeal
public import proofs.«01_k».proof.Proof.Gen.RopeDxIdeal.Frame
public import proofs.«01_k».proof.Proof.Gen.RopeDxIdeal.Value
public import proofs.«01_k».proof.Proof.Gen.RopeDxRefIdeal
public import proofs.«01_k».proof.Proof.Gen.RopeDxRefIdeal.Run
public import proofs.«01_k».proof.Proof.Gen.RopeDxRefIdeal.Read
public import proofs.«01_k».proof.Proof.Gen.VDx
public import proofs.«01_k».proof.Proof.Gen.VDx.Frame
public import proofs.«01_k».proof.Proof.Gen.VDxIdeal
public import proofs.«01_k».proof.Proof.Gen.VDxIdeal.Frame
public import proofs.«01_k».proof.Proof.Gen.VDxIdeal.Value
public import proofs.«01_k».proof.Proof.Gen.VDxRefIdeal
public import proofs.«01_k».proof.Proof.Gen.VDxRefIdeal.Run
public import proofs.«01_k».proof.Proof.Gen.VDxRefIdeal.Read
public import proofs.«01_k».proof.Proof.Gen.KvqDx
public import proofs.«01_k».proof.Proof.Gen.KvqDx.Frame
public import proofs.«01_k».proof.Proof.Gen.KvqDxIdeal
public import proofs.«01_k».proof.Proof.Gen.KvqDxIdeal.Frame
public import proofs.«01_k».proof.Proof.Gen.KvqDxIdeal.Value
public import proofs.«01_k».proof.Proof.Gen.KvqDxRefIdeal
public import proofs.«01_k».proof.Proof.Gen.KvqDxRefIdeal.Run
public import proofs.«01_k».proof.Proof.Gen.KvqDxRefIdeal.Read
public import proofs.«01_k».proof.Proof.Gen.DtDx
public import proofs.«01_k».proof.Proof.Gen.DtDx.Frame
public import proofs.«01_k».proof.Proof.Gen.DtDxIdeal
public import proofs.«01_k».proof.Proof.Gen.DtDxIdeal.Frame
public import proofs.«01_k».proof.Proof.Gen.DtDxIdeal.Value
public import proofs.«01_k».proof.Proof.Gen.DtDxRefIdeal
public import proofs.«01_k».proof.Proof.Gen.DtDxRefIdeal.Run
public import proofs.«01_k».proof.Proof.Gen.DtDxRefIdeal.Read
public import proofs.«01_k».proof.Proof.Gen.Kvq
public import proofs.«01_k».proof.Proof.Gen.Kvq.Frame
public import proofs.«01_k».proof.Proof.Gen.KvqIdeal
public import proofs.«01_k».proof.Proof.Gen.KvqIdeal.Frame
public import proofs.«01_k».proof.Proof.Gen.KvqIdeal.Value
public import proofs.«01_k».proof.Proof.Gen.KvqRefIdeal
public import proofs.«01_k».proof.Proof.Gen.KvqRefIdeal.Run
public import proofs.«01_k».proof.Proof.Gen.KvqRefIdeal.Read
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Dt
public import proofs.«01_k».proof.Proof.Gen.Dt.Frame
public import proofs.«01_k».proof.Proof.Gen.DtIdeal
public import proofs.«01_k».proof.Proof.Gen.DtIdeal.Frame
public import proofs.«01_k».proof.Proof.Gen.DtIdeal.Value
public import proofs.«01_k».proof.Proof.Gen.DtRefIdeal
public import proofs.«01_k».proof.Proof.Gen.DtRefIdeal.Run
public import proofs.«01_k».proof.Proof.Gen.DtRefIdeal.Read
public import proofs.«01_k».proof.Proof.Gen.Q
public import proofs.«01_k».proof.Proof.Gen.Q.Frame
public import proofs.«01_k».proof.Proof.Gen.QIdeal
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.QRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Turn
public import proofs.«01_k».proof.Proof.Gen.Turn.Frame
public import proofs.«01_k».proof.Proof.Gen.TurnIdeal
public import proofs.«01_k».proof.Proof.Gen.TurnIdeal.Frame
public import proofs.«01_k».proof.Proof.Gen.TurnIdeal.Value
public import proofs.«01_k».proof.Proof.Gen.TurnRefIdeal
public import proofs.«01_k».proof.Proof.Gen.TurnRefIdeal.Run
public import proofs.«01_k».proof.Proof.Gen.TurnRefIdeal.Read
public import proofs.«01_k».proof.Proof.Gen.TurnDx
public import proofs.«01_k».proof.Proof.Gen.TurnDx.Frame
public import proofs.«01_k».proof.Proof.Gen.TurnDxIdeal
public import proofs.«01_k».proof.Proof.Gen.TurnDxIdeal.Frame
public import proofs.«01_k».proof.Proof.Gen.TurnDxIdeal.Value
public import proofs.«01_k».proof.Proof.Gen.TurnDxRefIdeal
public import proofs.«01_k».proof.Proof.Gen.TurnDxRefIdeal.Run
public import proofs.«01_k».proof.Proof.Gen.TurnDxRefIdeal.Read
public import proofs.«01_k».proof.Proof.Gen.KeyTurn
public import proofs.«01_k».proof.Proof.Gen.KeyTurn.Frame
public import proofs.«01_k».proof.Proof.Gen.KeyTurnIdeal
public import proofs.«01_k».proof.Proof.Gen.KeyTurnIdeal.Frame
public import proofs.«01_k».proof.Proof.Gen.KeyTurnIdeal.Value
public import proofs.«01_k».proof.Proof.Gen.KeyTurnRefIdeal
public import proofs.«01_k».proof.Proof.Gen.KeyTurnRefIdeal.Run
public import proofs.«01_k».proof.Proof.Gen.KeyTurnRefIdeal.Read
public import proofs.«01_k».proof.Proof.Gen.KeyTurnDx
public import proofs.«01_k».proof.Proof.Gen.KeyTurnDx.Frame
public import proofs.«01_k».proof.Proof.Gen.KeyTurnDxIdeal
public import proofs.«01_k».proof.Proof.Gen.KeyTurnDxIdeal.Frame
public import proofs.«01_k».proof.Proof.Gen.KeyTurnDxIdeal.Value
public import proofs.«01_k».proof.Proof.Gen.KeyTurnDxRefIdeal
public import proofs.«01_k».proof.Proof.Gen.KeyTurnDxRefIdeal.Run
public import proofs.«01_k».proof.Proof.Gen.KeyTurnDxRefIdeal.Read
public import proofs.«01_k».proof.Proof.Gen.QNormDx
public import proofs.«01_k».proof.Proof.Gen.QNormDx.Frame
public import proofs.«01_k».proof.Proof.Gen.QNormDxIdeal
public import proofs.«01_k».proof.Proof.Gen.QNormDxIdeal.Frame
public import proofs.«01_k».proof.Proof.Gen.QNormDxIdeal.Value
public import proofs.«01_k».proof.Proof.Gen.QNormDxRefIdeal
public import proofs.«01_k».proof.Proof.Gen.QNormDxRefIdeal.Run
public import proofs.«01_k».proof.Proof.Gen.QNormDxRefIdeal.Read
public import proofs.«01_k».proof.Proof.Gen.KvNormDx
public import proofs.«01_k».proof.Proof.Gen.KvNormDx.Frame
public import proofs.«01_k».proof.Proof.Gen.KvNormDxIdeal
public import proofs.«01_k».proof.Proof.Gen.KvNormDxIdeal.Frame
public import proofs.«01_k».proof.Proof.Gen.KvNormDxIdeal.Value
public import proofs.«01_k».proof.Proof.Gen.KvNormDxRefIdeal
public import proofs.«01_k».proof.Proof.Gen.KvNormDxRefIdeal.Run
public import proofs.«01_k».proof.Proof.Gen.KvNormDxRefIdeal.Read
public import proofs.«01_k».proof.Proof.Gen.QNorm
public import proofs.«01_k».proof.Proof.Gen.QNorm.Frame
public import proofs.«01_k».proof.Proof.Gen.QNormIdeal
public import proofs.«01_k».proof.Proof.Gen.QNormIdeal.Frame
public import proofs.«01_k».proof.Proof.Gen.QNormIdeal.Value
public import proofs.«01_k».proof.Proof.Gen.QNormRefIdeal
public import proofs.«01_k».proof.Proof.Gen.QNormRefIdeal.Run
public import proofs.«01_k».proof.Proof.Gen.QNormRefIdeal.Read
public import proofs.«01_k».proof.Proof.Gen.KvNorm
public import proofs.«01_k».proof.Proof.Gen.KvNorm.Frame
public import proofs.«01_k».proof.Proof.Gen.KvNormIdeal
public import proofs.«01_k».proof.Proof.Gen.KvNormIdeal.Frame
public import proofs.«01_k».proof.Proof.Gen.KvNormIdeal.Value
public import proofs.«01_k».proof.Proof.Gen.KvNormRefIdeal
public import proofs.«01_k».proof.Proof.Gen.KvNormRefIdeal.Run
public import proofs.«01_k».proof.Proof.Gen.KvNormRefIdeal.Read
public import proofs.«01_k».proof.Proof.Gen.LnY
public import proofs.«01_k».proof.Proof.Gen.LnY.Frame
public import proofs.«01_k».proof.Proof.Gen.LnYIdeal
public import proofs.«01_k».proof.Proof.Gen.LnYIdeal.Frame
public import proofs.«01_k».proof.Proof.Gen.LnYIdeal.Value
public import proofs.«01_k».proof.Proof.Gen.LnYRefIdeal
public import proofs.«01_k».proof.Proof.Gen.LnYRefIdeal.Run
public import proofs.«01_k».proof.Proof.Gen.LnYRefIdeal.Read
public import proofs.«01_k».proof.Proof.Gen.LnLast
public import proofs.«01_k».proof.Proof.Gen.LnLast.Frame
public import proofs.«01_k».proof.Proof.Gen.LnLastIdeal
public import proofs.«01_k».proof.Proof.Gen.LnLastIdeal.Frame
public import proofs.«01_k».proof.Proof.Gen.LnLastIdeal.Value
public import proofs.«01_k».proof.Proof.Gen.LnLastRefIdeal
public import proofs.«01_k».proof.Proof.Gen.LnLastRefIdeal.Run
public import proofs.«01_k».proof.Proof.Gen.LnLastRefIdeal.Read
public import proofs.«01_k».proof.Proof.Gen.Gated
public import proofs.«01_k».proof.Proof.Gen.Gated.Frame
public import proofs.«01_k».proof.Proof.Gen.GatedIdeal
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.Gen.GatedDx
public import proofs.«01_k».proof.Proof.Gen.GatedDx.Frame
public import proofs.«01_k».proof.Proof.Gen.GatedDxIdeal
public import proofs.«01_k».proof.Proof.Gen.GatedDxIdeal.Frame
public import proofs.«01_k».proof.Proof.Gen.GatedDxIdeal.Value
public import proofs.«01_k».proof.Proof.Gen.GatedDxRefIdeal
public import proofs.«01_k».proof.Proof.Gen.GatedDxRefIdeal.Run
public import proofs.«01_k».proof.Proof.Gen.GatedDxRefIdeal.Read
public import proofs.«01_k».proof.Proof.Norm.Query
public import proofs.«01_k».proof.Proof.Norm.Gated
public import proofs.«01_k».proof.Proof.Norm.Key
public import proofs.«01_k».proof.Proof.Norm.Layer
public import proofs.«01_k».proof.Proof.Rotary
public import proofs.«01_k».proof.Proof.KeyRotary
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.AttnOutDw.Gen.facts, Cert.AttnOutDwIdeal.Gen.facts, Cert.AttnOutDwRefIdeal.Gen.facts,
  Cert.AttnOutDx.Gen.facts, Cert.AttnOutDxIdeal.Gen.facts, Cert.AttnOutDxRefIdeal.Gen.facts,
  Cert.InBDx.Gen.facts, Cert.InBDxIdeal.Gen.facts, Cert.InBDxRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.AttnOut.Gen.facts, Cert.AttnOutIdeal.Gen.facts, Cert.AttnOutRefIdeal.Gen.facts,
  Cert.KvqDw.Gen.facts, Cert.KvqDwIdeal.Gen.facts, Cert.KvqDwRefIdeal.Gen.facts,
  Cert.QDw.Gen.facts, Cert.QDwIdeal.Gen.facts, Cert.QDwRefIdeal.Gen.facts,
  Cert.RopeDw.Gen.facts, Cert.RopeDwIdeal.Gen.facts, Cert.RopeDwRefIdeal.Gen.facts,
  Cert.KvDw.Gen.facts, Cert.KvDwIdeal.Gen.facts, Cert.KvDwRefIdeal.Gen.facts,
  Cert.DtDw.Gen.facts, Cert.DtDwIdeal.Gen.facts, Cert.DtDwRefIdeal.Gen.facts,
  Cert.QDx.Gen.facts, Cert.QDxIdeal.Gen.facts, Cert.QDxRefIdeal.Gen.facts,
  Cert.KDx.Gen.facts, Cert.KDxIdeal.Gen.facts, Cert.KDxRefIdeal.Gen.facts,
  Cert.RopeDx.Gen.facts, Cert.RopeDxIdeal.Gen.facts, Cert.RopeDxRefIdeal.Gen.facts,
  Cert.VDx.Gen.facts, Cert.VDxIdeal.Gen.facts, Cert.VDxRefIdeal.Gen.facts,
  Cert.KvqDx.Gen.facts, Cert.KvqDxIdeal.Gen.facts, Cert.KvqDxRefIdeal.Gen.facts,
  Cert.DtDx.Gen.facts, Cert.DtDxIdeal.Gen.facts, Cert.DtDxRefIdeal.Gen.facts,
  Cert.Kvq.Gen.facts, Cert.KvqIdeal.Gen.facts, Cert.KvqRefIdeal.Gen.facts,
  Cert.Rope.Gen.facts, Cert.RopeIdeal.Gen.facts, Cert.RopeRefIdeal.Gen.facts,
  Cert.Dt.Gen.facts, Cert.DtIdeal.Gen.facts, Cert.DtRefIdeal.Gen.facts,
  Cert.Q.Gen.facts, Cert.QIdeal.Gen.facts, Cert.QRefIdeal.Gen.facts,
  Cert.Kv.Gen.facts, Cert.KvIdeal.Gen.facts, Cert.KvRefIdeal.Gen.facts,
  Cert.Turn.Gen.facts, Cert.TurnIdeal.Gen.facts, Cert.TurnRefIdeal.Gen.facts,
  Cert.TurnDx.Gen.facts, Cert.TurnDxIdeal.Gen.facts, Cert.TurnDxRefIdeal.Gen.facts,
  Cert.KeyTurn.Gen.facts, Cert.KeyTurnIdeal.Gen.facts, Cert.KeyTurnRefIdeal.Gen.facts,
  Cert.KeyTurnDx.Gen.facts, Cert.KeyTurnDxIdeal.Gen.facts, Cert.KeyTurnDxRefIdeal.Gen.facts,
  Cert.QNormDx.Gen.facts, Cert.QNormDxIdeal.Gen.facts, Cert.QNormDxRefIdeal.Gen.facts,
  Cert.KvNormDx.Gen.facts, Cert.KvNormDxIdeal.Gen.facts, Cert.KvNormDxRefIdeal.Gen.facts,
  Cert.QNorm.Gen.facts, Cert.QNormIdeal.Gen.facts, Cert.QNormRefIdeal.Gen.facts,
  Cert.KvNorm.Gen.facts, Cert.KvNormIdeal.Gen.facts, Cert.KvNormRefIdeal.Gen.facts,
  Cert.LnY.Gen.facts, Cert.LnYIdeal.Gen.facts, Cert.LnYRefIdeal.Gen.facts,
  Cert.LnLast.Gen.facts, Cert.LnLastIdeal.Gen.facts, Cert.LnLastRefIdeal.Gen.facts,
  Cert.Gated.Gen.facts, Cert.GatedIdeal.Gen.facts, Cert.GatedRefIdeal.Gen.facts,
  Cert.GatedDx.Gen.facts, Cert.GatedDxIdeal.Gen.facts, Cert.GatedDxRefIdeal.Gen.facts,
  Attn.preFacts,
  fun m ρ _ => AttnFrame.frame m ρ, fun m ρ _ => Attn.frame m ρ, fun m ρ _ => Attn.frame m ρ,
  fun m ρ _ => Attn.ref_frame m ρ, fun m ρ _ => Attn.ref_frame m ρ,
  fun m ρ _ => Cert.DownDw.Gen.frame m ρ, fun m ρ _ => Cert.DownDwIdeal.Gen.frame m ρ, fun m ρ _ => Product.frame_of_run rfl (Cert.DownDwRefIdeal.Value.run m ρ),
  fun m ρ _ => Cert.DownDx.Gen.frame m ρ, fun m ρ _ => Cert.DownDxIdeal.Gen.frame m ρ, fun m ρ _ => Product.frame_of_run rfl (Cert.DownDxRefIdeal.Value.run m ρ),
  fun m ρ _ => Cert.UpDw.Gen.frame m ρ, fun m ρ _ => Cert.UpDwIdeal.Gen.frame m ρ, fun m ρ _ => Product.frame_of_run rfl (Cert.UpDwRefIdeal.Value.run m ρ),
  fun m ρ _ => Cert.UpDx.Gen.frame m ρ, fun m ρ _ => Cert.UpDxIdeal.Gen.frame m ρ, fun m ρ _ => Product.frame_of_run rfl (Cert.UpDxRefIdeal.Value.run m ρ),
  fun m ρ _ => Cert.InDw.Gen.frame m ρ, fun m ρ _ => Cert.InDwIdeal.Gen.frame m ρ, fun m ρ _ => Product.frame_of_run rfl (Cert.InDwRefIdeal.Value.run m ρ),
  fun m ρ _ => Cert.InDx.Gen.frame m ρ, fun m ρ _ => Cert.InDxIdeal.Gen.frame m ρ, fun m ρ _ => Product.frame_of_run rfl (Cert.InDxRefIdeal.Value.run m ρ),
  fun m ρ _ => Cert.OutDw.Gen.frame m ρ, fun m ρ _ => Cert.OutDwIdeal.Gen.frame m ρ, fun m ρ _ => Product.frame_of_run rfl (Cert.OutDwRefIdeal.Value.run m ρ),
  fun m ρ _ => Cert.OutDx.Gen.frame m ρ, fun m ρ _ => Cert.OutDxIdeal.Gen.frame m ρ, fun m ρ _ => Product.frame_of_run rfl (Cert.OutDxRefIdeal.Value.run m ρ),
  fun m ρ _ => Cert.AttnOutDw.Gen.frame m ρ, fun m ρ _ => Cert.AttnOutDwIdeal.Gen.frame m ρ, fun m ρ _ => Product.frame_of_run rfl (Cert.AttnOutDwRefIdeal.Value.run m ρ),
  fun m ρ _ => Cert.AttnOutDx.Gen.frame m ρ, fun m ρ _ => Cert.AttnOutDxIdeal.Gen.frame m ρ, fun m ρ _ => Product.frame_of_run rfl (Cert.AttnOutDxRefIdeal.Value.run m ρ),
  fun m ρ _ => Cert.InBDx.Gen.frame m ρ, fun m ρ _ => Cert.InBDxIdeal.Gen.frame m ρ, fun m ρ _ => Product.frame_of_run rfl (Cert.InBDxRefIdeal.Value.run m ρ),
  fun m ρ _ => Cert.Up.Gen.frame m ρ, fun m ρ _ => Cert.UpIdeal.Gen.frame m ρ, fun m ρ _ => Product.frame_of_run rfl (Cert.UpRefIdeal.Value.run m ρ),
  fun m ρ _ => Cert.Down.Gen.frame m ρ, fun m ρ _ => Cert.DownIdeal.Gen.frame m ρ, fun m ρ _ => Product.frame_of_run rfl (Cert.DownRefIdeal.Value.run m ρ),
  fun m ρ _ => Cert.In.Gen.frame m ρ, fun m ρ _ => Cert.InIdeal.Gen.frame m ρ, fun m ρ _ => Product.frame_of_run rfl (Cert.InRefIdeal.Value.run m ρ),
  fun m ρ _ => Cert.Out.Gen.frame m ρ, fun m ρ _ => Cert.OutIdeal.Gen.frame m ρ, fun m ρ _ => Product.frame_of_run rfl (Cert.OutRefIdeal.Value.run m ρ),
  fun m ρ _ => Cert.AttnOut.Gen.frame m ρ, fun m ρ _ => Cert.AttnOutIdeal.Gen.frame m ρ, fun m ρ _ => Product.frame_of_run rfl (Cert.AttnOutRefIdeal.Value.run m ρ),
  fun m ρ _ => Cert.KvqDw.Gen.frame m ρ, fun m ρ _ => Cert.KvqDwIdeal.Gen.frame m ρ, fun m ρ _ => Product.frame_of_run rfl (Cert.KvqDwRefIdeal.Value.run m ρ),
  fun m ρ _ => Cert.QDw.Gen.frame m ρ, fun m ρ _ => Cert.QDwIdeal.Gen.frame m ρ, fun m ρ _ => Product.frame_of_run rfl (Cert.QDwRefIdeal.Value.run m ρ),
  fun m ρ _ => Cert.RopeDw.Gen.frame m ρ, fun m ρ _ => Cert.RopeDwIdeal.Gen.frame m ρ, fun m ρ _ => Product.frame_of_run rfl (Cert.RopeDwRefIdeal.Value.run m ρ),
  fun m ρ _ => Cert.KvDw.Gen.frame m ρ, fun m ρ _ => Cert.KvDwIdeal.Gen.frame m ρ, fun m ρ _ => Product.frame_of_run rfl (Cert.KvDwRefIdeal.Value.run m ρ),
  fun m ρ _ => Cert.DtDw.Gen.frame m ρ, fun m ρ _ => Cert.DtDwIdeal.Gen.frame m ρ, fun m ρ _ => Product.frame_of_run rfl (Cert.DtDwRefIdeal.Value.run m ρ),
  fun m ρ _ => Cert.QDx.Gen.frame m ρ, fun m ρ _ => Cert.QDxIdeal.Gen.frame m ρ, fun m ρ _ => Product.frame_of_run rfl (Cert.QDxRefIdeal.Value.run m ρ),
  fun m ρ _ => Cert.KDx.Gen.frame m ρ, fun m ρ _ => Cert.KDxIdeal.Gen.frame m ρ, fun m ρ _ => Product.frame_of_run rfl (Cert.KDxRefIdeal.Value.run m ρ),
  fun m ρ _ => Cert.RopeDx.Gen.frame m ρ, fun m ρ _ => Cert.RopeDxIdeal.Gen.frame m ρ, fun m ρ _ => Product.frame_of_run rfl (Cert.RopeDxRefIdeal.Value.run m ρ),
  fun m ρ _ => Cert.VDx.Gen.frame m ρ, fun m ρ _ => Cert.VDxIdeal.Gen.frame m ρ, fun m ρ _ => Product.frame_of_run rfl (Cert.VDxRefIdeal.Value.run m ρ),
  fun m ρ _ => Cert.KvqDx.Gen.frame m ρ, fun m ρ _ => Cert.KvqDxIdeal.Gen.frame m ρ, fun m ρ _ => Product.frame_of_run rfl (Cert.KvqDxRefIdeal.Value.run m ρ),
  fun m ρ _ => Cert.DtDx.Gen.frame m ρ, fun m ρ _ => Cert.DtDxIdeal.Gen.frame m ρ, fun m ρ _ => Product.frame_of_run rfl (Cert.DtDxRefIdeal.Value.run m ρ),
  fun m ρ _ => Cert.Kvq.Gen.frame m ρ, fun m ρ _ => Cert.KvqIdeal.Gen.frame m ρ, fun m ρ _ => Product.frame_of_run rfl (Cert.KvqRefIdeal.Value.run m ρ),
  fun m ρ _ => Cert.Rope.Gen.frame m ρ, fun m ρ _ => Cert.RopeIdeal.Gen.frame m ρ, fun m ρ _ => Product.frame_of_run rfl (Cert.RopeRefIdeal.Value.run m ρ),
  fun m ρ _ => Cert.Dt.Gen.frame m ρ, fun m ρ _ => Cert.DtIdeal.Gen.frame m ρ, fun m ρ _ => Product.frame_of_run rfl (Cert.DtRefIdeal.Value.run m ρ),
  fun m ρ _ => Cert.Q.Gen.frame m ρ, fun m ρ _ => Cert.QIdeal.Gen.frame m ρ, fun m ρ _ => Product.frame_of_run rfl (Cert.QRefIdeal.Value.run m ρ),
  fun m ρ _ => Cert.Kv.Gen.frame m ρ, fun m ρ _ => Cert.KvIdeal.Gen.frame m ρ, fun m ρ _ => Product.frame_of_run rfl (Cert.KvRefIdeal.Value.run m ρ),
  fun m ρ _ => Cert.Turn.Gen.frame m ρ, fun m ρ _ => Cert.TurnIdeal.Gen.frame m ρ, fun m ρ _ => Product.frame_of_run rfl (Cert.TurnRefIdeal.Value.run m ρ),
  fun m ρ _ => Cert.TurnDx.Gen.frame m ρ, fun m ρ _ => Cert.TurnDxIdeal.Gen.frame m ρ, fun m ρ _ => Product.frame_of_run rfl (Cert.TurnDxRefIdeal.Value.run m ρ),
  fun m ρ _ => Cert.KeyTurn.Gen.frame m ρ, fun m ρ _ => Cert.KeyTurnIdeal.Gen.frame m ρ, fun m ρ _ => Product.frame_of_run rfl (Cert.KeyTurnRefIdeal.Value.run m ρ),
  fun m ρ _ => Cert.KeyTurnDx.Gen.frame m ρ, fun m ρ _ => Cert.KeyTurnDxIdeal.Gen.frame m ρ, fun m ρ _ => Product.frame_of_run rfl (Cert.KeyTurnDxRefIdeal.Value.run m ρ),
  fun m ρ _ => Cert.QNormDx.Gen.frame m ρ, fun m ρ _ => Cert.QNormDxIdeal.Gen.frame m ρ, fun m ρ _ => Product.frame_of_run_two rfl (Cert.QNormDxRefIdeal.Value.run m ρ),
  fun m ρ _ => Cert.KvNormDx.Gen.frame m ρ, fun m ρ _ => Cert.KvNormDxIdeal.Gen.frame m ρ, fun m ρ _ => Product.frame_of_run_two rfl (Cert.KvNormDxRefIdeal.Value.run m ρ),
  fun m ρ _ => Cert.QNorm.Gen.frame m ρ, fun m ρ _ => Cert.QNormIdeal.Gen.frame m ρ, fun m ρ _ => Product.frame_of_run rfl (Cert.QNormRefIdeal.Value.run m ρ),
  fun m ρ _ => Cert.KvNorm.Gen.frame m ρ, fun m ρ _ => Cert.KvNormIdeal.Gen.frame m ρ, fun m ρ _ => Product.frame_of_run rfl (Cert.KvNormRefIdeal.Value.run m ρ),
  fun m ρ _ => Cert.LnY.Gen.frame m ρ, fun m ρ _ => Cert.LnYIdeal.Gen.frame m ρ, fun m ρ _ => Product.frame_of_run_two rfl (Cert.LnYRefIdeal.Value.run m ρ),
  fun m ρ _ => Cert.LnLast.Gen.frame m ρ, fun m ρ _ => Cert.LnLastIdeal.Gen.frame m ρ, fun m ρ _ => Product.frame_of_run rfl (Cert.LnLastRefIdeal.Value.run m ρ),
  fun m ρ _ => Cert.Gated.Gen.frame m ρ, fun m ρ _ => Cert.GatedIdeal.Gen.frame m ρ, fun m ρ _ => Product.frame_of_run rfl (Cert.GatedRefIdeal.Value.run m ρ),
  fun m ρ _ => Cert.GatedDx.Gen.frame m ρ, fun m ρ _ => Cert.GatedDxIdeal.Gen.frame m ρ, fun m ρ _ => Product.frame_of_run_five rfl (Cert.GatedDxRefIdeal.Value.run m ρ),
  trivial, Attn.algebraic,
  trivial, Product.DownDw.algebraic,
  trivial, Product.DownDx.algebraic,
  trivial, Product.UpDw.algebraic,
  trivial, Product.UpDx.algebraic,
  trivial, Product.InDw.algebraic,
  trivial, Product.InDx.algebraic,
  trivial, Product.OutDw.algebraic,
  trivial, Product.OutDx.algebraic,
  trivial, Product.AttnOutDw.algebraic,
  trivial, Product.AttnOutDx.algebraic,
  trivial, Product.InBDx.algebraic,
  trivial, Product.Up.algebraic,
  trivial, Product.Down.algebraic,
  trivial, Product.In.algebraic,
  trivial, Product.Out.algebraic,
  trivial, Product.AttnOut.algebraic,
  trivial, Product.KvqDw.algebraic,
  trivial, Product.QDw.algebraic,
  trivial, Product.RopeDw.algebraic,
  trivial, Product.KvDw.algebraic,
  trivial, Product.DtDw.algebraic,
  trivial, Product.QDx.algebraic,
  trivial, Product.KDx.algebraic,
  trivial, Product.RopeDx.algebraic,
  trivial, Product.VDx.algebraic,
  trivial, Product.KvqDx.algebraic,
  trivial, Product.DtDx.algebraic,
  trivial, Product.Kvq.algebraic,
  trivial, Product.Rope.algebraic,
  trivial, Product.Dt.algebraic,
  trivial, Product.Q.algebraic,
  trivial, Product.Kv.algebraic,
  trivial, Rotary.Forward.algebraic,
  trivial, Rotary.Backward.algebraic,
  trivial, Rotary.Key.Forward.algebraic,
  trivial, Rotary.Key.Backward.algebraic,
  trivial, Norm.Query.algebraic,
  trivial, Norm.Key.algebraic,
  trivial, Norm.Query.Forward.algebraic,
  trivial, Norm.Key.Forward.algebraic,
  trivial, Norm.Layer.Both.algebraic,
  trivial, Norm.Layer.Last.algebraic,
  trivial, Norm.Gated.Forward.algebraic,
  trivial, Norm.Gated.Backward.algebraic⟩

end Cert.Proof

end
